-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v54)) (v2 : (c : Dev Cert.KernelIdeal.nD) → Buf (Elt Ideal) ((c.tc : Thread Cert.KernelIdeal.nD Cert.KernelIdeal.τ).loc Cert.KernelIdeal.main_v50_2)) (v3 : (c : Dev Cert.KernelIdeal.nD) → Buf (Elt Ideal) ((c.tc : Thread Cert.KernelIdeal.nD Cert.KernelIdeal.τ).loc Cert.KernelIdeal.main_v50_3)) (v4 : (c : Dev Cert.KernelIdeal.nD) → Buf (Elt Ideal) ((c.tc : Thread Cert.KernelIdeal.nD Cert.KernelIdeal.τ).loc Cert.KernelIdeal.main_v50_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_v50_2) = v2 c
          ∧ r.2.mem ((c.tc : Thread Cert.KernelIdeal.nD Cert.KernelIdeal.τ).loc Cert.KernelIdeal.main_v50_3) = v3 c
          ∧ r.2.mem ((c.tc : Thread Cert.KernelIdeal.nD Cert.KernelIdeal.τ).loc Cert.KernelIdeal.main_v50_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_v99) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_v14) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v12) = v0 c
          ∧ r.2.mem ((c.tc : Thread Cert.Reference10Ideal.nD Cert.Reference10Ideal.τ).loc Cert.Reference10Ideal.main_v20) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_v6) = v2 c
          ∧ r.2.mem ((c.tc : Thread Cert.Reference11Ideal.nD Cert.Reference11Ideal.τ).loc Cert.Reference11Ideal.main_v12) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v6) = v2 c
          ∧ r.2.mem ((c.tc : Thread Cert.Reference12Ideal.nD Cert.Reference12Ideal.τ).loc Cert.Reference12Ideal.main_v12) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v6) = v2 c
          ∧ r.2.mem ((c.tc : Thread Cert.Reference13Ideal.nD Cert.Reference13Ideal.τ).loc Cert.Reference13Ideal.main_v12) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v6) = v2 c
          ∧ r.2.mem ((c.tc : Thread Cert.Reference14Ideal.nD Cert.Reference14Ideal.τ).loc Cert.Reference14Ideal.main_v12) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v6) = v2 c
          ∧ r.2.mem ((c.tc : Thread Cert.Reference15Ideal.nD Cert.Reference15Ideal.τ).loc Cert.Reference15Ideal.main_v12) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_v24) = v1 c
          ∧ r.2.mem ((c.tc : Thread Cert.Reference16Ideal.nD Cert.Reference16Ideal.τ).loc Cert.Reference16Ideal.main_v5) = v2 c
          ∧ r.2.mem ((c.tc : Thread Cert.Reference16Ideal.nD Cert.Reference16Ideal.τ).loc Cert.Reference16Ideal.main_v11) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S8192x2048 : Shape := ⟨2, ![8192, 2048]⟩
abbrev S8192x8192 : Shape := ⟨2, ![8192, 8192]⟩
abbrev S128x8192 : Shape := ⟨2, ![128, 8192]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x8192 : S_.BroadcastsInDim S128x8192 (![] : Fin 0 → Fin S128x8192.rank)
  reducesTo_S128x8192_S_d0_1 : S128x8192.ReducesTo [0, 1] S_

variable [Facts]

def fn_part1 {F : FTy → Type} [FloatOps F] (main_arg4 : FVec F S8192x2048 .bf16) (main_v14 : IVec S_ 1) (main_v15 : FVec F S128x8192 .f32) (main_cst_5 : FVec F S_ .f32) : IVec S_ 1 :=
  let main_v16 : FVec F S128x8192 .f32 := broadcastInDim S128x8192 ![] bcast_S_S128x8192 main_cst_5
  let main_v17 : IVec S128x8192 1 := cmpf .olt main_v15 main_v16
  let main_c_6 : IVec S_ 1 := constantI S_ 1 1#1
  let main_v18 : IVec S_ 1 := (fun x v => Host.reduce IntOp.andi x v reducesTo_S128x8192_S_d0_1 h_S_) main_v17 main_c_6
  let main_v19 : IVec S_ 1 := andi main_v14 main_v18
  let main_v20 : FVec F S8192x2048 .bf16 := Host.absf main_arg4
  let main_cst_7 : FVec F S_ .bf16 := constant S_ .bf16 0x7F80#16
  let main_v21 : FVec F S8192x2048 .bf16 := broadcastInDim S8192x2048 ![] bcast_S_S8192x2048 main_cst_7
  let main_v22 : IVec S8192x2048 1 := cmpf .olt main_v20 main_v21
  let main_c_8 : IVec S_ 1 := constantI S_ 1 1#1
  let main_v23 : IVec S_ 1 := (fun x v => Host.reduce IntOp.andi x v reducesTo_S8192x2048_S_d0_1 h_S_) main_v22 main_c_8
  let main_v24 : IVec S_ 1 := andi main_v19 main_v23
  main_v24

def fn {F : FTy → Type} [FloatOps F] (main_arg0 : FVec F S8192x2048 .f32) (main_arg1 : FVec F S8192x2048 .f32) (main_arg2 : FVec F S8192x8192 .bf16) (main_arg3 : FVec F S128x8192 .f32) (main_arg4 : FVec F S8192x2048 .bf16) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_c_0 : IVec S_ 1 := constantI S_ 1 1#1
  let main_v4 : IVec S_ 1 := andi main_c_0 main_v3
  let main_v5 : FVec F S8192x2048 .f32 := Host.absf main_arg1
  let main_cst_1 : FVec F S_ .f32 := constant S_ .f32 0x7F800000#32
  let main_v6 : FVec F S8192x2048 .f32 := broadcastInDim S8192x2048 ![] bcast_S_S8192x2048 main_cst_1
  let main_v7 : IVec S8192x2048 1 := cmpf .olt main_v5 main_v6
  let main_c_2 : IVec S_ 1 := constantI S_ 1 1#1
  let main_v8 : IVec S_ 1 := (fun x v => Host.reduce IntOp.andi x v reducesTo_S8192x2048_S_d0_1 h_S_) main_v7 main_c_2
  let main_v9 : IVec S_ 1 := andi main_v4 main_v8
  let main_v10 : FVec F S8192x8192 .bf16 := Host.absf main_arg2
  let main_cst_3 : FVec F S_ .bf16 := constant S_ .bf16 0x7F80#16
  let main_v11 : FVec F S8192x8192 .bf16 := broadcastInDim S8192x8192 ![] bcast_S_S8192x8192 main_cst_3
  let main_v12 : IVec S8192x8192 1 := cmpf .olt main_v10 main_v11
  let main_c_4 : IVec S_ 1 := constantI S_ 1 1#1
  let main_v13 : IVec S_ 1 := (fun x v => Host.reduce IntOp.andi x v reducesTo_S8192x8192_S_d0_1 h_S_) main_v12 main_c_4
  let main_v14 : IVec S_ 1 := andi main_v9 main_v13
  let main_v15 : FVec F S128x8192 .f32 := Host.absf main_arg3
  let main_cst_5 : FVec F S_ .f32 := constant S_ .f32 0x7F800000#32
  fn_part1 (F := F) main_arg4 main_v14 main_v15 main_cst_5
-- ==== Kernel.lean ====
abbrev S8192x2048 : Shape := ⟨2, ![8192, 2048]⟩
abbrev S8192x8192 : Shape := ⟨2, ![8192, 8192]⟩
abbrev S128x8192 : Shape := ⟨2, ![128, 8192]⟩
abbrev S_ : Shape := ⟨0, ![]⟩
abbrev S2048x8192 : Shape := ⟨2, ![2048, 8192]⟩
abbrev S128x8x1x1024 : Shape := ⟨4, ![128, 8, 1, 1024]⟩
abbrev S8192x16x128 : Shape := ⟨3, ![8192, 16, 128]⟩
abbrev S16x8192x8192 : Shape := ⟨3, ![16, 8192, 8192]⟩
abbrev S16x8192 : Shape := ⟨2, ![16, 8192]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S16x8192x1 : Shape := ⟨3, ![16, 8192, 1]⟩
abbrev S16x128x8192 : Shape := ⟨3, ![16, 128, 8192]⟩
abbrev S8192x16 : Shape := ⟨2, ![8192, 16]⟩
abbrev S8192x16x1 : Shape := ⟨3, ![8192, 16, 1]⟩
abbrev S16x8192x128 : Shape := ⟨3, ![16, 8192, 128]⟩
abbrev S16x8x1x1024 : Shape := ⟨4, ![16, 8, 1, 1024]⟩
abbrev S1024x128 : Shape := ⟨2, ![1024, 128]⟩
abbrev S1x1024x128 : Shape := ⟨3, ![1, 1024, 128]⟩
abbrev S8192x128 : Shape := ⟨2, ![8192, 128]⟩
abbrev S1x8x1x1024 : Shape := ⟨4, ![1, 8, 1, 1024]⟩
abbrev S1024x256 : Shape := ⟨2, ![1024, 256]⟩
abbrev S8x1x1024 : Shape := ⟨3, ![8, 1, 1024]⟩
abbrev S1x1024x1 : Shape := ⟨3, ![1, 1024, 1]⟩
abbrev S1024x1 : Shape := ⟨2, ![1024, 1]⟩
abbrev S1024 : Shape := ⟨1, ![1024]⟩
abbrev S128x1024 : Shape := ⟨2, ![128, 1024]⟩
abbrev S256x128 : Shape := ⟨2, ![256, 128]⟩
abbrev S1x1x1x1024 : Shape := ⟨4, ![1, 1, 1, 1024]⟩
abbrev S1x1024 : Shape := ⟨2, ![1, 1024]⟩
abbrev S1x256 : Shape := ⟨2, ![1, 256]⟩
abbrev S256 : Shape := ⟨1, ![256]⟩
abbrev S128x256 : Shape := ⟨2, ![128, 256]⟩
abbrev S1x1x1x256 : Shape := ⟨4, ![1, 1, 1, 256]⟩

abbrev nBuf : Space → Nat
  | .hbm => 73
  | .vmem => 34
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x8192, .bf16⟩
  | .hbm, ⟨3, _⟩ => ⟨S128x8192, .f32⟩
  | .hbm, ⟨4, _⟩ => ⟨S8192x2048, .bf16⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .bf16⟩
  | .hbm, ⟨13, _⟩ => ⟨S8192x2048, .bf16⟩
  | .hbm, ⟨14, _⟩ => ⟨S2048x8192, .f32⟩
  | .hbm, ⟨15, _⟩ => ⟨S2048x8192, .bf16⟩
  | .hbm, ⟨16, _⟩ => ⟨S128x8192, .f32⟩
  | .hbm, ⟨17, _⟩ => ⟨S128x8192, .f32⟩
  | .hbm, ⟨18, _⟩ => ⟨S128x8x1x1024, .f32⟩
  | .hbm, ⟨19, _⟩ => ⟨S8192x2048, .f32⟩
  | .hbm, ⟨20, _⟩ => ⟨S8192x16x128, .f32⟩
  | .hbm, ⟨21, _⟩ => ⟨S8192x2048, .f32⟩
  | .hbm, ⟨22, _⟩ => ⟨S8192x16x128, .f32⟩
  | .hbm, ⟨23, _⟩ => ⟨S8192x2048, .bf16⟩
  | .hbm, ⟨24, _⟩ => ⟨S8192x2048, .f32⟩
  | .hbm, ⟨25, _⟩ => ⟨S8192x16x128, .f32⟩
  | .hbm, ⟨26, _⟩ => ⟨S16x8192x8192, .f32⟩
  | .hbm, ⟨27, _⟩ => ⟨S16x8192, .f32⟩
  | .hbm, ⟨28, _⟩ => ⟨S16x1x8192, .f32⟩
  | .hbm, ⟨29, _⟩ => ⟨S16x8192x8192, .f32⟩
  | .hbm, ⟨30, _⟩ => ⟨S16x8192x8192, .f32⟩
  | .hbm, ⟨31, _⟩ => ⟨S8192, .i32⟩
  | .hbm, ⟨32, _⟩ => ⟨S1x8192, .i32⟩
  | .hbm, ⟨33, _⟩ => ⟨S8192x1, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S_, .f32⟩
  | .hbm, ⟨38, _⟩ => ⟨S_, .f32⟩
  | .hbm, ⟨39, _⟩ => ⟨S16x8192x8192, .i1⟩
  | .hbm, ⟨40, _⟩ => ⟨S16x8192x8192, .f32⟩
  | .hbm, ⟨41, _⟩ => ⟨S16x8192x8192, .f32⟩
  | .hbm, ⟨42, _⟩ => ⟨S_, .f32⟩
  | .hbm, ⟨43, _⟩ => ⟨S16x8192, .f32⟩
  | .hbm, ⟨44, _⟩ => ⟨S16x8192x1, .f32⟩
  | .hbm, ⟨45, _⟩ => ⟨S16x8192x8192, .f32⟩
  | .hbm, ⟨46, _⟩ => ⟨S16x8192x8192, .f32⟩
  | .hbm, ⟨47, _⟩ => ⟨S16x8192x8192, .f32⟩
  | .hbm, ⟨48, _⟩ => ⟨S16x8192x8192, .f32⟩
  | .hbm, ⟨49, _⟩ => ⟨S16x8192x8192, .f32⟩
  | .hbm, ⟨50, _⟩ => ⟨S_, .f32⟩
  | .hbm, ⟨51, _⟩ => ⟨S16x8192, .f32⟩
  | .hbm, ⟨52, _⟩ => ⟨S16x128x8192, .f32⟩
  | .hbm, ⟨53, _⟩ => ⟨S8192x16x128, .f32⟩
  | .hbm, ⟨54, _⟩ => ⟨S8192x16, .f32⟩
  | .hbm, ⟨55, _⟩ => ⟨S8192x16x1, .f32⟩
  | .hbm, ⟨56, _⟩ => ⟨S8192x16x128, .f32⟩
  | .hbm, ⟨57, _⟩ => ⟨S8192x16x128, .f32⟩
  | .hbm, ⟨58, _⟩ => ⟨S8192x2048, .f32⟩
  | .hbm, ⟨59, _⟩ => ⟨S16x8192x1, .f32⟩
  | .hbm, ⟨60, _⟩ => ⟨S16x8192x128, .f32⟩
  | .hbm, ⟨61, _⟩ => ⟨S16x8192x1, .f32⟩
  | .hbm, ⟨62, _⟩ => ⟨S16x8192x128, .f32⟩
  | .hbm, ⟨63, _⟩ => ⟨S8192x2048, .f32⟩
  | .hbm, ⟨64, _⟩ => ⟨S2048x8192, .f32⟩
  | .hbm, ⟨65, _⟩ => ⟨S2048x8192, .f32⟩
  | .hbm, ⟨66, _⟩ => ⟨S16x8x1x1024, .f32⟩
  | .hbm, ⟨67, _⟩ => ⟨S8192x2048, .bf16⟩
  | .hbm, ⟨68, _⟩ => ⟨S_, .f32⟩
  | .hbm, ⟨69, _⟩ => ⟨S8192x2048, .f32⟩
  | .hbm, ⟨70, _⟩ => ⟨S8192x2048, .f32⟩
  | .hbm, ⟨71, _⟩ => ⟨S2048x8192, .f32⟩
  | .hbm, ⟨72, _⟩ => ⟨S2048x8192, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | .local _ .vmem, ⟨6, _⟩ => ⟨S1024x128, .bf16⟩
  | .local _ .vmem, ⟨7, _⟩ => ⟨S1024x128, .bf16⟩
  | .local _ .vmem, ⟨8, _⟩ => ⟨S1x1024x128, .f32⟩
  | .local _ .vmem, ⟨9, _⟩ => ⟨S1x1024x128, .f32⟩
  | .local _ .vmem, ⟨10, _⟩ => ⟨S1x1024x128, .f32⟩
  | .local _ .vmem, ⟨11, _⟩ => ⟨S1x1024x128, .f32⟩
  | .local _ .vmem, ⟨12, _⟩ => ⟨S8192x128, .bf16⟩
  | .local _ .vmem, ⟨13, _⟩ => ⟨S8192x128, .bf16⟩
  | .local _ .vmem, ⟨14, _⟩ => ⟨S128x8192, .bf16⟩
  | .local _ .vmem, ⟨15, _⟩ => ⟨S128x8192, .bf16⟩
  | .local _ .vmem, ⟨16, _⟩ => ⟨S8192x128, .bf16⟩
  | .local _ .vmem, ⟨17, _⟩ => ⟨S8192x128, .bf16⟩
  | .local _ .vmem, ⟨18, _⟩ => ⟨S1x8x1x1024, .f32⟩
  | .local _ .vmem, ⟨19, _⟩ => ⟨S1x8x1x1024, .f32⟩
  | .local _ .vmem, ⟨20, _⟩ => ⟨S1024x128, .f32⟩
  | .local _ .vmem, ⟨21, _⟩ => ⟨S1024x128, .f32⟩
  | .local _ .vmem, ⟨22, _⟩ => ⟨S128x8192, .f32⟩
  | .local _ .vmem, ⟨23, _⟩ => ⟨S128x8192, .f32⟩
  | .local _ .vmem, ⟨24, _⟩ => ⟨S128x8192, .f32⟩
  | .local _ .vmem, ⟨25, _⟩ => ⟨S128x8192, .f32⟩
  | .local _ .vmem, ⟨26, _⟩ => ⟨S1x8x1x1024, .f32⟩
  | .local _ .vmem, ⟨27, _⟩ => ⟨S1x8x1x1024, .f32⟩
  | .local _ .vmem, ⟨28, _⟩ => ⟨S1024x128, .bf16⟩
  | .local _ .vmem, ⟨29, _⟩ => ⟨S1024x128, .bf16⟩
  | .local _ .vmem, ⟨30, _⟩ => ⟨S1024x256, .f32⟩
  | .local _ .vmem, ⟨31, _⟩ => ⟨S1024x256, .f32⟩
  | .local _ .vmem, ⟨32, _⟩ => ⟨S1024x256, .f32⟩
  | .local _ .vmem, ⟨33, _⟩ => ⟨S1024x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_1 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50_0 : Ref sig .tc := ⟨.hbm, 63, rfl⟩
abbrev main_v50_1 : Ref sig .tc := ⟨.hbm, 64, rfl⟩
abbrev main_v50_2 : Ref sig .tc := ⟨.hbm, 65, rfl⟩
abbrev main_v50_3 : Ref sig .tc := ⟨.hbm, 66, rfl⟩
abbrev main_v50_4 : Ref sig .tc := ⟨.hbm, 67, rfl⟩
abbrev main_cst_4 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![16, 8], ![false, false]⟩

def k0_mult1 : BitVec 32 :=
  let c0_i32_21 : BitVec 32 := 0#32
  c0_i32_21
def k0_off1 : Fin 2 → Nat :=
  let c0_i32_21 : BitVec 32 := 0#32
  let v47 : BitVec 32 := c0_i32_21
  let c0_i32_22 : BitVec 32 := 0#32
  let v48 : BitVec 32 := Scalar.addi v47 c0_i32_22
  let v49 : Index := Scalar.indexCast v48
  let c0_23 : Index := 0#32
  ![v49.toNat, 0]
@[reducible] def k0_t1_loop (i : grid0.Coords) : Scf.Loop 32 :=
  let c0_i32_36 : BitVec 32 := 0#32
  let arg1 : BitVec 32 := BitVec.ofNat 32 (i 1).val
  let v68 : BitVec 32 := Scalar.subi arg1 c0_i32_36
  let c1_i32 : BitVec 32 := 1#32
  let v70 : BitVec 32 := Scalar.divsi v68 c1_i32
  let v71 : BitVec 32 := Scalar.muli v70 c1_i32
  let v72 : BitVec 32 := Scalar.addi c0_i32_36 v71
  let c1_i32_37 : BitVec 32 := 1#32
  ⟨c0_i32_36, v72, c1_i32_37⟩
def k0_mult2 (i : grid0.Coords) (k0_t1 : Fin (k0_t1_loop i).trips) : BitVec 32 :=
  let c0_i32_36 : BitVec 32 := 0#32
  let c1_i32_37 : BitVec 32 := 1#32
  let arg21 : BitVec 32 := Scf.iv c0_i32_36 c1_i32_37 k0_t1
  let c1024_i32_165 : BitVec 32 := 1024#32
  let v343 : BitVec 32 := Scalar.muli arg21 c1024_i32_165
  v343
def k0_off2 (i : grid0.Coords) (k0_t1 : Fin (k0_t1_loop i).trips) (c256_i32_166 : BitVec 32) : Fin 2 → Nat :=
  let c0_i32_36 : BitVec 32 := 0#32
  let c1_i32_37 : BitVec 32 := 1#32
  let arg21 : BitVec 32 := Scf.iv c0_i32_36 c1_i32_37 k0_t1
  let c1024_i32_165 : BitVec 32 := 1024#32
  let v343 : BitVec 32 := Scalar.muli arg21 c1024_i32_165
  let v344 : BitVec 32 := v343
  let v345 : BitVec 32 := Scalar.addi v344 c256_i32_166
  let v346 : Index := Scalar.indexCast v345
  let c0_167 : Index := 0#32
  ![v346.toNat, 0]
def k0_off3 (i : grid0.Coords) (k0_t1 : Fin (k0_t1_loop i).trips) : Fin 4 → Nat :=
  let c0_169 : Index := 0#32
  let c0_i32_36 : BitVec 32 := 0#32
  let c1_i32_37 : BitVec 32 := 1#32
  let arg21 : BitVec 32 := Scf.iv c0_i32_36 c1_i32_37 k0_t1
  let v350 : Index := Scalar.indexCast arg21
  let c0_170 : Index := 0#32
  let c0_171 : Index := 0#32
  ![0, v350.toNat, 0, 0]
def k0_mult3 (i : grid0.Coords) (k0_t1 : Fin (k0_t1_loop i).trips) : BitVec 32 :=
  let c0_i32_36 : BitVec 32 := 0#32
  let c1_i32_37 : BitVec 32 := 1#32
  let arg21 : BitVec 32 := Scf.iv c0_i32_36 c1_i32_37 k0_t1
  let c1024_i32_183 : BitVec 32 := 1024#32
  let v378 : BitVec 32 := Scalar.muli arg21 c1024_i32_183
  v378
def k0_mult4 (i : grid0.Coords) (k0_t1 : Fin (k0_t1_loop i).trips) : BitVec 32 :=
  let c0_i32_36 : BitVec 32 := 0#32
  let c1_i32_37 : BitVec 32 := 1#32
  let arg21 : BitVec 32 := Scf.iv c0_i32_36 c1_i32_37 k0_t1
  let c1024_i32_196 : BitVec 32 := 1024#32
  let v400 : BitVec 32 := Scalar.muli arg21 c1024_i32_196
  v400
def k0_off4 (i : grid0.Coords) (k0_t1 : Fin (k0_t1_loop i).trips) (c0_i32_197 : BitVec 32) : Fin 2 → Nat :=
  let c0_198 : Index := 0#32
  let c0_i32_36 : BitVec 32 := 0#32
  let c1_i32_37 : BitVec 32 := 1#32
  let arg21 : BitVec 32 := Scf.iv c0_i32_36 c1_i32_37 k0_t1
  let c1024_i32_196 : BitVec 32 := 1024#32
  let v400 : BitVec 32 := Scalar.muli arg21 c1024_i32_196
  let v401 : BitVec 32 := v400
  let v402 : BitVec 32 := Scalar.addi v401 c0_i32_197
  let v403 : Index := Scalar.indexCast v402
  ![0, v403.toNat]
def k0_off5 (i : grid0.Coords) (k0_t1 : Fin (k0_t1_loop i).trips) : Fin 4 → Nat :=
  let c0_204 : Index := 0#32
  let c0_i32_36 : BitVec 32 := 0#32
  let c1_i32_37 : BitVec 32 := 1#32
  let arg21 : BitVec 32 := Scf.iv c0_i32_36 c1_i32_37 k0_t1
  let v417 : Index := Scalar.indexCast arg21
  let c0_205 : Index := 0#32
  let c0_206 : Index := 0#32
  ![0, v417.toNat, 0, 0]
def k0_mult5 (i : grid0.Coords) (k0_t1 : Fin (k0_t1_loop i).trips) : BitVec 32 :=
  let c0_i32_36 : BitVec 32 := 0#32
  let c1_i32_37 : BitVec 32 := 1#32
  let arg21 : BitVec 32 := Scf.iv c0_i32_36 c1_i32_37 k0_t1
  let c1024_i32_217 : BitVec 32 := 1024#32
  let v443 : BitVec 32 := Scalar.muli arg21 c1024_i32_217
  v443
def k0_mult6 (i : grid0.Coords) (k0_t1 : Fin (k0_t1_loop i).trips) : BitVec 32 :=
  let c0_i32_36 : BitVec 32 := 0#32
  let c1_i32_37 : BitVec 32 := 1#32
  let arg21 : BitVec 32 := Scf.iv c0_i32_36 c1_i32_37 k0_t1
  let c1024_i32_230 : BitVec 32 := 1024#32
  let v465 : BitVec 32 := Scalar.muli arg21 c1024_i32_230
  v465
def k0_off6 (i : grid0.Coords) (k0_t1 : Fin (k0_t1_loop i).trips) : Fin 4 → Nat :=
  let c0_238 : Index := 0#32
  let c0_i32_36 : BitVec 32 := 0#32
  let c1_i32_37 : BitVec 32 := 1#32
  let arg21 : BitVec 32 := Scf.iv c0_i32_36 c1_i32_37 k0_t1
  let v482 : Index := Scalar.indexCast arg21
  let c0_239 : Index := 0#32
  let c256_240 : Index := 256#32
  ![0, v482.toNat, 0, 256]
def k0_mult7 (i : grid0.Coords) (k0_t1 : Fin (k0_t1_loop i).trips) : BitVec 32 :=
  let c0_i32_36 : BitVec 32 := 0#32
  let c1_i32_37 : BitVec 32 := 1#32
  let arg21 : BitVec 32 := Scf.iv c0_i32_36 c1_i32_37 k0_t1
  let c1_i32_251 : BitVec 32 := 1#32
  let v508 : BitVec 32 := Scalar.addi arg21 c1_i32_251
  let c1024_i32_252 : BitVec 32 := 1024#32
  let v509 : BitVec 32 := Scalar.muli v508 c1024_i32_252
  v509
def k0_off7 (i : grid0.Coords) (k0_t1 : Fin (k0_t1_loop i).trips) : Fin 2 → Nat :=
  let c0_i32_36 : BitVec 32 := 0#32
  let c1_i32_37 : BitVec 32 := 1#32
  let arg21 : BitVec 32 := Scf.iv c0_i32_36 c1_i32_37 k0_t1
  let c1_i32_251 : BitVec 32 := 1#32
  let v508 : BitVec 32 := Scalar.addi arg21 c1_i32_251
  let c1024_i32_252 : BitVec 32 := 1024#32
  let v509 : BitVec 32 := Scalar.muli v508 c1024_i32_252
  let v510 : BitVec 32 := v509
  let c0_i32_253 : BitVec 32 := 0#32
  let v511 : BitVec 32 := Scalar.addi v510 c0_i32_253
  let v512 : Index := Scalar.indexCast v511
  let c0_254 : Index := 0#32
  ![v512.toNat, 0]
def k0_off8 (i : grid0.Coords) (k0_t1 : Fin (k0_t1_loop i).trips) : Fin 4 → Nat :=
  let c0_256 : Index := 0#32
  let c0_i32_36 : BitVec 32 := 0#32
  let c1_i32_37 : BitVec 32 := 1#32
  let arg21 : BitVec 32 := Scf.iv c0_i32_36 c1_i32_37 k0_t1
  let c1_i32_251 : BitVec 32 := 1#32
  let v508 : BitVec 32 := Scalar.addi arg21 c1_i32_251
  let v516 : Index := Scalar.indexCast v508
  let c0_257 : Index := 0#32
  let c0_258 : Index := 0#32
  ![0, v516.toNat, 0, 0]
def k0_mult8 (i : grid0.Coords) (k0_t1 : Fin (k0_t1_loop i).trips) : BitVec 32 :=
  let c0_i32_36 : BitVec 32 := 0#32
  let c1_i32_37 : BitVec 32 := 1#32
  let arg21 : BitVec 32 := Scf.iv c0_i32_36 c1_i32_37 k0_t1
  let c1024_i32_265 : BitVec 32 := 1024#32
  let v531 : BitVec 32 := Scalar.muli arg21 c1024_i32_265
  v531
def k0_off9 (i : grid0.Coords) (k0_t1 : Fin (k0_t1_loop i).trips) : Fin 4 → Nat :=
  let c0_273 : Index := 0#32
  let c0_i32_36 : BitVec 32 := 0#32
  let c1_i32_37 : BitVec 32 := 1#32
  let arg21 : BitVec 32 := Scf.iv c0_i32_36 c1_i32_37 k0_t1
  let v548 : Index := Scalar.indexCast arg21
  let c0_274 : Index := 0#32
  let c512_275 : Index := 512#32
  ![0, v548.toNat, 0, 512]
def k0_mult9 (i : grid0.Coords) (k0_t1 : Fin (k0_t1_loop i).trips) : BitVec 32 :=
  let c0_i32_36 : BitVec 32 := 0#32
  let c1_i32_37 : BitVec 32 := 1#32
  let arg21 : BitVec 32 := Scf.iv c0_i32_36 c1_i32_37 k0_t1
  let c1024_i32_286 : BitVec 32 := 1024#32
  let v574 : BitVec 32 := Scalar.muli arg21 c1024_i32_286
  v574
def k0_off10 (i : grid0.Coords) (k0_t1 : Fin (k0_t1_loop i).trips) : Fin 4 → Nat :=
  let c0_294 : Index := 0#32
  let c0_i32_36 : BitVec 32 := 0#32
  let c1_i32_37 : BitVec 32 := 1#32
  let arg21 : BitVec 32 := Scf.iv c0_i32_36 c1_i32_37 k0_t1
  let v591 : Index := Scalar.indexCast arg21
  let c0_295 : Index := 0#32
  let c768_296 : Index := 768#32
  ![0, v591.toNat, 0, 768]
@[reducible] def k0_t2_loop (i : grid0.Coords) : Scf.Loop 32 :=
  let c0_i32_36 : BitVec 32 := 0#32
  let arg1 : BitVec 32 := BitVec.ofNat 32 (i 1).val
  let v68 : BitVec 32 := Scalar.subi arg1 c0_i32_36
  let c1_i32 : BitVec 32 := 1#32
  let v70 : BitVec 32 := Scalar.divsi v68 c1_i32
  let v71 : BitVec 32 := Scalar.muli v70 c1_i32
  let v72 : BitVec 32 := Scalar.addi c0_i32_36 v71
  let v69 : BitVec 32 := Scalar.addi c0_i32_36 v68
  let c1_i32_38 : BitVec 32 := 1#32
  ⟨v72, v69, c1_i32_38⟩
def k0_mult10 (i : grid0.Coords) (k0_t2 : Fin (k0_t2_loop i).trips) : BitVec 32 :=
  let c0_i32_36 : BitVec 32 := 0#32
  let arg1 : BitVec 32 := BitVec.ofNat 32 (i 1).val
  let v68 : BitVec 32 := Scalar.subi arg1 c0_i32_36
  let c1_i32 : BitVec 32 := 1#32
  let v70 : BitVec 32 := Scalar.divsi v68 c1_i32
  let v71 : BitVec 32 := Scalar.muli v70 c1_i32
  let v72 : BitVec 32 := Scalar.addi c0_i32_36 v71
  let c1_i32_38 : BitVec 32 := 1#32
  let arg21 : BitVec 32 := Scf.iv v72 c1_i32_38 k0_t2
  let c1024_i32_165 : BitVec 32 := 1024#32
  let v343 : BitVec 32 := Scalar.muli arg21 c1024_i32_165
  v343
def k0_off11 (i : grid0.Coords) (k0_t2 : Fin (k0_t2_loop i).trips) (c256_i32_166 : BitVec 32) : Fin 2 → Nat :=
  let c0_i32_36 : BitVec 32 := 0#32
  let arg1 : BitVec 32 := BitVec.ofNat 32 (i 1).val
  let v68 : BitVec 32 := Scalar.subi arg1 c0_i32_36
  let c1_i32 : BitVec 32 := 1#32
  let v70 : BitVec 32 := Scalar.divsi v68 c1_i32
  let v71 : BitVec 32 := Scalar.muli v70 c1_i32
  let v72 : BitVec 32 := Scalar.addi c0_i32_36 v71
  let c1_i32_38 : BitVec 32 := 1#32
  let arg21 : BitVec 32 := Scf.iv v72 c1_i32_38 k0_t2
  let c1024_i32_165 : BitVec 32 := 1024#32
  let v343 : BitVec 32 := Scalar.muli arg21 c1024_i32_165
  let v344 : BitVec 32 := v343
  let v345 : BitVec 32 := Scalar.addi v344 c256_i32_166
  let v346 : Index := Scalar.indexCast v345
  let c0_167 : Index := 0#32
  ![v346.toNat, 0]
def k0_off12 (i : grid0.Coords) (k0_t2 : Fin (k0_t2_loop i).trips) : Fin 4 → Nat :=
  let c0_169 : Index := 0#32
  let c0_i32_36 : BitVec 32 := 0#32
  let arg1 : BitVec 32 := BitVec.ofNat 32 (i 1).val
  let v68 : BitVec 32 := Scalar.subi arg1 c0_i32_36
  let c1_i32 : BitVec 32 := 1#32
  let v70 : BitVec 32 := Scalar.divsi v68 c1_i32
  let v71 : BitVec 32 := Scalar.muli v70 c1_i32
  let v72 : BitVec 32 := Scalar.addi c0_i32_36 v71
  let c1_i32_38 : BitVec 32 := 1#32
  let arg21 : BitVec 32 := Scf.iv v72 c1_i32_38 k0_t2
  let v350 : Index := Scalar.indexCast arg21
  let c0_170 : Index := 0#32
  let c0_171 : Index := 0#32
  ![0, v350.toNat, 0, 0]
def k0_mult11 (i : grid0.Coords) (k0_t2 : Fin (k0_t2_loop i).trips) : BitVec 32 :=
  let c0_i32_36 : BitVec 32 := 0#32
  let arg1 : BitVec 32 := BitVec.ofNat 32 (i 1).val
  let v68 : BitVec 32 := Scalar.subi arg1 c0_i32_36
  let c1_i32 : BitVec 32 := 1#32
  let v70 : BitVec 32 := Scalar.divsi v68 c1_i32
  let v71 : BitVec 32 := Scalar.muli v70 c1_i32
  let v72 : BitVec 32 := Scalar.addi c0_i32_36 v71
  let c1_i32_38 : BitVec 32 := 1#32
  let arg21 : BitVec 32 := Scf.iv v72 c1_i32_38 k0_t2
  let c1024_i32_183 : BitVec 32 := 1024#32
  let v378 : BitVec 32 := Scalar.muli arg21 c1024_i32_183
  v378
def k0_mult12 (i : grid0.Coords) (k0_t2 : Fin (k0_t2_loop i).trips) : BitVec 32 :=
  let c0_i32_36 : BitVec 32 := 0#32
  let arg1 : BitVec 32 := BitVec.ofNat 32 (i 1).val
  let v68 : BitVec 32 := Scalar.subi arg1 c0_i32_36
  let c1_i32 : BitVec 32 := 1#32
  let v70 : BitVec 32 := Scalar.divsi v68 c1_i32
  let v71 : BitVec 32 := Scalar.muli v70 c1_i32
  let v72 : BitVec 32 := Scalar.addi c0_i32_36 v71
  let c1_i32_38 : BitVec 32 := 1#32
  let arg21 : BitVec 32 := Scf.iv v72 c1_i32_38 k0_t2
  let c1024_i32_196 : BitVec 32 := 1024#32
  let v400 : BitVec 32 := Scalar.muli arg21 c1024_i32_196
  v400
def k0_off13 (i : grid0.Coords) (k0_t2 : Fin (k0_t2_loop i).trips) (c0_i32_197 : BitVec 32) : Fin 2 → Nat :=
  let c0_198 : Index := 0#32
  let c0_i32_36 : BitVec 32 := 0#32
  let arg1 : BitVec 32 := BitVec.ofNat 32 (i 1).val
  let v68 : BitVec 32 := Scalar.subi arg1 c0_i32_36
  let c1_i32 : BitVec 32 := 1#32
  let v70 : BitVec 32 := Scalar.divsi v68 c1_i32
  let v71 : BitVec 32 := Scalar.muli v70 c1_i32
  let v72 : BitVec 32 := Scalar.addi c0_i32_36 v71
  let c1_i32_38 : BitVec 32 := 1#32
  let arg21 : BitVec 32 := Scf.iv v72 c1_i32_38 k0_t2
  let c1024_i32_196 : BitVec 32 := 1024#32
  let v400 : BitVec 32 := Scalar.muli arg21 c1024_i32_196
  let v401 : BitVec 32 := v400
  let v402 : BitVec 32 := Scalar.addi v401 c0_i32_197
  let v403 : Index := Scalar.indexCast v402
  ![0, v403.toNat]
def k0_off14 (i : grid0.Coords) (k0_t2 : Fin (k0_t2_loop i).trips) : Fin 4 → Nat :=
  let c0_204 : Index := 0#32
  let c0_i32_36 : BitVec 32 := 0#32
  let arg1 : BitVec 32 := BitVec.ofNat 32 (i 1).val
  let v68 : BitVec 32 := Scalar.subi arg1 c0_i32_36
  let c1_i32 : BitVec 32 := 1#32
  let v70 : BitVec 32 := Scalar.divsi v68 c1_i32
  let v71 : BitVec 32 := Scalar.muli v70 c1_i32
  let v72 : BitVec 32 := Scalar.addi c0_i32_36 v71
  let c1_i32_38 : BitVec 32 := 1#32
  let arg21 : BitVec 32 := Scf.iv v72 c1_i32_38 k0_t2
  let v417 : Index := Scalar.indexCast arg21
  let c0_205 : Index := 0#32
  let c0_206 : Index := 0#32
  ![0, v417.toNat, 0, 0]
def k0_mult13 (i : grid0.Coords) (k0_t2 : Fin (k0_t2_loop i).trips) : BitVec 32 :=
  let c0_i32_36 : BitVec 32 := 0#32
  let arg1 : BitVec 32 := BitVec.ofNat 32 (i 1).val
  let v68 : BitVec 32 := Scalar.subi arg1 c0_i32_36
  let c1_i32 : BitVec 32 := 1#32
  let v70 : BitVec 32 := Scalar.divsi v68 c1_i32
  let v71 : BitVec 32 := Scalar.muli v70 c1_i32
  let v72 : BitVec 32 := Scalar.addi c0_i32_36 v71
  let c1_i32_38 : BitVec 32 := 1#32
  let arg21 : BitVec 32 := Scf.iv v72 c1_i32_38 k0_t2
  let c1024_i32_217 : BitVec 32 := 1024#32
  let v443 : BitVec 32 := Scalar.muli arg21 c1024_i32_217
  v443
def k0_mult14 (i : grid0.Coords) (k0_t2 : Fin (k0_t2_loop i).trips) : BitVec 32 :=
  let c0_i32_36 : BitVec 32 := 0#32
  let arg1 : BitVec 32 := BitVec.ofNat 32 (i 1).val
  let v68 : BitVec 32 := Scalar.subi arg1 c0_i32_36
  let c1_i32 : BitVec 32 := 1#32
  let v70 : BitVec 32 := Scalar.divsi v68 c1_i32
  let v71 : BitVec 32 := Scalar.muli v70 c1_i32
  let v72 : BitVec 32 := Scalar.addi c0_i32_36 v71
  let c1_i32_38 : BitVec 32 := 1#32
  let arg21 : BitVec 32 := Scf.iv v72 c1_i32_38 k0_t2
  let c1024_i32_230 : BitVec 32 := 1024#32
  let v465 : BitVec 32 := Scalar.muli arg21 c1024_i32_230
  v465
def k0_off15 (i : grid0.Coords) (k0_t2 : Fin (k0_t2_loop i).trips) : Fin 4 → Nat :=
  let c0_238 : Index := 0#32
  let c0_i32_36 : BitVec 32 := 0#32
  let arg1 : BitVec 32 := BitVec.ofNat 32 (i 1).val
  let v68 : BitVec 32 := Scalar.subi arg1 c0_i32_36
  let c1_i32 : BitVec 32 := 1#32
  let v70 : BitVec 32 := Scalar.divsi v68 c1_i32
  let v71 : BitVec 32 := Scalar.muli v70 c1_i32
  let v72 : BitVec 32 := Scalar.addi c0_i32_36 v71
  let c1_i32_38 : BitVec 32 := 1#32
  let arg21 : BitVec 32 := Scf.iv v72 c1_i32_38 k0_t2
  let v482 : Index := Scalar.indexCast arg21
  let c0_239 : Index := 0#32
  let c256_240 : Index := 256#32
  ![0, v482.toNat, 0, 256]
def k0_mult15 (i : grid0.Coords) (k0_t2 : Fin (k0_t2_loop i).trips) : BitVec 32 :=
  let c0_i32_36 : BitVec 32 := 0#32
  let arg1 : BitVec 32 := BitVec.ofNat 32 (i 1).val
  let v68 : BitVec 32 := Scalar.subi arg1 c0_i32_36
  let c1_i32 : BitVec 32 := 1#32
  let v70 : BitVec 32 := Scalar.divsi v68 c1_i32
  let v71 : BitVec 32 := Scalar.muli v70 c1_i32
  let v72 : BitVec 32 := Scalar.addi c0_i32_36 v71
  let c1_i32_38 : BitVec 32 := 1#32
  let arg21 : BitVec 32 := Scf.iv v72 c1_i32_38 k0_t2
  let c1_i32_251 : BitVec 32 := 1#32
  let v508 : BitVec 32 := Scalar.addi arg21 c1_i32_251
  let c1024_i32_252 : BitVec 32 := 1024#32
  let v509 : BitVec 32 := Scalar.muli v508 c1024_i32_252
  v509
def k0_off16 (i : grid0.Coords) (k0_t2 : Fin (k0_t2_loop i).trips) : Fin 2 → Nat :=
  let c0_i32_36 : BitVec 32 := 0#32
  let arg1 : BitVec 32 := BitVec.ofNat 32 (i 1).val
  let v68 : BitVec 32 := Scalar.subi arg1 c0_i32_36
  let c1_i32 : BitVec 32 := 1#32
  let v70 : BitVec 32 := Scalar.divsi v68 c1_i32
  let v71 : BitVec 32 := Scalar.muli v70 c1_i32
  let v72 : BitVec 32 := Scalar.addi c0_i32_36 v71
  let c1_i32_38 : BitVec 32 := 1#32
  let arg21 : BitVec 32 := Scf.iv v72 c1_i32_38 k0_t2
  let c1_i32_251 : BitVec 32 := 1#32
  let v508 : BitVec 32 := Scalar.addi arg21 c1_i32_251
  let c1024_i32_252 : BitVec 32 := 1024#32
  let v509 : BitVec 32 := Scalar.muli v508 c1024_i32_252
  let v510 : BitVec 32 := v509
  let c0_i32_253 : BitVec 32 := 0#32
  let v511 : BitVec 32 := Scalar.addi v510 c0_i32_253
  let v512 : Index := Scalar.indexCast v511
  let c0_254 : Index := 0#32
  ![v512.toNat, 0]
def k0_off17 (i : grid0.Coords) (k0_t2 : Fin (k0_t2_loop i).trips) : Fin 4 → Nat :=
  let c0_256 : Index := 0#32
  let c0_i32_36 : BitVec 32 := 0#32
  let arg1 : BitVec 32 := BitVec.ofNat 32 (i 1).val
  let v68 : BitVec 32 := Scalar.subi arg1 c0_i32_36
  let c1_i32 : BitVec 32 := 1#32
  let v70 : BitVec 32 := Scalar.divsi v68 c1_i32
  let v71 : BitVec 32 := Scalar.muli v70 c1_i32
  let v72 : BitVec 32 := Scalar.addi c0_i32_36 v71
  let c1_i32_38 : BitVec 32 := 1#32
  let arg21 : BitVec 32 := Scf.iv v72 c1_i32_38 k0_t2
  let c1_i32_251 : BitVec 32 := 1#32
  let v508 : BitVec 32 := Scalar.addi arg21 c1_i32_251
  let v516 : Index := Scalar.indexCast v508
  let c0_257 : Index := 0#32
  let c0_258 : Index := 0#32
  ![0, v516.toNat, 0, 0]
def k0_mult16 (i : grid0.Coords) (k0_t2 : Fin (k0_t2_loop i).trips) : BitVec 32 :=
  let c0_i32_36 : BitVec 32 := 0#32
  let arg1 : BitVec 32 := BitVec.ofNat 32 (i 1).val
  let v68 : BitVec 32 := Scalar.subi arg1 c0_i32_36
  let c1_i32 : BitVec 32 := 1#32
  let v70 : BitVec 32 := Scalar.divsi v68 c1_i32
  let v71 : BitVec 32 := Scalar.muli v70 c1_i32
  let v72 : BitVec 32 := Scalar.addi c0_i32_36 v71
  let c1_i32_38 : BitVec 32 := 1#32
  let arg21 : BitVec 32 := Scf.iv v72 c1_i32_38 k0_t2
  let c1024_i32_265 : BitVec 32 := 1024#32
  let v531 : BitVec 32 := Scalar.muli arg21 c1024_i32_265
  v531
def k0_off18 (i : grid0.Coords) (k0_t2 : Fin (k0_t2_loop i).trips) : Fin 4 → Nat :=
  let c0_273 : Index := 0#32
  let c0_i32_36 : BitVec 32 := 0#32
  let arg1 : BitVec 32 := BitVec.ofNat 32 (i 1).val
  let v68 : BitVec 32 := Scalar.subi arg1 c0_i32_36
  let c1_i32 : BitVec 32 := 1#32
  let v70 : BitVec 32 := Scalar.divsi v68 c1_i32
  let v71 : BitVec 32 := Scalar.muli v70 c1_i32
  let v72 : BitVec 32 := Scalar.addi c0_i32_36 v71
  let c1_i32_38 : BitVec 32 := 1#32
  let arg21 : BitVec 32 := Scf.iv v72 c1_i32_38 k0_t2
  let v548 : Index := Scalar.indexCast arg21
  let c0_274 : Index := 0#32
  let c512_275 : Index := 512#32
  ![0, v548.toNat, 0, 512]
def k0_mult17 (i : grid0.Coords) (k0_t2 : Fin (k0_t2_loop i).trips) : BitVec 32 :=
  let c0_i32_36 : BitVec 32 := 0#32
  let arg1 : BitVec 32 := BitVec.ofNat 32 (i 1).val
  let v68 : BitVec 32 := Scalar.subi arg1 c0_i32_36
  let c1_i32 : BitVec 32 := 1#32
  let v70 : BitVec 32 := Scalar.divsi v68 c1_i32
  let v71 : BitVec 32 := Scalar.muli v70 c1_i32
  let v72 : BitVec 32 := Scalar.addi c0_i32_36 v71
  let c1_i32_38 : BitVec 32 := 1#32
  let arg21 : BitVec 32 := Scf.iv v72 c1_i32_38 k0_t2
  let c1024_i32_286 : BitVec 32 := 1024#32
  let v574 : BitVec 32 := Scalar.muli arg21 c1024_i32_286
  v574
def k0_off19 (i : grid0.Coords) (k0_t2 : Fin (k0_t2_loop i).trips) : Fin 4 → Nat :=
  let c0_294 : Index := 0#32
  let c0_i32_36 : BitVec 32 := 0#32
  let arg1 : BitVec 32 := BitVec.ofNat 32 (i 1).val
  let v68 : BitVec 32 := Scalar.subi arg1 c0_i32_36
  let c1_i32 : BitVec 32 := 1#32
  let v70 : BitVec 32 := Scalar.divsi v68 c1_i32
  let v71 : BitVec 32 := Scalar.muli v70 c1_i32
  let v72 : BitVec 32 := Scalar.addi c0_i32_36 v71
  let c1_i32_38 : BitVec 32 := 1#32
  let arg21 : BitVec 32 := Scf.iv v72 c1_i32_38 k0_t2
  let v591 : Index := Scalar.indexCast arg21
  let c0_295 : Index := 0#32
  let c768_296 : Index := 768#32
  ![0, v591.toNat, 0, 768]
def k0_mult18 (i : grid0.Coords) : BitVec 32 :=
  let arg1 : BitVec 32 := BitVec.ofNat 32 (i 1).val
  let c1024_i32 : BitVec 32 := 1024#32
  let v75 : BitVec 32 := Scalar.muli arg1 c1024_i32
  v75
def k0_off20 (i : grid0.Coords) (c256_i32 : BitVec 32) : Fin 2 → Nat :=
  let arg1 : BitVec 32 := BitVec.ofNat 32 (i 1).val
  let c1024_i32 : BitVec 32 := 1024#32
  let v75 : BitVec 32 := Scalar.muli arg1 c1024_i32
  let v76 : BitVec 32 := v75
  let v77 : BitVec 32 := Scalar.addi v76 c256_i32
  let v78 : Index := Scalar.indexCast v77
  let c0_39 : Index := 0#32
  ![v78.toNat, 0]
def k0_off21 (i : grid0.Coords) : Fin 4 → Nat :=
  let c0_41 : Index := 0#32
  let arg1 : BitVec 32 := BitVec.ofNat 32 (i 1).val
  let v82 : Index := Scalar.indexCast arg1
  let c0_42 : Index := 0#32
  let c0_43 : Index := 0#32
  ![0, v82.toNat, 0, 0]
def k0_mult19 (i : grid0.Coords) : BitVec 32 :=
  let arg1 : BitVec 32 := BitVec.ofNat 32 (i 1).val
  let c1024_i32_57 : BitVec 32 := 1024#32
  let v117 : BitVec 32 := Scalar.muli arg1 c1024_i32_57
  v117
def k0_mult20 (i : grid0.Coords) : BitVec 32 :=
  let arg1 : BitVec 32 := BitVec.ofNat 32 (i 1).val
  let c1024_i32_69 : BitVec 32 := 1024#32
  let v139 : BitVec 32 := Scalar.muli arg1 c1024_i32_69
  v139
def k0_off22 (i : grid0.Coords) (c0_i32_70 : BitVec 32) : Fin 2 → Nat :=
  let c0_71 : Index := 0#32
  let arg1 : BitVec 32 := BitVec.ofNat 32 (i 1).val
  let c1024_i32_69 : BitVec 32 := 1024#32
  let v139 : BitVec 32 := Scalar.muli arg1 c1024_i32_69
  let v140 : BitVec 32 := v139
  let v141 : BitVec 32 := Scalar.addi v140 c0_i32_70
  let v142 : Index := Scalar.indexCast v141
  ![0, v142.toNat]
def k0_off23 (i : grid0.Coords) : Fin 4 → Nat :=
  let c0_77 : Index := 0#32
  let arg1 : BitVec 32 := BitVec.ofNat 32 (i 1).val
  let v156 : Index := Scalar.indexCast arg1
  let c0_78 : Index := 0#32
  let c0_79 : Index := 0#32
  ![0, v156.toNat, 0, 0]
def k0_mult21 (i : grid0.Coords) : BitVec 32 :=
  let arg1 : BitVec 32 := BitVec.ofNat 32 (i 1).val
  let c1024_i32_92 : BitVec 32 := 1024#32
  let v189 : BitVec 32 := Scalar.muli arg1 c1024_i32_92
  v189
def k0_mult22 (i : grid0.Coords) : BitVec 32 :=
  let arg1 : BitVec 32 := BitVec.ofNat 32 (i 1).val
  let c1024_i32_104 : BitVec 32 := 1024#32
  let v211 : BitVec 32 := Scalar.muli arg1 c1024_i32_104
  v211
def k0_off24 (i : grid0.Coords) : Fin 4 → Nat :=
  let c0_112 : Index := 0#32
  let arg1 : BitVec 32 := BitVec.ofNat 32 (i 1).val
  let v228 : Index := Scalar.indexCast arg1
  let c0_113 : Index := 0#32
  let c256 : Index := 256#32
  ![0, v228.toNat, 0, 256]
def k0_mult23 (i : grid0.Coords) : BitVec 32 :=
  let arg1 : BitVec 32 := BitVec.ofNat 32 (i 1).val
  let c1024_i32_126 : BitVec 32 := 1024#32
  let v261 : BitVec 32 := Scalar.muli arg1 c1024_i32_126
  v261
def k0_off25 (i : grid0.Coords) : Fin 4 → Nat :=
  let c0_134 : Index := 0#32
  let arg1 : BitVec 32 := BitVec.ofNat 32 (i 1).val
  let v278 : Index := Scalar.indexCast arg1
  let c0_135 : Index := 0#32
  let c512 : Index := 512#32
  ![0, v278.toNat, 0, 512]
def k0_mult24 (i : grid0.Coords) : BitVec 32 :=
  let arg1 : BitVec 32 := BitVec.ofNat 32 (i 1).val
  let c1024_i32_148 : BitVec 32 := 1024#32
  let v311 : BitVec 32 := Scalar.muli arg1 c1024_i32_148
  v311
def k0_off26 (i : grid0.Coords) : Fin 4 → Nat :=
  let c0_156 : Index := 0#32
  let arg1 : BitVec 32 := BitVec.ofNat 32 (i 1).val
  let v328 : Index := Scalar.indexCast arg1
  let c0_157 : Index := 0#32
  let c768 : Index := 768#32
  ![0, v328.toNat, 0, 768]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  ![arg1.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x8192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x8192 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S128x8192 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x8x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S8192x2048 : Shape := ⟨2, ![8192, 2048]⟩
abbrev S8192x8192 : Shape := ⟨2, ![8192, 8192]⟩
abbrev S128x8192 : Shape := ⟨2, ![128, 8192]⟩
abbrev S16x8192 : Shape := ⟨2, ![16, 8192]⟩
abbrev S8192x16x128 : Shape := ⟨3, ![8192, 16, 128]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S16x128x8192 : Shape := ⟨3, ![16, 128, 8192]⟩
abbrev S16x8192x128 : Shape := ⟨3, ![16, 8192, 128]⟩
abbrev S2048x8192 : Shape := ⟨2, ![2048, 8192]⟩
abbrev S16x8x1x1024 : Shape := ⟨4, ![16, 8, 1, 1024]⟩

abbrev nBuf : Space → Nat
  | .hbm => 146
  | .vmem => 0
  | .smem => 0
  | _ => 0

abbrev hbmTy0_0 (i : Nat) : BufTy := match i % 128 with
  | 0 => ⟨S8192x2048, .f32⟩
  | 1 => ⟨S8192x2048, .f32⟩
  | 2 => ⟨S8192x8192, .bf16⟩
  | 3 => ⟨S128x8192, .f32⟩
  | 4 => ⟨S8192x2048, .bf16⟩
  | 5 => ⟨S8192x2048, .bf16⟩
  | 6 => ⟨S8192x2048, .f32⟩
  | 7 => ⟨S8192x2048, .bf16⟩
  | 8 => ⟨S8192x2048, .f32⟩
  | 9 => ⟨S16x8192, .f32⟩
  | 10 => ⟨S8192x16x128, .f32⟩
  | 11 => ⟨S8192x16x128, .f32⟩
  | 12 => ⟨S8192x16x128, .f32⟩
  | 13 => ⟨S16x8192x8192, .f32⟩
  | 14 => ⟨S_, .f32⟩
  | 15 => ⟨S16x8192x8192, .f32⟩
  | 16 => ⟨S16x8192x8192, .f32⟩
  | 17 => ⟨S16x8192x1, .f32⟩
  | 18 => ⟨S16x8192x8192, .f32⟩
  | 19 => ⟨S16x8192x8192, .f32⟩
  | 20 => ⟨S16x1x8192, .f32⟩
  | 21 => ⟨S16x8192x8192, .f32⟩
  | 22 => ⟨S16x8192x8192, .f32⟩
  | 23 => ⟨S8192, .i32⟩
  | 24 => ⟨S1x8192, .i32⟩
  | 25 => ⟨S8192x1, .i32⟩
  | 26 => ⟨S8192x8192, .i32⟩
  | 27 => ⟨S8192x8192, .i32⟩
  | 28 => ⟨S8192x8192, .i1⟩
  | 29 => ⟨S_, .f32⟩
  | 30 => ⟨S_, .f32⟩
  | 31 => ⟨S16x8192x8192, .i1⟩
  | 32 => ⟨S16x8192x8192, .f32⟩
  | 33 => ⟨S16x8192x8192, .f32⟩
  | 34 => ⟨S_, .f32⟩
  | 35 => ⟨S16x8192x8192, .f32⟩
  | 36 => ⟨S_, .f32⟩
  | 37 => ⟨S16x8192, .f32⟩
  | 38 => ⟨S16x8192x1, .f32⟩
  | 39 => ⟨S16x8192x8192, .f32⟩
  | 40 => ⟨S16x8192x8192, .i1⟩
  | 41 => ⟨S16x8192x8192, .f32⟩
  | 42 => ⟨S_, .f32⟩
  | 43 => ⟨S16x8192, .f32⟩
  | 44 => ⟨S_, .f32⟩
  | 45 => ⟨S16x8192, .f32⟩
  | 46 => ⟨S16x8192, .f32⟩
  | 47 => ⟨S_, .f32⟩
  | 48 => ⟨S16x8192, .f32⟩
  | 49 => ⟨S16x8192, .i1⟩
  | 50 => ⟨S_, .f32⟩
  | 51 => ⟨S16x8192, .f32⟩
  | 52 => ⟨S16x8192, .i1⟩
  | 53 => ⟨S_, .f32⟩
  | 54 => ⟨S16x8192, .f32⟩
  | 55 => ⟨S_, .f32⟩
  | 56 => ⟨S16x8192, .f32⟩
  | 57 => ⟨S_, .f32⟩
  | 58 => ⟨S16x8192, .f32⟩
  | 59 => ⟨S16x8192, .f32⟩
  | 60 => ⟨S16x8192, .f32⟩
  | 61 => ⟨S16x8192x1, .f32⟩
  | 62 => ⟨S16x8192x8192, .f32⟩
  | 63 => ⟨S16x8192x8192, .f32⟩
  | 64 => ⟨S16x8192x8192, .f32⟩
  | 65 => ⟨S_, .f32⟩
  | 66 => ⟨S16x8192, .f32⟩
  | 67 => ⟨S16x8192x1, .f32⟩
  | 68 => ⟨S16x8192x8192, .f32⟩
  | 69 => ⟨S16x8192x8192, .f32⟩
  | 70 => ⟨S16x8192x1, .f32⟩
  | 71 => ⟨S_, .f32⟩
  | 72 => ⟨S16x8192x1, .f32⟩
  | 73 => ⟨S16x8192x1, .f32⟩
  | 74 => ⟨S16x128x8192, .f32⟩
  | 75 => ⟨S8192x16x128, .f32⟩
  | 76 => ⟨S8192x2048, .f32⟩
  | 77 => ⟨S8192x2048, .f32⟩
  | 78 => ⟨S8192x2048, .f32⟩
  | 79 => ⟨S_, .f32⟩
  | 80 => ⟨S8192x2048, .f32⟩
  | 81 => ⟨S8192x2048, .f32⟩
  | 82 => ⟨S_, .f32⟩
  | 83 => ⟨S8192x2048, .f32⟩
  | 84 => ⟨S8192x2048, .f32⟩
  | 85 => ⟨S_, .f32⟩
  | 86 => ⟨S8192x2048, .f32⟩
  | 87 => ⟨S8192x2048, .f32⟩
  | 88 => ⟨S8192x2048, .f32⟩
  | 89 => ⟨S8192x2048, .f32⟩
  | 90 => ⟨S8192x2048, .f32⟩
  | 91 => ⟨S8192x2048, .f32⟩
  | 92 => ⟨S8192x2048, .f32⟩
  | 93 => ⟨S8192x2048, .f32⟩
  | 94 => ⟨S8192x2048, .f32⟩
  | 95 => ⟨S8192x2048, .f32⟩
  | 96 => ⟨S8192x2048, .f32⟩
  | 97 => ⟨S8192x2048, .f32⟩
  | 98 => ⟨S8192x16x128, .f32⟩
  | 99 => ⟨S16x128x8192, .f32⟩
  | 100 => ⟨S16x8192x8192, .f32⟩
  | 101 => ⟨S16x128x8192, .f32⟩
  | 102 => ⟨S8192x16x128, .f32⟩
  | 103 => ⟨S16x8192x8192, .f32⟩
  | 104 => ⟨S16x8192x8192, .f32⟩
  | 105 => ⟨S16x8192x8192, .f32⟩
  | 106 => ⟨S_, .f32⟩
  | 107 => ⟨S16x8192, .f32⟩
  | 108 => ⟨S16x8192x1, .f32⟩
  | 109 => ⟨S16x8192x1, .f32⟩
  | 110 => ⟨S16x8192x8192, .f32⟩
  | 111 => ⟨S16x8192x8192, .f32⟩
  | 112 => ⟨S_, .f32⟩
  | 113 => ⟨S16x8192, .f32⟩
  | 114 => ⟨S16x8192x8192, .f32⟩
  | 115 => ⟨S16x8192x8192, .f32⟩
  | 116 => ⟨S16x8192x8192, .f32⟩
  | 117 => ⟨S_, .f32⟩
  | 118 => ⟨S16x8192x8192, .f32⟩
  | 119 => ⟨S16x8192x8192, .f32⟩
  | 120 => ⟨S16x8192x8192, .f32⟩
  | 121 => ⟨S_, .f32⟩
  | 122 => ⟨S16x8192, .f32⟩
  | 123 => ⟨S16x1x8192, .f32⟩
  | 124 => ⟨S_, .f32⟩
  | 125 => ⟨S16x8192, .f32⟩
  | 126 => ⟨S_, .f32⟩
  | 127 => ⟨S16x8192, .f32⟩
  | _ => ⟨S8192x2048, .f32⟩

abbrev hbmTy0_1 (i : Nat) : BufTy := match i % 128 with
  | 0 => ⟨S16x8192x1, .f32⟩
  | 1 => ⟨S_, .f32⟩
  | 2 => ⟨S16x8192, .f32⟩
  | 3 => ⟨S16x8192, .f32⟩
  | 4 => ⟨S_, .f32⟩
  | 5 => ⟨S16x8192x8192, .f32⟩
  | 6 => ⟨S16x8192x8192, .f32⟩
  | 7 => ⟨S16x8192x128, .f32⟩
  | 8 => ⟨S8192x16x128, .f32⟩
  | 9 => ⟨S16x8192x128, .f32⟩
  | 10 => ⟨S8192x16x128, .f32⟩
  | 11 => ⟨S8192x2048, .f32⟩
  | 12 => ⟨S8192x2048, .f32⟩
  | 13 => ⟨S8192x2048, .f32⟩
  | 14 => ⟨S2048x8192, .f32⟩
  | 15 => ⟨S2048x8192, .f32⟩
  | 16 => ⟨S16x8x1x1024, .f32⟩
  | 17 => ⟨S8192x2048, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_call0_v0 : Ref sig .tc := ⟨.hbm, 30, rfl⟩
abbrev main_v23_1 : Ref sig .tc := ⟨.hbm, 31, rfl⟩
abbrev main_call0_v2 : Ref sig .tc := ⟨.hbm, 32, rfl⟩
abbrev main_v23_0 : Ref sig .tc := ⟨.hbm, 33, rfl⟩
abbrev main_call0_cst : Ref sig .tc := ⟨.hbm, 34, rfl⟩
abbrev main_v23_2 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_v0 : Ref sig .tc := ⟨.hbm, 77, rfl⟩
abbrev main_call1_v1 : Ref sig .tc := ⟨.hbm, 78, rfl⟩
abbrev main_call1_cst : Ref sig .tc := ⟨.hbm, 79, rfl⟩
abbrev main_call1_v2 : Ref sig .tc := ⟨.hbm, 80, rfl⟩
abbrev main_call1_v3 : Ref sig .tc := ⟨.hbm, 81, rfl⟩
abbrev main_call1_cst_0 : Ref sig .tc := ⟨.hbm, 82, rfl⟩
abbrev main_call1_v4 : Ref sig .tc := ⟨.hbm, 83, rfl⟩
abbrev main_v55_2 : Ref sig .tc := ⟨.hbm, 84, rfl⟩
abbrev main_call1_cst_1 : Ref sig .tc := ⟨.hbm, 85, rfl⟩
abbrev main_call1_v6 : Ref sig .tc := ⟨.hbm, 86, rfl⟩
abbrev main_call1_v7 : Ref sig .tc := ⟨.hbm, 87, rfl⟩
abbrev main_v55_1 : Ref sig .tc := ⟨.hbm, 88, rfl⟩
abbrev main_v55_0 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_11 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_12 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_call3_cst : Ref sig .tc := ⟨.hbm, 117, rfl⟩
abbrev main_call3_v0 : Ref sig .tc := ⟨.hbm, 118, rfl⟩
abbrev main_v78 : Ref sig .tc := ⟨.hbm, 119, rfl⟩
abbrev main_v79 : Ref sig .tc := ⟨.hbm, 120, rfl⟩
abbrev main_cst_13 : Ref sig .tc := ⟨.hbm, 121, rfl⟩
abbrev main_v80 : Ref sig .tc := ⟨.hbm, 122, rfl⟩
abbrev main_v81 : Ref sig .tc := ⟨.hbm, 123, rfl⟩
abbrev main_cst_14 : Ref sig .tc := ⟨.hbm, 124, rfl⟩
abbrev main_v82 : Ref sig .tc := ⟨.hbm, 125, rfl⟩
abbrev main_cst_15 : Ref sig .tc := ⟨.hbm, 126, rfl⟩
abbrev main_v83 : Ref sig .tc := ⟨.hbm, 127, rfl⟩
abbrev main_v84 : Ref sig .tc := ⟨.hbm, 128, rfl⟩
abbrev main_cst_16 : Ref sig .tc := ⟨.hbm, 129, rfl⟩
abbrev main_v85 : Ref sig .tc := ⟨.hbm, 130, rfl⟩
abbrev main_v86 : Ref sig .tc := ⟨.hbm, 131, rfl⟩
abbrev main_cst_17 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S1024x6144 : Shape := ⟨2, ![1024, 6144]⟩
abbrev S8192x6144 : Shape := ⟨2, ![8192, 6144]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x6144, .f32⟩
  | .hbm, ⟨3, _⟩ => ⟨S8192x6144, .bf16⟩
  | .hbm, ⟨4, _⟩ => ⟨S8192x1024, .f32⟩
  | .hbm, ⟨5, _⟩ => ⟨S1024x6144, .bf16⟩
  | .hbm, ⟨6, _⟩ => ⟨S8192x1024, .f32⟩
  | .hbm, ⟨7, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 6], ![false, false]⟩

def k0_cond2 (i : grid0.Coords) : BitVec 1 :=
  let arg1 : BitVec 32 := BitVec.ofNat 32 (i 1).val
  let c5_i32 : BitVec 32 := 5#32
  let v12 : BitVec 1 := Scalar.cmpi .eq arg1 c5_i32
  let v13 : BitVec 32 := Scalar.extui v12
  let c0_i32_8 : BitVec 32 := 0#32
  let v14 : BitVec 1 := Scalar.cmpi .ne v13 c0_i32_8
  v14

def k0_cond3 (i : grid0.Coords) : BitVec 1 :=
  let arg0 : BitVec 32 := BitVec.ofNat 32 (i 0).val
  let c0_i32_25 : BitVec 32 := 0#32
  let v46 : BitVec 1 := Scalar.cmpi .eq arg0 c0_i32_25
  let v47 : BitVec 32 := Scalar.extui v46
  let c0_i32_26 : BitVec 32 := 0#32
  let v48 : BitVec 1 := Scalar.cmpi .ne v47 c0_i32_26
  v48

def k0_cond4 (i : grid0.Coords) : BitVec 1 :=
  let arg0 : BitVec 32 := BitVec.ofNat 32 (i 0).val
  let c0_i32_27 : BitVec 32 := 0#32
  let v49 : BitVec 1 := Scalar.cmpi .sgt arg0 c0_i32_27
  let v50 : BitVec 32 := Scalar.extui v49
  let c0_i32_28 : BitVec 32 := 0#32
  let v51 : BitVec 1 := Scalar.cmpi .ne v50 c0_i32_28
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference2Ideal.lean ====
abbrev S8192x1024 : Shape := ⟨2, ![8192, 1024]⟩
abbrev S1x1024 : Shape := ⟨2, ![1, 1024]⟩
abbrev S1024x6144 : Shape := ⟨2, ![1024, 6144]⟩
abbrev S8192x6144 : Shape := ⟨2, ![8192, 6144]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x6144, .f32⟩
  | .hbm, ⟨3, _⟩ => ⟨S8192x6144, .bf16⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x6144, .f32⟩
  | .hbm, ⟨25, _⟩ => ⟨S8192x6144, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel3.lean ====
abbrev S2048x1024 : Shape := ⟨2, ![2048, 1024]⟩
abbrev S8192x1024 : Shape := ⟨2, ![8192, 1024]⟩
abbrev S8192x2048 : Shape := ⟨2, ![8192, 2048]⟩
abbrev S1024x1024 : Shape := ⟨2, ![1024, 1024]⟩
abbrev S1024x2048 : Shape := ⟨2, ![1024, 2048]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S8192x1024, .f32⟩
  | .hbm, ⟨2, _⟩ => ⟨S2048x1024, .bf16⟩
  | .hbm, ⟨3, _⟩ => ⟨S8192x2048, .bf16⟩
  | .local _ .vmem, ⟨0, _⟩ => ⟨S1024x1024, .f32⟩
  | .local _ .vmem, ⟨1, _⟩ => ⟨S1024x1024, .f32⟩
  | .local _ .vmem, ⟨2, _⟩ => ⟨S2048x1024, .bf16⟩
  | .local _ .vmem, ⟨3, _⟩ => ⟨S1024x2048, .bf16⟩
  | .local _ .vmem, ⟨4, _⟩ => ⟨S1024x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S2048x1024 : Shape := ⟨2, ![2048, 1024]⟩
abbrev S8192x1024 : Shape := ⟨2, ![8192, 1024]⟩
abbrev S_ : Shape := ⟨0, ![]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8192x1024, .f32⟩
  | .hbm, ⟨2, _⟩ => ⟨S_, .f32⟩
  | .hbm, ⟨3, _⟩ => ⟨S8192x2048, .f32⟩
  | .hbm, ⟨4, _⟩ => ⟨S8192x1024, .f32⟩
  | .hbm, ⟨5, _⟩ => ⟨S8192x2048, .f32⟩
  | .hbm, ⟨6, _⟩ => ⟨S8192x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8192x2048 : Shape := ⟨2, ![8192, 2048]⟩
abbrev S8192x1024 : Shape := ⟨2, ![8192, 1024]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .bf16⟩
  | .local _ .vmem, ⟨5, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x1024 : Shape := ⟨2, ![8192, 1024]⟩
abbrev S8192x6144 : Shape := ⟨2, ![8192, 6144]⟩
abbrev S1024x6144 : Shape := ⟨2, ![1024, 6144]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S1024x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S8192x6144 : Shape := ⟨2, ![8192, 6144]⟩
abbrev S_ : Shape := ⟨0, ![]⟩
abbrev S1024x6144 : Shape := ⟨2, ![1024, 6144]⟩
abbrev S6144x1024 : Shape := ⟨2, ![6144, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S_, .f32⟩
  | .hbm, ⟨3, _⟩ => ⟨S1024x6144, .f32⟩
  | .hbm, ⟨4, _⟩ => ⟨S8192x1024, .f32⟩
  | .hbm, ⟨5, _⟩ => ⟨S8192x6144, .f32⟩
  | .hbm, ⟨6, _⟩ => ⟨S8192x6144, .f32⟩
  | .hbm, ⟨7, _⟩ => ⟨S6144x1024, .f32⟩
  | .hbm, ⟨8, _⟩ => ⟨S1024x6144, .f32⟩
  | .hbm, ⟨9, _⟩ => ⟨S1024x6144, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x1024 : Shape := ⟨2, ![8192, 1024]⟩
abbrev S8192x8192 : Shape := ⟨2, ![8192, 8192]⟩
abbrev S1024x8192 : Shape := ⟨2, ![1024, 8192]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x8192, .bf16⟩
  | .hbm, ⟨2, _⟩ => ⟨S1024x8192, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S8192x8192 : Shape := ⟨2, ![8192, 8192]⟩
abbrev S_ : Shape := ⟨0, ![]⟩
abbrev S1024x8192 : Shape := ⟨2, ![1024, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x8192, .bf16⟩
  | .hbm, ⟨2, _⟩ => ⟨S_, .f32⟩
  | .hbm, ⟨3, _⟩ => ⟨S1024x8192, .f32⟩
  | .hbm, ⟨4, _⟩ => ⟨S8192x1024, .f32⟩
  | .hbm, ⟨5, _⟩ => ⟨S8192x8192, .f32⟩
  | .hbm, ⟨6, _⟩ => ⟨S8192x8192, .f32⟩
  | .hbm, ⟨7, _⟩ => ⟨S8192x1024, .f32⟩
  | .hbm, ⟨8, _⟩ => ⟨S1024x8192, .f32⟩
  | .hbm, ⟨9, _⟩ => ⟨S1024x8192, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x1024 : Shape := ⟨2, ![8192, 1024]⟩
abbrev S8192x8320 : Shape := ⟨2, ![8192, 8320]⟩
abbrev S1024x8320 : Shape := ⟨2, ![1024, 8320]⟩
abbrev S1024x1024 : Shape := ⟨2, ![1024, 1024]⟩
abbrev S1024x1664 : Shape := ⟨2, ![1024, 1664]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x8320, .bf16⟩
  | .hbm, ⟨2, _⟩ => ⟨S1024x8320, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1664, .bf16⟩
  | .local _ .vmem, ⟨5, _⟩ => ⟨S1024x1664, .bf16⟩
  | .local _ .vmem, ⟨6, _⟩ => ⟨S1024x1664, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S8192x8320 : Shape := ⟨2, ![8192, 8320]⟩
abbrev S_ : Shape := ⟨0, ![]⟩
abbrev S1024x8320 : Shape := ⟨2, ![1024, 8320]⟩
abbrev S8320x1024 : Shape := ⟨2, ![8320, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x8320, .bf16⟩
  | .hbm, ⟨2, _⟩ => ⟨S_, .f32⟩
  | .hbm, ⟨3, _⟩ => ⟨S1024x8320, .f32⟩
  | .hbm, ⟨4, _⟩ => ⟨S8192x1024, .f32⟩
  | .hbm, ⟨5, _⟩ => ⟨S8192x8320, .f32⟩
  | .hbm, ⟨6, _⟩ => ⟨S8192x8320, .f32⟩
  | .hbm, ⟨7, _⟩ => ⟨S8320x1024, .f32⟩
  | .hbm, ⟨8, _⟩ => ⟨S1024x8320, .f32⟩
  | .hbm, ⟨9, _⟩ => ⟨S1024x8320, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .f32⟩
  | .hbm, ⟨2, _⟩ => ⟨S8192x1024, .f32⟩
  | .hbm, ⟨3, _⟩ => ⟨S2048x1024, .bf16⟩
  | .hbm, ⟨4, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .f32⟩
  | .hbm, ⟨2, _⟩ => ⟨S8192x1024, .f32⟩
  | .hbm, ⟨3, _⟩ => ⟨S8192x2048, .f32⟩
  | .hbm, ⟨4, _⟩ => ⟨S8192x1024, .f32⟩
  | .hbm, ⟨5, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S1024x6144 : Shape := ⟨2, ![1024, 6144]⟩
abbrev S8192x6144 : Shape := ⟨2, ![8192, 6144]⟩
abbrev S2048x1024 : Shape := ⟨2, ![2048, 1024]⟩
abbrev S1024x1024 : Shape := ⟨2, ![1024, 1024]⟩
abbrev S2048 : Shape := ⟨1, ![2048]⟩
abbrev S2048x1 : Shape := ⟨2, ![2048, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x6144, .f32⟩
  | .hbm, ⟨3, _⟩ => ⟨S1024x6144, .bf16⟩
  | .hbm, ⟨4, _⟩ => ⟨S8192x1024, .bf16⟩
  | .hbm, ⟨5, _⟩ => ⟨S8192x6144, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S8192x1024 : Shape := ⟨2, ![8192, 1024]⟩
abbrev S1x1024 : Shape := ⟨2, ![1, 1024]⟩
abbrev S1024x6144 : Shape := ⟨2, ![1024, 6144]⟩
abbrev S_ : Shape := ⟨0, ![]⟩
abbrev S8192 : Shape := ⟨1, ![8192]⟩
abbrev S8192x1 : Shape := ⟨2, ![8192, 1]⟩
abbrev S8192x6144 : Shape := ⟨2, ![8192, 6144]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x6144, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x6144, .f32⟩
  | .hbm, ⟨20, _⟩ => ⟨S8192x6144, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel10.lean ====
abbrev S8192x2048 : Shape := ⟨2, ![8192, 2048]⟩
abbrev S2048x1024 : Shape := ⟨2, ![2048, 1024]⟩
abbrev S8192x1024 : Shape := ⟨2, ![8192, 1024]⟩
abbrev S1x1024 : Shape := ⟨2, ![1, 1024]⟩
abbrev S1024x2048 : Shape := ⟨2, ![1024, 2048]⟩
abbrev S1024x1024 : Shape := ⟨2, ![1024, 1024]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .f32⟩
  | .hbm, ⟨2, _⟩ => ⟨S8192x1024, .f32⟩
  | .hbm, ⟨3, _⟩ => ⟨S8192x1024, .f32⟩
  | .hbm, ⟨4, _⟩ => ⟨S2048x1024, .bf16⟩
  | .hbm, ⟨5, _⟩ => ⟨S1x1024, .f32⟩
  | .hbm, ⟨6, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v16 : BitVec 1 := Scalar.cmpi .eq arg0 c0_i32
  let v17 : BitVec 32 := Scalar.extui v16
  let c0_i32_12 : BitVec 32 := 0#32
  let v18 : BitVec 1 := Scalar.cmpi .ne v17 c0_i32_12
  v18

def k0_cond2 (i : grid0.Coords) : BitVec 1 :=
  let arg0 : BitVec 32 := BitVec.ofNat 32 (i 0).val
  let c0_i32_13 : BitVec 32 := 0#32
  let v19 : BitVec 1 := Scalar.cmpi .sgt arg0 c0_i32_13
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S8192x2048 : Shape := ⟨2, ![8192, 2048]⟩
abbrev S2048x1024 : Shape := ⟨2, ![2048, 1024]⟩
abbrev S8192x1024 : Shape := ⟨2, ![8192, 1024]⟩
abbrev S_ : Shape := ⟨0, ![]⟩
abbrev S1024 : Shape := ⟨1, ![1024]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .f32⟩
  | .hbm, ⟨2, _⟩ => ⟨S8192x1024, .f32⟩
  | .hbm, ⟨3, _⟩ => ⟨S8192x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S_, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S_, .f32⟩
  | .hbm, ⟨30, _⟩ => ⟨S1024, .f32⟩
  | .hbm, ⟨31, _⟩ => ⟨S8192x1024, .f32⟩
  | .hbm, ⟨32, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Kernel11.lean ====
abbrev S8x2x1024x768 : Shape := ⟨4, ![8, 2, 1024, 768]⟩
abbrev S2x1024x768 : Shape := ⟨3, ![2, 1024, 768]⟩
abbrev S8x1x256x768 : Shape := ⟨4, ![8, 1, 256, 768]⟩
abbrev S1x256x768 : Shape := ⟨3, ![1, 256, 768]⟩
abbrev S1x1x256x768 : Shape := ⟨4, ![1, 1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S8x2x1024x768, .bf16⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S2x1024x768, .f32⟩
  | .hbm, ⟨6, _⟩ => ⟨S2x1024x768, .f32⟩
  | .hbm, ⟨7, _⟩ => ⟨S2x1024x768, .f32⟩
  | .local _ .vmem, ⟨0, _⟩ => ⟨S8x1x256x768, .bf16⟩
  | .local _ .vmem, ⟨1, _⟩ => ⟨S8x1x256x768, .bf16⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S8x2x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference11Ideal.lean ====
abbrev S8x2x1024x768 : Shape := ⟨4, ![8, 2, 1024, 768]⟩
abbrev S2x1024x768 : Shape := ⟨3, ![2, 1024, 768]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2x1024x768, .bf16⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S8x2x1024x768, .f32⟩
  | .hbm, ⟨5, _⟩ => ⟨S_, .f32⟩
  | .hbm, ⟨6, _⟩ => ⟨S2x1024x768, .f32⟩
  | .hbm, ⟨7, _⟩ => ⟨S_, .f32⟩
  | .hbm, ⟨8, _⟩ => ⟨S2x1024x768, .f32⟩
  | .hbm, ⟨9, _⟩ => ⟨S2x1024x768, .f32⟩
  | .hbm, ⟨10, _⟩ => ⟨S_, .f32⟩
  | .hbm, ⟨11, _⟩ => ⟨S2x1024x768, .f32⟩
  | .hbm, ⟨12, _⟩ => ⟨S2x1024x768, .f32⟩
  | .hbm, ⟨13, _⟩ => ⟨S2x1024x768, .f32⟩
  | .hbm, ⟨14, _⟩ => ⟨S_, .f32⟩
  | .hbm, ⟨15, _⟩ => ⟨S2x1024x768, .f32⟩
  | .hbm, ⟨16, _⟩ => ⟨S2x1024x768, .f32⟩
  | .hbm, ⟨17, _⟩ => ⟨S2x1024x768, .f32⟩
  | .hbm, ⟨18, _⟩ => ⟨S_, .f32⟩
  | .hbm, ⟨19, _⟩ => ⟨S2x1024x768, .f32⟩
  | .hbm, ⟨20, _⟩ => ⟨S2x1024x768, .f32⟩
  | .hbm, ⟨21, _⟩ => ⟨S2x1024x768, .f32⟩
  | .hbm, ⟨22, _⟩ => ⟨S_, .f32⟩
  | .hbm, ⟨23, _⟩ => ⟨S2x1024x768, .f32⟩
  | .hbm, ⟨24, _⟩ => ⟨S2x1024x768, .f32⟩
  | .hbm, ⟨25, _⟩ => ⟨S_, .f32⟩
  | .hbm, ⟨26, _⟩ => ⟨S2x1024x768, .f32⟩
  | .hbm, ⟨27, _⟩ => ⟨S2x1024x768, .f32⟩
  | .hbm, ⟨28, _⟩ => ⟨S2x1024x768, .f32⟩
  | .hbm, ⟨29, _⟩ => ⟨S_, .f32⟩
  | .hbm, ⟨30, _⟩ => ⟨S2x1024x768, .f32⟩
  | .hbm, ⟨31, _⟩ => ⟨S2x1024x768, .f32⟩
  | .hbm, ⟨32, _⟩ => ⟨S2x1024x768, .f32⟩
  | .hbm, ⟨33, _⟩ => ⟨S_, .f32⟩
  | .hbm, ⟨34, _⟩ => ⟨S2x1024x768, .f32⟩
  | .hbm, ⟨35, _⟩ => ⟨S2x1024x768, .f32⟩
  | .hbm, ⟨36, _⟩ => ⟨S2x1024x768, .f32⟩
  | .hbm, ⟨37, _⟩ => ⟨S_, .f32⟩
  | .hbm, ⟨38, _⟩ => ⟨S2x1024x768, .f32⟩
  | .hbm, ⟨39, _⟩ => ⟨S2x1024x768, .f32⟩
  | _, _ => ⟨S8x2x1024x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel12.lean ====
abbrev S8x2x256x1024 : Shape := ⟨4, ![8, 2, 256, 1024]⟩
abbrev S2x256x1024 : Shape := ⟨3, ![2, 256, 1024]⟩
abbrev S8x1x256x1024 : Shape := ⟨4, ![8, 1, 256, 1024]⟩
abbrev S1x256x1024 : Shape := ⟨3, ![1, 256, 1024]⟩
abbrev S1x1x256x1024 : Shape := ⟨4, ![1, 1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x2x256x1024, .bf16⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .local _ .vmem, ⟨0, _⟩ => ⟨S8x1x256x1024, .bf16⟩
  | .local _ .vmem, ⟨1, _⟩ => ⟨S8x1x256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S8x2x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference12Ideal.lean ====
abbrev S8x2x256x1024 : Shape := ⟨4, ![8, 2, 256, 1024]⟩
abbrev S2x256x1024 : Shape := ⟨3, ![2, 256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2x256x1024, .bf16⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S8x2x256x1024, .f32⟩
  | .hbm, ⟨5, _⟩ => ⟨S_, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S_, .f32⟩
  | .hbm, ⟨11, _⟩ => ⟨S2x256x1024, .f32⟩
  | .hbm, ⟨12, _⟩ => ⟨S2x256x1024, .f32⟩
  | .hbm, ⟨13, _⟩ => ⟨S2x256x1024, .f32⟩
  | .hbm, ⟨14, _⟩ => ⟨S_, .f32⟩
  | .hbm, ⟨15, _⟩ => ⟨S2x256x1024, .f32⟩
  | .hbm, ⟨16, _⟩ => ⟨S2x256x1024, .f32⟩
  | .hbm, ⟨17, _⟩ => ⟨S2x256x1024, .f32⟩
  | .hbm, ⟨18, _⟩ => ⟨S_, .f32⟩
  | .hbm, ⟨19, _⟩ => ⟨S2x256x1024, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S_, .f32⟩
  | .hbm, ⟨26, _⟩ => ⟨S2x256x1024, .f32⟩
  | .hbm, ⟨27, _⟩ => ⟨S2x256x1024, .f32⟩
  | .hbm, ⟨28, _⟩ => ⟨S2x256x1024, .f32⟩
  | .hbm, ⟨29, _⟩ => ⟨S_, .f32⟩
  | .hbm, ⟨30, _⟩ => ⟨S2x256x1024, .f32⟩
  | .hbm, ⟨31, _⟩ => ⟨S2x256x1024, .f32⟩
  | .hbm, ⟨32, _⟩ => ⟨S2x256x1024, .f32⟩
  | .hbm, ⟨33, _⟩ => ⟨S_, .f32⟩
  | .hbm, ⟨34, _⟩ => ⟨S2x256x1024, .f32⟩
  | .hbm, ⟨35, _⟩ => ⟨S2x256x1024, .f32⟩
  | .hbm, ⟨36, _⟩ => ⟨S2x256x1024, .f32⟩
  | .hbm, ⟨37, _⟩ => ⟨S_, .f32⟩
  | .hbm, ⟨38, _⟩ => ⟨S2x256x1024, .f32⟩
  | .hbm, ⟨39, _⟩ => ⟨S2x256x1024, .f32⟩
  | _, _ => ⟨S8x2x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel13.lean ====
abbrev S8x1x1024x1026 : Shape := ⟨4, ![8, 1, 1024, 1026]⟩
abbrev S1x1024x1026 : Shape := ⟨3, ![1, 1024, 1026]⟩
abbrev S8x1x256x1026 : Shape := ⟨4, ![8, 1, 256, 1026]⟩
abbrev S1x256x1026 : Shape := ⟨3, ![1, 256, 1026]⟩
abbrev S1x1x256x1026 : Shape := ⟨4, ![1, 1, 256, 1026]⟩
abbrev S256x1026 : Shape := ⟨2, ![256, 1026]⟩

abbrev nBuf : Space → Nat
  | .hbm => 8
  | .vmem => 16
  | .smem => 0
  | _ => 0

abbrev bufTy : (tb : Table) → Fin (tcTables nBuf tb) → BufTy
  | .hbm, ⟨0, _⟩ => ⟨S8x1x1024x1026, .bf16⟩
  | .hbm, ⟨1, _⟩ => ⟨S1x1024x1026, .f32⟩
  | .hbm, ⟨2, _⟩ => ⟨S1x1024x1026, .f32⟩
  | .hbm, ⟨3, _⟩ => ⟨S1x1024x1026, .f32⟩
  | .hbm, ⟨4, _⟩ => ⟨S1x1024x1026, .f32⟩
  | .hbm, ⟨5, _⟩ => ⟨S1x1024x1026, .f32⟩
  | .hbm, ⟨6, _⟩ => ⟨S1x1024x1026, .f32⟩
  | .hbm, ⟨7, _⟩ => ⟨S1x1024x1026, .f32⟩
  | .local _ .vmem, ⟨0, _⟩ => ⟨S8x1x256x1026, .bf16⟩
  | .local _ .vmem, ⟨1, _⟩ => ⟨S8x1x256x1026, .bf16⟩
  | .local _ .vmem, ⟨2, _⟩ => ⟨S1x256x1026, .f32⟩
  | .local _ .vmem, ⟨3, _⟩ => ⟨S1x256x1026, .f32⟩
  | .local _ .vmem, ⟨4, _⟩ => ⟨S1x256x1026, .f32⟩
  | .local _ .vmem, ⟨5, _⟩ => ⟨S1x256x1026, .f32⟩
  | .local _ .vmem, ⟨6, _⟩ => ⟨S1x256x1026, .f32⟩
  | .local _ .vmem, ⟨7, _⟩ => ⟨S1x256x1026, .f32⟩
  | .local _ .vmem, ⟨8, _⟩ => ⟨S1x256x1026, .f32⟩
  | .local _ .vmem, ⟨9, _⟩ => ⟨S1x256x1026, .f32⟩
  | .local _ .vmem, ⟨10, _⟩ => ⟨S1x256x1026, .f32⟩
  | .local _ .vmem, ⟨11, _⟩ => ⟨S1x256x1026, .f32⟩
  | .local _ .vmem, ⟨12, _⟩ => ⟨S1x256x1026, .f32⟩
  | .local _ .vmem, ⟨13, _⟩ => ⟨S1x256x1026, .f32⟩
  | .local _ .vmem, ⟨14, _⟩ => ⟨S1x256x1026, .f32⟩
  | .local _ .vmem, ⟨15, _⟩ => ⟨S1x256x1026, .f32⟩
  | _, _ => ⟨S8x1x1024x1026, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x256x1026 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1026 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1026 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1026 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1026 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1026 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1026 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1026 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference13Ideal.lean ====
abbrev S8x1x1024x1026 : Shape := ⟨4, ![8, 1, 1024, 1026]⟩
abbrev S1x1024x1026 : Shape := ⟨3, ![1, 1024, 1026]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1x1024x1026, .bf16⟩
  | .hbm, ⟨1, _⟩ => ⟨S1x1024x1026, .f32⟩
  | .hbm, ⟨2, _⟩ => ⟨S1x1024x1026, .f32⟩
  | .hbm, ⟨3, _⟩ => ⟨S1x1024x1026, .f32⟩
  | .hbm, ⟨4, _⟩ => ⟨S8x1x1024x1026, .f32⟩
  | .hbm, ⟨5, _⟩ => ⟨S_, .f32⟩
  | .hbm, ⟨6, _⟩ => ⟨S1x1024x1026, .f32⟩
  | .hbm, ⟨7, _⟩ => ⟨S_, .f32⟩
  | .hbm, ⟨8, _⟩ => ⟨S1x1024x1026, .f32⟩
  | .hbm, ⟨9, _⟩ => ⟨S1x1024x1026, .f32⟩
  | .hbm, ⟨10, _⟩ => ⟨S_, .f32⟩
  | .hbm, ⟨11, _⟩ => ⟨S1x1024x1026, .f32⟩
  | .hbm, ⟨12, _⟩ => ⟨S1x1024x1026, .f32⟩
  | .hbm, ⟨13, _⟩ => ⟨S1x1024x1026, .f32⟩
  | .hbm, ⟨14, _⟩ => ⟨S_, .f32⟩
  | .hbm, ⟨15, _⟩ => ⟨S1x1024x1026, .f32⟩
  | .hbm, ⟨16, _⟩ => ⟨S1x1024x1026, .f32⟩
  | .hbm, ⟨17, _⟩ => ⟨S1x1024x1026, .f32⟩
  | .hbm, ⟨18, _⟩ => ⟨S_, .f32⟩
  | .hbm, ⟨19, _⟩ => ⟨S1x1024x1026, .f32⟩
  | .hbm, ⟨20, _⟩ => ⟨S1x1024x1026, .f32⟩
  | .hbm, ⟨21, _⟩ => ⟨S1x1024x1026, .f32⟩
  | .hbm, ⟨22, _⟩ => ⟨S_, .f32⟩
  | .hbm, ⟨23, _⟩ => ⟨S1x1024x1026, .f32⟩
  | .hbm, ⟨24, _⟩ => ⟨S1x1024x1026, .f32⟩
  | .hbm, ⟨25, _⟩ => ⟨S_, .f32⟩
  | .hbm, ⟨26, _⟩ => ⟨S1x1024x1026, .f32⟩
  | .hbm, ⟨27, _⟩ => ⟨S1x1024x1026, .f32⟩
  | .hbm, ⟨28, _⟩ => ⟨S1x1024x1026, .f32⟩
  | .hbm, ⟨29, _⟩ => ⟨S_, .f32⟩
  | .hbm, ⟨30, _⟩ => ⟨S1x1024x1026, .f32⟩
  | .hbm, ⟨31, _⟩ => ⟨S1x1024x1026, .f32⟩
  | .hbm, ⟨32, _⟩ => ⟨S1x1024x1026, .f32⟩
  | .hbm, ⟨33, _⟩ => ⟨S_, .f32⟩
  | .hbm, ⟨34, _⟩ => ⟨S1x1024x1026, .f32⟩
  | .hbm, ⟨35, _⟩ => ⟨S1x1024x1026, .f32⟩
  | .hbm, ⟨36, _⟩ => ⟨S1x1024x1026, .f32⟩
  | .hbm, ⟨37, _⟩ => ⟨S_, .f32⟩
  | .hbm, ⟨38, _⟩ => ⟨S1x1024x1026, .f32⟩
  | .hbm, ⟨39, _⟩ => ⟨S1x1024x1026, .f32⟩
  | _, _ => ⟨S8x1x1024x1026, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel14.lean ====
abbrev S8x1x256x1024 : Shape := ⟨4, ![8, 1, 256, 1024]⟩
abbrev S1x256x1024 : Shape := ⟨3, ![1, 256, 1024]⟩
abbrev S1x1x256x1024 : Shape := ⟨4, ![1, 1, 256, 1024]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x1x256x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .local _ .vmem, ⟨0, _⟩ => ⟨S8x1x256x1024, .bf16⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S8x1x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x1x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference14Ideal.lean ====
abbrev S8x1x256x1024 : Shape := ⟨4, ![8, 1, 256, 1024]⟩
abbrev S1x256x1024 : Shape := ⟨3, ![1, 256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1x256x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S8x1x256x1024, .f32⟩
  | .hbm, ⟨5, _⟩ => ⟨S_, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S_, .f32⟩
  | .hbm, ⟨11, _⟩ => ⟨S1x256x1024, .f32⟩
  | .hbm, ⟨12, _⟩ => ⟨S1x256x1024, .f32⟩
  | .hbm, ⟨13, _⟩ => ⟨S1x256x1024, .f32⟩
  | .hbm, ⟨14, _⟩ => ⟨S_, .f32⟩
  | .hbm, ⟨15, _⟩ => ⟨S1x256x1024, .f32⟩
  | .hbm, ⟨16, _⟩ => ⟨S1x256x1024, .f32⟩
  | .hbm, ⟨17, _⟩ => ⟨S1x256x1024, .f32⟩
  | .hbm, ⟨18, _⟩ => ⟨S_, .f32⟩
  | .hbm, ⟨19, _⟩ => ⟨S1x256x1024, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S_, .f32⟩
  | .hbm, ⟨26, _⟩ => ⟨S1x256x1024, .f32⟩
  | .hbm, ⟨27, _⟩ => ⟨S1x256x1024, .f32⟩
  | .hbm, ⟨28, _⟩ => ⟨S1x256x1024, .f32⟩
  | .hbm, ⟨29, _⟩ => ⟨S_, .f32⟩
  | .hbm, ⟨30, _⟩ => ⟨S1x256x1024, .f32⟩
  | .hbm, ⟨31, _⟩ => ⟨S1x256x1024, .f32⟩
  | .hbm, ⟨32, _⟩ => ⟨S1x256x1024, .f32⟩
  | .hbm, ⟨33, _⟩ => ⟨S_, .f32⟩
  | .hbm, ⟨34, _⟩ => ⟨S1x256x1024, .f32⟩
  | .hbm, ⟨35, _⟩ => ⟨S1x256x1024, .f32⟩
  | .hbm, ⟨36, _⟩ => ⟨S1x256x1024, .f32⟩
  | .hbm, ⟨37, _⟩ => ⟨S_, .f32⟩
  | .hbm, ⟨38, _⟩ => ⟨S1x256x1024, .f32⟩
  | .hbm, ⟨39, _⟩ => ⟨S1x256x1024, .f32⟩
  | _, _ => ⟨S8x1x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel15.lean ====
abbrev S8x1x1024x1024 : Shape := ⟨4, ![8, 1, 1024, 1024]⟩
abbrev S1x1024x1024 : Shape := ⟨3, ![1, 1024, 1024]⟩
abbrev S8x1x256x1024 : Shape := ⟨4, ![8, 1, 256, 1024]⟩
abbrev S1x256x1024 : Shape := ⟨3, ![1, 256, 1024]⟩
abbrev S1x1x256x1024 : Shape := ⟨4, ![1, 1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x1x1024x1024, .bf16⟩
  | .hbm, ⟨1, _⟩ => ⟨S1x1024x1024, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .local _ .vmem, ⟨0, _⟩ => ⟨S8x1x256x1024, .bf16⟩
  | .local _ .vmem, ⟨1, _⟩ => ⟨S8x1x256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S8x1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference15Ideal.lean ====
abbrev S8x1x1024x1024 : Shape := ⟨4, ![8, 1, 1024, 1024]⟩
abbrev S1x1024x1024 : Shape := ⟨3, ![1, 1024, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1x1024x1024, .bf16⟩
  | .hbm, ⟨1, _⟩ => ⟨S1x1024x1024, .f32⟩
  | .hbm, ⟨2, _⟩ => ⟨S1x1024x1024, .f32⟩
  | .hbm, ⟨3, _⟩ => ⟨S1x1024x1024, .f32⟩
  | .hbm, ⟨4, _⟩ => ⟨S8x1x1024x1024, .f32⟩
  | .hbm, ⟨5, _⟩ => ⟨S_, .f32⟩
  | .hbm, ⟨6, _⟩ => ⟨S1x1024x1024, .f32⟩
  | .hbm, ⟨7, _⟩ => ⟨S_, .f32⟩
  | .hbm, ⟨8, _⟩ => ⟨S1x1024x1024, .f32⟩
  | .hbm, ⟨9, _⟩ => ⟨S1x1024x1024, .f32⟩
  | .hbm, ⟨10, _⟩ => ⟨S_, .f32⟩
  | .hbm, ⟨11, _⟩ => ⟨S1x1024x1024, .f32⟩
  | .hbm, ⟨12, _⟩ => ⟨S1x1024x1024, .f32⟩
  | .hbm, ⟨13, _⟩ => ⟨S1x1024x1024, .f32⟩
  | .hbm, ⟨14, _⟩ => ⟨S_, .f32⟩
  | .hbm, ⟨15, _⟩ => ⟨S1x1024x1024, .f32⟩
  | .hbm, ⟨16, _⟩ => ⟨S1x1024x1024, .f32⟩
  | .hbm, ⟨17, _⟩ => ⟨S1x1024x1024, .f32⟩
  | .hbm, ⟨18, _⟩ => ⟨S_, .f32⟩
  | .hbm, ⟨19, _⟩ => ⟨S1x1024x1024, .f32⟩
  | .hbm, ⟨20, _⟩ => ⟨S1x1024x1024, .f32⟩
  | .hbm, ⟨21, _⟩ => ⟨S1x1024x1024, .f32⟩
  | .hbm, ⟨22, _⟩ => ⟨S_, .f32⟩
  | .hbm, ⟨23, _⟩ => ⟨S1x1024x1024, .f32⟩
  | .hbm, ⟨24, _⟩ => ⟨S1x1024x1024, .f32⟩
  | .hbm, ⟨25, _⟩ => ⟨S_, .f32⟩
  | .hbm, ⟨26, _⟩ => ⟨S1x1024x1024, .f32⟩
  | .hbm, ⟨27, _⟩ => ⟨S1x1024x1024, .f32⟩
  | .hbm, ⟨28, _⟩ => ⟨S1x1024x1024, .f32⟩
  | .hbm, ⟨29, _⟩ => ⟨S_, .f32⟩
  | .hbm, ⟨30, _⟩ => ⟨S1x1024x1024, .f32⟩
  | .hbm, ⟨31, _⟩ => ⟨S1x1024x1024, .f32⟩
  | .hbm, ⟨32, _⟩ => ⟨S1x1024x1024, .f32⟩
  | .hbm, ⟨33, _⟩ => ⟨S_, .f32⟩
  | .hbm, ⟨34, _⟩ => ⟨S1x1024x1024, .f32⟩
  | .hbm, ⟨35, _⟩ => ⟨S1x1024x1024, .f32⟩
  | .hbm, ⟨36, _⟩ => ⟨S1x1024x1024, .f32⟩
  | .hbm, ⟨37, _⟩ => ⟨S_, .f32⟩
  | .hbm, ⟨38, _⟩ => ⟨S1x1024x1024, .f32⟩
  | .hbm, ⟨39, _⟩ => ⟨S1x1024x1024, .f32⟩
  | _, _ => ⟨S8x1x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel16.lean ====
abbrev S8x1x160x128 : Shape := ⟨4, ![8, 1, 160, 128]⟩
abbrev S1x160x128 : Shape := ⟨3, ![1, 160, 128]⟩
abbrev S1x1x160x128 : Shape := ⟨4, ![1, 1, 160, 128]⟩
abbrev S160x128 : Shape := ⟨2, ![160, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x1x160x128, .f32⟩
  | .hbm, ⟨1, _⟩ => ⟨S1x160x128, .f32⟩
  | .hbm, ⟨2, _⟩ => ⟨S1x160x128, .f32⟩
  | .hbm, ⟨3, _⟩ => ⟨S1x160x128, .f32⟩
  | .hbm, ⟨4, _⟩ => ⟨S1x160x128, .f32⟩
  | .hbm, ⟨5, _⟩ => ⟨S1x160x128, .f32⟩
  | .hbm, ⟨6, _⟩ => ⟨S1x160x128, .f32⟩
  | .hbm, ⟨7, _⟩ => ⟨S1x160x128, .f32⟩
  | .local _ .vmem, ⟨0, _⟩ => ⟨S8x1x160x128, .f32⟩
  | .local _ .vmem, ⟨1, _⟩ => ⟨S1x160x128, .f32⟩
  | .local _ .vmem, ⟨2, _⟩ => ⟨S1x160x128, .f32⟩
  | .local _ .vmem, ⟨3, _⟩ => ⟨S1x160x128, .f32⟩
  | .local _ .vmem, ⟨4, _⟩ => ⟨S1x160x128, .f32⟩
  | .local _ .vmem, ⟨5, _⟩ => ⟨S1x160x128, .f32⟩
  | .local _ .vmem, ⟨6, _⟩ => ⟨S1x160x128, .f32⟩
  | .local _ .vmem, ⟨7, _⟩ => ⟨S1x160x128, .f32⟩
  | _, _ => ⟨S8x1x160x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x1x160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x160x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x160x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x160x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference16Ideal.lean ====
abbrev S8x1x160x128 : Shape := ⟨4, ![8, 1, 160, 128]⟩
abbrev S1x160x128 : Shape := ⟨3, ![1, 160, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1x160x128, .f32⟩
  | .hbm, ⟨1, _⟩ => ⟨S1x160x128, .f32⟩
  | .hbm, ⟨2, _⟩ => ⟨S1x160x128, .f32⟩
  | .hbm, ⟨3, _⟩ => ⟨S1x160x128, .f32⟩
  | .hbm, ⟨4, _⟩ => ⟨S_, .f32⟩
  | .hbm, ⟨5, _⟩ => ⟨S1x160x128, .f32⟩
  | .hbm, ⟨6, _⟩ => ⟨S_, .f32⟩
  | .hbm, ⟨7, _⟩ => ⟨S1x160x128, .f32⟩
  | .hbm, ⟨8, _⟩ => ⟨S1x160x128, .f32⟩
  | .hbm, ⟨9, _⟩ => ⟨S_, .f32⟩
  | .hbm, ⟨10, _⟩ => ⟨S1x160x128, .f32⟩
  | .hbm, ⟨11, _⟩ => ⟨S1x160x128, .f32⟩
  | .hbm, ⟨12, _⟩ => ⟨S1x160x128, .f32⟩
  | .hbm, ⟨13, _⟩ => ⟨S_, .f32⟩
  | .hbm, ⟨14, _⟩ => ⟨S1x160x128, .f32⟩
  | .hbm, ⟨15, _⟩ => ⟨S1x160x128, .f32⟩
  | .hbm, ⟨16, _⟩ => ⟨S1x160x128, .f32⟩
  | .hbm, ⟨17, _⟩ => ⟨S_, .f32⟩
  | .hbm, ⟨18, _⟩ => ⟨S1x160x128, .f32⟩
  | .hbm, ⟨19, _⟩ => ⟨S1x160x128, .f32⟩
  | .hbm, ⟨20, _⟩ => ⟨S1x160x128, .f32⟩
  | .hbm, ⟨21, _⟩ => ⟨S_, .f32⟩
  | .hbm, ⟨22, _⟩ => ⟨S1x160x128, .f32⟩
  | .hbm, ⟨23, _⟩ => ⟨S1x160x128, .f32⟩
  | .hbm, ⟨24, _⟩ => ⟨S_, .f32⟩
  | .hbm, ⟨25, _⟩ => ⟨S1x160x128, .f32⟩
  | .hbm, ⟨26, _⟩ => ⟨S1x160x128, .f32⟩
  | .hbm, ⟨27, _⟩ => ⟨S1x160x128, .f32⟩
  | .hbm, ⟨28, _⟩ => ⟨S_, .f32⟩
  | .hbm, ⟨29, _⟩ => ⟨S1x160x128, .f32⟩
  | .hbm, ⟨30, _⟩ => ⟨S1x160x128, .f32⟩
  | .hbm, ⟨31, _⟩ => ⟨S1x160x128, .f32⟩
  | .hbm, ⟨32, _⟩ => ⟨S_, .f32⟩
  | .hbm, ⟨33, _⟩ => ⟨S1x160x128, .f32⟩
  | .hbm, ⟨34, _⟩ => ⟨S1x160x128, .f32⟩
  | .hbm, ⟨35, _⟩ => ⟨S1x160x128, .f32⟩
  | .hbm, ⟨36, _⟩ => ⟨S_, .f32⟩
  | .hbm, ⟨37, _⟩ => ⟨S1x160x128, .f32⟩
  | .hbm, ⟨38, _⟩ => ⟨S1x160x128, .f32⟩
  | _, _ => ⟨S8x1x160x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Offsets.lean ====
/-
The offsets of the attention backward kernel's loads and stores in closed form: at key block `j` and chunk `c` of
that block, a chunk of the key or value rows starts at row `1024 j + 256 c`, and a chunk of a transposed array at
that column.
-/
module

public import proofs.«01_k».proof.KernelIdeal
public import Idealize.ShloMosaic.Lib.Scf
public import Idealize.ShloMosaic.Lib.Affine

@[expose] public section

namespace Cert.KernelIdeal.Attn

open Cert.KernelIdeal
open Idealize.ShloMosaic

/-- Where the rows of chunk `c` of key block `j` start. -/
def rowOff (j c : ℕ) : Fin 2 → ℕ := ![j * 1024 + c * 256, 0]
/-- Where the columns of chunk `c` of key block `j` start in a transposed array. -/
def colOff (j c : ℕ) : Fin 2 → ℕ := ![0, j * 1024 + c * 256]
/-- Where the key bias of block `j` starts. -/
def biasOff (j : ℕ) : Fin 4 → ℕ := ![0, j, 0, 0]
/-- Where chunk `c` of block `j` starts in the gradient of the key bias. -/
def dcOff (j c : ℕ) : Fin 4 → ℕ := ![0, j, 0, c * 256]

/-- The loop over the unmasked key blocks makes as many trips as there are earlier blocks. -/
theorem trips1 : ∀ i : grid0.Coords, (k0_t1_loop i).trips = (i 1).val := by decide +kernel
/-- The remainder loop makes no trip. -/
theorem trips2 : ∀ i : grid0.Coords, (k0_t2_loop i).trips = 0 := by decide +kernel

/-- The printed offset as a number. -/
theorem off1 : k0_off1 = rowOff 0 0 := by decide +kernel
/-- The printed offset as a number. -/
theorem off2 : ∀ (i : grid0.Coords) (k : Fin (k0_t1_loop i).trips) (r : Fin 3),
    k0_off2 i k (BitVec.ofNat 32 (256 + 256 * r.val)) = rowOff k.val (r.val + 1) := by decide +kernel
/-- The printed offset as a number. -/
theorem off3 : ∀ (i : grid0.Coords) (k : Fin (k0_t1_loop i).trips), k0_off3 i k = biasOff k.val := by decide +kernel
/-- The printed offset as a number. -/
theorem off4 : ∀ (i : grid0.Coords) (k : Fin (k0_t1_loop i).trips) (r : Fin 4),
    k0_off4 i k (BitVec.ofNat 32 (256 * r.val)) = colOff k.val r.val := by decide +kernel
/-- The printed offset as a number. -/
theorem off5 : ∀ (i : grid0.Coords) (k : Fin (k0_t1_loop i).trips), k0_off5 i k = dcOff k.val 0 := by decide +kernel
/-- The printed offset as a number. -/
theorem off6 : ∀ (i : grid0.Coords) (k : Fin (k0_t1_loop i).trips), k0_off6 i k = dcOff k.val 1 := by decide +kernel
/-- The printed offset as a number. -/
theorem off7 : ∀ (i : grid0.Coords) (k : Fin (k0_t1_loop i).trips), k0_off7 i k = rowOff (k.val + 1) 0 := by decide +kernel
/-- The printed offset as a number. -/
theorem off8 : ∀ (i : grid0.Coords) (k : Fin (k0_t1_loop i).trips), k0_off8 i k = biasOff (k.val + 1) := by decide +kernel
/-- The printed offset as a number. -/
theorem off9 : ∀ (i : grid0.Coords) (k : Fin (k0_t1_loop i).trips), k0_off9 i k = dcOff k.val 2 := by decide +kernel
/-- The printed offset as a number. -/
theorem off10 : ∀ (i : grid0.Coords) (k : Fin (k0_t1_loop i).trips), k0_off10 i k = dcOff k.val 3 := by decide +kernel
/-- The printed offset as a number. -/
theorem off20 : ∀ (i : grid0.Coords) (r : Fin 3),
    k0_off20 i (BitVec.ofNat 32 (256 + 256 * r.val)) = rowOff (i 1).val (r.val + 1) := by decide +kernel
/-- The printed offset as a number. -/
theorem off21 : ∀ i : grid0.Coords, k0_off21 i = biasOff (i 1).val := by decide +kernel
/-- The printed offset as a number. -/
theorem off22 : ∀ (i : grid0.Coords) (r : Fin 4),
    k0_off22 i (BitVec.ofNat 32 (256 * r.val)) = colOff (i 1).val r.val := by decide +kernel
/-- The printed offset as a number. -/
theorem off23 : ∀ i : grid0.Coords, k0_off23 i = dcOff (i 1).val 0 := by decide +kernel
/-- The printed offset as a number. -/
theorem off24 : ∀ i : grid0.Coords, k0_off24 i = dcOff (i 1).val 1 := by decide +kernel
/-- The printed offset as a number. -/
theorem off25 : ∀ i : grid0.Coords, k0_off25 i = dcOff (i 1).val 2 := by decide +kernel
/-- The printed offset as a number. -/
theorem off26 : ∀ i : grid0.Coords, k0_off26 i = dcOff (i 1).val 3 := by decide +kernel

/-- The body's clearing of the accumulators is asked for at the first query block of a head, and only there. -/
theorem first_iff : ∀ i : grid0.Coords,
    Scalar.cmpi .ne (Scalar.extui (Scalar.cmpi .eq (BitVec.ofNat 32 (i 1).val) 0#32)) 0#32 = 1#1 ↔ (i 1).val = 0 := by decide +kernel

/-- The rows of a chunk lie inside the array. -/
theorem rowOff_inb (j : Fin 8) (c : Fin 4) : ∀ a, rowOff j.val c.val a + S256x128.size a ≤ S8192x128.size a := by
  revert j c; decide +kernel
/-- The columns of a chunk lie inside the transposed array. -/
theorem colOff_inb (j : Fin 8) (c : Fin 4) : ∀ a, colOff j.val c.val a + S128x256.size a ≤ S128x8192.size a := by
  revert j c; decide +kernel
/-- The key bias of a block lies inside the array. -/
theorem biasOff_inb (j : Fin 8) : ∀ a, biasOff j.val a + S1x1x1x1024.size a ≤ S1x8x1x1024.size a := by
  revert j; decide +kernel
/-- A chunk of the gradient of the key bias lies inside the array. -/
theorem dcOff_inb (j : Fin 8) (c : Fin 4) : ∀ a, dcOff j.val c.val a + S1x1x1x256.size a ≤ S1x8x1x1024.size a := by
  revert j c; decide +kernel
/-- The bias of a chunk is a slice of the bias of its block. -/
theorem slices_chunk (c : Fin 4) : S1x1024.Slices ![0, c.val * 256] S1x256 := by
  revert c; decide +kernel

end Cert.KernelIdeal.Attn
-- ==== Proof.State.lean ====
/-
What one grid point of the attention backward kernel computes, as plain functions of vectors. A point works through
the key blocks up to its own; a block has four chunks of 256 keys. For each chunk there are the scores, the weights
`2 ^ (score - max)`, the gradients of the scores, and from these the additions to the gradients of the keys, of the
values, of the key bias and of the queries.
-/
module

public import proofs.«01_k».proof.Proof.Offsets
public import proofs.«01_k».proof.Proof.Gen.KernelIdeal
public import proofs.«01_k».proof.Proof.Gen.KernelIdeal.Skeleton
public import Idealize.ShloMosaic.Lib.VecWindow

@[expose] public section

noncomputable section

namespace Cert.KernelIdeal.Attn

open Cert.KernelIdeal Cert.KernelIdeal.Gen
open Idealize.ShloMosaic

variable {F : FTy → Type} [FloatOps F]

/-- What a point holds fixed: the head's keys, transposed keys, values and key bias, and of its own query block the
    gradient of the unnormalised output, that gradient's row products with the output, the queries, the two
    transposed, and the row maxima. -/
structure Ctx (F : FTy → Type) where
  /-- keys -/
  k : FVec F S8192x128 .bf16
  /-- transposed keys -/
  kt : FVec F S128x8192 .bf16
  /-- values -/
  v : FVec F S8192x128 .bf16
  /-- key bias -/
  ck : FVec F S1x8x1x1024 .f32
  /-- gradient of the unnormalised output -/
  d : FVec F S1024x128 .bf16
  /-- its row products with the output -/
  dl : FVec F S1024x1 .f32
  /-- queries -/
  q : FVec F S1024x128 .bf16
  /-- transposed queries -/
  qt : FVec F S128x1024 .bf16
  /-- `d` transposed -/
  dt : FVec F S128x1024 .bf16
  /-- row maxima -/
  m : FVec F S1024x1 .f32

/-- The rows of a chunk. -/
def rows (x : FVec F S8192x128 .bf16) (j : Fin 8) (c : Fin 4) : FVec F S256x128 .bf16 :=
  VecWindow.window x (rowOff j.val c.val) S256x128.size (rowOff_inb j c)
/-- The columns of a chunk of the transposed keys. -/
def cols {φ : FTy} (x : FVec F S128x8192 φ) (j : Fin 8) (c : Fin 4) : FVec F S128x256 φ :=
  VecWindow.window x (colOff j.val c.val) S128x256.size (colOff_inb j c)
/-- The key bias of a block. -/
def bias (x : FVec F S1x8x1x1024 .f32) (j : Fin 8) : FVec F S1x1x1x1024 .f32 :=
  VecWindow.window x (biasOff j.val) S1x1x1x1024.size (biasOff_inb j)
/-- A chunk of the gradient of the key bias. -/
def dcAt (x : FVec F S1x8x1x1024 .f32) (j : Fin 8) (c : Fin 4) : FVec F S1x1x1x256 .f32 :=
  VecWindow.window x (dcOff j.val c.val) S1x1x1x256.size (dcOff_inb j c)

/-- The scores of a chunk, in base two. -/
def score (X : Ctx F) (j : Fin 8) (c : Fin 4) : FVec F S1024x256 .f32 :=
  shapeCast S1024x256
    (subf (matmul dot_S1024x128_S256x128_S1024x256_1_1_0_0_n_n none X.q (shapeCast S256x128 (rows X.k j c) shapeCasts_S256x128_S256x128) (constant S1024x256 .f32 0x00000000#32))
      (broadcastTo S1024x256 (extractStridedSlice S1x256 ![0, c.val * 256] (shapeCast S1x1024 (bias X.ck j) shapeCasts_S1x1x1x1024_S1x1024) (slices_chunk c)) broadcasts_S1x256_S1024x256))
    shapeCasts_S1024x256_S1024x256

/-- The products of the output gradient with the values of a chunk. -/
def dprod (X : Ctx F) (j : Fin 8) (c : Fin 4) : FVec F S1024x256 .f32 :=
  k0_pay2 X.d (rows X.v j c)

/-- The weights of a chunk of an earlier block: every key is seen. -/
def wFull (X : Ctx F) (j : Fin 8) (c : Fin 4) : FVec F S1024x256 .bf16 := k0_pay3 X.m (score X j c)

/-- The weights of a chunk of the point's own block: a query sees the keys up to its own position. -/
def wMask (X : Ctx F) (j : Fin 8) (c : Fin 4) : FVec F S1024x256 .bf16 :=
  truncf .bf16
    (select
      (cmpi .sge (iota .tc S1024x256 32 [0] iota_S1024x256_d0_w32)
        (addi (iota .tc S1024x256 32 [1] iota_S1024x256_d1_w32) (broadcast S1024x256 (BitVec.ofNat 32 (256 * c.val)))))
      (exp2 (subf (score X j c) (broadcastTo S1024x256 X.m broadcasts_S1024x1_S1024x256)))
      (broadcast S1024x256 (Scalar.ofBits .f32 0x00000000#32)))
    bitsLt_bf16_f32

/-- The gradients of the scores of a chunk of weights `p`, before rounding. -/
def dsF (X : Ctx F) (p : FVec F S1024x256 .bf16) (j : Fin 8) (c : Fin 4) : FVec F S1024x256 .f32 :=
  mulf (extf .f32 p bitsLt_bf16_f32) (subf (dprod X j c) (broadcastTo S1024x256 X.dl broadcasts_S1024x1_S1024x256))

/-- The gradients of the scores of a chunk, rounded. -/
def dsB (X : Ctx F) (p : FVec F S1024x256 .bf16) (j : Fin 8) (c : Fin 4) : FVec F S1024x256 .bf16 :=
  truncf .bf16 (dsF X p j c) bitsLt_bf16_f32

/-- The column sums of the gradients of the scores of a chunk. -/
def dsSum (X : Ctx F) (p : FVec F S1024x256 .bf16) (j : Fin 8) (c : Fin 4) : FVec F S1x256 .f32 :=
  shapeCast S1x256 (multiReduction .add [0] S256 (dsF X p j c) 0x00000000#32 reduces_S1024x256_S256 (.inl rfl) rfl) shapeCasts_S256_S1x256

/-- An accumulator of transposed rows after one block: to each chunk's columns is added the product of `t` with the
    chunk's `p`. -/
def addCols (t : FVec F S128x1024 .bf16) (p : Fin 4 → FVec F S1024x256 .bf16) (j : Fin 8) (x : FVec F S128x8192 .f32) : FVec F S128x8192 .f32 :=
  VecWindow.put (VecWindow.put (VecWindow.put (VecWindow.put x
    (colOff j.val 0) S128x256.size (k0_pay9 t (p 0) (cols x j 0)))
    (colOff j.val 1) S128x256.size (k0_pay9 t (p 1) (cols x j 1)))
    (colOff j.val 2) S128x256.size (k0_pay9 t (p 2) (cols x j 2)))
    (colOff j.val 3) S128x256.size (k0_pay9 t (p 3) (cols x j 3))

/-- The gradient of the key bias after one block: from each chunk its column sums are taken away. -/
def subBias (g : Fin 4 → FVec F S1x256 .f32) (j : Fin 8) (x : FVec F S1x8x1x1024 .f32) : FVec F S1x8x1x1024 .f32 :=
  VecWindow.put (VecWindow.put (VecWindow.put (VecWindow.put x
    (dcOff j.val 0) S1x1x1x256.size (k0_pay11 (g 0) (dcAt x j 0)))
    (dcOff j.val 1) S1x1x1x256.size (k0_pay11 (g 1) (dcAt x j 1)))
    (dcOff j.val 2) S1x1x1x256.size (k0_pay11 (g 2) (dcAt x j 2)))
    (dcOff j.val 3) S1x1x1x256.size (k0_pay11 (g 3) (dcAt x j 3))

/-- The transposed gradient of the queries after one block. -/
def addQ (kt : FVec F S128x8192 .bf16) (d : Fin 4 → FVec F S1024x256 .bf16) (j : Fin 8) (a : FVec F S128x1024 .f32) : FVec F S128x1024 .f32 :=
  k0_pay12 (k0_pay12 (k0_pay12 (k0_pay12 a (d 0) (cols kt j 0)) (d 1) (cols kt j 1)) (d 2) (cols kt j 2)) (d 3) (cols kt j 3)

/-- What a point accumulates: the transposed gradients of the keys and of the values, the gradient of the key bias,
    and the transposed gradient of the queries. -/
structure Acc (F : FTy → Type) where
  /-- keys -/
  dk : FVec F S128x8192 .f32
  /-- values -/
  dv : FVec F S128x8192 .f32
  /-- key bias -/
  dc : FVec F S1x8x1x1024 .f32
  /-- queries -/
  dq : FVec F S128x1024 .f32

/-- The accumulators after block `j` of weights `w`. -/
def step (X : Ctx F) (w : Ctx F → Fin 8 → Fin 4 → FVec F S1024x256 .bf16) (j : Fin 8) (a : Acc F) : Acc F where
  dk := addCols X.qt (fun c => dsB X (w X j c) j c) j a.dk
  dv := addCols X.dt (fun c => w X j c) j a.dv
  dc := subBias (fun c => dsSum X (w X j c) j c) j a.dc
  dq := addQ X.kt (fun c => dsB X (w X j c) j c) j a.dq

/-- The accumulators after the first `n` blocks, all of them earlier than the point's own. -/
def steps (X : Ctx F) (a : Acc F) : ℕ → Acc F
  | 0 => a
  | n + 1 => if h : n < 8 then step X wFull ⟨n, h⟩ (steps X a n) else steps X a n

/-- The accumulators after the point at query block `b`: the earlier blocks, then the point's own. -/
def point (X : Ctx F) (a : Acc F) (b : Fin 8) : Acc F := step X wMask b (steps X a b.val)

end Cert.KernelIdeal.Attn
end
-- ==== Proof.Chunks.lean ====
/-
The parts of the printed body named by the functions of `State`: which part computes the scores of which chunk, the
weights, the gradients of the scores, and the additions to the accumulators.
-/
module

public import proofs.«01_k».proof.Proof.State
public import proofs.«01_k».proof.Proof.Gen.KernelIdeal
public import proofs.«01_k».proof.Proof.Gen.KernelIdeal.Skeleton
public import Idealize.ShloMosaic.Lib.VecWindow

@[expose] public section

noncomputable section

namespace Cert.KernelIdeal.Attn

open Cert.KernelIdeal Cert.KernelIdeal.Gen
open Idealize.ShloMosaic Idealize.ShloMosaic.TcCoe

variable {F : FTy → Type} [FloatOps F]

/-- The scores of chunk 1. -/
theorem score1 (X : Ctx F) (j : Fin 8) : k0_pay1 X.q (rows X.k j 1) (bias X.ck j) = score X j 1 := rfl

/-- The scores of chunk 2. -/
theorem score2 (X : Ctx F) (j : Fin 8) : k0_pay7 X.q (rows X.k j 2) (bias X.ck j) = score X j 2 := rfl

/-- The scores of chunk 0. -/
theorem score0 (X : Ctx F) (j : Fin 8) : k0_pay28 X.q (rows X.k j 0) (bias X.ck j) = score X j 0 := rfl

/-- The scores of chunk 1. -/
theorem score1' (X : Ctx F) (j : Fin 8) : k0_pay102 X.q (rows X.k j 1) (bias X.ck j) = score X j 1 := rfl

/-- The scores of chunk 2. -/
theorem score2' (X : Ctx F) (j : Fin 8) : k0_pay109 X.q (rows X.k j 2) (bias X.ck j) = score X j 2 := rfl

/-- The scores of chunk 3. -/
theorem score3' (X : Ctx F) (j : Fin 8) : k0_pay120 X.q (rows X.k j 3) (bias X.ck j) = score X j 3 := rfl

/-- The scores of chunk 3. -/
theorem score3 (X : Ctx F) (j : Fin 8) : k0_pay18 (k0_pay17 X.q (rows X.k j 3) (bias X.ck j)) = score X j 3 := rfl

/-- The products with the values of a chunk. -/
theorem dprod2 (X : Ctx F) (j : Fin 8) (c : Fin 4) : k0_pay2 X.d (rows X.v j c) = dprod X j c := rfl

/-- The products with the values of a chunk. -/
theorem dprod8 (X : Ctx F) (j : Fin 8) (c : Fin 4) : k0_pay8 X.d (rows X.v j c) = dprod X j c := rfl

/-- The products with the values of a chunk. -/
theorem dprod19 (X : Ctx F) (j : Fin 8) (c : Fin 4) : k0_pay19 X.d (rows X.v j c) = dprod X j c := rfl

/-- The products with the values of a chunk. -/
theorem dprod103 (X : Ctx F) (j : Fin 8) (c : Fin 4) : k0_pay103 X.d (rows X.v j c) = dprod X j c := rfl

/-- The products with the values of a chunk. -/
theorem dprod110 (X : Ctx F) (j : Fin 8) (c : Fin 4) : k0_pay110 X.d (rows X.v j c) = dprod X j c := rfl

/-- The products with the values of a chunk. -/
theorem dprod121 (X : Ctx F) (j : Fin 8) (c : Fin 4) : k0_pay121 X.d (rows X.v j c) = dprod X j c := rfl

/-- The products with the values of a chunk. -/
theorem dprod30 (X : Ctx F) (j : Fin 8) (c : Fin 4) : k0_pay30 (k0_pay29 X.d (rows X.v j c)) = dprod X j c := rfl

/-- The weights of a chunk of an earlier block. -/
theorem full3 (X : Ctx F) (j : Fin 8) (c : Fin 4) : k0_pay3 X.m (score X j c) = wFull X j c := rfl

/-- The weights of a chunk of an earlier block. -/
theorem full13 (X : Ctx F) (j : Fin 8) (c : Fin 4) : k0_pay13 X.m (score X j c) = wFull X j c := rfl

/-- The weights of a chunk of an earlier block. -/
theorem full24 (X : Ctx F) (j : Fin 8) (c : Fin 4) : k0_pay24 X.m (score X j c) = wFull X j c := rfl

/-- The weights of a chunk of an earlier block. -/
theorem full35 (X : Ctx F) (j : Fin 8) (c : Fin 4) : k0_pay35 X.m (score X j c) = wFull X j c := rfl

/-- The gradients of the scores of a chunk of an earlier block. -/
theorem ds5 (X : Ctx F) (j : Fin 8) (c : Fin 4) : k0_pay5 X.dl X.m (score X j c) (dprod X j c) = dsB X (wFull X j c) j c := rfl

/-- The gradients of the scores of a chunk of an earlier block. -/
theorem ds15 (X : Ctx F) (j : Fin 8) (c : Fin 4) : k0_pay15 X.dl X.m (score X j c) (dprod X j c) = dsB X (wFull X j c) j c := rfl

/-- The gradients of the scores of a chunk of an earlier block. -/
theorem ds26 (X : Ctx F) (j : Fin 8) (c : Fin 4) : k0_pay26 X.dl X.m (score X j c) (dprod X j c) = dsB X (wFull X j c) j c := rfl

/-- Their column sums. -/
theorem sum6 (X : Ctx F) (j : Fin 8) (c : Fin 4) : k0_pay6 X.dl X.m (score X j c) (dprod X j c) = dsSum X (wFull X j c) j c := rfl

/-- Their column sums. -/
theorem sum16 (X : Ctx F) (j : Fin 8) (c : Fin 4) : k0_pay16 X.dl X.m (score X j c) (dprod X j c) = dsSum X (wFull X j c) j c := rfl

/-- Their column sums. -/
theorem sum27 (X : Ctx F) (j : Fin 8) (c : Fin 4) : k0_pay27 X.dl X.m (score X j c) (dprod X j c) = dsSum X (wFull X j c) j c := rfl

/-- The gradients of the scores of a chunk of an earlier block. -/
theorem ds38 (X : Ctx F) (j : Fin 8) (c : Fin 4) : k0_pay38 X.dl (k0_pay36 X.m (score X j c)) (dprod X j c) = dsB X (wFull X j c) j c := rfl

/-- A chunk's share of the keys' gradient. -/
theorem add40 (X : Ctx F) (j : Fin 8) (c : Fin 4) (t : FVec F S128x1024 .bf16) (y : FVec F S128x256 .f32) : k0_pay40 X.dl t (k0_pay36 X.m (score X j c)) (dprod X j c) y = k0_pay9 t (dsB X (wFull X j c) j c) y := rfl

/-- A chunk's share of the key bias's gradient. -/
theorem sub41 (X : Ctx F) (j : Fin 8) (c : Fin 4) (y : FVec F S1x1x1x256 .f32) : k0_pay41 X.dl (k0_pay36 X.m (score X j c)) (dprod X j c) y = k0_pay11 (dsSum X (wFull X j c) j c) y := rfl

/-- A chunk's share of an accumulator of transposed rows. -/
theorem add10 (t : FVec F S128x1024 .bf16) (p : FVec F S1024x256 .bf16) (y : FVec F S128x256 .f32) : k0_pay10 t p y = k0_pay9 t p y := rfl

/-- A chunk's share of an accumulator of transposed rows. -/
theorem add20 (t : FVec F S128x1024 .bf16) (p : FVec F S1024x256 .bf16) (y : FVec F S128x256 .f32) : k0_pay20 t p y = k0_pay9 t p y := rfl

/-- A chunk's share of an accumulator of transposed rows. -/
theorem add21 (t : FVec F S128x1024 .bf16) (p : FVec F S1024x256 .bf16) (y : FVec F S128x256 .f32) : k0_pay21 t p y = k0_pay9 t p y := rfl

/-- A chunk's share of an accumulator of transposed rows. -/
theorem add31 (t : FVec F S128x1024 .bf16) (p : FVec F S1024x256 .bf16) (y : FVec F S128x256 .f32) : k0_pay31 t p y = k0_pay9 t p y := rfl

/-- A chunk's share of an accumulator of transposed rows. -/
theorem add32 (t : FVec F S128x1024 .bf16) (p : FVec F S1024x256 .bf16) (y : FVec F S128x256 .f32) : k0_pay32 t p y = k0_pay9 t p y := rfl

/-- A chunk's share of an accumulator of transposed rows. -/
theorem add39 (t : FVec F S128x1024 .bf16) (p : FVec F S1024x256 .bf16) (y : FVec F S128x256 .f32) : k0_pay39 t p y = k0_pay9 t p y := rfl

/-- A chunk's share of an accumulator of transposed rows. -/
theorem add111 (t : FVec F S128x1024 .bf16) (p : FVec F S1024x256 .bf16) (y : FVec F S128x256 .f32) : k0_pay111 t p y = k0_pay9 t p y := rfl

/-- A chunk's share of an accumulator of transposed rows. -/
theorem add112 (t : FVec F S128x1024 .bf16) (p : FVec F S1024x256 .bf16) (y : FVec F S128x256 .f32) : k0_pay112 t p y = k0_pay9 t p y := rfl

/-- A chunk's share of an accumulator of transposed rows. -/
theorem add122 (t : FVec F S128x1024 .bf16) (p : FVec F S1024x256 .bf16) (y : FVec F S128x256 .f32) : k0_pay122 t p y = k0_pay9 t p y := rfl

/-- A chunk's share of an accumulator of transposed rows. -/
theorem add132 (t : FVec F S128x1024 .bf16) (p : FVec F S1024x256 .bf16) (y : FVec F S128x256 .f32) : k0_pay132 t p y = k0_pay9 t p y := rfl

/-- A chunk's share of an accumulator of transposed rows. -/
theorem add133 (t : FVec F S128x1024 .bf16) (p : FVec F S1024x256 .bf16) (y : FVec F S128x256 .f32) : k0_pay133 t p y = k0_pay9 t p y := rfl

/-- A chunk's share of an accumulator of transposed rows. -/
theorem add140 (t : FVec F S128x1024 .bf16) (p : FVec F S1024x256 .bf16) (y : FVec F S128x256 .f32) : k0_pay140 t p y = k0_pay9 t p y := rfl

/-- A chunk's share of an accumulator of transposed rows. -/
theorem add125 (t : FVec F S128x1024 .bf16) (p : FVec F S1024x256 .bf16) (y : FVec F S128x256 .f32) : k0_pay125 (k0_pay123 y) (k0_pay124 t p) = k0_pay9 t p y := rfl

/-- A chunk's share of the key bias's gradient. -/
theorem sub22 (g : FVec F S1x256 .f32) (y : FVec F S1x1x1x256 .f32) : k0_pay22 g y = k0_pay11 g y := rfl

/-- A chunk's share of the key bias's gradient. -/
theorem sub33 (g : FVec F S1x256 .f32) (y : FVec F S1x1x1x256 .f32) : k0_pay33 g y = k0_pay11 g y := rfl

/-- A chunk's share of the key bias's gradient. -/
theorem sub113 (g : FVec F S1x256 .f32) (y : FVec F S1x1x1x256 .f32) : k0_pay113 g y = k0_pay11 g y := rfl

/-- A chunk's share of the key bias's gradient. -/
theorem sub126 (g : FVec F S1x256 .f32) (y : FVec F S1x1x1x256 .f32) : k0_pay126 g y = k0_pay11 g y := rfl

/-- A chunk's share of the key bias's gradient. -/
theorem sub134 (g : FVec F S1x256 .f32) (y : FVec F S1x1x1x256 .f32) : k0_pay134 g y = k0_pay11 g y := rfl

/-- A chunk's share of the queries' gradient. -/
theorem q23 (a : FVec F S128x1024 .f32) (p : FVec F S1024x256 .bf16) (y : FVec F S128x256 .bf16) : k0_pay23 a p y = k0_pay12 a p y := rfl

/-- A chunk's share of the queries' gradient. -/
theorem q34 (a : FVec F S128x1024 .f32) (p : FVec F S1024x256 .bf16) (y : FVec F S128x256 .bf16) : k0_pay34 a p y = k0_pay12 a p y := rfl

/-- A chunk's share of the queries' gradient. -/
theorem q100 (a : FVec F S128x1024 .f32) (p : FVec F S1024x256 .bf16) (y : FVec F S128x256 .bf16) : k0_pay100 a p y = k0_pay12 a p y := rfl

/-- A chunk's share of the queries' gradient. -/
theorem q101 (a : FVec F S128x1024 .f32) (p : FVec F S1024x256 .bf16) (y : FVec F S128x256 .bf16) : k0_pay101 a p y = k0_pay12 a p y := rfl

/-- A chunk's share of the queries' gradient. -/
theorem q114 (a : FVec F S128x1024 .f32) (p : FVec F S1024x256 .bf16) (y : FVec F S128x256 .bf16) : k0_pay114 a p y = k0_pay12 a p y := rfl

/-- A chunk's share of the queries' gradient. -/
theorem q127 (a : FVec F S128x1024 .f32) (p : FVec F S1024x256 .bf16) (y : FVec F S128x256 .bf16) : k0_pay127 a p y = k0_pay12 a p y := rfl

/-- A chunk's share of the queries' gradient. -/
theorem q135 (a : FVec F S128x1024 .f32) (p : FVec F S1024x256 .bf16) (y : FVec F S128x256 .bf16) : k0_pay135 a p y = k0_pay12 a p y := rfl

/-- The weights of chunk 0 of the point's own block. -/
theorem mask104 (X : Ctx F) (j : Fin 8) : k0_pay104 X.m (score X j 0) = wMask X j 0 := rfl

/-- The weights of chunk 1 of the point's own block. -/
theorem mask115 (X : Ctx F) (j : Fin 8) : k0_pay115 X.m (score X j 1) = wMask X j 1 := rfl

/-- The weights of chunk 2 of the point's own block. -/
theorem mask128 (X : Ctx F) (j : Fin 8) : k0_pay128 X.m (score X j 2) = wMask X j 2 := rfl

/-- The weights of chunk 3 of the point's own block. -/
theorem mask136 (X : Ctx F) (j : Fin 8) : k0_pay136 X.m (score X j 3) = wMask X j 3 := rfl

/-- The gradients of the scores of chunk 0 of the point's own block. -/
theorem ds107 (X : Ctx F) (j : Fin 8) : k0_pay107 X.dl (k0_pay105 X.m (score X j 0)) (dprod X j 0) = dsB X (wMask X j 0) j 0 := rfl

/-- Their column sums. -/
theorem sum108 (X : Ctx F) (j : Fin 8) : k0_pay108 X.dl (k0_pay105 X.m (score X j 0)) (dprod X j 0) = dsSum X (wMask X j 0) j 0 := rfl

/-- The gradients of the scores of chunk 1 of the point's own block. -/
theorem ds117 (X : Ctx F) (j : Fin 8) : k0_pay117 X.dl X.m (score X j 1) (dprod X j 1) = dsB X (wMask X j 1) j 1 := rfl

/-- The gradients of the scores of chunk 2 of the point's own block. -/
theorem ds130 (X : Ctx F) (j : Fin 8) : k0_pay130 X.dl X.m (score X j 2) (dprod X j 2) = dsB X (wMask X j 2) j 2 := rfl

/-- Their column sums. -/
theorem sum119 (X : Ctx F) (j : Fin 8) : k0_pay119 (k0_pay118 X.dl X.m (score X j 1) (dprod X j 1)) = dsSum X (wMask X j 1) j 1 := rfl

/-- Their column sums. -/
theorem sum131 (X : Ctx F) (j : Fin 8) : k0_pay131 X.dl X.m (score X j 2) (dprod X j 2) = dsSum X (wMask X j 2) j 2 := rfl

/-- The last chunk's share of the keys' gradient. -/
theorem add141 (X : Ctx F) (j : Fin 8) (t : FVec F S128x1024 .bf16) (y : FVec F S128x256 .f32) : k0_pay141 X.dl t (k0_pay137 X.m (score X j 3)) (dprod X j 3) y = k0_pay9 t (dsB X (wMask X j 3) j 3) y := rfl

/-- The last chunk's share of the key bias's gradient. -/
theorem sub142 (X : Ctx F) (j : Fin 8) (y : FVec F S1x1x1x256 .f32) : k0_pay142 X.dl (k0_pay137 X.m (score X j 3)) (dprod X j 3) y = k0_pay11 (dsSum X (wMask X j 3) j 3) y := rfl

/-- The queries' gradient after the last chunk, with the positions first. -/
theorem q143 (X : Ctx F) (j : Fin 8) (a : FVec F S128x1024 .f32) (y : FVec F S128x256 .bf16) : k0_pay143 X.dl a (k0_pay137 X.m (score X j 3)) (dprod X j 3) y = transpose S1024x128 [1, 0] (k0_pay12 a (dsB X (wMask X j 3) j 3) y) transposes_S128x1024_p1_0_S1024x128 := rfl

/-- A load of a whole buffer after a store of all of it reads what was stored. -/
theorem readCov_whole {sig : RefSig} {κ : Kind} {sp : Space} {s : Shape} {e : EltTy} {Val : EltTy → Type} [∀ e, Nonempty (Val e)]
    (v : View sig κ sp s e) {size : Fin s.rank → ℕ} (h : size = s.size) {off off' : Fin s.rank → ℕ} (inb : ∀ a, off a + size a ≤ s.size a)
    (inb' : ∀ a, off' a + size a ≤ s.size a) (w : (Rect.unit off' size inb').shape.Idx → Val e) (L : List (View.Piece Val s e)) :
    v.readCov (⟨Rect.unit off' size inb', w⟩ :: L) (Rect.unit off size inb).toLoadRect = w := by
  subst h
  exact View.readCov_full v inb inb' w L

end Cert.KernelIdeal.Attn
end
-- ==== Proof.Trip.lean ====
module

public import proofs.«01_k».proof.Proof.Chunks
public import proofs.«01_k».proof.Proof.Gen.KernelIdeal.Frame
public import proofs.«01_k».proof.Proof.Gen.KernelIdeal.Skeleton
public import Idealize.ShloMosaic.Lib.Tactic
public import Idealize.ShloMosaic.Lib.VecWindow
public import Idealize.ShloMosaic.Lib.LaneScatter.Fold
public import Idealize.ShloMosaic.Lib.LaneScatter.Own
public import Idealize.ShloMosaic.Lib.Updates.Own

@[expose] public section

noncomputable section

namespace Cert.KernelIdeal.Attn

open Cert.KernelIdeal Cert.KernelIdeal.Gen
open Idealize.ShloMosaic Idealize.ShloMosaic.TcCoe Idealize.ShloMosaic.Tactic Idealize.ShloMosaic.LaneScatter Idealize.ShloMosaic.Updates
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
variable (arg2 : Memref sig .tc .vmem S1024x128 .bf16) (harg2 : arg2.IsWhole) (arg3 : Memref sig .tc .vmem S1024x128 .bf16) (harg3 : arg3.IsWhole) (arg4 : Memref sig .tc .vmem S1024x128 .f32) (harg4 : arg4.IsWhole) (arg5 : Memref sig .tc .vmem S1024x128 .bf16) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S8192x128 .bf16) (harg8 : arg8.IsWhole) (arg9 : Memref sig .tc .vmem S128x8192 .bf16) (harg9 : arg9.IsWhole) (arg10 : Memref sig .tc .vmem S8192x128 .bf16) (harg10 : arg10.IsWhole) (arg11 : Memref sig .tc .vmem S1x8x1x1024 .f32) (harg11 : arg11.IsWhole) (arg12 : Memref sig .tc .vmem S1024x128 .f32) (harg12 : arg12.IsWhole) (arg13 : Memref sig .tc .vmem S128x8192 .f32) (harg13 : arg13.IsWhole) (arg14 : Memref sig .tc .vmem S128x8192 .f32) (harg14 : arg14.IsWhole) (arg15 : Memref sig .tc .vmem S1x8x1x1024 .f32) (harg15 : arg15.IsWhole) (arg16 : Memref sig .tc .vmem S1024x128 .bf16) (harg16 : arg16.IsWhole) (arg17 : Memref sig .tc .vmem S1024x256 .f32) (harg17 : arg17.IsWhole) (arg18 : Memref sig .tc .vmem S1024x256 .f32) (harg18 : arg18.IsWhole) (arg19 : Memref sig .tc .vmem S1024x256 .f32) (harg19 : arg19.IsWhole) (arg20 : Memref sig .tc .vmem S1024x256 .f32) (harg20 : arg20.IsWhole)

set_option maxHeartbeats 0 in
set_option maxRecDepth 4096 in
/-- One trip of the loop over the earlier key blocks: the block's four chunks are added to the accumulators, and the
    scores and products of the next block's first chunk are left for the next trip. -/
theorem trip (X : Ctx F) (a : Acc F) (k : Fin (k0_t1_loop i).trips) (hk : k.val + 1 < 8)
    (arg1 : BitVec 32) (v67 : FVec F S128x1024 .f32) (v72 : BitVec 32) (x18 x20 : FVec F S1024x256 .f32) :
    (iprop(owns (c : Thread nD τ) arg8 fullShare X.k ∗ owns (c : Thread nD τ) arg9 fullShare X.kt ∗ owns (c : Thread nD τ) arg10 fullShare X.v ∗ owns (c : Thread nD τ) arg11 fullShare X.ck ∗ owns (c : Thread nD τ) arg13 fullShare a.dk ∗ owns (c : Thread nD τ) arg14 fullShare a.dv ∗ owns (c : Thread nD τ) arg15 fullShare a.dc ∗ owns (c : Thread nD τ) arg17 fullShare (score X ⟨k.val, by omega⟩ 0) ∗ owns (c : Thread nD τ) arg18 fullShare x18 ∗ owns (c : Thread nD τ) arg19 fullShare (dprod X ⟨k.val, by omega⟩ 0) ∗ owns (c : Thread nD τ) arg20 fullShare x20) : sProp 𝕄) ⊢
      wp frame (wpE (defs₀ (F := F)) Variants.none (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 X.d X.dl X.q X.qt X.dt X.m v67 0#32 v72 k a.dq)
        (fun r => iprop(⌜r = (step X wFull ⟨k.val, by omega⟩ a).dq⌝ ∗ owns (c : Thread nD τ) arg8 fullShare X.k ∗ owns (c : Thread nD τ) arg9 fullShare X.kt ∗ owns (c : Thread nD τ) arg10 fullShare X.v ∗ owns (c : Thread nD τ) arg11 fullShare X.ck ∗ owns (c : Thread nD τ) arg13 fullShare (step X wFull ⟨k.val, by omega⟩ a).dk ∗ owns (c : Thread nD τ) arg14 fullShare (step X wFull ⟨k.val, by omega⟩ a).dv ∗ owns (c : Thread nD τ) arg15 fullShare (step X wFull ⟨k.val, by omega⟩ a).dc ∗ owns (c : Thread nD τ) arg17 fullShare (score X ⟨k.val + 1, hk⟩ 0) ∗ owns (c : Thread nD τ) arg18 fullShare (score X ⟨k.val, by omega⟩ 3) ∗ owns (c : Thread nD τ) arg19 fullShare (dprod X ⟨k.val + 1, hk⟩ 0) ∗ owns (c : Thread nD τ) arg20 fullShare (dprod X ⟨k.val, by omega⟩ 3))) := by
  unfold k0_t1_body
  iintro ⟨H8, H9, H10, H11, H13, H14, H15, H17, H18, H19, H20⟩
  icases (owns_read (c : Thread nD τ) arg8 _) $$ H8 with ⟨%f8, H8, %e8⟩
  icases (owns_read (c : Thread nD τ) arg9 _) $$ H9 with ⟨%f9, H9, %e9⟩
  icases (owns_read (c : Thread nD τ) arg10 _) $$ H10 with ⟨%f10, H10, %e10⟩
  icases (owns_read (c : Thread nD τ) arg11 _) $$ H11 with ⟨%f11, H11, %e11⟩
  icases (owns_read (c : Thread nD τ) arg13 _) $$ H13 with ⟨%f13, H13, %e13⟩
  icases (owns_read (c : Thread nD τ) arg14 _) $$ H14 with ⟨%f14, H14, %e14⟩
  icases (owns_read (c : Thread nD τ) arg15 _) $$ H15 with ⟨%f15, H15, %e15⟩
  icases (owns_read (c : Thread nD τ) arg17 _) $$ H17 with ⟨%f17, H17, %e17⟩
  icases (owns_read (c : Thread nD τ) arg18 _) $$ H18 with ⟨%f18, H18, %e18⟩
  icases (owns_read (c : Thread nD τ) arg19 _) $$ H19 with ⟨%f19, H19, %e19⟩
  icases (owns_read (c : Thread nD τ) arg20 _) $$ H20 with ⟨%f20, H20, %e20⟩
  have h8_1 : ∀ hin, View.readAt (Elt F) arg8.view (Rect.unit (s := S8192x128) (k0_off2 i k 256#32) S256x128.size hin).toLoadRect f8 = rows X.k ⟨k.val, by omega⟩ 1 := fun hin =>
    (View.readAt_unit arg8.view f8 hin (off2 i k 0) (rowOff_inb ⟨k.val, by omega⟩ 1)).trans (by rw [e8]; rfl)
  have h10_1 : ∀ hin, View.readAt (Elt F) arg10.view (Rect.unit (s := S8192x128) (k0_off2 i k 256#32) S256x128.size hin).toLoadRect f10 = rows X.v ⟨k.val, by omega⟩ 1 := fun hin =>
    (View.readAt_unit arg10.view f10 hin (off2 i k 0) (rowOff_inb ⟨k.val, by omega⟩ 1)).trans (by rw [e10]; rfl)
  have h8_2 : ∀ hin, View.readAt (Elt F) arg8.view (Rect.unit (s := S8192x128) (k0_off2 i k 512#32) S256x128.size hin).toLoadRect f8 = rows X.k ⟨k.val, by omega⟩ 2 := fun hin =>
    (View.readAt_unit arg8.view f8 hin (off2 i k 1) (rowOff_inb ⟨k.val, by omega⟩ 2)).trans (by rw [e8]; rfl)
  have h10_2 : ∀ hin, View.readAt (Elt F) arg10.view (Rect.unit (s := S8192x128) (k0_off2 i k 512#32) S256x128.size hin).toLoadRect f10 = rows X.v ⟨k.val, by omega⟩ 2 := fun hin =>
    (View.readAt_unit arg10.view f10 hin (off2 i k 1) (rowOff_inb ⟨k.val, by omega⟩ 2)).trans (by rw [e10]; rfl)
  have h8_3 : ∀ hin, View.readAt (Elt F) arg8.view (Rect.unit (s := S8192x128) (k0_off2 i k 768#32) S256x128.size hin).toLoadRect f8 = rows X.k ⟨k.val, by omega⟩ 3 := fun hin =>
    (View.readAt_unit arg8.view f8 hin (off2 i k 2) (rowOff_inb ⟨k.val, by omega⟩ 3)).trans (by rw [e8]; rfl)
  have h10_3 : ∀ hin, View.readAt (Elt F) arg10.view (Rect.unit (s := S8192x128) (k0_off2 i k 768#32) S256x128.size hin).toLoadRect f10 = rows X.v ⟨k.val, by omega⟩ 3 := fun hin =>
    (View.readAt_unit arg10.view f10 hin (off2 i k 2) (rowOff_inb ⟨k.val, by omega⟩ 3)).trans (by rw [e10]; rfl)
  have h8_0 : ∀ hin, View.readAt (Elt F) arg8.view (Rect.unit (s := S8192x128) (k0_off7 i k) S256x128.size hin).toLoadRect f8 = rows X.k ⟨k.val + 1, hk⟩ 0 := fun hin =>
    (View.readAt_unit arg8.view f8 hin (off7 i k) (rowOff_inb ⟨k.val + 1, hk⟩ 0)).trans (by rw [e8]; rfl)
  have h10_0 : ∀ hin, View.readAt (Elt F) arg10.view (Rect.unit (s := S8192x128) (k0_off7 i k) S256x128.size hin).toLoadRect f10 = rows X.v ⟨k.val + 1, hk⟩ 0 := fun hin =>
    (View.readAt_unit arg10.view f10 hin (off7 i k) (rowOff_inb ⟨k.val + 1, hk⟩ 0)).trans (by rw [e10]; rfl)
  have hb : ∀ hin, View.readAt (Elt F) arg11.view (Rect.unit (s := S1x8x1x1024) (k0_off3 i k) S1x1x1x1024.size hin).toLoadRect f11 = bias X.ck ⟨k.val, by omega⟩ := fun hin =>
    (View.readAt_unit arg11.view f11 hin (off3 i k) (biasOff_inb ⟨k.val, by omega⟩)).trans (by rw [e11]; rfl)
  have hb' : ∀ hin, View.readAt (Elt F) arg11.view (Rect.unit (s := S1x8x1x1024) (k0_off8 i k) S1x1x1x1024.size hin).toLoadRect f11 = bias X.ck ⟨k.val + 1, hk⟩ := fun hin =>
    (View.readAt_unit arg11.view f11 hin (off8 i k) (biasOff_inb ⟨k.val + 1, hk⟩)).trans (by rw [e11]; rfl)
  have h9_0 : ∀ hin, View.readAt (Elt F) arg9.view (Rect.unit (s := S128x8192) (k0_off4 i k 0#32) S128x256.size hin).toLoadRect f9 = cols X.kt ⟨k.val, by omega⟩ 0 := fun hin =>
    (View.readAt_unit arg9.view f9 hin (off4 i k 0) (colOff_inb ⟨k.val, by omega⟩ 0)).trans (by rw [e9]; rfl)
  have h13_0 : ∀ hin, View.readAt (Elt F) arg13.view (Rect.unit (s := S128x8192) (k0_off4 i k 0#32) S128x256.size hin).toLoadRect f13 = cols a.dk ⟨k.val, by omega⟩ 0 := fun hin =>
    (View.readAt_unit arg13.view f13 hin (off4 i k 0) (colOff_inb ⟨k.val, by omega⟩ 0)).trans (by rw [e13]; rfl)
  have h14_0 : ∀ hin, View.readAt (Elt F) arg14.view (Rect.unit (s := S128x8192) (k0_off4 i k 0#32) S128x256.size hin).toLoadRect f14 = cols a.dv ⟨k.val, by omega⟩ 0 := fun hin =>
    (View.readAt_unit arg14.view f14 hin (off4 i k 0) (colOff_inb ⟨k.val, by omega⟩ 0)).trans (by rw [e14]; rfl)
  have h15_0 : ∀ hin, View.readAt (Elt F) arg15.view (Rect.unit (s := S1x8x1x1024) (k0_off5 i k) S1x1x1x256.size hin).toLoadRect f15 = dcAt a.dc ⟨k.val, by omega⟩ 0 := fun hin =>
    (View.readAt_unit arg15.view f15 hin (off5 i k) (dcOff_inb ⟨k.val, by omega⟩ 0)).trans (by rw [e15]; rfl)
  have h9_1 : ∀ hin, View.readAt (Elt F) arg9.view (Rect.unit (s := S128x8192) (k0_off4 i k 256#32) S128x256.size hin).toLoadRect f9 = cols X.kt ⟨k.val, by omega⟩ 1 := fun hin =>
    (View.readAt_unit arg9.view f9 hin (off4 i k 1) (colOff_inb ⟨k.val, by omega⟩ 1)).trans (by rw [e9]; rfl)
  have h13_1 : ∀ hin, View.readAt (Elt F) arg13.view (Rect.unit (s := S128x8192) (k0_off4 i k 256#32) S128x256.size hin).toLoadRect f13 = cols a.dk ⟨k.val, by omega⟩ 1 := fun hin =>
    (View.readAt_unit arg13.view f13 hin (off4 i k 1) (colOff_inb ⟨k.val, by omega⟩ 1)).trans (by rw [e13]; rfl)
  have h14_1 : ∀ hin, View.readAt (Elt F) arg14.view (Rect.unit (s := S128x8192) (k0_off4 i k 256#32) S128x256.size hin).toLoadRect f14 = cols a.dv ⟨k.val, by omega⟩ 1 := fun hin =>
    (View.readAt_unit arg14.view f14 hin (off4 i k 1) (colOff_inb ⟨k.val, by omega⟩ 1)).trans (by rw [e14]; rfl)
  have h15_1 : ∀ hin, View.readAt (Elt F) arg15.view (Rect.unit (s := S1x8x1x1024) (k0_off6 i k) S1x1x1x256.size hin).toLoadRect f15 = dcAt a.dc ⟨k.val, by omega⟩ 1 := fun hin =>
    (View.readAt_unit arg15.view f15 hin (off6 i k) (dcOff_inb ⟨k.val, by omega⟩ 1)).trans (by rw [e15]; rfl)
  have h9_2 : ∀ hin, View.readAt (Elt F) arg9.view (Rect.unit (s := S128x8192) (k0_off4 i k 512#32) S128x256.size hin).toLoadRect f9 = cols X.kt ⟨k.val, by omega⟩ 2 := fun hin =>
    (View.readAt_unit arg9.view f9 hin (off4 i k 2) (colOff_inb ⟨k.val, by omega⟩ 2)).trans (by rw [e9]; rfl)
  have h13_2 : ∀ hin, View.readAt (Elt F) arg13.view (Rect.unit (s := S128x8192) (k0_off4 i k 512#32) S128x256.size hin).toLoadRect f13 = cols a.dk ⟨k.val, by omega⟩ 2 := fun hin =>
    (View.readAt_unit arg13.view f13 hin (off4 i k 2) (colOff_inb ⟨k.val, by omega⟩ 2)).trans (by rw [e13]; rfl)
  have h14_2 : ∀ hin, View.readAt (Elt F) arg14.view (Rect.unit (s := S128x8192) (k0_off4 i k 512#32) S128x256.size hin).toLoadRect f14 = cols a.dv ⟨k.val, by omega⟩ 2 := fun hin =>
    (View.readAt_unit arg14.view f14 hin (off4 i k 2) (colOff_inb ⟨k.val, by omega⟩ 2)).trans (by rw [e14]; rfl)
  have h15_2 : ∀ hin, View.readAt (Elt F) arg15.view (Rect.unit (s := S1x8x1x1024) (k0_off9 i k) S1x1x1x256.size hin).toLoadRect f15 = dcAt a.dc ⟨k.val, by omega⟩ 2 := fun hin =>
    (View.readAt_unit arg15.view f15 hin (off9 i k) (dcOff_inb ⟨k.val, by omega⟩ 2)).trans (by rw [e15]; rfl)
  have h9_3 : ∀ hin, View.readAt (Elt F) arg9.view (Rect.unit (s := S128x8192) (k0_off4 i k 768#32) S128x256.size hin).toLoadRect f9 = cols X.kt ⟨k.val, by omega⟩ 3 := fun hin =>
    (View.readAt_unit arg9.view f9 hin (off4 i k 3) (colOff_inb ⟨k.val, by omega⟩ 3)).trans (by rw [e9]; rfl)
  have h13_3 : ∀ hin, View.readAt (Elt F) arg13.view (Rect.unit (s := S128x8192) (k0_off4 i k 768#32) S128x256.size hin).toLoadRect f13 = cols a.dk ⟨k.val, by omega⟩ 3 := fun hin =>
    (View.readAt_unit arg13.view f13 hin (off4 i k 3) (colOff_inb ⟨k.val, by omega⟩ 3)).trans (by rw [e13]; rfl)
  have h14_3 : ∀ hin, View.readAt (Elt F) arg14.view (Rect.unit (s := S128x8192) (k0_off4 i k 768#32) S128x256.size hin).toLoadRect f14 = cols a.dv ⟨k.val, by omega⟩ 3 := fun hin =>
    (View.readAt_unit arg14.view f14 hin (off4 i k 3) (colOff_inb ⟨k.val, by omega⟩ 3)).trans (by rw [e14]; rfl)
  have h15_3 : ∀ hin, View.readAt (Elt F) arg15.view (Rect.unit (s := S1x8x1x1024) (k0_off10 i k) S1x1x1x256.size hin).toLoadRect f15 = dcAt a.dc ⟨k.val, by omega⟩ 3 := fun hin =>
    (View.readAt_unit arg15.view f15 hin (off10 i k) (dcOff_inb ⟨k.val, by omega⟩ 3)).trans (by rw [e15]; rfl)
  have h17 : ∀ hin, View.readAt (Elt F) arg17.view (Rect.unit (s := S1024x256) ![0, 0] S1024x256.size hin).toLoadRect f17 = score X ⟨k.val, by omega⟩ 0 := fun hin =>
    (View.readAt_full arg17.view f17 _).trans e17
  have h19 : ∀ hin, View.readAt (Elt F) arg19.view (Rect.unit (s := S1024x256) ![0, 0] S1024x256.size hin).toLoadRect f19 = dprod X ⟨k.val, by omega⟩ 0 := fun hin =>
    (View.readAt_full arg19.view f19 _).trans e19
  sl_exec_parts
  sl_step
  isplitr
  · ipureintro
    sl_unfold_run_names
    simp only [h8_1, h10_1, h8_2, h10_2, h8_3, h10_3, h8_0, h10_0, hb, hb', h9_0, h13_0, h14_0, h15_0, h9_1, h13_1, h14_1, h15_1, h9_2, h13_2, h14_2, h15_2, h9_3, h13_3, h14_3, h15_3, readCov_whole (Val := Elt F) arg17.view (size := ![1024, 256]) rfl, readCov_whole (Val := Elt F) arg18.view (size := ![1024, 256]) rfl, readCov_whole (Val := Elt F) arg19.view (size := ![1024, 256]) rfl, readCov_whole (Val := Elt F) arg20.view (size := ![1024, 256]) rfl, h17, h19,
      score1, score2, score0, score1', score2', score3', score3, dprod2, dprod8, dprod19, dprod103, dprod110, dprod121, dprod30, full3, full13, full24, full35, ds5, ds15, ds26, sum6, sum16, sum27, ds38, add40, sub41, add10, add20, add21, add31, add32, add39, add111, add112, add122, add132, add133, add140, add125, sub22, sub33, sub113, sub126, sub134, q23, q34, q100, q101, q114, q127, q135, mask104, mask115, mask128, mask136, ds107, sum108, ds117, ds130, sum119, sum131, add141, sub142, q143]
    rfl
  isplitl [H8]
  · iapply (raw_owns (c : Thread nD τ) arg8 e8); iexact H8
  isplitl [H9]
  · iapply (raw_owns (c : Thread nD τ) arg9 e9); iexact H9
  isplitl [H10]
  · iapply (raw_owns (c : Thread nD τ) arg10 e10); iexact H10
  isplitl [H11]
  · iapply (raw_owns (c : Thread nD τ) arg11 e11); iexact H11
  isplitl [H13]
  · iapply (raw_owns (c : Thread nD τ) arg13 ?_) $$ H13
    sl_unfold_run_names
    simp only [h8_1, h10_1, h8_2, h10_2, h8_3, h10_3, h8_0, h10_0, hb, hb', h9_0, h13_0, h14_0, h15_0, h9_1, h13_1, h14_1, h15_1, h9_2, h13_2, h14_2, h15_2, h9_3, h13_3, h14_3, h15_3, readCov_whole (Val := Elt F) arg17.view (size := ![1024, 256]) rfl, readCov_whole (Val := Elt F) arg18.view (size := ![1024, 256]) rfl, readCov_whole (Val := Elt F) arg19.view (size := ![1024, 256]) rfl, readCov_whole (Val := Elt F) arg20.view (size := ![1024, 256]) rfl, h17, h19,
      score1, score2, score0, score1', score2', score3', score3, dprod2, dprod8, dprod19, dprod103, dprod110, dprod121, dprod30, full3, full13, full24, full35, ds5, ds15, ds26, sum6, sum16, sum27, ds38, add40, sub41, add10, add20, add21, add31, add32, add39, add111, add112, add122, add132, add133, add140, add125, sub22, sub33, sub113, sub126, sub134, q23, q34, q100, q101, q114, q127, q135, mask104, mask115, mask128, mask136, ds107, sum108, ds117, ds130, sum119, sum131, add141, sub142, q143]
    rw [View.read_writes_cons_put arg13.view _ _ _ _ (show k0_off4 i k 768#32 = colOff k.val 3 from off4 i k 3), View.read_writes_cons_put arg13.view _ _ _ _ (show k0_off4 i k 512#32 = colOff k.val 2 from off4 i k 2), View.read_writes_cons_put arg13.view _ _ _ _ (show k0_off4 i k 256#32 = colOff k.val 1 from off4 i k 1), View.read_writes_cons_put arg13.view _ _ _ _ (show k0_off4 i k 0#32 = colOff k.val 0 from off4 i k 0), View.writes_nil, e13]
    rfl
  isplitl [H14]
  · iapply (raw_owns (c : Thread nD τ) arg14 ?_) $$ H14
    sl_unfold_run_names
    simp only [h8_1, h10_1, h8_2, h10_2, h8_3, h10_3, h8_0, h10_0, hb, hb', h9_0, h13_0, h14_0, h15_0, h9_1, h13_1, h14_1, h15_1, h9_2, h13_2, h14_2, h15_2, h9_3, h13_3, h14_3, h15_3, readCov_whole (Val := Elt F) arg17.view (size := ![1024, 256]) rfl, readCov_whole (Val := Elt F) arg18.view (size := ![1024, 256]) rfl, readCov_whole (Val := Elt F) arg19.view (size := ![1024, 256]) rfl, readCov_whole (Val := Elt F) arg20.view (size := ![1024, 256]) rfl, h17, h19,
      score1, score2, score0, score1', score2', score3', score3, dprod2, dprod8, dprod19, dprod103, dprod110, dprod121, dprod30, full3, full13, full24, full35, ds5, ds15, ds26, sum6, sum16, sum27, ds38, add40, sub41, add10, add20, add21, add31, add32, add39, add111, add112, add122, add132, add133, add140, add125, sub22, sub33, sub113, sub126, sub134, q23, q34, q100, q101, q114, q127, q135, mask104, mask115, mask128, mask136, ds107, sum108, ds117, ds130, sum119, sum131, add141, sub142, q143]
    rw [View.read_writes_cons_put arg14.view _ _ _ _ (show k0_off4 i k 768#32 = colOff k.val 3 from off4 i k 3), View.read_writes_cons_put arg14.view _ _ _ _ (show k0_off4 i k 512#32 = colOff k.val 2 from off4 i k 2), View.read_writes_cons_put arg14.view _ _ _ _ (show k0_off4 i k 256#32 = colOff k.val 1 from off4 i k 1), View.read_writes_cons_put arg14.view _ _ _ _ (show k0_off4 i k 0#32 = colOff k.val 0 from off4 i k 0), View.writes_nil, e14]
    rfl
  isplitl [H15]
  · iapply (raw_owns (c : Thread nD τ) arg15 ?_) $$ H15
    sl_unfold_run_names
    simp only [h8_1, h10_1, h8_2, h10_2, h8_3, h10_3, h8_0, h10_0, hb, hb', h9_0, h13_0, h14_0, h15_0, h9_1, h13_1, h14_1, h15_1, h9_2, h13_2, h14_2, h15_2, h9_3, h13_3, h14_3, h15_3, readCov_whole (Val := Elt F) arg17.view (size := ![1024, 256]) rfl, readCov_whole (Val := Elt F) arg18.view (size := ![1024, 256]) rfl, readCov_whole (Val := Elt F) arg19.view (size := ![1024, 256]) rfl, readCov_whole (Val := Elt F) arg20.view (size := ![1024, 256]) rfl, h17, h19,
      score1, score2, score0, score1', score2', score3', score3, dprod2, dprod8, dprod19, dprod103, dprod110, dprod121, dprod30, full3, full13, full24, full35, ds5, ds15, ds26, sum6, sum16, sum27, ds38, add40, sub41, add10, add20, add21, add31, add32, add39, add111, add112, add122, add132, add133, add140, add125, sub22, sub33, sub113, sub126, sub134, q23, q34, q100, q101, q114, q127, q135, mask104, mask115, mask128, mask136, ds107, sum108, ds117, ds130, sum119, sum131, add141, sub142, q143]
    rw [View.read_writes_cons_put arg15.view _ _ _ _ (off10 i k), View.read_writes_cons_put arg15.view _ _ _ _ (off9 i k), View.read_writes_cons_put arg15.view _ _ _ _ (off6 i k), View.read_writes_cons_put arg15.view _ _ _ _ (off5 i k), View.writes_nil, e15]
    rfl
  isplitl [H17]
  · iapply (raw_owns (c : Thread nD τ) arg17 ?_) $$ H17
    sl_unfold_run_names
    simp only [h8_1, h10_1, h8_2, h10_2, h8_3, h10_3, h8_0, h10_0, hb, hb', h9_0, h13_0, h14_0, h15_0, h9_1, h13_1, h14_1, h15_1, h9_2, h13_2, h14_2, h15_2, h9_3, h13_3, h14_3, h15_3, readCov_whole (Val := Elt F) arg17.view (size := ![1024, 256]) rfl, readCov_whole (Val := Elt F) arg18.view (size := ![1024, 256]) rfl, readCov_whole (Val := Elt F) arg19.view (size := ![1024, 256]) rfl, readCov_whole (Val := Elt F) arg20.view (size := ![1024, 256]) rfl, h17, h19,
      score1, score2, score0, score1', score2', score3', score3, dprod2, dprod8, dprod19, dprod103, dprod110, dprod121, dprod30, full3, full13, full24, full35, ds5, ds15, ds26, sum6, sum16, sum27, ds38, add40, sub41, add10, add20, add21, add31, add32, add39, add111, add112, add122, add132, add133, add140, add125, sub22, sub33, sub113, sub126, sub134, q23, q34, q100, q101, q114, q127, q135, mask104, mask115, mask128, mask136, ds107, sum108, ds117, ds130, sum119, sum131, add141, sub142, q143]
    rw [View.read_writes_full]
  isplitl [H18]
  · iapply (raw_owns (c : Thread nD τ) arg18 ?_) $$ H18
    sl_unfold_run_names
    simp only [h8_1, h10_1, h8_2, h10_2, h8_3, h10_3, h8_0, h10_0, hb, hb', h9_0, h13_0, h14_0, h15_0, h9_1, h13_1, h14_1, h15_1, h9_2, h13_2, h14_2, h15_2, h9_3, h13_3, h14_3, h15_3, readCov_whole (Val := Elt F) arg17.view (size := ![1024, 256]) rfl, readCov_whole (Val := Elt F) arg18.view (size := ![1024, 256]) rfl, readCov_whole (Val := Elt F) arg19.view (size := ![1024, 256]) rfl, readCov_whole (Val := Elt F) arg20.view (size := ![1024, 256]) rfl, h17, h19,
      score1, score2, score0, score1', score2', score3', score3, dprod2, dprod8, dprod19, dprod103, dprod110, dprod121, dprod30, full3, full13, full24, full35, ds5, ds15, ds26, sum6, sum16, sum27, ds38, add40, sub41, add10, add20, add21, add31, add32, add39, add111, add112, add122, add132, add133, add140, add125, sub22, sub33, sub113, sub126, sub134, q23, q34, q100, q101, q114, q127, q135, mask104, mask115, mask128, mask136, ds107, sum108, ds117, ds130, sum119, sum131, add141, sub142, q143]
    rw [View.read_writes_full]
  isplitl [H19]
  · iapply (raw_owns (c : Thread nD τ) arg19 ?_) $$ H19
    sl_unfold_run_names
    simp only [h8_1, h10_1, h8_2, h10_2, h8_3, h10_3, h8_0, h10_0, hb, hb', h9_0, h13_0, h14_0, h15_0, h9_1, h13_1, h14_1, h15_1, h9_2, h13_2, h14_2, h15_2, h9_3, h13_3, h14_3, h15_3, readCov_whole (Val := Elt F) arg17.view (size := ![1024, 256]) rfl, readCov_whole (Val := Elt F) arg18.view (size := ![1024, 256]) rfl, readCov_whole (Val := Elt F) arg19.view (size := ![1024, 256]) rfl, readCov_whole (Val := Elt F) arg20.view (size := ![1024, 256]) rfl, h17, h19,
      score1, score2, score0, score1', score2', score3', score3, dprod2, dprod8, dprod19, dprod103, dprod110, dprod121, dprod30, full3, full13, full24, full35, ds5, ds15, ds26, sum6, sum16, sum27, ds38, add40, sub41, add10, add20, add21, add31, add32, add39, add111, add112, add122, add132, add133, add140, add125, sub22, sub33, sub113, sub126, sub134, q23, q34, q100, q101, q114, q127, q135, mask104, mask115, mask128, mask136, ds107, sum108, ds117, ds130, sum119, sum131, add141, sub142, q143]
    rw [View.read_writes_full]
  · iapply (raw_owns (c : Thread nD τ) arg20 ?_) $$ H20
    sl_unfold_run_names
    simp only [h8_1, h10_1, h8_2, h10_2, h8_3, h10_3, h8_0, h10_0, hb, hb', h9_0, h13_0, h14_0, h15_0, h9_1, h13_1, h14_1, h15_1, h9_2, h13_2, h14_2, h15_2, h9_3, h13_3, h14_3, h15_3, readCov_whole (Val := Elt F) arg17.view (size := ![1024, 256]) rfl, readCov_whole (Val := Elt F) arg18.view (size := ![1024, 256]) rfl, readCov_whole (Val := Elt F) arg19.view (size := ![1024, 256]) rfl, readCov_whole (Val := Elt F) arg20.view (size := ![1024, 256]) rfl, h17, h19,
      score1, score2, score0, score1', score2', score3', score3, dprod2, dprod8, dprod19, dprod103, dprod110, dprod121, dprod30, full3, full13, full24, full35, ds5, ds15, ds26, sum6, sum16, sum27, ds38, add40, sub41, add10, add20, add21, add31, add32, add39, add111, add112, add122, add132, add133, add140, add125, sub22, sub33, sub113, sub126, sub134, q23, q34, q100, q101, q114, q127, q135, mask104, mask115, mask128, mask136, ds107, sum108, ds117, ds130, sum119, sum131, add141, sub142, q143]
    rw [View.read_writes_full]

end Cert.KernelIdeal.Attn
end
-- ==== Proof.Loop.lean ====
module

public import proofs.«01_k».proof.Proof.Trip
public import proofs.«01_k».proof.Proof.Gen.KernelIdeal.Frame
public import proofs.«01_k».proof.Proof.Gen.KernelIdeal.Skeleton
public import Idealize.ShloMosaic.Lib.Scf
public import Idealize.ShloMosaic.Lib.Pipeline.TableIdle
public import Idealize.ShloMosaic.Lib.Tactic
public import Idealize.ShloMosaic.Lib.VecWindow
public import Idealize.ShloMosaic.Lib.LaneScatter.Fold
public import Idealize.ShloMosaic.Lib.LaneScatter.Own
public import Idealize.ShloMosaic.Lib.Updates.Own

@[expose] public section

noncomputable section

namespace Cert.KernelIdeal.Attn

open Cert.KernelIdeal Cert.KernelIdeal.Gen
open Idealize.ShloMosaic Idealize.ShloMosaic.TcCoe Idealize.ShloMosaic.Tactic Idealize.ShloMosaic.LaneScatter Idealize.ShloMosaic.Updates
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
variable (arg2 : Memref sig .tc .vmem S1024x128 .bf16) (harg2 : arg2.IsWhole) (arg3 : Memref sig .tc .vmem S1024x128 .bf16) (harg3 : arg3.IsWhole) (arg4 : Memref sig .tc .vmem S1024x128 .f32) (harg4 : arg4.IsWhole) (arg5 : Memref sig .tc .vmem S1024x128 .bf16) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S8192x128 .bf16) (harg8 : arg8.IsWhole) (arg9 : Memref sig .tc .vmem S128x8192 .bf16) (harg9 : arg9.IsWhole) (arg10 : Memref sig .tc .vmem S8192x128 .bf16) (harg10 : arg10.IsWhole) (arg11 : Memref sig .tc .vmem S1x8x1x1024 .f32) (harg11 : arg11.IsWhole) (arg12 : Memref sig .tc .vmem S1024x128 .f32) (harg12 : arg12.IsWhole) (arg13 : Memref sig .tc .vmem S128x8192 .f32) (harg13 : arg13.IsWhole) (arg14 : Memref sig .tc .vmem S128x8192 .f32) (harg14 : arg14.IsWhole) (arg15 : Memref sig .tc .vmem S1x8x1x1024 .f32) (harg15 : arg15.IsWhole) (arg16 : Memref sig .tc .vmem S1024x128 .bf16) (harg16 : arg16.IsWhole) (arg17 : Memref sig .tc .vmem S1024x256 .f32) (harg17 : arg17.IsWhole) (arg18 : Memref sig .tc .vmem S1024x256 .f32) (harg18 : arg18.IsWhole) (arg19 : Memref sig .tc .vmem S1024x256 .f32) (harg19 : arg19.IsWhole) (arg20 : Memref sig .tc .vmem S1024x256 .f32) (harg20 : arg20.IsWhole)

/-- What the buffers hold before trip `n` of the loop: the accumulators after `n` blocks, the first chunk of block `n`
    in the scratch. -/
def inv (X : Ctx F) (a : Acc F) (n : ℕ) (acc : FVec F S128x1024 .f32) : sProp 𝕄 :=
  iprop(∃ j : Fin 8, ∃ x18 : FVec F S1024x256 .f32, ∃ x20 : FVec F S1024x256 .f32, ⌜j.val = n ∧ acc = (steps X a n).dq⌝
    ∗ owns (c : Thread nD τ) arg8 fullShare X.k ∗ owns (c : Thread nD τ) arg9 fullShare X.kt ∗ owns (c : Thread nD τ) arg10 fullShare X.v ∗ owns (c : Thread nD τ) arg11 fullShare X.ck
    ∗ owns (c : Thread nD τ) arg13 fullShare (steps X a n).dk ∗ owns (c : Thread nD τ) arg14 fullShare (steps X a n).dv ∗ owns (c : Thread nD τ) arg15 fullShare (steps X a n).dc
    ∗ owns (c : Thread nD τ) arg17 fullShare (score X j 0) ∗ owns (c : Thread nD τ) arg18 fullShare x18 ∗ owns (c : Thread nD τ) arg19 fullShare (dprod X j 0) ∗ owns (c : Thread nD τ) arg20 fullShare x20)

/-- One trip keeps it. -/
theorem inv_trip (X : Ctx F) (a : Acc F) (arg1 : BitVec 32) (v67 : FVec F S128x1024 .f32) (v72 : BitVec 32)
    (k : Fin (k0_t1_loop i).trips) (acc : FVec F S128x1024 .f32) :
    inv c arg8 arg9 arg10 arg11 arg13 arg14 arg15 arg17 arg18 arg19 arg20 X a k.val acc ⊢
      wp frame (wpE (defs₀ (F := F)) Variants.none (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 X.d X.dl X.q X.qt X.dt X.m v67 0#32 v72 k acc)
        (inv c arg8 arg9 arg10 arg11 arg13 arg14 arg15 arg17 arg18 arg19 arg20 X a (k.val + 1)) := by
  have hk : k.val + 1 < 8 := by have h1 := k.isLt; have h2 := trips1 i; have h3 : (i 1).val < 8 := (i 1).isLt; omega
  unfold inv
  iintro ⟨%j, %x18, %x20, %hj, H⟩
  obtain ⟨hj, rfl⟩ := hj
  have ej : j = ⟨k.val, Nat.lt_of_succ_lt hk⟩ := Fin.ext hj
  rw [ej]
  have hs : steps X a (k.val + 1) = step X wFull ⟨k.val, by omega⟩ (steps X a k.val) := by
    rw [steps, dif_pos (by omega : k.val < 8)]
  iapply (wp_wand_r frame (wpE (defs₀ (F := F)) Variants.none (c : Thread nD τ) none) Set.univ)
  isplitl [H]
  · iapply (trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X (steps X a k.val) k hk arg1 v67 v72 x18 x20)
    iexact H
  · iintro %r ⟨%hr, H⟩
    subst hr
    iexists ⟨k.val + 1, hk⟩
    iexists _
    iexists _
    isplitr
    · ipureintro
      exact ⟨rfl, by rw [hs]⟩
    rw [hs]
    iexact H

/-- The loop over the earlier blocks at the head of a program: the continuation runs with the accumulators after as many
    blocks as the point's number says, and the point's own block's first chunk in the scratch. -/
theorem loop (X : Ctx F) (a : Acc F) (b : Fin 8) (hb : (i 1).val = b.val) (arg1 : BitVec 32) (v67 : FVec F S128x1024 .f32) (v72 : BitVec 32)
    {β : Type} {kk : FVec F S128x1024 .f32 → Prog (TpuEff nD τ sig (Elt F) Λ₀ .tc) β} {Q : β → sProp 𝕄} :
    inv c arg8 arg9 arg10 arg11 arg13 arg14 arg15 arg17 arg18 arg19 arg20 X a 0 a.dq ⊢
      iprop((∀ acc, inv c arg8 arg9 arg10 arg11 arg13 arg14 arg15 arg17 arg18 arg19 arg20 X a b.val acc -∗
          wp frame (wpE (defs₀ (F := F)) Variants.none (c : Thread nD τ) none) Set.univ (kk acc) Q) -∗
        wp frame (wpE (defs₀ (F := F)) Variants.none (c : Thread nD τ) none) Set.univ
          (Scf.Loop.for (k0_t1_loop i) (k0_t1_ok i) a.dq (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 X.d X.dl X.q X.qt X.dt X.m v67 0#32 v72) >>= kk) Q) := by
  have T := fun k acc => inv_trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X a arg1 v67 v72 k acc
  generalize k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 X.d X.dl X.q X.qt X.dt X.m v67 0#32 v72 = B at T ⊢
  have R := Scf.wp_for_bind frame (wpE (defs₀ (F := F)) Variants.none (c : Thread nD τ) none) Set.univ (k0_t1_loop i).lb (k0_t1_loop i).ub (k0_t1_loop i).st (k0_t1_ok i) a.dq B
    (inv c arg8 arg9 arg10 arg11 arg13 arg14 arg15 arg17 arg18 arg19 arg20 X a) T (kk := kk) (Q := Q)
  have e : Scf.trips (k0_t1_loop i).lb (k0_t1_loop i).ub (k0_t1_loop i).st = b.val := (trips1 i).trans hb
  rw [e] at R
  exact R

end Cert.KernelIdeal.Attn
end
-- ==== Proof.Head.lean ====
module

public import proofs.«01_k».proof.Proof.Loop
public import proofs.«01_k».proof.Proof.Gen.KernelIdeal.Frame
public import proofs.«01_k».proof.Proof.Gen.KernelIdeal.Skeleton
public import Idealize.ShloMosaic.Lib.Tactic
public import Idealize.ShloMosaic.Lib.VecWindow
public import Idealize.ShloMosaic.Lib.LaneScatter.Fold
public import Idealize.ShloMosaic.Lib.LaneScatter.Own
public import Idealize.ShloMosaic.Lib.Updates.Own

@[expose] public section

noncomputable section

namespace Cert.KernelIdeal.Attn

open Cert.KernelIdeal Cert.KernelIdeal.Gen
open Idealize.ShloMosaic Idealize.ShloMosaic.TcCoe Idealize.ShloMosaic.Tactic Idealize.ShloMosaic.LaneScatter Idealize.ShloMosaic.Updates
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The blocks a point works on. -/
structure Blk (F : FTy → Type) where
  /-- queries -/
  q : FVec F S1024x128 .bf16
  /-- gradient of the gated output -/
  dy : FVec F S1024x128 .bf16
  /-- the output -/
  o : FVec F S1024x128 .f32
  /-- the gate -/
  z : FVec F S1024x128 .bf16
  /-- row maxima, in every lane -/
  m : FVec F S1x1024x128 .f32
  /-- row sums, in every lane -/
  l : FVec F S1x1024x128 .f32
  /-- keys -/
  k : FVec F S8192x128 .bf16
  /-- transposed keys -/
  kt : FVec F S128x8192 .bf16
  /-- values -/
  v : FVec F S8192x128 .bf16
  /-- key bias -/
  ck : FVec F S1x8x1x1024 .f32

/-- The first lane of a statistic. -/
def lane0 (x : FVec F S1x1024x128 .f32) : FVec F S1x1024x1 .f32 :=
  VecWindow.window x ![0, 0, 0] S1x1024x1.size inb_S1x1024x128_S1x1024x1_0_0_0

/-- What the chunks are computed from. -/
def Blk.ctx (B : Blk F) : Ctx F where
  k := B.k
  kt := B.kt
  v := B.v
  ck := B.ck
  d := k0_pay90 B.z B.dy (lane0 B.l)
  dl := k0_pay92 B.z B.dy B.o (lane0 B.l)
  q := k0_pay93 B.q
  qt := k0_pay94 B.q
  dt := k0_pay95 (k0_pay90 B.z B.dy (lane0 B.l))
  m := k0_pay96 (lane0 B.m)

/-- The gradient of the gate. -/
def Blk.dz (B : Blk F) : FVec F S1024x128 .bf16 := k0_pay91 B.z B.dy B.o

/-- Cleared accumulators. -/
def zero : Acc F where
  dk := k0_pay83
  dv := k0_pay84
  dc := k0_pay85
  dq := k0_pay99

variable (c : Dev nD) (i : grid0.Coords)
variable (arg2 : Memref sig .tc .vmem S1024x128 .bf16) (harg2 : arg2.IsWhole) (arg3 : Memref sig .tc .vmem S1024x128 .bf16) (harg3 : arg3.IsWhole) (arg4 : Memref sig .tc .vmem S1024x128 .f32) (harg4 : arg4.IsWhole) (arg5 : Memref sig .tc .vmem S1024x128 .bf16) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S8192x128 .bf16) (harg8 : arg8.IsWhole) (arg9 : Memref sig .tc .vmem S128x8192 .bf16) (harg9 : arg9.IsWhole) (arg10 : Memref sig .tc .vmem S8192x128 .bf16) (harg10 : arg10.IsWhole) (arg11 : Memref sig .tc .vmem S1x8x1x1024 .f32) (harg11 : arg11.IsWhole) (arg12 : Memref sig .tc .vmem S1024x128 .f32) (harg12 : arg12.IsWhole) (arg13 : Memref sig .tc .vmem S128x8192 .f32) (harg13 : arg13.IsWhole) (arg14 : Memref sig .tc .vmem S128x8192 .f32) (harg14 : arg14.IsWhole) (arg15 : Memref sig .tc .vmem S1x8x1x1024 .f32) (harg15 : arg15.IsWhole) (arg16 : Memref sig .tc .vmem S1024x128 .bf16) (harg16 : arg16.IsWhole) (arg17 : Memref sig .tc .vmem S1024x256 .f32) (harg17 : arg17.IsWhole) (arg18 : Memref sig .tc .vmem S1024x256 .f32) (harg18 : arg18.IsWhole) (arg19 : Memref sig .tc .vmem S1024x256 .f32) (harg19 : arg19.IsWhole) (arg20 : Memref sig .tc .vmem S1024x256 .f32) (harg20 : arg20.IsWhole)

set_option maxRecDepth 4096 in
/-- The body's first part at the first query block of a head: the accumulators are cleared, the gradient of the gate is
    stored, and the gradient of the unnormalised output and its row products are returned. -/
theorem head_first (B : Blk F) (a : Acc F) (x16 : FVec F S1024x128 .bf16) (hi : (i 1).val = 0) :
    (iprop(owns (c : Thread nD τ) arg3 fullShare B.dy ∗ owns (c : Thread nD τ) arg4 fullShare B.o ∗ owns (c : Thread nD τ) arg5 fullShare B.z ∗ owns (c : Thread nD τ) arg7 fullShare B.l ∗ owns (c : Thread nD τ) arg13 fullShare a.dk ∗ owns (c : Thread nD τ) arg14 fullShare a.dv ∗ owns (c : Thread nD τ) arg15 fullShare a.dc ∗ owns (c : Thread nD τ) arg16 fullShare x16) : sProp 𝕄) ⊢
      wp frame (wpE (defs₀ (F := F)) Variants.none (c : Thread nD τ) none) Set.univ
        (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun r => iprop(⌜r = ⟨BitVec.ofNat 32 (i 1).val, B.ctx.d, B.ctx.dl⟩⌝ ∗ owns (c : Thread nD τ) arg3 fullShare B.dy ∗ owns (c : Thread nD τ) arg4 fullShare B.o ∗ owns (c : Thread nD τ) arg5 fullShare B.z ∗ owns (c : Thread nD τ) arg7 fullShare B.l ∗ owns (c : Thread nD τ) arg13 fullShare (zero (F := F)).dk ∗ owns (c : Thread nD τ) arg14 fullShare (zero (F := F)).dv ∗ owns (c : Thread nD τ) arg15 fullShare (zero (F := F)).dc ∗ owns (c : Thread nD τ) arg16 fullShare B.dz)) := by
  have hc := (first_iff i).2 hi
  iintro ⟨H3, H4, H5, H7, H13, H14, H15, H16⟩
  icases (owns_read (c : Thread nD τ) arg3 _) $$ H3 with ⟨%f3, H3, %e3⟩
  icases (owns_read (c : Thread nD τ) arg4 _) $$ H4 with ⟨%f4, H4, %e4⟩
  icases (owns_read (c : Thread nD τ) arg5 _) $$ H5 with ⟨%f5, H5, %e5⟩
  icases (owns_read (c : Thread nD τ) arg7 _) $$ H7 with ⟨%f7, H7, %e7⟩
  icases (owns_read (c : Thread nD τ) arg13 _) $$ H13 with ⟨%f13, H13, %e13⟩
  icases (owns_read (c : Thread nD τ) arg14 _) $$ H14 with ⟨%f14, H14, %e14⟩
  icases (owns_read (c : Thread nD τ) arg15 _) $$ H15 with ⟨%f15, H15, %e15⟩
  icases (owns_read (c : Thread nD τ) arg16 _) $$ H16 with ⟨%f16, H16, %e16⟩
  have h3 : ∀ hin, View.readAt (Elt F) arg3.view (Rect.unit (s := S1024x128) ![0, 0] S1024x128.size hin).toLoadRect f3 = B.dy := fun hin =>
    (View.readAt_full arg3.view f3 _).trans e3
  have h4 : ∀ hin, View.readAt (Elt F) arg4.view (Rect.unit (s := S1024x128) ![0, 0] S1024x128.size hin).toLoadRect f4 = B.o := fun hin =>
    (View.readAt_full arg4.view f4 _).trans e4
  have h5 : ∀ hin, View.readAt (Elt F) arg5.view (Rect.unit (s := S1024x128) ![0, 0] S1024x128.size hin).toLoadRect f5 = B.z := fun hin =>
    (View.readAt_full arg5.view f5 _).trans e5
  have h7 : ∀ hin, View.readAt (Elt F) arg7.view (Rect.unit (s := S1x1024x128) ![0, 0, 0] S1x1024x1.size hin).toLoadRect f7 = lane0 B.l := fun hin =>
    (View.readAt_unit arg7.view f7 hin rfl inb_S1x1024x128_S1x1024x1_0_0_0).trans (by rw [e7]; rfl)
  rw [k0_part15_eq_skeleton]; unfold k0_part15_skel
  sl_exec_parts
  sl_step
  isplitr
  · ipureintro
    sl_unfold_run_names
    simp only [h3, h4, h5, h7]
    rfl
  isplitl [H3]
  · iapply (raw_owns (c : Thread nD τ) arg3 e3); iexact H3
  isplitl [H4]
  · iapply (raw_owns (c : Thread nD τ) arg4 e4); iexact H4
  isplitl [H5]
  · iapply (raw_owns (c : Thread nD τ) arg5 e5); iexact H5
  isplitl [H7]
  · iapply (raw_owns (c : Thread nD τ) arg7 e7); iexact H7
  isplitl [H13]
  · iapply (raw_owns (c : Thread nD τ) arg13 ?_) $$ H13
    sl_unfold_run_names
    rw [View.read_writes_full]
    rfl
  isplitl [H14]
  · iapply (raw_owns (c : Thread nD τ) arg14 ?_) $$ H14
    sl_unfold_run_names
    rw [View.read_writes_full]
    rfl
  isplitl [H15]
  · iapply (raw_owns (c : Thread nD τ) arg15 ?_) $$ H15
    sl_unfold_run_names
    rw [View.read_writes_full]
    rfl
  · iapply (raw_owns (c : Thread nD τ) arg16 ?_) $$ H16
    sl_unfold_run_names
    simp only [h3, h4, h5]
    rw [View.read_writes_full]
    rfl

set_option maxRecDepth 4096 in
/-- The body's first part at a later query block of a head: the accumulators are kept, the gradient of the gate is
    stored, and the gradient of the unnormalised output and its row products are returned. -/
theorem head_later (B : Blk F) (a : Acc F) (x16 : FVec F S1024x128 .bf16) (hi : (i 1).val ≠ 0) :
    (iprop(owns (c : Thread nD τ) arg3 fullShare B.dy ∗ owns (c : Thread nD τ) arg4 fullShare B.o ∗ owns (c : Thread nD τ) arg5 fullShare B.z ∗ owns (c : Thread nD τ) arg7 fullShare B.l ∗ owns (c : Thread nD τ) arg13 fullShare a.dk ∗ owns (c : Thread nD τ) arg14 fullShare a.dv ∗ owns (c : Thread nD τ) arg15 fullShare a.dc ∗ owns (c : Thread nD τ) arg16 fullShare x16) : sProp 𝕄) ⊢
      wp frame (wpE (defs₀ (F := F)) Variants.none (c : Thread nD τ) none) Set.univ
        (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun r => iprop(⌜r = ⟨BitVec.ofNat 32 (i 1).val, B.ctx.d, B.ctx.dl⟩⌝ ∗ owns (c : Thread nD τ) arg3 fullShare B.dy ∗ owns (c : Thread nD τ) arg4 fullShare B.o ∗ owns (c : Thread nD τ) arg5 fullShare B.z ∗ owns (c : Thread nD τ) arg7 fullShare B.l ∗ owns (c : Thread nD τ) arg13 fullShare a.dk ∗ owns (c : Thread nD τ) arg14 fullShare a.dv ∗ owns (c : Thread nD τ) arg15 fullShare a.dc ∗ owns (c : Thread nD τ) arg16 fullShare B.dz)) := by
  have hc := fun h => hi ((first_iff i).1 h)
  iintro ⟨H3, H4, H5, H7, H13, H14, H15, H16⟩
  icases (owns_read (c : Thread nD τ) arg3 _) $$ H3 with ⟨%f3, H3, %e3⟩
  icases (owns_read (c : Thread nD τ) arg4 _) $$ H4 with ⟨%f4, H4, %e4⟩
  icases (owns_read (c : Thread nD τ) arg5 _) $$ H5 with ⟨%f5, H5, %e5⟩
  icases (owns_read (c : Thread nD τ) arg7 _) $$ H7 with ⟨%f7, H7, %e7⟩
  icases (owns_read (c : Thread nD τ) arg13 _) $$ H13 with ⟨%f13, H13, %e13⟩
  icases (owns_read (c : Thread nD τ) arg14 _) $$ H14 with ⟨%f14, H14, %e14⟩
  icases (owns_read (c : Thread nD τ) arg15 _) $$ H15 with ⟨%f15, H15, %e15⟩
  icases (owns_read (c : Thread nD τ) arg16 _) $$ H16 with ⟨%f16, H16, %e16⟩
  have h3 : ∀ hin, View.readAt (Elt F) arg3.view (Rect.unit (s := S1024x128) ![0, 0] S1024x128.size hin).toLoadRect f3 = B.dy := fun hin =>
    (View.readAt_full arg3.view f3 _).trans e3
  have h4 : ∀ hin, View.readAt (Elt F) arg4.view (Rect.unit (s := S1024x128) ![0, 0] S1024x128.size hin).toLoadRect f4 = B.o := fun hin =>
    (View.readAt_full arg4.view f4 _).trans e4
  have h5 : ∀ hin, View.readAt (Elt F) arg5.view (Rect.unit (s := S1024x128) ![0, 0] S1024x128.size hin).toLoadRect f5 = B.z := fun hin =>
    (View.readAt_full arg5.view f5 _).trans e5
  have h7 : ∀ hin, View.readAt (Elt F) arg7.view (Rect.unit (s := S1x1024x128) ![0, 0, 0] S1x1024x1.size hin).toLoadRect f7 = lane0 B.l := fun hin =>
    (View.readAt_unit arg7.view f7 hin rfl inb_S1x1024x128_S1x1024x1_0_0_0).trans (by rw [e7]; rfl)
  rw [k0_part15_eq_skeleton]; unfold k0_part15_skel
  sl_exec_parts
  sl_step
  isplitr
  · ipureintro
    sl_unfold_run_names
    simp only [h3, h4, h5, h7]
    rfl
  isplitl [H3]
  · iapply (raw_owns (c : Thread nD τ) arg3 e3); iexact H3
  isplitl [H4]
  · iapply (raw_owns (c : Thread nD τ) arg4 e4); iexact H4
  isplitl [H5]
  · iapply (raw_owns (c : Thread nD τ) arg5 e5); iexact H5
  isplitl [H7]
  · iapply (raw_owns (c : Thread nD τ) arg7 e7); iexact H7
  isplitl [H13]
  · iapply (raw_owns (c : Thread nD τ) arg13 ?_) $$ H13
    sl_unfold_run_names
    rw [dif_neg hc]
    exact e13
  isplitl [H14]
  · iapply (raw_owns (c : Thread nD τ) arg14 ?_) $$ H14
    sl_unfold_run_names
    rw [dif_neg hc]
    exact e14
  isplitl [H15]
  · iapply (raw_owns (c : Thread nD τ) arg15 ?_) $$ H15
    sl_unfold_run_names
    rw [dif_neg hc]
    exact e15
  · iapply (raw_owns (c : Thread nD τ) arg16 ?_) $$ H16
    sl_unfold_run_names
    simp only [h3, h4, h5]
    rw [View.read_writes_full]
    rfl

end Cert.KernelIdeal.Attn
end
-- ==== Proof.Mid.lean ====
module

public import proofs.«01_k».proof.Proof.Head
public import proofs.«01_k».proof.Proof.Gen.KernelIdeal.Frame
public import proofs.«01_k».proof.Proof.Gen.KernelIdeal.Skeleton
public import Idealize.ShloMosaic.Lib.Tactic
public import Idealize.ShloMosaic.Lib.VecWindow
public import Idealize.ShloMosaic.Lib.LaneScatter.Fold
public import Idealize.ShloMosaic.Lib.LaneScatter.Own
public import Idealize.ShloMosaic.Lib.Updates.Own

@[expose] public section

noncomputable section

namespace Cert.KernelIdeal.Attn

open Cert.KernelIdeal Cert.KernelIdeal.Gen
open Idealize.ShloMosaic Idealize.ShloMosaic.TcCoe Idealize.ShloMosaic.Tactic Idealize.ShloMosaic.LaneScatter Idealize.ShloMosaic.Updates
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
variable (arg2 : Memref sig .tc .vmem S1024x128 .bf16) (harg2 : arg2.IsWhole) (arg3 : Memref sig .tc .vmem S1024x128 .bf16) (harg3 : arg3.IsWhole) (arg4 : Memref sig .tc .vmem S1024x128 .f32) (harg4 : arg4.IsWhole) (arg5 : Memref sig .tc .vmem S1024x128 .bf16) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S8192x128 .bf16) (harg8 : arg8.IsWhole) (arg9 : Memref sig .tc .vmem S128x8192 .bf16) (harg9 : arg9.IsWhole) (arg10 : Memref sig .tc .vmem S8192x128 .bf16) (harg10 : arg10.IsWhole) (arg11 : Memref sig .tc .vmem S1x8x1x1024 .f32) (harg11 : arg11.IsWhole) (arg12 : Memref sig .tc .vmem S1024x128 .f32) (harg12 : arg12.IsWhole) (arg13 : Memref sig .tc .vmem S128x8192 .f32) (harg13 : arg13.IsWhole) (arg14 : Memref sig .tc .vmem S128x8192 .f32) (harg14 : arg14.IsWhole) (arg15 : Memref sig .tc .vmem S1x8x1x1024 .f32) (harg15 : arg15.IsWhole) (arg16 : Memref sig .tc .vmem S1024x128 .bf16) (harg16 : arg16.IsWhole) (arg17 : Memref sig .tc .vmem S1024x256 .f32) (harg17 : arg17.IsWhole) (arg18 : Memref sig .tc .vmem S1024x256 .f32) (harg18 : arg18.IsWhole) (arg19 : Memref sig .tc .vmem S1024x256 .f32) (harg19 : arg19.IsWhole) (arg20 : Memref sig .tc .vmem S1024x256 .f32) (harg20 : arg20.IsWhole)

set_option maxRecDepth 4096 in
/-- The body's second part: the queries and the row maxima are read, and the first block's first chunk's scores and
    products are left in the scratch. -/
theorem part16 (B : Blk F) (arg1 : BitVec 32) (x17 x19 : FVec F S1024x256 .f32) :
    (iprop(owns (c : Thread nD τ) arg2 fullShare B.q ∗ owns (c : Thread nD τ) arg6 fullShare B.m ∗ owns (c : Thread nD τ) arg8 fullShare B.k ∗ owns (c : Thread nD τ) arg10 fullShare B.v ∗ owns (c : Thread nD τ) arg11 fullShare B.ck ∗ owns (c : Thread nD τ) arg17 fullShare x17 ∗ owns (c : Thread nD τ) arg19 fullShare x19) : sProp 𝕄) ⊢
      wp frame (wpE (defs₀ (F := F)) Variants.none (c : Thread nD τ) none) Set.univ
        (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 B.ctx.d)
        (fun r => iprop(⌜∃ v72, r = ⟨B.ctx.q, B.ctx.qt, B.ctx.dt, B.ctx.m, k0_pay99, 0#32, v72⟩⌝ ∗ owns (c : Thread nD τ) arg2 fullShare B.q ∗ owns (c : Thread nD τ) arg6 fullShare B.m ∗ owns (c : Thread nD τ) arg8 fullShare B.k ∗ owns (c : Thread nD τ) arg10 fullShare B.v ∗ owns (c : Thread nD τ) arg11 fullShare B.ck ∗ owns (c : Thread nD τ) arg17 fullShare (score B.ctx 0 0) ∗ owns (c : Thread nD τ) arg19 fullShare (dprod B.ctx 0 0))) := by
  iintro ⟨H2, H6, H8, H10, H11, H17, H19⟩
  icases (owns_read (c : Thread nD τ) arg2 _) $$ H2 with ⟨%f2, H2, %e2⟩
  icases (owns_read (c : Thread nD τ) arg6 _) $$ H6 with ⟨%f6, H6, %e6⟩
  icases (owns_read (c : Thread nD τ) arg8 _) $$ H8 with ⟨%f8, H8, %e8⟩
  icases (owns_read (c : Thread nD τ) arg10 _) $$ H10 with ⟨%f10, H10, %e10⟩
  icases (owns_read (c : Thread nD τ) arg11 _) $$ H11 with ⟨%f11, H11, %e11⟩
  icases (owns_read (c : Thread nD τ) arg17 _) $$ H17 with ⟨%f17, H17, %e17⟩
  icases (owns_read (c : Thread nD τ) arg19 _) $$ H19 with ⟨%f19, H19, %e19⟩
  have h2 : ∀ hin, View.readAt (Elt F) arg2.view (Rect.unit (s := S1024x128) ![0, 0] S1024x128.size hin).toLoadRect f2 = B.q := fun hin =>
    (View.readAt_full arg2.view f2 _).trans e2
  have h6 : ∀ hin, View.readAt (Elt F) arg6.view (Rect.unit (s := S1x1024x128) ![0, 0, 0] S1x1024x1.size hin).toLoadRect f6 = lane0 B.m := fun hin =>
    (View.readAt_unit arg6.view f6 hin rfl (inb_S1x1024x128_S1x1024x1_0_0_0)).trans (by rw [e6]; rfl)
  have h8 : ∀ hin, View.readAt (Elt F) arg8.view (Rect.unit (s := S8192x128) k0_off1 S256x128.size hin).toLoadRect f8 = rows B.k 0 0 := fun hin =>
    (View.readAt_unit arg8.view f8 hin off1 (rowOff_inb 0 0)).trans (by rw [e8]; rfl)
  have h10 : ∀ hin, View.readAt (Elt F) arg10.view (Rect.unit (s := S8192x128) k0_off1 S256x128.size hin).toLoadRect f10 = rows B.v 0 0 := fun hin =>
    (View.readAt_unit arg10.view f10 hin off1 (rowOff_inb 0 0)).trans (by rw [e10]; rfl)
  have h11 : ∀ hin, View.readAt (Elt F) arg11.view (Rect.unit (s := S1x8x1x1024) ![0, 0, 0, 0] S1x1x1x1024.size hin).toLoadRect f11 = bias B.ck 0 := fun hin =>
    (View.readAt_unit arg11.view f11 hin rfl (biasOff_inb 0)).trans (by rw [e11]; rfl)
  rw [k0_part16_eq_skeleton]; unfold k0_part16_skel
  sl_exec_parts
  sl_step
  isplitr
  · ipureintro
    sl_unfold_run_names
    try simp only [h2, h6]
    exact ⟨_, rfl⟩
  isplitl [H2]
  · iapply (raw_owns (c : Thread nD τ) arg2 e2); iexact H2
  isplitl [H6]
  · iapply (raw_owns (c : Thread nD τ) arg6 e6); iexact H6
  isplitl [H8]
  · iapply (raw_owns (c : Thread nD τ) arg8 e8); iexact H8
  isplitl [H10]
  · iapply (raw_owns (c : Thread nD τ) arg10 e10); iexact H10
  isplitl [H11]
  · iapply (raw_owns (c : Thread nD τ) arg11 e11); iexact H11
  isplitl [H17]
  · iapply (raw_owns (c : Thread nD τ) arg17 ?_) $$ H17
    sl_unfold_run_names
    simp only [h2, h6, h8, h10, h11]
    rw [View.read_writes_full]
    rfl
  · iapply (raw_owns (c : Thread nD τ) arg19 ?_) $$ H19
    sl_unfold_run_names
    simp only [h2, h6, h8, h10, h11]
    rw [View.read_writes_full]
    rfl

set_option maxRecDepth 4096 in
/-- The body's third part: the loop over the earlier blocks, then the second chunk of the point's own block. -/
theorem part17 (X : Ctx F) (a : Acc F) (ha : a.dq = k0_pay99) (b : Fin 8) (hb : (i 1).val = b.val) (arg1 : BitVec 32) (v72 : BitVec 32) :
    inv c arg8 arg9 arg10 arg11 arg13 arg14 arg15 arg17 arg18 arg19 arg20 X a 0 a.dq ⊢
      wp frame (wpE (defs₀ (F := F)) Variants.none (c : Thread nD τ) none) Set.univ
        (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 X.d X.dl X.q X.qt X.dt X.m k0_pay99 0#32 v72)
        (fun r => iprop(⌜r = ⟨(steps X a b.val).dq, wMask X b 0, k0_pay105 X.m (score X b 0)⟩⌝ ∗ owns (c : Thread nD τ) arg8 fullShare X.k ∗ owns (c : Thread nD τ) arg9 fullShare X.kt ∗ owns (c : Thread nD τ) arg10 fullShare X.v ∗ owns (c : Thread nD τ) arg11 fullShare X.ck ∗ owns (c : Thread nD τ) arg13 fullShare (steps X a b.val).dk ∗ owns (c : Thread nD τ) arg14 fullShare (steps X a b.val).dv ∗ owns (c : Thread nD τ) arg15 fullShare (steps X a b.val).dc ∗ owns (c : Thread nD τ) arg17 fullShare (score X b 0) ∗ owns (c : Thread nD τ) arg18 fullShare (score X b 1) ∗ owns (c : Thread nD τ) arg19 fullShare (dprod X b 0) ∗ owns (c : Thread nD τ) arg20 fullShare (dprod X b 1))) := by
  rw [k0_part17_eq_skeleton]; unfold k0_part17_skel
  iintro H
  rw [← ha]
  iapply (loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X a b hb arg1 a.dq v72) $$ H
  iintro %acc H
  rw [Scf.for_trips0_bind (k0_t2_loop i) _ (trips2 i)]
  unfold inv
  icases H with ⟨%j, %x18, %x20, %hj, H8, H9, H10, H11, H13, H14, H15, H17, H18, H19, H20⟩
  obtain ⟨hj, rfl⟩ := hj
  obtain rfl : j = b := Fin.ext hj
  icases (owns_read (c : Thread nD τ) arg8 _) $$ H8 with ⟨%f8, H8, %e8⟩
  icases (owns_read (c : Thread nD τ) arg9 _) $$ H9 with ⟨%f9, H9, %e9⟩
  icases (owns_read (c : Thread nD τ) arg10 _) $$ H10 with ⟨%f10, H10, %e10⟩
  icases (owns_read (c : Thread nD τ) arg11 _) $$ H11 with ⟨%f11, H11, %e11⟩
  icases (owns_read (c : Thread nD τ) arg13 _) $$ H13 with ⟨%f13, H13, %e13⟩
  icases (owns_read (c : Thread nD τ) arg14 _) $$ H14 with ⟨%f14, H14, %e14⟩
  icases (owns_read (c : Thread nD τ) arg15 _) $$ H15 with ⟨%f15, H15, %e15⟩
  icases (owns_read (c : Thread nD τ) arg17 _) $$ H17 with ⟨%f17, H17, %e17⟩
  icases (owns_read (c : Thread nD τ) arg18 _) $$ H18 with ⟨%f18, H18, %e18⟩
  icases (owns_read (c : Thread nD τ) arg19 _) $$ H19 with ⟨%f19, H19, %e19⟩
  icases (owns_read (c : Thread nD τ) arg20 _) $$ H20 with ⟨%f20, H20, %e20⟩
  have h8 : ∀ hin, View.readAt (Elt F) arg8.view (Rect.unit (s := S8192x128) (k0_off20 i 256#32) S256x128.size hin).toLoadRect f8 = rows X.k j 1 := fun hin =>
    (View.readAt_unit arg8.view f8 hin ((off20 i 0).trans (by rw [hb]; rfl)) (rowOff_inb j 1)).trans (by rw [e8]; rfl)
  have h10 : ∀ hin, View.readAt (Elt F) arg10.view (Rect.unit (s := S8192x128) (k0_off20 i 256#32) S256x128.size hin).toLoadRect f10 = rows X.v j 1 := fun hin =>
    (View.readAt_unit arg10.view f10 hin ((off20 i 0).trans (by rw [hb]; rfl)) (rowOff_inb j 1)).trans (by rw [e10]; rfl)
  have h11 : ∀ hin, View.readAt (Elt F) arg11.view (Rect.unit (s := S1x8x1x1024) (k0_off21 i) S1x1x1x1024.size hin).toLoadRect f11 = bias X.ck j := fun hin =>
    (View.readAt_unit arg11.view f11 hin ((off21 i).trans (by rw [hb])) (biasOff_inb j)).trans (by rw [e11]; rfl)
  have h17 : ∀ hin, View.readAt (Elt F) arg17.view (Rect.unit (s := S1024x256) ![0, 0] S1024x256.size hin).toLoadRect f17 = score X j 0 := fun hin =>
    (View.readAt_full arg17.view f17 _).trans e17
  sl_exec_parts
  sl_step
  isplitr
  · ipureintro
    sl_unfold_run_names
    try simp only [h17]
    rfl
  isplitl [H8]
  · iapply (raw_owns (c : Thread nD τ) arg8 e8); iexact H8
  isplitl [H9]
  · iapply (raw_owns (c : Thread nD τ) arg9 e9); iexact H9
  isplitl [H10]
  · iapply (raw_owns (c : Thread nD τ) arg10 e10); iexact H10
  isplitl [H11]
  · iapply (raw_owns (c : Thread nD τ) arg11 e11); iexact H11
  isplitl [H13]
  · iapply (raw_owns (c : Thread nD τ) arg13 e13); iexact H13
  isplitl [H14]
  · iapply (raw_owns (c : Thread nD τ) arg14 e14); iexact H14
  isplitl [H15]
  · iapply (raw_owns (c : Thread nD τ) arg15 e15); iexact H15
  isplitl [H17]
  · iapply (raw_owns (c : Thread nD τ) arg17 e17); iexact H17
  isplitl [H18]
  · iapply (raw_owns (c : Thread nD τ) arg18 ?_) $$ H18
    sl_unfold_run_names
    simp only [h8, h10, h11, score1', dprod103]
    rw [View.read_writes_full]
  isplitl [H19]
  · iapply (raw_owns (c : Thread nD τ) arg19 e19); iexact H19
  · iapply (raw_owns (c : Thread nD τ) arg20 ?_) $$ H20
    sl_unfold_run_names
    simp only [h8, h10, h11, score1', dprod103]
    rw [View.read_writes_full]

end Cert.KernelIdeal.Attn
end
-- ==== Proof.Tail.lean ====
module

public import proofs.«01_k».proof.Proof.Mid
public import proofs.«01_k».proof.Proof.Gen.KernelIdeal.Frame
public import proofs.«01_k».proof.Proof.Gen.KernelIdeal.Skeleton
public import Idealize.ShloMosaic.Lib.Tactic
public import Idealize.ShloMosaic.Lib.VecWindow
public import Idealize.ShloMosaic.Lib.LaneScatter.Fold
public import Idealize.ShloMosaic.Lib.LaneScatter.Own
public import Idealize.ShloMosaic.Lib.Updates.Own

@[expose] public section

noncomputable section

namespace Cert.KernelIdeal.Attn

open Cert.KernelIdeal Cert.KernelIdeal.Gen
open Idealize.ShloMosaic Idealize.ShloMosaic.TcCoe Idealize.ShloMosaic.Tactic Idealize.ShloMosaic.LaneScatter Idealize.ShloMosaic.Updates
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
variable (arg2 : Memref sig .tc .vmem S1024x128 .bf16) (harg2 : arg2.IsWhole) (arg3 : Memref sig .tc .vmem S1024x128 .bf16) (harg3 : arg3.IsWhole) (arg4 : Memref sig .tc .vmem S1024x128 .f32) (harg4 : arg4.IsWhole) (arg5 : Memref sig .tc .vmem S1024x128 .bf16) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S8192x128 .bf16) (harg8 : arg8.IsWhole) (arg9 : Memref sig .tc .vmem S128x8192 .bf16) (harg9 : arg9.IsWhole) (arg10 : Memref sig .tc .vmem S8192x128 .bf16) (harg10 : arg10.IsWhole) (arg11 : Memref sig .tc .vmem S1x8x1x1024 .f32) (harg11 : arg11.IsWhole) (arg12 : Memref sig .tc .vmem S1024x128 .f32) (harg12 : arg12.IsWhole) (arg13 : Memref sig .tc .vmem S128x8192 .f32) (harg13 : arg13.IsWhole) (arg14 : Memref sig .tc .vmem S128x8192 .f32) (harg14 : arg14.IsWhole) (arg15 : Memref sig .tc .vmem S1x8x1x1024 .f32) (harg15 : arg15.IsWhole) (arg16 : Memref sig .tc .vmem S1024x128 .bf16) (harg16 : arg16.IsWhole) (arg17 : Memref sig .tc .vmem S1024x256 .f32) (harg17 : arg17.IsWhole) (arg18 : Memref sig .tc .vmem S1024x256 .f32) (harg18 : arg18.IsWhole) (arg19 : Memref sig .tc .vmem S1024x256 .f32) (harg19 : arg19.IsWhole) (arg20 : Memref sig .tc .vmem S1024x256 .f32) (harg20 : arg20.IsWhole)

set_option maxRecDepth 65536 in
/-- The body after its third part: the point's own block, and the store of the queries' gradient. -/
def tailProg (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .f32) (harg4 : arg4.IsWhole) (arg5 : Memref sig .tc .vmem S1024x128 .bf16) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S8192x128 .bf16) (harg8 : arg8.IsWhole) (arg9 : Memref sig .tc .vmem S128x8192 .bf16) (harg9 : arg9.IsWhole) (arg10 : Memref sig .tc .vmem S8192x128 .bf16) (harg10 : arg10.IsWhole) (arg11 : Memref sig .tc .vmem S1x8x1x1024 .f32) (harg11 : arg11.IsWhole) (arg12 : Memref sig .tc .vmem S1024x128 .f32) (harg12 : arg12.IsWhole) (arg13 : Memref sig .tc .vmem S128x8192 .f32) (harg13 : arg13.IsWhole) (arg14 : Memref sig .tc .vmem S128x8192 .f32) (harg14 : arg14.IsWhole) (arg15 : Memref sig .tc .vmem S1x8x1x1024 .f32) (harg15 : arg15.IsWhole) (arg16 : Memref sig .tc .vmem S1024x128 .bf16) (harg16 : arg16.IsWhole) (arg17 : Memref sig .tc .vmem S1024x256 .f32) (harg17 : arg17.IsWhole) (arg18 : Memref sig .tc .vmem S1024x256 .f32) (harg18 : arg18.IsWhole) (arg19 : Memref sig .tc .vmem S1024x256 .f32) (harg19 : arg19.IsWhole) (arg20 : Memref sig .tc .vmem S1024x256 .f32) (harg20 : arg20.IsWhole) (arg1 : BitVec 32) (v22 : FVec F S1024x128 .bf16) (v36 : FVec F S1024x1 .f32)
    (v38 : FVec F S1024x128 .bf16) (v41 : FVec F S128x1024 .bf16) (v44 : FVec F S128x1024 .bf16) (v46 : FVec F S1024x1 .f32) (v74 : FVec F S128x1024 .f32) (v108 : FVec F S1024x256 .bf16) (v109 : FVec F S1024x256 .f32) :
    Prog (TpuEff nD τ sig (Elt F) Λ₀ .tc) PUnit := do
    let ⟨v114, v116, v141, v146⟩ : Σ' (v114 : FVec F S1024x256 .bf16) (v116 : FVec F S1x256 .f32) (v141 : BitVec 32), FVec F S128x256 .f32 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v22 v36 v38 v44 v108 v109
    let ⟨v168, v180, v186, v187⟩ : Σ' (v168 : FVec F S128x1024 .f32) (v180 : FVec F S1024x256 .bf16) (v186 : FVec F S1024x256 .bf16), FVec F S256 .f32 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v36 v41 v46 v74 v114 v116 v141 v146
    let ⟨v188, v213, v223, v224⟩ : Σ' (v188 : FVec F S1x256 .f32) (v213 : BitVec 32) (v223 : FVec F S128x256 .f32), FVec F S128x256 .f32 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v22 v38 v41 v44 v180 v186 v187
    let ⟨v240, v252, v258, v260, v263⟩ : Σ' (v240 : FVec F S128x1024 .f32) (v252 : FVec F S1024x256 .bf16) (v258 : FVec F S1024x256 .bf16) (v260 : FVec F S1x256 .f32), BitVec 32 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v36 v46 v168 v186 v188 v213 v223 v224
    let ⟨v290, v302, v303⟩ : Σ' (v290 : FVec F S128x1024 .f32) (v302 : FVec F S1024x256 .bf16), FVec F S1024x256 .f32 ← k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v41 v44 v46 v240 v252 v258 v260 v263
    let v341 : FVec F S1024x128 .f32 ← k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v36 v41 v44 v290 v302 v303
    let v342 : Vec F S1024x128 .f32 ← Prog.lift (.load arg12 (Rect.unit (s := S1024x128) ![0, 0] S1024x128.size inb_S1024x128_S1024x128_0_0).toLoadRect (View.loadsAt_vmem h_S1024x128))
    Prog.lift (.store arg12 (Rect.unit (s := S1024x128) ![0, 0] S1024x128.size inb_S1024x128_S1024x128_0_0) v341 Finset.univ (View.stores_vmem_bits_univ h_S1024x128 rfl) (.inl rfl))
    pure ⟨⟩

set_option maxHeartbeats 0 in
set_option maxRecDepth 4096 in
/-- From the state the loop and the second chunk leave, the rest of the body adds the point's own block to the
    accumulators and stores the queries' gradient. -/
theorem tail (B : Blk F) (a : Acc F) (b : Fin 8) (hb : (i 1).val = b.val) (x12 : FVec F S1024x128 .f32) :
    (iprop(owns (c : Thread nD τ) arg8 fullShare B.ctx.k ∗ owns (c : Thread nD τ) arg9 fullShare B.ctx.kt ∗ owns (c : Thread nD τ) arg10 fullShare B.ctx.v ∗ owns (c : Thread nD τ) arg11 fullShare B.ctx.ck ∗ owns (c : Thread nD τ) arg12 fullShare x12 ∗ owns (c : Thread nD τ) arg13 fullShare a.dk ∗ owns (c : Thread nD τ) arg14 fullShare a.dv ∗ owns (c : Thread nD τ) arg15 fullShare a.dc ∗ owns (c : Thread nD τ) arg17 fullShare (score B.ctx b 0) ∗ owns (c : Thread nD τ) arg18 fullShare (score B.ctx b 1) ∗ owns (c : Thread nD τ) arg19 fullShare (dprod B.ctx b 0) ∗ owns (c : Thread nD τ) arg20 fullShare (dprod B.ctx b 1)) : sProp 𝕄) ⊢
      wp frame (wpE (defs₀ (F := F)) Variants.none (c : Thread nD τ) none) Set.univ
        (tailProg (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 1).val) B.ctx.d B.ctx.dl B.ctx.q B.ctx.qt B.ctx.dt B.ctx.m a.dq (wMask B.ctx b 0) (k0_pay105 B.ctx.m (score B.ctx b 0)))
        (fun _ => iprop(owns (c : Thread nD τ) arg8 fullShare B.ctx.k ∗ owns (c : Thread nD τ) arg9 fullShare B.ctx.kt ∗ owns (c : Thread nD τ) arg10 fullShare B.ctx.v ∗ owns (c : Thread nD τ) arg11 fullShare B.ctx.ck ∗ owns (c : Thread nD τ) arg12 fullShare (transpose S1024x128 [1, 0] (step B.ctx wMask b a).dq transposes_S128x1024_p1_0_S1024x128) ∗ owns (c : Thread nD τ) arg13 fullShare (step B.ctx wMask b a).dk ∗ owns (c : Thread nD τ) arg14 fullShare (step B.ctx wMask b a).dv ∗ owns (c : Thread nD τ) arg15 fullShare (step B.ctx wMask b a).dc ∗ (∃ x, owns (c : Thread nD τ) arg17 fullShare x) ∗ (∃ x, owns (c : Thread nD τ) arg18 fullShare x) ∗ (∃ x, owns (c : Thread nD τ) arg19 fullShare x) ∗ (∃ x, owns (c : Thread nD τ) arg20 fullShare x))) := by
  iintro ⟨H8, H9, H10, H11, H12, H13, H14, H15, H17, H18, H19, H20⟩
  icases (owns_read (c : Thread nD τ) arg8 _) $$ H8 with ⟨%f8, H8, %e8⟩
  icases (owns_read (c : Thread nD τ) arg9 _) $$ H9 with ⟨%f9, H9, %e9⟩
  icases (owns_read (c : Thread nD τ) arg10 _) $$ H10 with ⟨%f10, H10, %e10⟩
  icases (owns_read (c : Thread nD τ) arg11 _) $$ H11 with ⟨%f11, H11, %e11⟩
  icases (owns_read (c : Thread nD τ) arg12 _) $$ H12 with ⟨%f12, H12, %e12⟩
  icases (owns_read (c : Thread nD τ) arg13 _) $$ H13 with ⟨%f13, H13, %e13⟩
  icases (owns_read (c : Thread nD τ) arg14 _) $$ H14 with ⟨%f14, H14, %e14⟩
  icases (owns_read (c : Thread nD τ) arg15 _) $$ H15 with ⟨%f15, H15, %e15⟩
  icases (owns_read (c : Thread nD τ) arg17 _) $$ H17 with ⟨%f17, H17, %e17⟩
  icases (owns_read (c : Thread nD τ) arg18 _) $$ H18 with ⟨%f18, H18, %e18⟩
  icases (owns_read (c : Thread nD τ) arg19 _) $$ H19 with ⟨%f19, H19, %e19⟩
  icases (owns_read (c : Thread nD τ) arg20 _) $$ H20 with ⟨%f20, H20, %e20⟩
  have h8_2 : ∀ hin, View.readAt (Elt F) arg8.view (Rect.unit (s := S8192x128) (k0_off20 i 512#32) S256x128.size hin).toLoadRect f8 = rows B.ctx.k b 2 := fun hin =>
    (View.readAt_unit arg8.view f8 hin ((off20 i 1).trans (by rw [hb]; rfl)) (rowOff_inb b 2)).trans (by rw [e8]; rfl)
  have h10_2 : ∀ hin, View.readAt (Elt F) arg10.view (Rect.unit (s := S8192x128) (k0_off20 i 512#32) S256x128.size hin).toLoadRect f10 = rows B.ctx.v b 2 := fun hin =>
    (View.readAt_unit arg10.view f10 hin ((off20 i 1).trans (by rw [hb]; rfl)) (rowOff_inb b 2)).trans (by rw [e10]; rfl)
  have h8_3 : ∀ hin, View.readAt (Elt F) arg8.view (Rect.unit (s := S8192x128) (k0_off20 i 768#32) S256x128.size hin).toLoadRect f8 = rows B.ctx.k b 3 := fun hin =>
    (View.readAt_unit arg8.view f8 hin ((off20 i 2).trans (by rw [hb]; rfl)) (rowOff_inb b 3)).trans (by rw [e8]; rfl)
  have h10_3 : ∀ hin, View.readAt (Elt F) arg10.view (Rect.unit (s := S8192x128) (k0_off20 i 768#32) S256x128.size hin).toLoadRect f10 = rows B.ctx.v b 3 := fun hin =>
    (View.readAt_unit arg10.view f10 hin ((off20 i 2).trans (by rw [hb]; rfl)) (rowOff_inb b 3)).trans (by rw [e10]; rfl)
  have h11 : ∀ hin, View.readAt (Elt F) arg11.view (Rect.unit (s := S1x8x1x1024) (k0_off21 i) S1x1x1x1024.size hin).toLoadRect f11 = bias B.ctx.ck b := fun hin =>
    (View.readAt_unit arg11.view f11 hin ((off21 i).trans (by rw [hb])) (biasOff_inb b)).trans (by rw [e11]; rfl)
  have h9_0 : ∀ hin, View.readAt (Elt F) arg9.view (Rect.unit (s := S128x8192) (k0_off22 i 0#32) S128x256.size hin).toLoadRect f9 = cols B.ctx.kt b 0 := fun hin =>
    (View.readAt_unit arg9.view f9 hin ((off22 i 0).trans (by rw [hb])) (colOff_inb b 0)).trans (by rw [e9]; rfl)
  have h13_0 : ∀ hin, View.readAt (Elt F) arg13.view (Rect.unit (s := S128x8192) (k0_off22 i 0#32) S128x256.size hin).toLoadRect f13 = cols a.dk b 0 := fun hin =>
    (View.readAt_unit arg13.view f13 hin ((off22 i 0).trans (by rw [hb])) (colOff_inb b 0)).trans (by rw [e13]; rfl)
  have h14_0 : ∀ hin, View.readAt (Elt F) arg14.view (Rect.unit (s := S128x8192) (k0_off22 i 0#32) S128x256.size hin).toLoadRect f14 = cols a.dv b 0 := fun hin =>
    (View.readAt_unit arg14.view f14 hin ((off22 i 0).trans (by rw [hb])) (colOff_inb b 0)).trans (by rw [e14]; rfl)
  have h15_0 : ∀ hin, View.readAt (Elt F) arg15.view (Rect.unit (s := S1x8x1x1024) (k0_off23 i) S1x1x1x256.size hin).toLoadRect f15 = dcAt a.dc b 0 := fun hin =>
    (View.readAt_unit arg15.view f15 hin ((off23 i).trans (by rw [hb]; rfl)) (dcOff_inb b 0)).trans (by rw [e15]; rfl)
  have h9_1 : ∀ hin, View.readAt (Elt F) arg9.view (Rect.unit (s := S128x8192) (k0_off22 i 256#32) S128x256.size hin).toLoadRect f9 = cols B.ctx.kt b 1 := fun hin =>
    (View.readAt_unit arg9.view f9 hin ((off22 i 1).trans (by rw [hb])) (colOff_inb b 1)).trans (by rw [e9]; rfl)
  have h13_1 : ∀ hin, View.readAt (Elt F) arg13.view (Rect.unit (s := S128x8192) (k0_off22 i 256#32) S128x256.size hin).toLoadRect f13 = cols a.dk b 1 := fun hin =>
    (View.readAt_unit arg13.view f13 hin ((off22 i 1).trans (by rw [hb])) (colOff_inb b 1)).trans (by rw [e13]; rfl)
  have h14_1 : ∀ hin, View.readAt (Elt F) arg14.view (Rect.unit (s := S128x8192) (k0_off22 i 256#32) S128x256.size hin).toLoadRect f14 = cols a.dv b 1 := fun hin =>
    (View.readAt_unit arg14.view f14 hin ((off22 i 1).trans (by rw [hb])) (colOff_inb b 1)).trans (by rw [e14]; rfl)
  have h15_1 : ∀ hin, View.readAt (Elt F) arg15.view (Rect.unit (s := S1x8x1x1024) (k0_off24 i) S1x1x1x256.size hin).toLoadRect f15 = dcAt a.dc b 1 := fun hin =>
    (View.readAt_unit arg15.view f15 hin ((off24 i).trans (by rw [hb]; rfl)) (dcOff_inb b 1)).trans (by rw [e15]; rfl)
  have h9_2 : ∀ hin, View.readAt (Elt F) arg9.view (Rect.unit (s := S128x8192) (k0_off22 i 512#32) S128x256.size hin).toLoadRect f9 = cols B.ctx.kt b 2 := fun hin =>
    (View.readAt_unit arg9.view f9 hin ((off22 i 2).trans (by rw [hb])) (colOff_inb b 2)).trans (by rw [e9]; rfl)
  have h13_2 : ∀ hin, View.readAt (Elt F) arg13.view (Rect.unit (s := S128x8192) (k0_off22 i 512#32) S128x256.size hin).toLoadRect f13 = cols a.dk b 2 := fun hin =>
    (View.readAt_unit arg13.view f13 hin ((off22 i 2).trans (by rw [hb])) (colOff_inb b 2)).trans (by rw [e13]; rfl)
  have h14_2 : ∀ hin, View.readAt (Elt F) arg14.view (Rect.unit (s := S128x8192) (k0_off22 i 512#32) S128x256.size hin).toLoadRect f14 = cols a.dv b 2 := fun hin =>
    (View.readAt_unit arg14.view f14 hin ((off22 i 2).trans (by rw [hb])) (colOff_inb b 2)).trans (by rw [e14]; rfl)
  have h15_2 : ∀ hin, View.readAt (Elt F) arg15.view (Rect.unit (s := S1x8x1x1024) (k0_off25 i) S1x1x1x256.size hin).toLoadRect f15 = dcAt a.dc b 2 := fun hin =>
    (View.readAt_unit arg15.view f15 hin ((off25 i).trans (by rw [hb]; rfl)) (dcOff_inb b 2)).trans (by rw [e15]; rfl)
  have h9_3 : ∀ hin, View.readAt (Elt F) arg9.view (Rect.unit (s := S128x8192) (k0_off22 i 768#32) S128x256.size hin).toLoadRect f9 = cols B.ctx.kt b 3 := fun hin =>
    (View.readAt_unit arg9.view f9 hin ((off22 i 3).trans (by rw [hb])) (colOff_inb b 3)).trans (by rw [e9]; rfl)
  have h13_3 : ∀ hin, View.readAt (Elt F) arg13.view (Rect.unit (s := S128x8192) (k0_off22 i 768#32) S128x256.size hin).toLoadRect f13 = cols a.dk b 3 := fun hin =>
    (View.readAt_unit arg13.view f13 hin ((off22 i 3).trans (by rw [hb])) (colOff_inb b 3)).trans (by rw [e13]; rfl)
  have h14_3 : ∀ hin, View.readAt (Elt F) arg14.view (Rect.unit (s := S128x8192) (k0_off22 i 768#32) S128x256.size hin).toLoadRect f14 = cols a.dv b 3 := fun hin =>
    (View.readAt_unit arg14.view f14 hin ((off22 i 3).trans (by rw [hb])) (colOff_inb b 3)).trans (by rw [e14]; rfl)
  have h15_3 : ∀ hin, View.readAt (Elt F) arg15.view (Rect.unit (s := S1x8x1x1024) (k0_off26 i) S1x1x1x256.size hin).toLoadRect f15 = dcAt a.dc b 3 := fun hin =>
    (View.readAt_unit arg15.view f15 hin ((off26 i).trans (by rw [hb]; rfl)) (dcOff_inb b 3)).trans (by rw [e15]; rfl)
  have h17 : ∀ hin, View.readAt (Elt F) arg17.view (Rect.unit (s := S1024x256) ![0, 0] S1024x256.size hin).toLoadRect f17 = score B.ctx b 0 := fun hin =>
    (View.readAt_full arg17.view f17 _).trans e17
  have h18 : ∀ hin, View.readAt (Elt F) arg18.view (Rect.unit (s := S1024x256) ![0, 0] S1024x256.size hin).toLoadRect f18 = score B.ctx b 1 := fun hin =>
    (View.readAt_full arg18.view f18 _).trans e18
  have h19 : ∀ hin, View.readAt (Elt F) arg19.view (Rect.unit (s := S1024x256) ![0, 0] S1024x256.size hin).toLoadRect f19 = dprod B.ctx b 0 := fun hin =>
    (View.readAt_full arg19.view f19 _).trans e19
  have h20 : ∀ hin, View.readAt (Elt F) arg20.view (Rect.unit (s := S1024x256) ![0, 0] S1024x256.size hin).toLoadRect f20 = dprod B.ctx b 1 := fun hin =>
    (View.readAt_full arg20.view f20 _).trans e20
  unfold tailProg
  sl_exec_parts
  sl_step
  isplitl [H8]
  · iapply (raw_owns (c : Thread nD τ) arg8 e8); iexact H8
  isplitl [H9]
  · iapply (raw_owns (c : Thread nD τ) arg9 e9); iexact H9
  isplitl [H10]
  · iapply (raw_owns (c : Thread nD τ) arg10 e10); iexact H10
  isplitl [H11]
  · iapply (raw_owns (c : Thread nD τ) arg11 e11); iexact H11
  isplitl [H12]
  · iapply (raw_owns (c : Thread nD τ) arg12 ?_) $$ H12
    sl_unfold_run_names
    simp only [readCov_whole (Val := Elt F) arg17.view (size := ![1024, 256]) rfl, readCov_whole (Val := Elt F) arg18.view (size := ![1024, 256]) rfl, readCov_whole (Val := Elt F) arg19.view (size := ![1024, 256]) rfl, readCov_whole (Val := Elt F) arg20.view (size := ![1024, 256]) rfl, h8_2, h10_2, h8_3, h10_3, h11, h9_0, h13_0, h14_0, h15_0, h9_1, h13_1, h14_1, h15_1, h9_2, h13_2, h14_2, h15_2, h9_3, h13_3, h14_3, h15_3, h17, h18, h19, h20,
      score1, score2, score0, score1', score2', score3', score3, dprod2, dprod8, dprod19, dprod103, dprod110, dprod121, dprod30, full3, full13, full24, full35, ds5, ds15, ds26, sum6, sum16, sum27, ds38, add40, sub41, add10, add20, add21, add31, add32, add39, add111, add112, add122, add132, add133, add140, add125, sub22, sub33, sub113, sub126, sub134, q23, q34, q100, q101, q114, q127, q135, mask104, mask115, mask128, mask136, ds107, sum108, ds117, ds130, sum119, sum131, add141, sub142, q143]
    rw [View.read_writes_full]
    rfl
  isplitl [H13]
  · iapply (raw_owns (c : Thread nD τ) arg13 ?_) $$ H13
    sl_unfold_run_names
    simp only [readCov_whole (Val := Elt F) arg17.view (size := ![1024, 256]) rfl, readCov_whole (Val := Elt F) arg18.view (size := ![1024, 256]) rfl, readCov_whole (Val := Elt F) arg19.view (size := ![1024, 256]) rfl, readCov_whole (Val := Elt F) arg20.view (size := ![1024, 256]) rfl, h8_2, h10_2, h8_3, h10_3, h11, h9_0, h13_0, h14_0, h15_0, h9_1, h13_1, h14_1, h15_1, h9_2, h13_2, h14_2, h15_2, h9_3, h13_3, h14_3, h15_3, h17, h18, h19, h20,
      score1, score2, score0, score1', score2', score3', score3, dprod2, dprod8, dprod19, dprod103, dprod110, dprod121, dprod30, full3, full13, full24, full35, ds5, ds15, ds26, sum6, sum16, sum27, ds38, add40, sub41, add10, add20, add21, add31, add32, add39, add111, add112, add122, add132, add133, add140, add125, sub22, sub33, sub113, sub126, sub134, q23, q34, q100, q101, q114, q127, q135, mask104, mask115, mask128, mask136, ds107, sum108, ds117, ds130, sum119, sum131, add141, sub142, q143]
    rw [View.read_writes_cons_put arg13.view _ _ _ _ (show k0_off22 i 768#32 = colOff b.val 3 from (off22 i 3).trans (by rw [hb]; rfl)), View.read_writes_cons_put arg13.view _ _ _ _ (show k0_off22 i 512#32 = colOff b.val 2 from (off22 i 2).trans (by rw [hb]; rfl)), View.read_writes_cons_put arg13.view _ _ _ _ (show k0_off22 i 256#32 = colOff b.val 1 from (off22 i 1).trans (by rw [hb]; rfl)), View.read_writes_cons_put arg13.view _ _ _ _ (show k0_off22 i 0#32 = colOff b.val 0 from (off22 i 0).trans (by rw [hb]; rfl)), View.writes_nil, e13]
    rfl
  isplitl [H14]
  · iapply (raw_owns (c : Thread nD τ) arg14 ?_) $$ H14
    sl_unfold_run_names
    simp only [readCov_whole (Val := Elt F) arg17.view (size := ![1024, 256]) rfl, readCov_whole (Val := Elt F) arg18.view (size := ![1024, 256]) rfl, readCov_whole (Val := Elt F) arg19.view (size := ![1024, 256]) rfl, readCov_whole (Val := Elt F) arg20.view (size := ![1024, 256]) rfl, h8_2, h10_2, h8_3, h10_3, h11, h9_0, h13_0, h14_0, h15_0, h9_1, h13_1, h14_1, h15_1, h9_2, h13_2, h14_2, h15_2, h9_3, h13_3, h14_3, h15_3, h17, h18, h19, h20,
      score1, score2, score0, score1', score2', score3', score3, dprod2, dprod8, dprod19, dprod103, dprod110, dprod121, dprod30, full3, full13, full24, full35, ds5, ds15, ds26, sum6, sum16, sum27, ds38, add40, sub41, add10, add20, add21, add31, add32, add39, add111, add112, add122, add132, add133, add140, add125, sub22, sub33, sub113, sub126, sub134, q23, q34, q100, q101, q114, q127, q135, mask104, mask115, mask128, mask136, ds107, sum108, ds117, ds130, sum119, sum131, add141, sub142, q143]
    rw [View.read_writes_cons_put arg14.view _ _ _ _ (show k0_off22 i 768#32 = colOff b.val 3 from (off22 i 3).trans (by rw [hb]; rfl)), View.read_writes_cons_put arg14.view _ _ _ _ (show k0_off22 i 512#32 = colOff b.val 2 from (off22 i 2).trans (by rw [hb]; rfl)), View.read_writes_cons_put arg14.view _ _ _ _ (show k0_off22 i 256#32 = colOff b.val 1 from (off22 i 1).trans (by rw [hb]; rfl)), View.read_writes_cons_put arg14.view _ _ _ _ (show k0_off22 i 0#32 = colOff b.val 0 from (off22 i 0).trans (by rw [hb]; rfl)), View.writes_nil, e14]
    rfl
  isplitl [H15]
  · iapply (raw_owns (c : Thread nD τ) arg15 ?_) $$ H15
    sl_unfold_run_names
    simp only [readCov_whole (Val := Elt F) arg17.view (size := ![1024, 256]) rfl, readCov_whole (Val := Elt F) arg18.view (size := ![1024, 256]) rfl, readCov_whole (Val := Elt F) arg19.view (size := ![1024, 256]) rfl, readCov_whole (Val := Elt F) arg20.view (size := ![1024, 256]) rfl, h8_2, h10_2, h8_3, h10_3, h11, h9_0, h13_0, h14_0, h15_0, h9_1, h13_1, h14_1, h15_1, h9_2, h13_2, h14_2, h15_2, h9_3, h13_3, h14_3, h15_3, h17, h18, h19, h20,
      score1, score2, score0, score1', score2', score3', score3, dprod2, dprod8, dprod19, dprod103, dprod110, dprod121, dprod30, full3, full13, full24, full35, ds5, ds15, ds26, sum6, sum16, sum27, ds38, add40, sub41, add10, add20, add21, add31, add32, add39, add111, add112, add122, add132, add133, add140, add125, sub22, sub33, sub113, sub126, sub134, q23, q34, q100, q101, q114, q127, q135, mask104, mask115, mask128, mask136, ds107, sum108, ds117, ds130, sum119, sum131, add141, sub142, q143]
    rw [View.read_writes_cons_put arg15.view _ _ _ _ (show k0_off26 i = dcOff b.val 3 from (off26 i).trans (by rw [hb])), View.read_writes_cons_put arg15.view _ _ _ _ (show k0_off25 i = dcOff b.val 2 from (off25 i).trans (by rw [hb])), View.read_writes_cons_put arg15.view _ _ _ _ (show k0_off24 i = dcOff b.val 1 from (off24 i).trans (by rw [hb])), View.read_writes_cons_put arg15.view _ _ _ _ (show k0_off23 i = dcOff b.val 0 from (off23 i).trans (by rw [hb])), View.writes_nil, e15]
    rfl
  isplitl [H17]
  · iexists _; iapply (raw_owns (c : Thread nD τ) arg17 rfl); iexact H17
  isplitl [H18]
  · iexists _; iapply (raw_owns (c : Thread nD τ) arg18 rfl); iexact H18
  isplitl [H19]
  · iexists _; iapply (raw_owns (c : Thread nD τ) arg19 rfl); iexact H19
  · iexists _; iapply (raw_owns (c : Thread nD τ) arg20 rfl); iexact H20

end Cert.KernelIdeal.Attn
end
-- ==== Proof.Body.lean ====
module

public import proofs.«01_k».proof.Proof.Tail
public import proofs.«01_k».proof.Proof.Gen.KernelIdeal.Frame
public import proofs.«01_k».proof.Proof.Gen.KernelIdeal.Skeleton
public import Idealize.ShloMosaic.Lib.Tactic
public import Idealize.ShloMosaic.Lib.VecWindow
public import Idealize.ShloMosaic.Lib.LaneScatter.Fold
public import Idealize.ShloMosaic.Lib.LaneScatter.Own
public import Idealize.ShloMosaic.Lib.Updates.Own

@[expose] public section

noncomputable section

namespace Cert.KernelIdeal.Attn

open Cert.KernelIdeal Cert.KernelIdeal.Gen
open Idealize.ShloMosaic Idealize.ShloMosaic.TcCoe Idealize.ShloMosaic.Tactic Idealize.ShloMosaic.LaneScatter Idealize.ShloMosaic.Updates
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
variable (arg2 : Memref sig .tc .vmem S1024x128 .bf16) (harg2 : arg2.IsWhole) (arg3 : Memref sig .tc .vmem S1024x128 .bf16) (harg3 : arg3.IsWhole) (arg4 : Memref sig .tc .vmem S1024x128 .f32) (harg4 : arg4.IsWhole) (arg5 : Memref sig .tc .vmem S1024x128 .bf16) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S8192x128 .bf16) (harg8 : arg8.IsWhole) (arg9 : Memref sig .tc .vmem S128x8192 .bf16) (harg9 : arg9.IsWhole) (arg10 : Memref sig .tc .vmem S8192x128 .bf16) (harg10 : arg10.IsWhole) (arg11 : Memref sig .tc .vmem S1x8x1x1024 .f32) (harg11 : arg11.IsWhole) (arg12 : Memref sig .tc .vmem S1024x128 .f32) (harg12 : arg12.IsWhole) (arg13 : Memref sig .tc .vmem S128x8192 .f32) (harg13 : arg13.IsWhole) (arg14 : Memref sig .tc .vmem S128x8192 .f32) (harg14 : arg14.IsWhole) (arg15 : Memref sig .tc .vmem S1x8x1x1024 .f32) (harg15 : arg15.IsWhole) (arg16 : Memref sig .tc .vmem S1024x128 .bf16) (harg16 : arg16.IsWhole) (arg17 : Memref sig .tc .vmem S1024x256 .f32) (harg17 : arg17.IsWhole) (arg18 : Memref sig .tc .vmem S1024x256 .f32) (harg18 : arg18.IsWhole) (arg19 : Memref sig .tc .vmem S1024x256 .f32) (harg19 : arg19.IsWhole) (arg20 : Memref sig .tc .vmem S1024x256 .f32) (harg20 : arg20.IsWhole)

set_option maxRecDepth 4096 in
/-- The body, from what its first part leaves of the accumulators. -/
theorem body_of (B : Blk F) (a a₀ : Acc F) (h₀ : a₀.dq = k0_pay99) (b : Fin 8) (hb : (i 1).val = b.val)
    (x12 : FVec F S1024x128 .f32) (x16 : FVec F S1024x128 .bf16) (x17 x18 x19 x20 : FVec F S1024x256 .f32)
    (hd : (iprop(owns (c : Thread nD τ) arg3 fullShare B.dy ∗ owns (c : Thread nD τ) arg4 fullShare B.o ∗ owns (c : Thread nD τ) arg5 fullShare B.z ∗ owns (c : Thread nD τ) arg7 fullShare B.l ∗ owns (c : Thread nD τ) arg13 fullShare a.dk ∗ owns (c : Thread nD τ) arg14 fullShare a.dv ∗ owns (c : Thread nD τ) arg15 fullShare a.dc ∗ owns (c : Thread nD τ) arg16 fullShare x16) : sProp 𝕄) ⊢
      wp frame (wpE (defs₀ (F := F)) Variants.none (c : Thread nD τ) none) Set.univ
        (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun r => iprop(⌜r = ⟨BitVec.ofNat 32 (i 1).val, B.ctx.d, B.ctx.dl⟩⌝ ∗ owns (c : Thread nD τ) arg3 fullShare B.dy ∗ owns (c : Thread nD τ) arg4 fullShare B.o ∗ owns (c : Thread nD τ) arg5 fullShare B.z ∗ owns (c : Thread nD τ) arg7 fullShare B.l ∗ owns (c : Thread nD τ) arg13 fullShare a₀.dk ∗ owns (c : Thread nD τ) arg14 fullShare a₀.dv ∗ owns (c : Thread nD τ) arg15 fullShare a₀.dc ∗ owns (c : Thread nD τ) arg16 fullShare B.dz))) :
    (iprop(owns (c : Thread nD τ) arg2 fullShare B.q ∗ owns (c : Thread nD τ) arg3 fullShare B.dy ∗ owns (c : Thread nD τ) arg4 fullShare B.o ∗ owns (c : Thread nD τ) arg5 fullShare B.z ∗ owns (c : Thread nD τ) arg6 fullShare B.m ∗ owns (c : Thread nD τ) arg7 fullShare B.l ∗ owns (c : Thread nD τ) arg8 fullShare B.k ∗ owns (c : Thread nD τ) arg9 fullShare B.kt ∗ owns (c : Thread nD τ) arg10 fullShare B.v ∗ owns (c : Thread nD τ) arg11 fullShare B.ck ∗ owns (c : Thread nD τ) arg12 fullShare x12 ∗ owns (c : Thread nD τ) arg13 fullShare a.dk ∗ owns (c : Thread nD τ) arg14 fullShare a.dv ∗ owns (c : Thread nD τ) arg15 fullShare a.dc ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20) : sProp 𝕄) ⊢
      wp frame (wpE (defs₀ (F := F)) Variants.none (c : Thread nD τ) none) Set.univ
        (cc0_b_attention_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun _ => iprop(owns (c : Thread nD τ) arg2 fullShare B.q ∗ owns (c : Thread nD τ) arg3 fullShare B.dy ∗ owns (c : Thread nD τ) arg4 fullShare B.o ∗ owns (c : Thread nD τ) arg5 fullShare B.z ∗ owns (c : Thread nD τ) arg6 fullShare B.m ∗ owns (c : Thread nD τ) arg7 fullShare B.l ∗ owns (c : Thread nD τ) arg8 fullShare B.k ∗ owns (c : Thread nD τ) arg9 fullShare B.kt ∗ owns (c : Thread nD τ) arg10 fullShare B.v ∗ owns (c : Thread nD τ) arg11 fullShare B.ck ∗ owns (c : Thread nD τ) arg12 fullShare (transpose S1024x128 [1, 0] (point B.ctx a₀ b).dq transposes_S128x1024_p1_0_S1024x128) ∗ owns (c : Thread nD τ) arg13 fullShare (point B.ctx a₀ b).dk ∗ owns (c : Thread nD τ) arg14 fullShare (point B.ctx a₀ b).dv ∗ owns (c : Thread nD τ) arg15 fullShare (point B.ctx a₀ b).dc ∗ owns (c : Thread nD τ) arg16 fullShare B.dz ∗ (∃ x, owns (c : Thread nD τ) arg17 fullShare x) ∗ (∃ x, owns (c : Thread nD τ) arg18 fullShare x) ∗ (∃ x, owns (c : Thread nD τ) arg19 fullShare x) ∗ (∃ x, owns (c : Thread nD τ) arg20 fullShare x))) := by
  rw [cc0_b_attention_bwd_eq_skeleton]; unfold cc0_b_attention_bwd_skel
  iintro ⟨H2, H3, H4, H5, H6, H7, H8, H9, H10, H11, H12, H13, H14, H15, H16, H17, H18, H19, H20⟩
  rw [wp_bind]
  iapply (wp_wand_r frame (wpE (defs₀ (F := F)) Variants.none (c : Thread nD τ) none) Set.univ)
  isplitl [H3 H4 H5 H7 H13 H14 H15 H16]
  · iapply hd
    isplitl [H3]; · iexact H3
    isplitl [H4]; · iexact H4
    isplitl [H5]; · iexact H5
    isplitl [H7]; · iexact H7
    isplitl [H13]; · iexact H13
    isplitl [H14]; · iexact H14
    isplitl [H15]; · iexact H15
    iexact H16
  iintro %r ⟨%hr, H3, H4, H5, H7, H13, H14, H15, H16⟩
  subst hr
  dsimp only
  rw [wp_bind]
  iapply (wp_wand_r frame (wpE (defs₀ (F := F)) Variants.none (c : Thread nD τ) none) Set.univ)
  isplitl [H2 H6 H8 H10 H11 H17 H19]
  · iapply (part16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 B (BitVec.ofNat 32 (i 1).val) x17 x19)
    isplitl [H2]; · iexact H2
    isplitl [H6]; · iexact H6
    isplitl [H8]; · iexact H8
    isplitl [H10]; · iexact H10
    isplitl [H11]; · iexact H11
    isplitl [H17]; · iexact H17
    iexact H19
  iintro %r ⟨%hr, H2, H6, H8, H10, H11, H17, H19⟩
  obtain ⟨v72, rfl⟩ := hr
  dsimp only
  rw [wp_bind]
  iapply (wp_wand_r frame (wpE (defs₀ (F := F)) Variants.none (c : Thread nD τ) none) Set.univ)
  isplitl [H8 H9 H10 H11 H13 H14 H15 H17 H18 H19 H20]
  · iapply (part17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 B.ctx a₀ h₀ b hb (BitVec.ofNat 32 (i 1).val) v72)
    unfold inv
    iexists (0 : Fin 8)
    iexists x18
    iexists x20
    isplitr
    · ipureintro; exact ⟨rfl, rfl⟩
    isplitl [H8]; · iexact H8
    isplitl [H9]; · iexact H9
    isplitl [H10]; · iexact H10
    isplitl [H11]; · iexact H11
    isplitl [H13]; · iexact H13
    isplitl [H14]; · iexact H14
    isplitl [H15]; · iexact H15
    isplitl [H17]; · iexact H17
    isplitl [H18]; · iexact H18
    isplitl [H19]; · iexact H19
    iexact H20
  iintro %r ⟨%hr, H8, H9, H10, H11, H13, H14, H15, H17, H18, H19, H20⟩
  subst hr
  dsimp only
  iapply (wp_wand_r frame (wpE (defs₀ (F := F)) Variants.none (c : Thread nD τ) none) Set.univ)
  isplitl [H8 H9 H10 H11 H12 H13 H14 H15 H17 H18 H19 H20]
  · iapply (tail c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 B (steps B.ctx a₀ b.val) b hb x12)
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H17]; · iexact H17
    isplitl [H18]; · iexact H18
    isplitl [H19]; · iexact H19
    iexact H20
  iintro %r ⟨H8, H9, H10, H11, H12, H13, H14, H15, H17, H18, H19, H20⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The accumulators a point starts from: cleared at the first query block of a head, else what the block before left;
    the queries' gradient is always started anew. -/
def start (b : Fin 8) (a : Acc F) : Acc F := if b.val = 0 then zero else { a with dq := k0_pay99 }

/-- The body at a grid point: the four accumulators as `point` says, the gradient of the gate, and the rest as it was. -/
theorem body (B : Blk F) (a : Acc F) (b : Fin 8) (hb : (i 1).val = b.val)
    (x12 : FVec F S1024x128 .f32) (x16 : FVec F S1024x128 .bf16) (x17 x18 x19 x20 : FVec F S1024x256 .f32) :
    (iprop(owns (c : Thread nD τ) arg2 fullShare B.q ∗ owns (c : Thread nD τ) arg3 fullShare B.dy ∗ owns (c : Thread nD τ) arg4 fullShare B.o ∗ owns (c : Thread nD τ) arg5 fullShare B.z ∗ owns (c : Thread nD τ) arg6 fullShare B.m ∗ owns (c : Thread nD τ) arg7 fullShare B.l ∗ owns (c : Thread nD τ) arg8 fullShare B.k ∗ owns (c : Thread nD τ) arg9 fullShare B.kt ∗ owns (c : Thread nD τ) arg10 fullShare B.v ∗ owns (c : Thread nD τ) arg11 fullShare B.ck ∗ owns (c : Thread nD τ) arg12 fullShare x12 ∗ owns (c : Thread nD τ) arg13 fullShare a.dk ∗ owns (c : Thread nD τ) arg14 fullShare a.dv ∗ owns (c : Thread nD τ) arg15 fullShare a.dc ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20) : sProp 𝕄) ⊢
      wp frame (wpE (defs₀ (F := F)) Variants.none (c : Thread nD τ) none) Set.univ
        (cc0_b_attention_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun _ => iprop(owns (c : Thread nD τ) arg2 fullShare B.q ∗ owns (c : Thread nD τ) arg3 fullShare B.dy ∗ owns (c : Thread nD τ) arg4 fullShare B.o ∗ owns (c : Thread nD τ) arg5 fullShare B.z ∗ owns (c : Thread nD τ) arg6 fullShare B.m ∗ owns (c : Thread nD τ) arg7 fullShare B.l ∗ owns (c : Thread nD τ) arg8 fullShare B.k ∗ owns (c : Thread nD τ) arg9 fullShare B.kt ∗ owns (c : Thread nD τ) arg10 fullShare B.v ∗ owns (c : Thread nD τ) arg11 fullShare B.ck ∗ owns (c : Thread nD τ) arg12 fullShare (transpose S1024x128 [1, 0] (point B.ctx (start b a) b).dq transposes_S128x1024_p1_0_S1024x128) ∗ owns (c : Thread nD τ) arg13 fullShare (point B.ctx (start b a) b).dk ∗ owns (c : Thread nD τ) arg14 fullShare (point B.ctx (start b a) b).dv ∗ owns (c : Thread nD τ) arg15 fullShare (point B.ctx (start b a) b).dc ∗ owns (c : Thread nD τ) arg16 fullShare B.dz ∗ (∃ x, owns (c : Thread nD τ) arg17 fullShare x) ∗ (∃ x, owns (c : Thread nD τ) arg18 fullShare x) ∗ (∃ x, owns (c : Thread nD τ) arg19 fullShare x) ∗ (∃ x, owns (c : Thread nD τ) arg20 fullShare x))) := by
  by_cases h : b.val = 0
  · have e : start b a = zero := if_pos h
    rw [e]
    exact body_of c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 B a zero rfl b hb x12 x16 x17 x18 x19 x20 (head_first c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 B a x16 (hb.trans h))
  · have e : start b a = { a with dq := k0_pay99 } := if_neg h
    rw [e]
    exact body_of c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 B a { a with dq := k0_pay99 } rfl b hb x12 x16 x17 x18 x19 x20 (head_later c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 B a x16 (fun q => h (hb.symm.trans q)))

end Cert.KernelIdeal.Attn
end
-- ==== Proof.Run.lean ====
module

public import proofs.«01_k».proof.Proof.Body
public import proofs.«01_k».proof.Proof.Gen.KernelIdeal.Frame
public import proofs.«01_k».proof.Proof.Gen.KernelIdeal.Skeleton
public import Idealize.ShloMosaic.Lib.Tactic
public import Idealize.ShloMosaic.Lib.Pipeline.Frame
public import Idealize.ShloMosaic.Lib.Pipeline.FrameSuffix
public import Idealize.ShloMosaic.Lib.LaneScatter.Fold
public import Idealize.ShloMosaic.Lib.LaneScatter.Own
public import Idealize.ShloMosaic.Lib.Updates.Own

@[expose] public section

noncomputable section

namespace Cert.KernelIdeal.Attn

open Cert.KernelIdeal Cert.KernelIdeal.Gen
open Idealize.ShloMosaic Idealize.ShloMosaic.TcCoe Idealize.ShloMosaic.Tactic Idealize.ShloMosaic.LaneScatter Idealize.ShloMosaic.Updates
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The query block of a grid point. -/
def qb (t : Fin cfg0.N) : Fin 8 := ⟨t.val % 8, Nat.mod_lt _ (by decide)⟩

set_option maxRecDepth 16384 in
/-- The second grid coordinate is the query block. -/
theorem coords_qb (t : Fin cfg0.N) : (grid0.coords t 1).val = (qb t).val :=
  (by decide +kernel : ∀ t : Fin grid0.N, (grid0.coords t 1).val = t.val % 8) t

/-- The input blocks a grid point reads. -/
def blkAt (c : Dev nD) (t : Fin cfg0.N) : Blk F :=
  ⟨iblk m c 0 t, iblk m c 1 t, iblk m c 2 t, iblk m c 3 t, iblk m c 4 t, iblk m c 5 t, iblk m c 6 t, iblk m c 7 t, iblk m c 8 t, iblk m c 9 t⟩

/-- The accumulators after the first `n` grid points. -/
def accAt (c : Dev nD) : ℕ → Acc F
  | 0 => zero
  | n + 1 => if h : n < cfg0.N then point (blkAt m c ⟨n, h⟩).ctx (start (qb ⟨n, h⟩) (accAt c n)) (qb ⟨n, h⟩) else accAt c n

/-- The accumulators after one more point. -/
theorem accAt_succ (c : Dev nD) (t : Fin cfg0.N) :
    accAt m c (t.val + 1) = point (blkAt m c t).ctx (start (qb t) (accAt m c t.val)) (qb t) := by
  rw [accAt, dif_pos t.isLt]

/-- What each window's buffer holds after the body at each point. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => transpose S1024x128 [1, 0] (accAt m c (t.val + 1)).dq transposes_S128x1024_p1_0_S1024x128
    | ⟨11, _⟩ => (accAt m c (t.val + 1)).dk
    | ⟨12, _⟩ => (accAt m c (t.val + 1)).dv
    | ⟨13, _⟩ => (accAt m c (t.val + 1)).dc
    | ⟨14, _⟩ => (blkAt m c t).dz
  Φ _ := Pipeline.ΦA spec0 c
  q w := Pipeline.shareOf spec0 w
  owed _ := 0

/-- The proof data of the one call. -/
def dats : (p : Fin 1) → (c : Dev nD) → Dat τ (Elt F) Unit ℕ (UR sig nD τ) ℕ (cfgs p) c
  | 0 => dat m

/-- The arrays under the windows are the host's. -/
theorem A_eq (c : Dev nD) (w : Fin cfg0.W) : (dat m c).A w = V m c (Pipeline.arrRef spec0 w) := by dsimp only [dat]
/-- What the window of the scaled queries holds after the body. -/
theorem after_0 (c : Dev nD) (t : Fin cfg0.N) : (dat m c).after 0 t = iblk m c 0 t := by dsimp only [dat]
/-- What the window of the gradients of the gated output holds after the body. -/
theorem after_1 (c : Dev nD) (t : Fin cfg0.N) : (dat m c).after 1 t = iblk m c 1 t := by dsimp only [dat]
/-- What the window of the outputs holds after the body. -/
theorem after_2 (c : Dev nD) (t : Fin cfg0.N) : (dat m c).after 2 t = iblk m c 2 t := by dsimp only [dat]
/-- What the window of the gates holds after the body. -/
theorem after_3 (c : Dev nD) (t : Fin cfg0.N) : (dat m c).after 3 t = iblk m c 3 t := by dsimp only [dat]
/-- What the window of the maxima holds after the body. -/
theorem after_4 (c : Dev nD) (t : Fin cfg0.N) : (dat m c).after 4 t = iblk m c 4 t := by dsimp only [dat]
/-- What the window of the row sums holds after the body. -/
theorem after_5 (c : Dev nD) (t : Fin cfg0.N) : (dat m c).after 5 t = iblk m c 5 t := by dsimp only [dat]
/-- What the window of the keys holds after the body. -/
theorem after_6 (c : Dev nD) (t : Fin cfg0.N) : (dat m c).after 6 t = iblk m c 6 t := by dsimp only [dat]
/-- What the window of the transposed keys holds after the body. -/
theorem after_7 (c : Dev nD) (t : Fin cfg0.N) : (dat m c).after 7 t = iblk m c 7 t := by dsimp only [dat]
/-- What the window of the values holds after the body. -/
theorem after_8 (c : Dev nD) (t : Fin cfg0.N) : (dat m c).after 8 t = iblk m c 8 t := by dsimp only [dat]
/-- What the window of the biases holds after the body. -/
theorem after_9 (c : Dev nD) (t : Fin cfg0.N) : (dat m c).after 9 t = iblk m c 9 t := by dsimp only [dat]
/-- What the window of the query gradients holds after the body. -/
theorem after_10 (c : Dev nD) (t : Fin cfg0.N) : (dat m c).after 10 t = transpose S1024x128 [1, 0] (accAt m c (t.val + 1)).dq transposes_S128x1024_p1_0_S1024x128 := by dsimp only [dat]
/-- What the window of the key gradients holds after the body. -/
theorem after_11 (c : Dev nD) (t : Fin cfg0.N) : (dat m c).after 11 t = (accAt m c (t.val + 1)).dk := by dsimp only [dat]
/-- What the window of the value gradients holds after the body. -/
theorem after_12 (c : Dev nD) (t : Fin cfg0.N) : (dat m c).after 12 t = (accAt m c (t.val + 1)).dv := by dsimp only [dat]
/-- What the window of the bias gradients holds after the body. -/
theorem after_13 (c : Dev nD) (t : Fin cfg0.N) : (dat m c).after 13 t = (accAt m c (t.val + 1)).dc := by dsimp only [dat]
/-- What the window of the gate gradients holds after the body. -/
theorem after_14 (c : Dev nD) (t : Fin cfg0.N) : (dat m c).after 14 t = (blkAt m c t).dz := by dsimp only [dat]

/-- A gradient of keys, values or bias that is carried: past a head's first query block its buffer holds what the block
    before left. -/
theorem carried (c : Dev nD) (w : Fin cfg0.W) (hw : (cfg0.win w).isOut = true)
    (hf : ∀ t : Fin cfg0.N, (cfg0.win w).flush t = true ↔ t.val % 8 = 7)
    (hi : ∀ i, cfg0.idle w i = false) (hclip : ∀ (i : cfg0.grid.Coords) a, (cfg0.win w).clip i a = none)
    (t : Fin cfg0.N) (h : t.val % 8 ≠ 0) (d) :
    (dat m c).before w t d = (dat m c).after w ⟨t.val - 1, Nat.lt_of_le_of_lt (Nat.sub_le _ _) t.isLt⟩ :=
  (dat m c).before_out_kept w hw t (fun e => h (by rw [e])) (Bool.eq_false_iff.mpr fun e => by
    have := (hf _).mp e
    dsimp only at this
    omega) hi hclip d

/-- What a point starts from is what the point before left, whatever the buffers hold at a head's first block. -/
theorem start_before (c : Dev nD) (t : Fin cfg0.N) (d13 d14 d15) :
    start (qb t) ⟨(dat m c).before 11 t d13, (dat m c).before 12 t d14, (dat m c).before 13 t d15, k0_pay99⟩
      = start (qb t) (accAt m c t.val) := by
  unfold start
  by_cases h : (qb t).val = 0
  · rw [if_pos h, if_pos h]
  · rw [if_neg h, if_neg h]
    have h' : t.val % 8 ≠ 0 := h
    have e : (t.val - 1) + 1 = t.val := by omega
    rw [carried m c 11 rfl flush0_11 (fun _ => rfl) (fun _ _ => rfl) t h', carried m c 12 rfl flush0_12 (fun _ => rfl) (fun _ _ => rfl) t h',
      carried m c 13 rfl flush0_13 (fun _ => rfl) (fun _ _ => rfl) t h', after_11, after_12, after_13]
    dsimp only
    rw [e]

/-- The body between the buffers as the pipeline hands them over and as it takes them back, for any contents `bef` before and
    `aft` after that agree with what `body` asks and leaves. -/
theorem glue (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x128 .f32) (harg4 : arg4.IsWhole) (arg5 : Memref sig .tc .vmem S1024x128 .bf16) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S8192x128 .bf16) (harg8 : arg8.IsWhole) (arg9 : Memref sig .tc .vmem S128x8192 .bf16) (harg9 : arg9.IsWhole) (arg10 : Memref sig .tc .vmem S8192x128 .bf16) (harg10 : arg10.IsWhole) (arg11 : Memref sig .tc .vmem S1x8x1x1024 .f32) (harg11 : arg11.IsWhole) (arg12 : Memref sig .tc .vmem S1024x128 .f32) (harg12 : arg12.IsWhole) (arg13 : Memref sig .tc .vmem S128x8192 .f32) (harg13 : arg13.IsWhole) (arg14 : Memref sig .tc .vmem S128x8192 .f32) (harg14 : arg14.IsWhole) (arg15 : Memref sig .tc .vmem S1x8x1x1024 .f32) (harg15 : arg15.IsWhole) (arg16 : Memref sig .tc .vmem S1024x128 .bf16) (harg16 : arg16.IsWhole) (O : sProp 𝕄)
    (B : Blk F) (s : Acc F) (b : Fin 8) (hb : (i 1).val = b.val)
    (bef2 : FVec F S1024x128 .bf16 → FVec F S1024x128 .bf16) (bef3 : FVec F S1024x128 .bf16 → FVec F S1024x128 .bf16) (bef4 : FVec F S1024x128 .f32 → FVec F S1024x128 .f32) (bef5 : FVec F S1024x128 .bf16 → FVec F S1024x128 .bf16) (bef6 : FVec F S1x1024x128 .f32 → FVec F S1x1024x128 .f32) (bef7 : FVec F S1x1024x128 .f32 → FVec F S1x1024x128 .f32) (bef8 : FVec F S8192x128 .bf16 → FVec F S8192x128 .bf16) (bef9 : FVec F S128x8192 .bf16 → FVec F S128x8192 .bf16) (bef10 : FVec F S8192x128 .bf16 → FVec F S8192x128 .bf16) (bef11 : FVec F S1x8x1x1024 .f32 → FVec F S1x8x1x1024 .f32) (bef12 : FVec F S1024x128 .f32 → FVec F S1024x128 .f32) (bef13 : FVec F S128x8192 .f32 → FVec F S128x8192 .f32) (bef14 : FVec F S128x8192 .f32 → FVec F S128x8192 .f32) (bef15 : FVec F S1x8x1x1024 .f32 → FVec F S1x8x1x1024 .f32) (bef16 : FVec F S1024x128 .bf16 → FVec F S1024x128 .bf16)
    (aft2 : FVec F S1024x128 .bf16) (aft3 : FVec F S1024x128 .bf16) (aft4 : FVec F S1024x128 .f32) (aft5 : FVec F S1024x128 .bf16) (aft6 : FVec F S1x1024x128 .f32) (aft7 : FVec F S1x1024x128 .f32) (aft8 : FVec F S8192x128 .bf16) (aft9 : FVec F S128x8192 .bf16) (aft10 : FVec F S8192x128 .bf16) (aft11 : FVec F S1x8x1x1024 .f32) (aft12 : FVec F S1024x128 .f32) (aft13 : FVec F S128x8192 .f32) (aft14 : FVec F S128x8192 .f32) (aft15 : FVec F S1x8x1x1024 .f32) (aft16 : FVec F S1024x128 .bf16)
    (hb2 : ∀ d, bef2 d = B.q) (hb3 : ∀ d, bef3 d = B.dy) (hb4 : ∀ d, bef4 d = B.o) (hb5 : ∀ d, bef5 d = B.z) (hb6 : ∀ d, bef6 d = B.m) (hb7 : ∀ d, bef7 d = B.l) (hb8 : ∀ d, bef8 d = B.k) (hb9 : ∀ d, bef9 d = B.kt) (hb10 : ∀ d, bef10 d = B.v) (hb11 : ∀ d, bef11 d = B.ck)
    (hs : ∀ d13 d14 d15, start b ⟨bef13 d13, bef14 d14, bef15 d15, k0_pay99⟩ = s)
    (ha2 : aft2 = B.q) (ha3 : aft3 = B.dy) (ha4 : aft4 = B.o) (ha5 : aft5 = B.z) (ha6 : aft6 = B.m) (ha7 : aft7 = B.l) (ha8 : aft8 = B.k) (ha9 : aft9 = B.kt) (ha10 : aft10 = B.v) (ha11 : aft11 = B.ck) (ha12 : aft12 = (transpose S1024x128 [1, 0] (point B.ctx s b).dq transposes_S128x1024_p1_0_S1024x128)) (ha13 : aft13 = (point B.ctx s b).dk) (ha14 : aft14 = (point B.ctx s b).dv) (ha15 : aft15 = (point B.ctx s b).dc) (ha16 : aft16 = B.dz) :
    (iprop(Pipeline.ΦA spec0 c ∗ O ∗ (∃ d, owns (c : Thread nD τ) arg2 fullShare (bef2 d)) ∗ (∃ d, owns (c : Thread nD τ) arg3 fullShare (bef3 d)) ∗ (∃ d, owns (c : Thread nD τ) arg4 fullShare (bef4 d)) ∗ (∃ d, owns (c : Thread nD τ) arg5 fullShare (bef5 d)) ∗ (∃ d, owns (c : Thread nD τ) arg6 fullShare (bef6 d)) ∗ (∃ d, owns (c : Thread nD τ) arg7 fullShare (bef7 d)) ∗ (∃ d, owns (c : Thread nD τ) arg8 fullShare (bef8 d)) ∗ (∃ d, owns (c : Thread nD τ) arg9 fullShare (bef9 d)) ∗ (∃ d, owns (c : Thread nD τ) arg10 fullShare (bef10 d)) ∗ (∃ d, owns (c : Thread nD τ) arg11 fullShare (bef11 d)) ∗ (∃ d, owns (c : Thread nD τ) arg12 fullShare (bef12 d)) ∗ (∃ d, owns (c : Thread nD τ) arg13 fullShare (bef13 d)) ∗ (∃ d, owns (c : Thread nD τ) arg14 fullShare (bef14 d)) ∗ (∃ d, owns (c : Thread nD τ) arg15 fullShare (bef15 d)) ∗ (∃ d, owns (c : Thread nD τ) arg16 fullShare (bef16 d))) : sProp 𝕄) ⊢
      wp frame (wpE (defs₀ (F := F)) Variants.none (c : Thread nD τ) none) Set.univ (cc0_b_attention_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _))
        fun _ => iprop(Pipeline.ΦA spec0 c ∗ O ∗ owns (c : Thread nD τ) arg2 fullShare aft2 ∗ owns (c : Thread nD τ) arg3 fullShare aft3 ∗ owns (c : Thread nD τ) arg4 fullShare aft4 ∗ owns (c : Thread nD τ) arg5 fullShare aft5 ∗ owns (c : Thread nD τ) arg6 fullShare aft6 ∗ owns (c : Thread nD τ) arg7 fullShare aft7 ∗ owns (c : Thread nD τ) arg8 fullShare aft8 ∗ owns (c : Thread nD τ) arg9 fullShare aft9 ∗ owns (c : Thread nD τ) arg10 fullShare aft10 ∗ owns (c : Thread nD τ) arg11 fullShare aft11 ∗ owns (c : Thread nD τ) arg12 fullShare aft12 ∗ owns (c : Thread nD τ) arg13 fullShare aft13 ∗ owns (c : Thread nD τ) arg14 fullShare aft14 ∗ owns (c : Thread nD τ) arg15 fullShare aft15 ∗ owns (c : Thread nD τ) arg16 fullShare aft16) := by
  obtain rfl : bef2 = fun _ => B.q := funext hb2
  obtain rfl : bef3 = fun _ => B.dy := funext hb3
  obtain rfl : bef4 = fun _ => B.o := funext hb4
  obtain rfl : bef5 = fun _ => B.z := funext hb5
  obtain rfl : bef6 = fun _ => B.m := funext hb6
  obtain rfl : bef7 = fun _ => B.l := funext hb7
  obtain rfl : bef8 = fun _ => B.k := funext hb8
  obtain rfl : bef9 = fun _ => B.kt := funext hb9
  obtain rfl : bef10 = fun _ => B.v := funext hb10
  obtain rfl : bef11 = fun _ => B.ck := funext hb11
  subst ha2 ha3 ha4 ha5 ha6 ha7 ha8 ha9 ha10 ha11 ha12 ha13 ha14 ha15 ha16
  unfold Pipeline.ΦA
  rw [scopedRest0_eq]
  iintro ⟨⟨⟨⟨%f17, H17⟩, ⟨%f18, H18⟩, ⟨%f19, H19⟩, ⟨%f20, H20⟩⟩, HR⟩, HO, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (wp_wand_r frame (wpE (defs₀ (F := F)) Variants.none (c : Thread nD τ) none) Set.univ)
  isplitl [H2 H3 H4 H5 H6 H7 H8 H9 H10 H11 H12 H13 H14 H15 H16 H17 H18 H19 H20]
  · iapply (body c i arg2 harg2 arg3 harg3 arg4 harg4 arg5 harg5 arg6 harg6 arg7 harg7 arg8 harg8 arg9 harg9 arg10 harg10 arg11 harg11 arg12 harg12 arg13 harg13 arg14 harg14 arg15 harg15 arg16 harg16 (Memref.whole cc0_scratch0) (Memref.isWhole_whole _) (Memref.whole cc0_scratch1) (Memref.isWhole_whole _) (Memref.whole cc0_scratch2) (Memref.isWhole_whole _) (Memref.whole cc0_scratch3) (Memref.isWhole_whole _)
      B ⟨bef13 d13, bef14 d14, bef15 d15, k0_pay99⟩ b hb (bef12 d12) (bef16 d16) f17 f18 f19 f20)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · rw [owns_whole]; iexact H17
    isplitl [H18]; · rw [owns_whole]; iexact H18
    isplitl [H19]; · rw [owns_whole]; iexact H19
    rw [owns_whole]; iexact H20
  rw [hs]
  iintro %r ⟨H2, H3, H4, H5, H6, H7, H8, H9, H10, H11, H12, H13, H14, H15, H16, ⟨%g17, H17⟩, ⟨%g18, H18⟩, ⟨%g19, H19⟩, ⟨%g20, H20⟩⟩
  isplitl [H17 H18 H19 H20 HR]
  · isplitl [H17 H18 H19 H20]
    · isplitl [H17]; · iexists g17; rw [← owns_whole]; iexact H17
      isplitl [H18]; · iexists g18; rw [← owns_whole]; iexact H18
      isplitl [H19]; · iexists g19; rw [← owns_whole]; iexact H19
      iexists g20; rw [← owns_whole]; iexact H20
    iexact HR
  isplitl [HO]; · iexact HO
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

set_option maxRecDepth 16384
/-- Before the body the window of the scaled queries holds that point's block. -/
theorem before_0 (c : Dev nD) (t : Fin cfg0.N) (d) : (dat m c).before 0 t d = (blkAt m c t).q := by
  rw [before0_0_of m (dat m c) (A_eq m c 0) (after_0 m c) t d]; dsimp only [blkAt]
/-- Before the body the window of the gradients of the gated output holds that point's block. -/
theorem before_1 (c : Dev nD) (t : Fin cfg0.N) (d) : (dat m c).before 1 t d = (blkAt m c t).dy := by
  rw [before0_1_of m (dat m c) (A_eq m c 1) (after_1 m c) t d]; dsimp only [blkAt]
/-- Before the body the window of the outputs holds that point's block. -/
theorem before_2 (c : Dev nD) (t : Fin cfg0.N) (d) : (dat m c).before 2 t d = (blkAt m c t).o := by
  rw [before0_2_of m (dat m c) (A_eq m c 2) (after_2 m c) t d]; dsimp only [blkAt]
/-- Before the body the window of the gates holds that point's block. -/
theorem before_3 (c : Dev nD) (t : Fin cfg0.N) (d) : (dat m c).before 3 t d = (blkAt m c t).z := by
  rw [before0_3_of m (dat m c) (A_eq m c 3) (after_3 m c) t d]; dsimp only [blkAt]
/-- Before the body the window of the maxima holds that point's block. -/
theorem before_4 (c : Dev nD) (t : Fin cfg0.N) (d) : (dat m c).before 4 t d = (blkAt m c t).m := by
  rw [before0_4_of m (dat m c) (A_eq m c 4) (after_4 m c) t d]; dsimp only [blkAt]
/-- Before the body the window of the row sums holds that point's block. -/
theorem before_5 (c : Dev nD) (t : Fin cfg0.N) (d) : (dat m c).before 5 t d = (blkAt m c t).l := by
  rw [before0_5_of m (dat m c) (A_eq m c 5) (after_5 m c) t d]; dsimp only [blkAt]
/-- Before the body the window of the keys holds that point's block. -/
theorem before_6 (c : Dev nD) (t : Fin cfg0.N) (d) : (dat m c).before 6 t d = (blkAt m c t).k := by
  rw [before0_6_of m (dat m c) (A_eq m c 6) (after_6 m c) t d]; dsimp only [blkAt]
/-- Before the body the window of the transposed keys holds that point's block. -/
theorem before_7 (c : Dev nD) (t : Fin cfg0.N) (d) : (dat m c).before 7 t d = (blkAt m c t).kt := by
  rw [before0_7_of m (dat m c) (A_eq m c 7) (after_7 m c) t d]; dsimp only [blkAt]
/-- Before the body the window of the values holds that point's block. -/
theorem before_8 (c : Dev nD) (t : Fin cfg0.N) (d) : (dat m c).before 8 t d = (blkAt m c t).v := by
  rw [before0_8_of m (dat m c) (A_eq m c 8) (after_8 m c) t d]; dsimp only [blkAt]
/-- Before the body the window of the biases holds that point's block. -/
theorem before_9 (c : Dev nD) (t : Fin cfg0.N) (d) : (dat m c).before 9 t d = (blkAt m c t).ck := by
  rw [before0_9_of m (dat m c) (A_eq m c 9) (after_9 m c) t d]; dsimp only [blkAt]
/-- The same for the scaled queries, in the body's own terms. -/
theorem left_0 (c : Dev nD) (t : Fin cfg0.N) : (dat m c).after 0 t = (blkAt m c t).q := by rw [after_0]; dsimp only [blkAt]
/-- The same for the gradients of the gated output, in the body's own terms. -/
theorem left_1 (c : Dev nD) (t : Fin cfg0.N) : (dat m c).after 1 t = (blkAt m c t).dy := by rw [after_1]; dsimp only [blkAt]
/-- The same for the outputs, in the body's own terms. -/
theorem left_2 (c : Dev nD) (t : Fin cfg0.N) : (dat m c).after 2 t = (blkAt m c t).o := by rw [after_2]; dsimp only [blkAt]
/-- The same for the gates, in the body's own terms. -/
theorem left_3 (c : Dev nD) (t : Fin cfg0.N) : (dat m c).after 3 t = (blkAt m c t).z := by rw [after_3]; dsimp only [blkAt]
/-- The same for the maxima, in the body's own terms. -/
theorem left_4 (c : Dev nD) (t : Fin cfg0.N) : (dat m c).after 4 t = (blkAt m c t).m := by rw [after_4]; dsimp only [blkAt]
/-- The same for the row sums, in the body's own terms. -/
theorem left_5 (c : Dev nD) (t : Fin cfg0.N) : (dat m c).after 5 t = (blkAt m c t).l := by rw [after_5]; dsimp only [blkAt]
/-- The same for the keys, in the body's own terms. -/
theorem left_6 (c : Dev nD) (t : Fin cfg0.N) : (dat m c).after 6 t = (blkAt m c t).k := by rw [after_6]; dsimp only [blkAt]
/-- The same for the transposed keys, in the body's own terms. -/
theorem left_7 (c : Dev nD) (t : Fin cfg0.N) : (dat m c).after 7 t = (blkAt m c t).kt := by rw [after_7]; dsimp only [blkAt]
/-- The same for the values, in the body's own terms. -/
theorem left_8 (c : Dev nD) (t : Fin cfg0.N) : (dat m c).after 8 t = (blkAt m c t).v := by rw [after_8]; dsimp only [blkAt]
/-- The same for the biases, in the body's own terms. -/
theorem left_9 (c : Dev nD) (t : Fin cfg0.N) : (dat m c).after 9 t = (blkAt m c t).ck := by rw [after_9]; dsimp only [blkAt]
/-- The same for the query gradients, in the body's own terms. -/
theorem left_10 (c : Dev nD) (t : Fin cfg0.N) : (dat m c).after 10 t = (transpose S1024x128 [1, 0] (point (blkAt m c t).ctx (start (qb t) (accAt m c t.val)) (qb t)).dq transposes_S128x1024_p1_0_S1024x128) := by rw [after_10, accAt_succ]
/-- The same for the key gradients, in the body's own terms. -/
theorem left_11 (c : Dev nD) (t : Fin cfg0.N) : (dat m c).after 11 t = (point (blkAt m c t).ctx (start (qb t) (accAt m c t.val)) (qb t)).dk := by rw [after_11, accAt_succ]
/-- The same for the value gradients, in the body's own terms. -/
theorem left_12 (c : Dev nD) (t : Fin cfg0.N) : (dat m c).after 12 t = (point (blkAt m c t).ctx (start (qb t) (accAt m c t.val)) (qb t)).dv := by rw [after_12, accAt_succ]
/-- The same for the bias gradients, in the body's own terms. -/
theorem left_13 (c : Dev nD) (t : Fin cfg0.N) : (dat m c).after 13 t = (point (blkAt m c t).ctx (start (qb t) (accAt m c t.val)) (qb t)).dc := by rw [after_13, accAt_succ]
/-- The same for the gate gradients, in the body's own terms. -/
theorem left_14 (c : Dev nD) (t : Fin cfg0.N) : (dat m c).after 14 t = (blkAt m c t).dz := by rw [after_14]
set_option maxRecDepth 16384 in
/-- The body at a point, from and to what the pipeline holds there. -/
theorem body_obligation (c : Dev nD) : BodyObligation (dat (F := F) m c) (defs₀ (F := F)) Variants.none () Set.univ := fun t => by
  rw [bigSep_W0, bigSep_W0]
  exact glue c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14))
    ((dat m c).owesAt () t.castSucc) (blkAt m c t) (start (qb t) (accAt m c t.val)) (qb t) (coords_qb t)
    ((dat m c).before 0 t) ((dat m c).before 1 t) ((dat m c).before 2 t) ((dat m c).before 3 t) ((dat m c).before 4 t) ((dat m c).before 5 t) ((dat m c).before 6 t) ((dat m c).before 7 t) ((dat m c).before 8 t) ((dat m c).before 9 t) ((dat m c).before 10 t) ((dat m c).before 11 t) ((dat m c).before 12 t) ((dat m c).before 13 t) ((dat m c).before 14 t)
    ((dat m c).after 0 t) ((dat m c).after 1 t) ((dat m c).after 2 t) ((dat m c).after 3 t) ((dat m c).after 4 t) ((dat m c).after 5 t) ((dat m c).after 6 t) ((dat m c).after 7 t) ((dat m c).after 8 t) ((dat m c).after 9 t) ((dat m c).after 10 t) ((dat m c).after 11 t) ((dat m c).after 12 t) ((dat m c).after 13 t) ((dat m c).after 14 t)
    (before_0 m c t) (before_1 m c t) (before_2 m c t) (before_3 m c t) (before_4 m c t) (before_5 m c t) (before_6 m c t) (before_7 m c t) (before_8 m c t) (before_9 m c t)
    (start_before m c t)
    (left_0 m c t) (left_1 m c t) (left_2 m c t) (left_3 m c t) (left_4 m c t) (left_5 m c t) (left_6 m c t) (left_7 m c t) (left_8 m c t) (left_9 m c t) (left_10 m c t) (left_11 m c t) (left_12 m c t) (left_13 m c t) (left_14 m c t)

/-- The run of the whole program: what its buffers hold at the end, and every counter back at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_shared cfgs (dats m) 0 launch₀0 defs₀ Variants.none m ρ main (fun c => (body_obligation m c).loose)
    (fun _ _ _ => rfl) (fun _ _ => rfl) (V0 m) [hostOps1] sfx_sub sfx_fresh sfx_keeps (hmain m Variants.none) (fun _ _ => rfl) (fun _ _ => rfl)
    (Q' := _)

end Cert.KernelIdeal.Attn
end
-- ==== Proof.Math.lean ====
/-
The mathematics of the attention's gradient for one head, over the reals: the causal softmax of the scores, the output
it weighs, the gradients, and the forms in which the two programs reach them.
-/
module

public import Mathlib.Analysis.SpecialFunctions.Log.Basic
public import Mathlib.Algebra.BigOperators.Ring.Finset
public import Mathlib.Algebra.Order.BigOperators.Ring.Finset
public import Mathlib.Algebra.BigOperators.Field
public import Mathlib.Tactic.FieldSimp
public import Mathlib.Tactic.Ring

@[expose] public section

noncomputable section

namespace Cert.Math

open Finset

variable {ι δ : Type} [Fintype ι] [LinearOrder ι] [Fintype δ]

/-- One head's arguments: queries, keys, values, gate, gradient of the gated output, key bias, and the scale of the
    scores. -/
structure Head (ι δ : Type) where
  /-- queries -/
  q : ι → δ → ℝ
  /-- keys -/
  k : ι → δ → ℝ
  /-- values -/
  v : ι → δ → ℝ
  /-- gate -/
  z : ι → δ → ℝ
  /-- gradient of the gated output -/
  y : ι → δ → ℝ
  /-- key bias -/
  c : ι → ℝ
  /-- scale of the scores -/
  s : ℝ

/-- The logistic function. -/
def sig (x : ℝ) : ℝ := 1 / (1 + Real.exp (-x))

/-- The logistic function by the hyperbolic tangent. -/
theorem sig_tanh (x : ℝ) : 1 / 2 * Real.tanh (1 / 2 * x) + 1 / 2 = sig x := by
  unfold sig
  rw [Real.tanh_eq_sinh_div_cosh, Real.sinh_eq, Real.cosh_eq]
  have h : Real.exp (-x) = Real.exp (-(1 / 2 * x)) * Real.exp (-(1 / 2 * x)) := by
    rw [← Real.exp_add]; congr 1; ring
  have h1 : Real.exp (1 / 2 * x) * Real.exp (-(1 / 2 * x)) = 1 := by rw [← Real.exp_add]; simp
  have p : 0 < Real.exp (1 / 2 * x) := Real.exp_pos _
  have n : 0 < Real.exp (-(1 / 2 * x)) := Real.exp_pos _
  rw [h]
  generalize Real.exp (1 / 2 * x) = a at *
  generalize Real.exp (-(1 / 2 * x)) = b at *
  have : 0 < 1 + b * b := by positivity
  have : 0 < a + b := by positivity
  field_simp
  linear_combination (2 * b) * h1

variable (X : Head ι δ)

namespace Head

/-- The score of query `i` and key `j`, up to a term of the query's own. -/
def sc (i j : ι) : ℝ := (∑ d, X.q i d * X.k j d) * X.s - X.c j
/-- The unnormalised weights. -/
def ex (i j : ι) : ℝ := if j ≤ i then Real.exp (X.sc i j) else 0
/-- The attention's weights. -/
def P (i j : ι) : ℝ := X.ex i j / ∑ j', X.ex i j'
/-- The gradient of the attention's output. -/
def g (i : ι) (d : δ) : ℝ := X.y i d * (X.z i d * sig (X.z i d))
/-- The attention's output. -/
def O (i : ι) (d : δ) : ℝ := ∑ j, X.P i j * X.v j d
/-- The gradient of the weights. -/
def dP (i j : ι) : ℝ := ∑ d, X.g i d * X.v j d
/-- The gradient of the scores. -/
def dS (i j : ι) : ℝ := X.P i j * (X.dP i j - ∑ j', X.P i j' * X.dP i j')
/-- The gradient of the queries. -/
def dQ (i : ι) (d : δ) : ℝ := X.s * ∑ j, X.dS i j * X.k j d
/-- The gradient of the keys. -/
def dK (j : ι) (d : δ) : ℝ := X.s * ∑ i, X.dS i j * X.q i d
/-- The gradient of the values. -/
def dV (j : ι) (d : δ) : ℝ := ∑ i, X.g i d * X.P i j
/-- The gradient of the key bias. -/
def dC (j : ι) : ℝ := - ∑ i, X.dS i j
/-- The gradient of the gate. -/
def dZ (i : ι) (d : δ) : ℝ := X.y i d * X.O i d * (sig (X.z i d) * (1 + X.z i d * (1 - sig (X.z i d))))

/-- The weights with a row's own term `a i` taken off the scores. -/
def exA (a : ι → ℝ) (i j : ι) : ℝ := if j ≤ i then Real.exp (X.sc i j - a i) else 0

/-- Shifting the logits by a constant of the row scales the exponentials. -/
theorem exA_eq (a : ι → ℝ) (i j : ι) : X.exA a i j = Real.exp (-a i) * X.ex i j := by
  unfold exA ex
  split_ifs
  · rw [← Real.exp_add]; congr 1; ring
  · simp

/-- Exponentials are not negative. -/
theorem ex_nonneg (i j : ι) : 0 ≤ X.ex i j := by unfold ex; split_ifs <;> positivity
/-- A row's sum is positive. -/
theorem ex_sum_pos (i : ι) : 0 < ∑ j, X.ex i j :=
  sum_pos' (fun j _ => X.ex_nonneg i j) ⟨i, mem_univ i, by unfold ex; rw [if_pos le_rfl]; positivity⟩

/-- The row's sum under a shift. -/
theorem exA_sum (a : ι → ℝ) (i : ι) : ∑ j, X.exA a i j = Real.exp (-a i) * ∑ j, X.ex i j := by
  simp only [exA_eq, ← mul_sum]
/-- A shifted row's sum is positive. -/
theorem exA_sum_pos (a : ι → ℝ) (i : ι) : 0 < ∑ j, X.exA a i j := by
  rw [exA_sum]; exact mul_pos (Real.exp_pos _) (X.ex_sum_pos i)

/-- A row's own term cancels from the weights. -/
theorem exA_div (a : ι → ℝ) (i j : ι) : X.exA a i j / ∑ j', X.exA a i j' = X.P i j := by
  rw [exA_sum, exA_eq, P, mul_div_mul_left _ _ (Real.exp_pos _).ne']

/-- A shifted exponential is the weight times the row's sum. -/
theorem exA_eq_P (a : ι → ℝ) (i j : ι) : X.exA a i j = X.P i j * ∑ j', X.exA a i j' := by
  rw [← X.exA_div a, div_mul_cancel₀ _ (X.exA_sum_pos a i).ne']

/-- The weights of a row sum to one. -/
theorem P_sum (i : ι) : ∑ j, X.P i j = 1 := by
  unfold P; rw [← sum_div, div_self (X.ex_sum_pos i).ne']

/-- The gradients of a row's scores sum to zero. -/
theorem dS_sum (i : ι) : ∑ j, X.dS i j = 0 := by
  unfold dS
  simp only [mul_sub, sum_sub_distrib, ← sum_mul, X.P_sum, one_mul, sub_self]

/-- Masked weights are zero. -/
theorem P_of_lt {i j : ι} (h : ¬ j ≤ i) : X.P i j = 0 := by unfold P ex; rw [if_neg h, zero_div]
/-- Masked gradients are zero. -/
theorem dS_of_lt {i j : ι} (h : ¬ j ≤ i) : X.dS i j = 0 := by unfold dS; rw [X.P_of_lt h, zero_mul]
/-- Masked exponentials are zero. -/
theorem exA_of_lt {a : ι → ℝ} {i j : ι} (h : ¬ j ≤ i) : X.exA a i j = 0 := by unfold exA; rw [if_neg h]

/-- The row products of the output with its gradient, as the softmax's row sums. -/
theorem g_O (i : ι) : ∑ d, X.g i d * X.O i d = ∑ j, X.P i j * X.dP i j := by
  unfold O dP
  simp only [mul_sum]
  rw [sum_comm]
  exact sum_congr rfl fun j _ => sum_congr rfl fun d _ => by ring

/-! ### As the kernel has it -/

/-- The output as the weighted values over the weights' sum. -/
theorem exA_O (a : ι → ℝ) (i : ι) (d : δ) : (∑ j, X.v j d * X.exA a i j) / (∑ j, X.exA a i j) = X.O i d := by
  unfold O
  rw [sum_div]
  exact sum_congr rfl fun j _ => by rw [← X.exA_div a]; ring

/-- The kernel's gradient of the unnormalised output. -/
def kd (a : ι → ℝ) (i : ι) (d : δ) : ℝ := X.g i d / ∑ j, X.exA a i j
/-- The kernel's row products. -/
def kl (a : ι → ℝ) (i : ι) : ℝ := ∑ d, X.kd a i d * X.O i d
/-- The kernel's gradient of the scores. -/
def ks (a : ι → ℝ) (i j : ι) : ℝ := X.exA a i j * ((∑ d, X.kd a i d * X.v j d) - X.kl a i)

/-- The kernel's gradient of a logit is the mathematical one, whatever the row's shift. -/
theorem ks_eq (a : ι → ℝ) (i j : ι) : X.ks a i j = X.dS i j := by
  have h := (X.exA_sum_pos a i).ne'
  have h1 : X.kl a i = (∑ j', X.P i j' * X.dP i j') / ∑ j', X.exA a i j' := by
    rw [← X.g_O, sum_div]; exact sum_congr rfl fun d _ => by unfold kd; ring
  have h2 : ∑ d, X.kd a i d * X.v j d = X.dP i j / ∑ j', X.exA a i j' := by
    unfold dP; rw [sum_div]; exact sum_congr rfl fun d _ => by unfold kd; ring
  unfold ks dS
  rw [h1, h2, X.exA_eq_P a]
  field_simp

/-- The kernel's value gradient is the mathematical one, whatever the row's shift. -/
theorem kv_eq (a : ι → ℝ) (j : ι) (d : δ) : ∑ i, X.kd a i d * X.exA a i j = X.dV j d := by
  unfold dV kd
  refine sum_congr rfl fun i _ => ?_
  rw [← X.exA_div a]; ring

/-! ### As the reference has it -/

/-- The reference's gradient of the scores. -/
theorem rs_eq (a : ι → ℝ) (i j : ι) :
    (X.dP i j / (∑ j', X.exA a i j') + -(∑ j', X.dP i j' * (1 / ((∑ j', X.exA a i j') * ∑ j', X.exA a i j')) * X.exA a i j')) * X.exA a i j
      = X.dS i j := by
  have h := (X.exA_sum_pos a i).ne'
  have h1 : ∑ j', X.dP i j' * (1 / ((∑ j', X.exA a i j') * ∑ j', X.exA a i j')) * X.exA a i j'
      = (∑ j', X.P i j' * X.dP i j') / ∑ j', X.exA a i j' := by
    rw [sum_div]
    refine sum_congr rfl fun j' _ => ?_
    rw [X.exA_eq_P a i j']
    field_simp
  rw [h1]
  unfold dS
  rw [X.exA_eq_P a i j]
  field_simp
  ring

end Head

end Cert.Math

end
-- ==== Proof.Reals.lean ====
/-
Extended reals that are reals: the operations of the programs on them, and the float words the programs write.
-/
module

public import Idealize.ShloMosaic.Lib.Pipeline.ValueKit
public import Idealize.ShloMosaic.Lib.Pointwise
public import Mathlib.Analysis.SpecialFunctions.Pow.Real

@[expose] public section

noncomputable section

namespace Cert.Reals

open Idealize.ShloMosaic

/-- A finite sum of reals is the real sum. -/
theorem sum_coe {α : Type*} (s : Finset α) (f : α → ℝ) : (∑ x ∈ s, (f x : EReal)) = ((∑ x ∈ s, f x : ℝ) : EReal) := by
  classical
  induction s using Finset.induction_on with
  | empty => simp
  | insert a s ha ih => rw [Finset.sum_insert ha, Finset.sum_insert ha, ih, EReal.coe_add]

/-- The quotient of two reals is the real quotient when the divisor is not zero. -/
theorem div_coe (x : ℝ) {y : ℝ} (h : y ≠ 0) : Ideal.div (x : EReal) (y : EReal) = ((x / y : ℝ) : EReal) := by
  rw [Ideal.div_coe h, ← EReal.coe_mul]; congr 1; ring

/-- Two to the real power `x / log 2` is the exponential of `x`. -/
theorem exp2_div_log (x : ℝ) : Ideal.exp2 ((x / Real.log 2 : ℝ) : EReal) = (Real.exp x : EReal) := by
  have h : Ideal.exp2 ((x / Real.log 2 : ℝ) : EReal) = ((Real.rpow 2 (x / Real.log 2) : ℝ) : EReal) := rfl
  rw [h]
  congr 1
  show (2 : ℝ) ^ (x / Real.log 2) = _
  rw [Real.rpow_def_of_pos (by norm_num), mul_div_cancel₀ _ (Real.log_pos (by norm_num)).ne']

/-- The logarithm of two is positive. -/
theorem log_two_pos : 0 < Real.log 2 := Real.log_pos (by norm_num)

/-- The largest of finitely many values, one of them real and each real or minus infinity, is real. -/
theorem fold_max_real {α : Type*} (s : Finset α) (f : α → EReal) (h : ∀ x ∈ s, f x = ⊥ ∨ ∃ r : ℝ, f x = r) :
    (∀ x ∈ s, f x = ⊥) ∧ s.fold max ⊥ f = ⊥ ∨ ∃ r : ℝ, s.fold max ⊥ f = r := by
  classical
  induction s using Finset.induction_on with
  | empty => left; simp
  | insert a s ha ih =>
    rw [Finset.fold_insert ha]
    rcases ih (fun x hx => h x (Finset.mem_insert_of_mem hx)) with ⟨h1, h2⟩ | ⟨r, h2⟩
    · rcases h a (Finset.mem_insert_self _ _) with h3 | ⟨r, h3⟩
      · left
        refine ⟨fun x hx => ?_, by rw [h2, h3]; simp⟩
        rcases Finset.mem_insert.mp hx with rfl | hx
        · exact h3
        · exact h1 x hx
      · right; exact ⟨r, by rw [h2, h3]; simp⟩
    · right
      rcases h a (Finset.mem_insert_self _ _) with h3 | ⟨r', h3⟩
      · exact ⟨r, by rw [h2, h3]; simp⟩
      · exact ⟨max r' r, by rw [h2, h3]; exact (EReal.coe_strictMono.monotone.map_max).symm⟩

/-- The word of one half. -/
theorem word_half : Ideal.ofBits .f32 0x3F000000#32 = ((1 / 2 : ℝ) : EReal) := by
  simp [Ideal.ofBits, Ideal.ieee, -EReal.coe_mul]; norm_num
/-- The word of one. -/
theorem word_one : Ideal.ofBits .f32 0x3F800000#32 = ((1 : ℝ) : EReal) := by
  simp [Ideal.ofBits, Ideal.ieee, -EReal.coe_mul]; norm_num
/-- The word of two. -/
theorem word_two : Ideal.ofBits .f32 0x40000000#32 = ((2 : ℝ) : EReal) := by
  simp [Ideal.ofBits, Ideal.ieee, -EReal.coe_mul]; norm_num
/-- The word of minus infinity. -/
theorem word_bot : Ideal.ofBits .f32 0xFF800000#32 = ⊥ := by
  simp [Ideal.ofBits, Ideal.ieee, -EReal.coe_mul]
/-- The scale of the scores: the float nearest to one over the square root of 128. -/
def scale : ℝ := 11863283 / 134217728
/-- The word of the scale. -/
theorem word_scale : Ideal.ofBits .f32 0x3DB504F3#32 = (scale : EReal) := by
  unfold scale; simp [Ideal.ofBits, Ideal.ieee, -EReal.coe_mul]; norm_num

end Cert.Reals

end
-- ==== Proof.Values.lean ====
/-
What one chunk of the attention backward kernel computes, over the reals, at an index: the weights, the gradients of
the scores, and what they add to the accumulators.
-/
module

public import proofs.«01_k».proof.Proof.State
public import proofs.«01_k».proof.Proof.Head
public import proofs.«01_k».proof.Proof.Math
public import proofs.«01_k».proof.Proof.Reals

@[expose] public section

set_option maxRecDepth 16384

noncomputable section

namespace Cert.KernelIdeal.Attn

open Cert.KernelIdeal Cert.KernelIdeal.Gen
open Idealize.ShloMosaic
open Cert.Math Cert.Reals

/-- A head of this problem: 8192 positions of 128 features. -/
abbrev Hd := Cert.Math.Head (Fin 8192) (Fin 128)

/-- The position of row `r` of query block `b`. -/
def row (b : Fin 8) (r : Fin 1024) : Fin 8192 := ⟨b.val * 1024 + r.val, by omega⟩
/-- The position of key `l` of chunk `c` of block `j`. -/
def key (j : Fin 8) (c : Fin 4) (l : Fin 256) : Fin 8192 := ⟨j.val * 1024 + c.val * 256 + l.val, by omega⟩
/-- The place of key `l` of chunk `c` within its block. -/
def inBlk (c : Fin 4) (l : Fin 256) : Fin 1024 := ⟨c.val * 256 + l.val, by omega⟩

/-- The point of query block `b` works on head `X`, whose rows' own terms are `a`. -/
structure Of (X : Hd) (a : Fin 8192 → ℝ) (b : Fin 8) (C : Ctx Ideal) : Prop where
  k : ∀ i d, C.k (ix2 i d) = (X.k i d : EReal)
  kt : ∀ d i, C.kt (ix2 d i) = (X.k i d : EReal)
  v : ∀ i d, C.v (ix2 i d) = (X.v i d : EReal)
  ck : ∀ j r, C.ck (ix4 0 j 0 r) = ((X.c (row j r) / Real.log 2 : ℝ) : EReal)
  d : ∀ r e, C.d (ix2 r e) = (X.kd a (row b r) e : EReal)
  dl : ∀ r, C.dl (ix2 r 0) = (X.kl a (row b r) : EReal)
  q : ∀ r e, C.q (ix2 r e) = ((X.q (row b r) e * X.s / Real.log 2 : ℝ) : EReal)
  qt : ∀ e r, C.qt (ix2 e r) = ((X.q (row b r) e * X.s / Real.log 2 : ℝ) : EReal)
  dt : ∀ e r, C.dt (ix2 e r) = (X.kd a (row b r) e : EReal)
  m : ∀ r, C.m (ix2 r 0) = ((a (row b r) / Real.log 2 : ℝ) : EReal)

/-- Two indices with the same coordinates are equal. -/
theorem idx_ext {s : Shape} {x y : s.Idx} (h : ∀ a, (x a).val = (y a).val) : x = y := funext fun a => Fin.ext (h a)

/-- The causal comparison of the kernel's words. -/
theorem mask_word (r : Fin 1024) (c : Fin 4) (l : Fin 256) {α : Type} (x y : α) :
    Scalar.select (IntOp.cmpi .sge (BitVec.ofNat 32 r.val) (IntOp.addi (BitVec.ofNat 32 l.val) (BitVec.ofNat 32 (256 * c.val)))) x y
      = if c.val * 256 + l.val ≤ r.val then x else y := by
  have hc : BitVec.ofNat 32 l.val + BitVec.ofNat 32 (256 * c.val) = BitVec.ofNat 32 (c.val * 256 + l.val) := by
    rw [← BitVec.ofNat_add]; congr 1; omega
  have h1 : (BitVec.ofNat 32 r.val).toInt = r.val := by rw [BitVec.toInt_eq_toNat_cond, BitVec.toNat_ofNat]; split_ifs <;> omega
  have h2 : (BitVec.ofNat 32 (c.val * 256 + l.val)).toInt = (c.val * 256 + l.val : ℕ) := by
    rw [BitVec.toInt_eq_toNat_cond, BitVec.toNat_ofNat]; split_ifs <;> omega
  simp only [IntOp.cmpi, IntOp.addi, hc, BitVec.sle, h1, h2, Nat.cast_le]
  by_cases h : c.val * 256 + l.val ≤ r.val <;> simp [h, Scalar.select]

/-- Where a chunk's rows lie among the keys. -/
theorem emb_row (j : Fin 8) (c : Fin 4) (h) (l : Fin 256) (d : Fin 128) :
    (Rect.unit (s := S8192x128) (rowOff j.val c.val) ![256, 128] h).emb (ix2 l d) = ix2 (key j c l) d := by
  refine idx_ext fun a => ?_
  fin_cases a
  · show _ + 1 * _ = _; simp [rowOff, key]
  · show _ + 1 * _ = _; simp [rowOff]

/-- Where a chunk's columns lie among the transposed keys. -/
theorem emb_col (j : Fin 8) (c : Fin 4) (h) (d : Fin 128) (l : Fin 256) :
    (Rect.unit (s := S128x8192) (colOff j.val c.val) ![128, 256] h).emb (ix2 d l) = ix2 d (key j c l) := by
  refine idx_ext fun a => ?_
  fin_cases a
  · show _ + 1 * _ = _; simp [colOff]
  · show _ + 1 * _ = _; simp [colOff, key]

/-- Where a block's biases lie. -/
theorem emb_bias (j : Fin 8) (h) (r : Fin 1024) :
    (Rect.unit (s := S1x8x1x1024) (biasOff j.val) ![1, 1, 1, 1024] h).emb (ix4 0 0 0 r) = ix4 0 j 0 r := by
  refine idx_ext fun a => ?_
  fin_cases a <;> (show _ + 1 * _ = _; simp [biasOff])

variable {X : Hd} {a : Fin 8192 → ℝ} {b : Fin 8} {C : Ctx Ideal}

/-- A chunk's logits over the reals. -/
theorem score_apply (H : Of X a b C) (j : Fin 8) (c : Fin 4) (r : Fin 1024) (l : Fin 256) :
    score C j c (ix2 r l) = ((X.sc (row b r) (key j c l) / Real.log 2 : ℝ) : EReal) := by
  have e : score C j c (ix2 r l) = ∑ x, C.q (ix2 r x) * C.k (ix2 (key j c l) x) - C.ck (ix4 0 j 0 (inBlk c l)) := by
    unfold score rows bias VecWindow.window
    pointwise
    have e1 (x) := emb_row j c (rowOff_inb j c) l x
    have e2 := emb_bias j (biasOff_inb j) (inBlk c l)
    exact congrArg₂ _ (Finset.sum_congr rfl fun x _ => by rw [← e1]) (by rw [← e2]; rfl)
  rw [e, H.ck]
  simp only [H.q, H.k, ← EReal.coe_mul, sum_coe, ← EReal.coe_sub]
  congr 1
  have e2 : row j (inBlk c l) = key j c l := Fin.ext (by simp [row, inBlk, key, add_assoc])
  rw [e2, Head.sc, sub_div, Finset.sum_mul, Finset.sum_div]
  congr 1
  exact Finset.sum_congr rfl fun x _ => by ring

/-- A chunk's weights in a block before the diagonal. -/
theorem wFull_apply (H : Of X a b C) (j : Fin 8) (hj : j.val < b.val) (c : Fin 4) (r : Fin 1024) (l : Fin 256) :
    wFull C j c (ix2 r l) = (X.exA a (row b r) (key j c l) : EReal) := by
  have e : wFull C j c (ix2 r l) = Ideal.exp2 (score C j c (ix2 r l) - C.m (ix2 r 0)) := by
    unfold wFull
    pointwise [k0_pay3]
    rfl
  rw [e, score_apply H, H.m, ← EReal.coe_sub, ← sub_div, exp2_div_log, Head.exA, if_pos]
  show j.val * 1024 + c.val * 256 + l.val ≤ b.val * 1024 + r.val
  omega

/-- A chunk's weights in the diagonal block. -/
theorem wMask_apply (H : Of X a b C) (c : Fin 4) (r : Fin 1024) (l : Fin 256) :
    wMask C b c (ix2 r l) = (X.exA a (row b r) (key b c l) : EReal) := by
  have e : wMask C b c (ix2 r l) = if c.val * 256 + l.val ≤ r.val then Ideal.exp2 (score C b c (ix2 r l) - C.m (ix2 r 0)) else 0 := by
    unfold wMask
    pointwise
    rw [mask_word]
    rfl
  rw [e, score_apply H, H.m, ← EReal.coe_sub, ← sub_div, exp2_div_log, Head.exA]
  have h : key b c l ≤ row b r ↔ c.val * 256 + l.val ≤ r.val := by
    show b.val * 1024 + c.val * 256 + l.val ≤ b.val * 1024 + r.val ↔ _
    omega
  simp only [h]
  split_ifs <;> rfl

/-- A chunk's gradients of the logits. -/
theorem dsF_apply (H : Of X a b C) (p : FVec Ideal S1024x256 .bf16) (j : Fin 8) (c : Fin 4)
    (hp : ∀ r l, p (ix2 r l) = (X.exA a (row b r) (key j c l) : EReal)) (r : Fin 1024) (l : Fin 256) :
    dsF C p j c (ix2 r l) = (X.dS (row b r) (key j c l) : EReal) := by
  have e : dsF C p j c (ix2 r l) = p (ix2 r l) * (∑ x, C.d (ix2 r x) * C.v (ix2 (key j c l) x) - C.dl (ix2 r 0)) := by
    unfold dsF dprod rows VecWindow.window
    pointwise [k0_pay2]
    have e1 (x) := emb_row j c (rowOff_inb j c) l x
    exact congrArg _ (congrArg₂ _ (Finset.sum_congr rfl fun x _ => by rw [← e1]) rfl)
  rw [e, hp, H.dl]
  simp only [H.d, H.v, ← EReal.coe_mul, sum_coe, ← EReal.coe_sub]
  rw [← X.ks_eq a]; rfl

/-- The column sums of a chunk's gradients. -/
theorem dsSum_apply (H : Of X a b C) (p : FVec Ideal S1024x256 .bf16) (j : Fin 8) (c : Fin 4)
    (hp : ∀ r l, p (ix2 r l) = (X.exA a (row b r) (key j c l) : EReal)) (l : Fin 256) :
    dsSum C p j c (ix2 0 l) = ((∑ r, X.dS (row b r) (key j c l) : ℝ) : EReal) := by
  have e : dsSum C p j c (ix2 0 l) = ∑ x, dsF C p j c (ix2 x l) := by
    unfold dsSum
    pointwise
  rw [e]
  simp only [dsF_apply H p j c hp, sum_coe]

/-- Every index of the transposed accumulators lies in a chunk. -/
theorem key_surj (i : Fin 8192) : ∃ j c l, i = key j c l :=
  ⟨⟨i.val / 1024, by omega⟩, ⟨i.val % 1024 / 256, by omega⟩, ⟨i.val % 256, by omega⟩, Fin.ext (by simp only [key]; omega)⟩

/-- A key's position determines its block, chunk and lane. -/
theorem key_inj {j j' : Fin 8} {c c' : Fin 4} {l l' : Fin 256} (h : key j c l = key j' c' l') : j = j' ∧ c = c' ∧ l = l' := by
  have := congrArg Fin.val h
  simp only [key] at this
  refine ⟨Fin.ext ?_, Fin.ext ?_, Fin.ext ?_⟩ <;> omega

/-- A store to a chunk of a transposed accumulator, read at an index. -/
theorem put_col (x : FVec Ideal S128x8192 .f32) (j : Fin 8) (c : Fin 4) (w : FVec Ideal S128x256 .f32) (d : Fin 128) (j' : Fin 8) (c' : Fin 4) (l : Fin 256) :
    VecWindow.put x (colOff j.val c.val) S128x256.size w (ix2 d (key j' c' l)) = if j' = j ∧ c' = c then w (ix2 d l) else x (ix2 d (key j' c' l)) := by
  unfold VecWindow.put
  by_cases h : j' = j ∧ c' = c
  · obtain ⟨rfl, rfl⟩ := h
    rw [if_pos ⟨rfl, rfl⟩, dif_pos (by
      intro a; fin_cases a
      · simp [colOff, ix2]
      · simp [colOff, ix2, key])]
    congr 1
    refine funext fun a => Fin.ext ?_
    fin_cases a
    · show _ - _ = _; simp [colOff, ix2]
    · show _ - _ = _; simp [colOff, ix2, key]
  · rw [if_neg h, dif_neg]
    intro hh
    have := hh 1
    simp [colOff, ix2, key] at this
    exact h ⟨Fin.ext (by omega), Fin.ext (by omega)⟩

/-- A chunk's columns at an index. -/
theorem cols_apply {φ : FTy} (x : FVec Ideal S128x8192 φ) (j : Fin 8) (c : Fin 4) (d : Fin 128) (l : Fin 256) :
    cols x j c (ix2 d l) = x (ix2 d (key j c l)) := by
  unfold cols VecWindow.window
  rw [← emb_col j c (colOff_inb j c)]

/-- What a block adds to an accumulator over its columns. -/
theorem addCols_apply (t : FVec Ideal S128x1024 .bf16) (p : Fin 4 → FVec Ideal S1024x256 .bf16) (j : Fin 8) (x : FVec Ideal S128x8192 .f32)
    (d : Fin 128) (j' : Fin 8) (c : Fin 4) (l : Fin 256) :
    addCols t p j x (ix2 d (key j' c l)) = x (ix2 d (key j' c l)) + if j' = j then ∑ r, t (ix2 d r) * p c (ix2 r l) else 0 := by
  have e (x : FVec Ideal S128x256 .f32) (p) : k0_pay9 (F := Ideal) t p x (ix2 d l) = x (ix2 d l) + ∑ r, t (ix2 d r) * p (ix2 r l) := by
    pointwise [k0_pay9]
  unfold addCols
  have h0 := put_col x j 0
  have h1 (x) := put_col x j 1
  have h2 (x) := put_col x j 2
  have h3 (x) := put_col x j 3
  simp only [Fin.val_zero, Fin.val_one, Fin.val_two, show ((3 : Fin 4) : ℕ) = 3 from rfl] at h0 h1 h2 h3
  rw [h3, h2, h1, h0]
  simp only [e, cols_apply]
  by_cases hj : j' = j
  · subst hj
    fin_cases c <;> simp
  · simp [hj]

/-- What a block adds to the query gradient. -/
theorem addQ_apply (kt : FVec Ideal S128x8192 .bf16) (p : Fin 4 → FVec Ideal S1024x256 .bf16) (j : Fin 8) (x : FVec Ideal S128x1024 .f32)
    (d : Fin 128) (r : Fin 1024) :
    addQ kt p j x (ix2 d r) = x (ix2 d r) + ∑ l, kt (ix2 d (key j 0 l)) * p 0 (ix2 r l) + ∑ l, kt (ix2 d (key j 1 l)) * p 1 (ix2 r l)
      + ∑ l, kt (ix2 d (key j 2 l)) * p 2 (ix2 r l) + ∑ l, kt (ix2 d (key j 3 l)) * p 3 (ix2 r l) := by
  have e (x p t) : k0_pay12 (F := Ideal) x p t (ix2 d r) = x (ix2 d r) + ∑ l, t (ix2 d l) * p (ix2 r l) := by
    pointwise [k0_pay12]
  unfold addQ
  simp only [e, cols_apply]

/-- A store to a chunk of the gradient of the key bias, read at an index. -/
theorem put_dc (x : FVec Ideal S1x8x1x1024 .f32) (j : Fin 8) (c : Fin 4) (w : FVec Ideal S1x1x1x256 .f32) (j' : Fin 8) (c' : Fin 4) (l : Fin 256) :
    VecWindow.put x (dcOff j.val c.val) S1x1x1x256.size w (ix4 0 j' 0 (inBlk c' l)) = if j' = j ∧ c' = c then w (ix4 0 0 0 l) else x (ix4 0 j' 0 (inBlk c' l)) := by
  unfold VecWindow.put
  by_cases h : j' = j ∧ c' = c
  · obtain ⟨rfl, rfl⟩ := h
    rw [if_pos ⟨rfl, rfl⟩, dif_pos (by
      intro a; fin_cases a <;> simp [dcOff, ix4, inBlk])]
    congr 1
    refine funext fun a => Fin.ext ?_
    fin_cases a <;> (show _ - _ = _; simp [dcOff, ix4, inBlk])
  · rw [if_neg h, dif_neg]
    intro hh
    have h1 := hh 1
    have h3 := hh 3
    simp [dcOff, ix4, inBlk] at h1 h3
    exact h ⟨Fin.ext (by omega), Fin.ext (by omega)⟩

/-- The bias accumulator's chunk at an index. -/
theorem dcAt_apply (x : FVec Ideal S1x8x1x1024 .f32) (j : Fin 8) (c : Fin 4) (l : Fin 256) :
    dcAt x j c (ix4 0 0 0 l) = x (ix4 0 j 0 (inBlk c l)) := by
  unfold dcAt VecWindow.window
  congr 1
  refine idx_ext fun a => ?_
  fin_cases a <;> (show _ + 1 * _ = _; simp [dcOff, inBlk])

/-- What a block subtracts from the bias accumulator. -/
theorem subBias_apply (g : Fin 4 → FVec Ideal S1x256 .f32) (j : Fin 8) (x : FVec Ideal S1x8x1x1024 .f32) (j' : Fin 8) (c : Fin 4) (l : Fin 256) :
    subBias g j x (ix4 0 j' 0 (inBlk c l)) = if j' = j then x (ix4 0 j' 0 (inBlk c l)) - g c (ix2 0 l) else x (ix4 0 j' 0 (inBlk c l)) := by
  have e (x p) : k0_pay11 (F := Ideal) p x (ix4 0 0 0 l) = x (ix4 0 0 0 l) - p (ix2 0 l) := by
    pointwise [k0_pay11]
  unfold subBias
  have h0 := put_dc x j 0
  have h1 (x) := put_dc x j 1
  have h2 (x) := put_dc x j 2
  have h3 (x) := put_dc x j 3
  simp only [Fin.val_zero, Fin.val_one, Fin.val_two, show ((3 : Fin 4) : ℕ) = 3 from rfl] at h0 h1 h2 h3
  rw [h3, h2, h1, h0]
  simp only [e, dcAt_apply]
  by_cases hj : j' = j
  · subst hj
    fin_cases c <;> simp
  · simp [hj]

end Cert.KernelIdeal.Attn
end
-- ==== Proof.Accum.lean ====
/-
What the attention backward kernel's accumulators hold over the reals: after a key block, after a grid point, and after
the query blocks of a head so far.
-/
module

public import proofs.«01_k».proof.Proof.Values
public import proofs.«01_k».proof.Proof.Body

@[expose] public section

set_option maxRecDepth 16384

noncomputable section

namespace Cert.KernelIdeal.Attn

open Cert.KernelIdeal Cert.KernelIdeal.Gen
open Idealize.ShloMosaic
open Cert.Math Cert.Reals

/-- The sum of `f` over the first `n` blocks. -/
def upto (n : ℕ) (f : Fin 8 → ℝ) : ℝ := ∑ b : Fin 8, if b.val < n then f b else 0

/-- A sum up to block zero is zero. -/
theorem upto_zero (f : Fin 8 → ℝ) : upto 0 f = 0 := by simp [upto]
/-- A sum up to block eight runs over all blocks. -/
theorem upto_eight (f : Fin 8 → ℝ) : upto 8 f = ∑ b, f b := by
  unfold upto; exact Finset.sum_congr rfl fun b _ => if_pos b.isLt
/-- A sum up to the next block has that block's term more. -/
theorem upto_succ (b : Fin 8) (f : Fin 8 → ℝ) : upto (b.val + 1) f = upto b.val f + f b := by
  have h : f b = ∑ b' : Fin 8, if b' = b then f b' else 0 := by simp
  rw [h]
  unfold upto
  rw [← Finset.sum_add_distrib]
  refine Finset.sum_congr rfl fun b' _ => ?_
  by_cases h1 : b' = b
  · subst h1; simp
  · have : b'.val ≠ b.val := fun h => h1 (Fin.ext h)
    by_cases h2 : b'.val < b.val
    · rw [if_pos (by omega), if_pos h2, if_neg h1, add_zero]
    · rw [if_neg (by omega), if_neg h2, if_neg h1, add_zero]
/-- Blocks past the first `n` that add nothing may be left out. -/
theorem upto_of_zero (n : ℕ) (f : Fin 8 → ℝ) (h : ∀ b : Fin 8, ¬ b.val < n → f b = 0) : upto n f = ∑ b, f b := by
  unfold upto
  refine Finset.sum_congr rfl fun b _ => ?_
  split_ifs with hb
  · rfl
  · exact (h b hb).symm

/-- The positions are the rows of the blocks. -/
theorem sum_rows (f : Fin 8192 → ℝ) : ∑ b, ∑ r, f (row b r) = ∑ i, f i := by
  rw [← Fintype.sum_prod_type' (fun b r => f (row b r))]
  refine Function.Bijective.sum_comp (e := fun x : Fin 8 × Fin 1024 => row x.1 x.2) ⟨fun x y h => ?_, fun i => ?_⟩ f
  · have := congrArg Fin.val h
    simp only [row] at this
    exact Prod.ext (Fin.ext (by omega)) (Fin.ext (by omega))
  · exact ⟨(⟨i.val / 1024, by omega⟩, ⟨i.val % 1024, by omega⟩), Fin.ext (by simp only [row]; omega)⟩

/-- The positions are the keys of the chunks of the blocks. -/
theorem sum_keys (f : Fin 8192 → ℝ) :
    ∑ j, (∑ l, f (key j 0 l) + ∑ l, f (key j 1 l) + ∑ l, f (key j 2 l) + ∑ l, f (key j 3 l)) = ∑ i, f i := by
  have h (j : Fin 8) : ∑ l, f (key j 0 l) + ∑ l, f (key j 1 l) + ∑ l, f (key j 2 l) + ∑ l, f (key j 3 l) = ∑ c, ∑ l, f (key j c l) := by
    rw [Fin.sum_univ_four]
  simp only [h]
  have h2 (j : Fin 8) : ∑ c, ∑ l, f (key j c l) = ∑ x : Fin 4 × Fin 256, f (key j x.1 x.2) := (Fintype.sum_prod_type' (fun c l => f (key j c l))).symm
  simp only [h2]
  rw [← Fintype.sum_prod_type' (fun (j : Fin 8) (x : Fin 4 × Fin 256) => f (key j x.1 x.2))]
  refine Function.Bijective.sum_comp (e := fun x : Fin 8 × Fin 4 × Fin 256 => key x.1 x.2.1 x.2.2) ⟨fun x y h => ?_, fun i => ?_⟩ f
  · obtain ⟨h1, h2, h3⟩ := key_inj h
    exact Prod.ext h1 (Prod.ext h2 h3)
  · obtain ⟨j, c, l, rfl⟩ := key_surj i
    exact ⟨(j, c, l), rfl⟩

/-- The accumulators hold these reals. -/
structure Holds (A : Acc Ideal) (fk fv : Fin 128 → Fin 8192 → ℝ) (fc : Fin 8192 → ℝ) (fq : Fin 128 → Fin 1024 → ℝ) : Prop where
  dk : ∀ d i, A.dk (ix2 d i) = (fk d i : EReal)
  dv : ∀ d i, A.dv (ix2 d i) = (fv d i : EReal)
  dc : ∀ j r, A.dc (ix4 0 j 0 r) = (fc (row j r) : EReal)
  dq : ∀ d r, A.dq (ix2 d r) = (fq d r : EReal)

/-- What the rows of query block `b` add to the transposed gradient of the keys. -/
def gk (X : Hd) (b : Fin 8) (d : Fin 128) (i : Fin 8192) : ℝ := ∑ r, X.q (row b r) d * X.s / Real.log 2 * X.dS (row b r) i
/-- What they add to the transposed gradient of the values. -/
def gv (X : Hd) (a : Fin 8192 → ℝ) (b : Fin 8) (d : Fin 128) (i : Fin 8192) : ℝ := ∑ r, X.kd a (row b r) d * X.exA a (row b r) i
/-- What is taken for them from the gradient of the key bias. -/
def gc (X : Hd) (b : Fin 8) (i : Fin 8192) : ℝ := ∑ r, X.dS (row b r) i
/-- What key block `j` adds to the transposed gradient of the queries of block `b`. -/
def gq (X : Hd) (b : Fin 8) (d : Fin 128) (r : Fin 1024) (j : Fin 8) : ℝ :=
  ∑ l, X.k (key j 0 l) d * X.dS (row b r) (key j 0 l) + ∑ l, X.k (key j 1 l) d * X.dS (row b r) (key j 1 l)
    + ∑ l, X.k (key j 2 l) d * X.dS (row b r) (key j 2 l) + ∑ l, X.k (key j 3 l) d * X.dS (row b r) (key j 3 l)

variable {X : Hd} {a : Fin 8192 → ℝ} {b : Fin 8} {C : Ctx Ideal}

/-- The block of a key's position. -/
theorem key_div (j : Fin 8) (c : Fin 4) (l : Fin 256) : (key j c l).val / 1024 = j.val := by simp only [key]; omega
/-- The block of a row's position. -/
theorem row_div (j : Fin 8) (r : Fin 1024) : (row j r).val / 1024 = j.val := by simp only [row]; omega

/-- A key block's step on the accumulators. -/
theorem step_holds (H : Of X a b C) (w : Ctx Ideal → Fin 8 → Fin 4 → FVec Ideal S1024x256 .bf16) (j : Fin 8)
    (hw : ∀ c r l, w C j c (ix2 r l) = (X.exA a (row b r) (key j c l) : EReal))
    {A : Acc Ideal} {fk fv : Fin 128 → Fin 8192 → ℝ} {fc : Fin 8192 → ℝ} {fq : Fin 128 → Fin 1024 → ℝ} (hA : Holds A fk fv fc fq) :
    Holds (step C w j A) (fun d i => fk d i + if i.val / 1024 = j.val then gk X b d i else 0)
      (fun d i => fv d i + if i.val / 1024 = j.val then gv X a b d i else 0)
      (fun i => fc i - if i.val / 1024 = j.val then gc X b i else 0)
      (fun d r => fq d r + gq X b d r j) where
  dk d i := by
    obtain ⟨j', c, l, rfl⟩ := key_surj i
    change addCols C.qt (fun c => dsB C (w C j c) j c) j A.dk (ix2 d (key j' c l)) = _
    rw [addCols_apply, hA.dk, key_div]
    have e : ∑ r, C.qt (ix2 d r) * dsB C (w C j c) j c (ix2 r l) = ((∑ r, X.q (row b r) d * X.s / Real.log 2 * X.dS (row b r) (key j c l) : ℝ) : EReal) := by
      rw [← sum_coe]
      refine Finset.sum_congr rfl fun r _ => ?_
      rw [H.qt, show dsB C (w C j c) j c (ix2 r l) = _ from dsF_apply H _ j c (hw c) r l, ← EReal.coe_mul]
    by_cases h : j' = j
    · subst h; rw [if_pos rfl, if_pos rfl, EReal.coe_add, e]; rfl
    · rw [if_neg h, if_neg (fun h' => h (Fin.ext h'))]; simp
  dv d i := by
    obtain ⟨j', c, l, rfl⟩ := key_surj i
    change addCols C.dt (fun c => w C j c) j A.dv (ix2 d (key j' c l)) = _
    rw [addCols_apply, hA.dv, key_div]
    have e : ∑ r, C.dt (ix2 d r) * w C j c (ix2 r l) = ((∑ r, X.kd a (row b r) d * X.exA a (row b r) (key j c l) : ℝ) : EReal) := by
      rw [← sum_coe]
      refine Finset.sum_congr rfl fun r _ => ?_
      rw [H.dt, hw, ← EReal.coe_mul]
    by_cases h : j' = j
    · subst h; rw [if_pos rfl, if_pos rfl, EReal.coe_add, e]; rfl
    · rw [if_neg h, if_neg (fun h' => h (Fin.ext h'))]; simp
  dc j' r := by
    obtain ⟨c, l, rfl⟩ : ∃ c l, r = inBlk c l := ⟨⟨r.val / 256, by omega⟩, ⟨r.val % 256, by omega⟩, Fin.ext (by simp only [inBlk]; omega)⟩
    change subBias (fun c => dsSum C (w C j c) j c) j A.dc (ix4 0 j' 0 (inBlk c l)) = _
    rw [subBias_apply, hA.dc, row_div]
    by_cases h : j' = j
    · subst h
      rw [if_pos rfl, if_pos rfl, EReal.coe_sub, dsSum_apply H _ j' c (hw c)]
      have : row j' (inBlk c l) = key j' c l := Fin.ext (by simp [row, inBlk, key, add_assoc])
      rw [this]; rfl
    · rw [if_neg h, if_neg (fun h' => h (Fin.ext h'))]; simp
  dq d r := by
    change addQ C.kt (fun c => dsB C (w C j c) j c) j A.dq (ix2 d r) = _
    rw [addQ_apply, hA.dq]
    have e (c) : ∑ l, C.kt (ix2 d (key j c l)) * dsB C (w C j c) j c (ix2 r l) = ((∑ l, X.k (key j c l) d * X.dS (row b r) (key j c l) : ℝ) : EReal) := by
      rw [← sum_coe]
      refine Finset.sum_congr rfl fun l _ => ?_
      rw [H.kt, show dsB C (w C j c) j c (ix2 r l) = _ from dsF_apply H _ j c (hw c) r l, ← EReal.coe_mul]
    simp only [e, gq, EReal.coe_add, add_assoc]

/-- The accumulators after the first `n` key blocks, all earlier than the point's own. -/
theorem steps_holds (H : Of X a b C) {A : Acc Ideal} {fk fv : Fin 128 → Fin 8192 → ℝ} {fc : Fin 8192 → ℝ}
    (hA : Holds A fk fv fc fun _ _ => 0) (n : ℕ) (hn : n ≤ b.val) :
    Holds (steps C A n) (fun d i => fk d i + if i.val / 1024 < n then gk X b d i else 0)
      (fun d i => fv d i + if i.val / 1024 < n then gv X a b d i else 0)
      (fun i => fc i - if i.val / 1024 < n then gc X b i else 0)
      (fun d r => upto n (gq X b d r)) := by
  induction n with
  | zero => simpa [steps, upto_zero] using hA
  | succ n ih =>
    have h8 : n < 8 := by omega
    have h := step_holds H wFull ⟨n, h8⟩ (wFull_apply H ⟨n, h8⟩ (by show n < b.val; omega)) (ih (by omega))
    rw [steps, dif_pos h8]
    have e1 (x : ℕ) (p : ℝ) : (if x < n then p else 0) + (if x = n then p else 0) = if x < n + 1 then p else 0 := by
      rcases lt_trichotomy x n with h | h | h
      · rw [if_pos h, if_neg (by omega), if_pos (by omega), add_zero]
      · rw [if_neg (by omega), if_pos h, if_pos (by omega), zero_add]
      · rw [if_neg (by omega), if_neg (by omega), if_neg (by omega), add_zero]
    refine ⟨fun d i => ?_, fun d i => ?_, fun j r => ?_, fun d r => ?_⟩
    · rw [h.dk, add_assoc, e1]
    · rw [h.dv, add_assoc, e1]
    · rw [h.dc, sub_sub, e1]
    · rw [h.dq, ← upto_succ ⟨n, h8⟩]

/-- A key after every row of the block has no weight there. -/
theorem past {i : Fin 8192} (h : ¬ i.val / 1024 < b.val + 1) (r : Fin 1024) : ¬ i ≤ row b r := by
  show ¬ i.val ≤ b.val * 1024 + r.val
  omega

/-- A grid point adds its rows' part to the gradients of keys, values and bias, and has its rows' gradient of the queries. -/
theorem point_holds (H : Of X a b C) {A : Acc Ideal} {fk fv : Fin 128 → Fin 8192 → ℝ} {fc : Fin 8192 → ℝ}
    (hA : Holds A fk fv fc fun _ _ => 0) :
    Holds (point C A b) (fun d i => fk d i + gk X b d i) (fun d i => fv d i + gv X a b d i) (fun i => fc i - gc X b i)
      (fun d r => ∑ i, X.k i d * X.dS (row b r) i) := by
  have h := step_holds H wMask b (wMask_apply H) (steps_holds H hA b.val le_rfl)
  have e1 (x : ℕ) (p : ℝ) (hp : ¬ x < b.val + 1 → p = 0) : (if x < b.val then p else 0) + (if x = b.val then p else 0) = p := by
    rcases lt_trichotomy x b.val with h | h | h
    · rw [if_pos h, if_neg (by omega), add_zero]
    · rw [if_neg (by omega), if_pos h, zero_add]
    · rw [if_neg (by omega), if_neg (by omega), add_zero, hp (by omega)]
  have zk (d) (i : Fin 8192) (hi : ¬ i.val / 1024 < b.val + 1) : gk X b d i = 0 :=
    Finset.sum_eq_zero fun r _ => by rw [X.dS_of_lt (past hi r), mul_zero]
  have zv (d) (i : Fin 8192) (hi : ¬ i.val / 1024 < b.val + 1) : gv X a b d i = 0 :=
    Finset.sum_eq_zero fun r _ => by rw [X.exA_of_lt (past hi r), mul_zero]
  have zc (i : Fin 8192) (hi : ¬ i.val / 1024 < b.val + 1) : gc X b i = 0 :=
    Finset.sum_eq_zero fun r _ => X.dS_of_lt (past hi r)
  refine ⟨fun d i => ?_, fun d i => ?_, fun j r => ?_, fun d r => ?_⟩
  · rw [point, h.dk, add_assoc, e1 _ _ (zk d i)]
  · rw [point, h.dv, add_assoc, e1 _ _ (zv d i)]
  · rw [point, h.dc, sub_sub, e1 _ _ (zc _)]
  · rw [point, h.dq, ← upto_succ b, upto_of_zero _ _ fun j hj => ?_, ← sum_keys (fun i => X.k i d * X.dS (row b r) i)]
    · rfl
    · have z (c l) : X.dS (row b r) (key j c l) = 0 := X.dS_of_lt (past (by rw [key_div]; exact hj) r)
      simp [gq, z]

/-- The cleared accumulators hold zeros. -/
theorem zero_holds : Holds (zero (F := Ideal)) (fun _ _ => 0) (fun _ _ => 0) (fun _ => 0) (fun _ _ => 0) where
  dk d i := by unfold zero; pointwise [k0_pay83]; exact EReal.coe_zero.symm
  dv d i := by unfold zero; pointwise [k0_pay84]; exact EReal.coe_zero.symm
  dc j r := by unfold zero; pointwise [k0_pay85]; exact EReal.coe_zero.symm
  dq d r := by unfold zero; pointwise [k0_pay99]; exact EReal.coe_zero.symm

/-- The point of query block `b` starts from what the head's earlier query blocks have left. -/
theorem start_holds {A : Acc Ideal} {fk fv : Fin 8 → Fin 128 → Fin 8192 → ℝ} {fc : Fin 8 → Fin 8192 → ℝ} {fq : Fin 128 → Fin 1024 → ℝ}
    (hA : b.val ≠ 0 → Holds A (fun d i => upto b.val fun b' => fk b' d i) (fun d i => upto b.val fun b' => fv b' d i)
      (fun i => - upto b.val fun b' => fc b' i) fq) :
    Holds (start b A) (fun d i => upto b.val fun b' => fk b' d i) (fun d i => upto b.val fun b' => fv b' d i)
      (fun i => - upto b.val fun b' => fc b' i) (fun _ _ => 0) := by
  unfold start
  by_cases h : b.val = 0
  · rw [if_pos h, h]
    simpa only [upto_zero, neg_zero] using zero_holds
  · rw [if_neg h]
    exact ⟨(hA h).dk, (hA h).dv, (hA h).dc, zero_holds.dq⟩

/-- After the point of query block `b` the accumulators hold the sums over the query blocks up to `b`. -/
theorem point_start_holds (H : Of X a b C) {A : Acc Ideal} {fq : Fin 128 → Fin 1024 → ℝ}
    (hA : b.val ≠ 0 → Holds A (fun d i => upto b.val fun b' => gk X b' d i) (fun d i => upto b.val fun b' => gv X a b' d i)
      (fun i => - upto b.val fun b' => gc X b' i) fq) :
    Holds (point C (start b A) b) (fun d i => upto (b.val + 1) fun b' => gk X b' d i) (fun d i => upto (b.val + 1) fun b' => gv X a b' d i)
      (fun i => - upto (b.val + 1) fun b' => gc X b' i) (fun d r => ∑ i, X.k i d * X.dS (row b r) i) := by
  have h := point_holds H (start_holds (fk := gk X) (fv := gv X a) (fc := gc X) hA)
  refine ⟨fun d i => ?_, fun d i => ?_, fun j r => ?_, h.dq⟩
  · rw [h.dk, upto_succ b]
  · rw [h.dv, upto_succ b]
  · rw [h.dc, upto_succ b]; congr 1; ring

/-- The sums over all query blocks are the gradients. -/
theorem gk_sum (d : Fin 128) (i : Fin 8192) : upto 8 (fun b => gk X b d i) * Real.log 2 = X.dK i d := by
  rw [upto_eight]
  unfold gk
  rw [sum_rows fun r => X.q r d * X.s / Real.log 2 * X.dS r i, Finset.sum_mul, Head.dK, Finset.mul_sum]
  refine Finset.sum_congr rfl fun r _ => ?_
  have := log_two_pos.ne'
  field_simp
/-- The blocks' shares of the value gradient add up to it. -/
theorem gv_sum (d : Fin 128) (i : Fin 8192) : upto 8 (fun b => gv X a b d i) = X.dV i d := by
  rw [upto_eight]
  unfold gv
  rw [sum_rows fun r => X.kd a r d * X.exA a r i, X.kv_eq a]
/-- The blocks' shares of the bias gradient add up to it. -/
theorem gc_sum (i : Fin 8192) : - upto 8 (fun b => gc X b i) = X.dC i := by
  rw [upto_eight]
  unfold gc
  rw [sum_rows fun r => X.dS r i]; rfl

end Cert.KernelIdeal.Attn
end
-- ==== Proof.Args.lean ====
/-
The argument arrays as reals, head by head.
-/
module

public import proofs.«01_k».proof.Proof.Math
public import proofs.«01_k».proof.Proof.Reals

@[expose] public section

noncomputable section

namespace Cert.Math

/-- The five argument arrays over the reals: queries, keys, the gated projections, the key bias, and the gradient of the
    gated output. -/
structure Args where
  /-- queries -/
  q : Fin 8192 → Fin 2048 → ℝ
  /-- keys -/
  k : Fin 8192 → Fin 2048 → ℝ
  /-- projections: values and gate are columns of it -/
  p : Fin 8192 → Fin 8192 → ℝ
  /-- key bias -/
  c : Fin 128 → Fin 8192 → ℝ
  /-- gradient of the gated output -/
  y : Fin 8192 → Fin 2048 → ℝ

/-- Feature `d` of head `h`. -/
def feat (h : Fin 16) (d : Fin 128) : Fin 2048 := ⟨h.val * 128 + d.val, by omega⟩
/-- The column of the projections of feature `d` of head `h` of the values. -/
def colV (h : Fin 16) (d : Fin 128) : Fin 8192 := ⟨4096 + (h.val * 128 + d.val), by omega⟩
/-- The column of the projections of feature `d` of head `h` of the gate. -/
def colZ (h : Fin 16) (d : Fin 128) : Fin 8192 := ⟨6144 + (h.val * 128 + d.val), by omega⟩
/-- The row of the key bias of head `h`. -/
def rowC (h : Fin 16) : Fin 128 := ⟨h.val, by omega⟩

/-- The arguments of one head. -/
def Args.head (A : Args) (h : Fin 16) : Head (Fin 8192) (Fin 128) where
  q i d := A.q i (feat h d)
  k i d := A.k i (feat h d)
  v i d := A.p i (colV h d)
  z i d := A.p i (colZ h d)
  y i d := A.y i (feat h d)
  c i := A.c (rowC h) i
  s := Reals.scale

end Cert.Math

end
-- ==== Proof.Prefix.lean ====
/-
What the host hands the attention backward kernel, over the reals: the scaled queries, the keys, the bias, and the
forward pass's output, row maxima and row sums.
-/
module

public import proofs.«01_k».proof.Proof.Args
public import proofs.«01_k».proof.Proof.Gen.KernelIdeal.Frame
public import Idealize.ShloMosaic.Lib.StableHlo.ReadAt

@[expose] public section

set_option maxRecDepth 16384

noncomputable section

namespace Cert.KernelIdeal.Attn

open Cert.KernelIdeal Cert.KernelIdeal.Gen
open Idealize.ShloMosaic Idealize.ShloMosaic.TcCoe
open Cert.Math Cert.Reals

variable (m : (ℓ : Loc nD τ sig) → Buf (Elt Ideal) ℓ) (c : Dev nD)

/-- The argument arrays in memory are the reals `A`. -/
structure Are (A : Args) : Prop where
  q : ∀ i e, m (c, Proc.tc.devRef main_arg0) (ix2 i e) = (A.q i e : EReal)
  k : ∀ i e, m (c, Proc.tc.devRef main_arg1) (ix2 i e) = (A.k i e : EReal)
  p : ∀ i e, m (c, Proc.tc.devRef main_arg2) (ix2 i e) = (A.p i e : EReal)
  b : ∀ i e, m (c, Proc.tc.devRef main_arg3) (ix2 i e) = (A.c i e : EReal)
  y : ∀ i e, m (c, Proc.tc.devRef main_arg4) (ix2 i e) = (A.y i e : EReal)

/-- The host's causal comparison. -/
theorem causal (i j : Fin 8192) {α : Type} (x y : α) :
    Scalar.select (IntOp.cmpi .sle (BitVec.ofNat 32 j.val) (BitVec.ofNat 32 i.val)) x y = if j ≤ i then x else y := by
  have h (i : Fin 8192) : (BitVec.ofNat 32 i.val).toInt = i.val := by
    rw [BitVec.toInt_eq_toNat_cond, BitVec.toNat_ofNat]; split_ifs <;> omega
  simp only [IntOp.cmpi, BitVec.sle, h, Nat.cast_le, Fin.val_fin_le]
  by_cases h : j ≤ i <;> simp [h, Scalar.select]

/-- The logarithm of the word of two. -/
theorem log_two : Ideal.log (Ideal.ofBits .f32 0x40000000#32) = (Real.log 2 : EReal) := by
  rw [word_two, Ideal.log_coe, if_neg (by norm_num)]

/-- The constant of the mask is minus infinity. -/
theorem bot_const : (constant (F := Ideal) S_ .f32 0xFF800000#32) ix0 = (⊥ : EReal) := word_bot

variable {m c} {A : Args} (H : Are m c A)
include H

/-- The host's scaled queries at an index. -/
theorem v5_apply (i : Fin 8192) (h : Fin 16) (d : Fin 128) :
    V (F := Ideal) m c main_v5 (ix2 i (feat h d)) = (((A.head h).q i d * (A.head h).s / Real.log 2 : ℝ) : EReal) := by
  unfold V V0 hostOps0 hostOps0_1 hostOps0_2
  after_reads_at
  rw [H.q, log_two, word_scale, ← EReal.coe_mul, div_coe _ log_two_pos.ne']
  rfl

/-- The host's keys at an index. -/
theorem v6_apply (i : Fin 8192) (h : Fin 16) (d : Fin 128) :
    V (F := Ideal) m c main_v6 (ix2 i (feat h d)) = ((A.head h).k i d : EReal) := by
  unfold V V0 hostOps0 hostOps0_1 hostOps0_2
  after_reads_at
  rw [H.k]; rfl

/-- The host's transposed keys at an index. -/
theorem v8_apply (i : Fin 8192) (h : Fin 16) (d : Fin 128) :
    V (F := Ideal) m c main_v8 (ix2 (feat h d) i) = ((A.head h).k i d : EReal) := by
  unfold V V0 hostOps0 hostOps0_1 hostOps0_2
  after_reads_at
  rw [H.k]; rfl

/-- The host's biases at an index. -/
theorem v11_apply (h : Fin 16) (j : Fin 8) (r : Fin 1024) :
    V (F := Ideal) m c main_v11 (ix4 (rowC h) j 0 r) = (((A.head h).c ⟨j.val * 1024 + r.val, by omega⟩ / Real.log 2 : ℝ) : EReal) := by
  unfold V V0 hostOps0 hostOps0_1 hostOps0_2
  after_reads_at
  rw [H.b, log_two, div_coe _ log_two_pos.ne']
  rfl

omit H in
/-- The host's scores in base two, as reals. -/
theorem host_score (A : Args) (h : Fin 16) (i j : Fin 8192) :
    ∑ x : Fin 128, A.q i ⟨h.val * 128 + x.val, by omega⟩ * scale / Real.log 2 * A.k j ⟨h.val * 128 + x.val, by omega⟩ - A.c ⟨h.val, by omega⟩ j / Real.log 2
      = (A.head h).sc i j / Real.log 2 := by
  rw [Head.sc, sub_div, Finset.sum_mul, Finset.sum_div]
  congr 1
  refine Finset.sum_congr rfl fun x _ => ?_
  show _ = A.q i _ * A.k j _ * scale / _
  unfold feat
  ring

omit H in
/-- A row's largest score is a real. -/
theorem host_max (A : Args) (h : Fin 16) (i : Fin 8192) :
    ∃ a : ℝ, Finset.univ.fold max ⊥ (fun j => if j ≤ i then (((A.head h).sc i j / Real.log 2 : ℝ) : EReal) else ⊥) = ((a / Real.log 2 : ℝ) : EReal) := by
  rcases fold_max_real Finset.univ (fun j => if j ≤ i then (((A.head h).sc i j / Real.log 2 : ℝ) : EReal) else ⊥) (fun j _ => by
    by_cases h : j ≤ i
    · right; exact ⟨_, if_pos h⟩
    · left; exact if_neg h) with ⟨h1, _⟩ | ⟨r, hr⟩
  · have := h1 i (Finset.mem_univ _)
    rw [if_pos le_rfl] at this
    exact absurd this (EReal.coe_ne_bot _)
  · exact ⟨r * Real.log 2, by rw [hr, mul_div_cancel_right₀ _ log_two_pos.ne']⟩

/-- The rows' largest scores times the logarithm of two. -/
noncomputable def top (A : Args) (h : Fin 16) (i : Fin 8192) : ℝ := (host_max A h i).choose

omit H in
/-- The row's maximum, taken over the extended reals, is a real number. -/
theorem top_eq (A : Args) (h : Fin 16) (i : Fin 8192) :
    Finset.univ.fold max ⊥ (fun j => if j ≤ i then (((A.head h).sc i j / Real.log 2 : ℝ) : EReal) else ⊥) = ((top A h i / Real.log 2 : ℝ) : EReal) :=
  (host_max A h i).choose_spec

omit H in
/-- The host's weights. -/
theorem host_ex (A : Args) (h : Fin 16) (i j : Fin 8192) :
    Ideal.exp (((if j ≤ i then (((A.head h).sc i j / Real.log 2 : ℝ) : EReal) else ⊥) - ((top A h i / Real.log 2 : ℝ) : EReal)) * (Real.log 2 : EReal))
      = ((A.head h).exA (top A h) i j : EReal) := by
  unfold Head.exA
  split_ifs
  · rw [← EReal.coe_sub, ← EReal.coe_mul, ← sub_div, div_mul_cancel₀ _ log_two_pos.ne', Ideal.exp_coe]
  · rw [EReal.bot_sub, EReal.bot_mul_coe_of_pos log_two_pos]; rfl

/-- The host's row maxima at an index. -/
theorem v47_apply (h : Fin 16) (i : Fin 8192) (e : Fin 128) :
    V (F := Ideal) m c main_v47 (ix3 h i e) = ((top A h i / Real.log 2 : ℝ) : EReal) := by
  unfold V V0 hostOps0 hostOps0_1 hostOps0_2
  after_reads_at
  simp only [causal, log_two, word_scale, id_eq, bot_const, word_bot, H.q, H.k, H.b, ← EReal.coe_mul, div_coe _ log_two_pos.ne', sum_coe, ← EReal.coe_sub, host_score]
  exact top_eq A h i

/-- The host's row sums at an index. -/
theorem v49_apply (h : Fin 16) (i : Fin 8192) (e : Fin 128) :
    V (F := Ideal) m c main_v49 (ix3 h i e) = ((∑ j, (A.head h).exA (top A h) i j : ℝ) : EReal) := by
  unfold V V0 hostOps0 hostOps0_1 hostOps0_2
  after_reads_at
  simp only [causal, log_two, word_scale, id_eq, bot_const, word_bot, H.q, H.k, H.b, ← EReal.coe_mul, div_coe _ log_two_pos.ne', sum_coe, ← EReal.coe_sub, host_score,
    top_eq, host_ex]

/-- The host's outputs at an index. -/
theorem v45_apply (i : Fin 8192) (h : Fin 16) (d : Fin 128) :
    V (F := Ideal) m c main_v45 (ix2 i (feat h d)) = ((A.head h).O i d : EReal) := by
  unfold V V0 hostOps0 hostOps0_1 hostOps0_2 feat
  after_reads_at
  simp only [causal, log_two, word_scale, id_eq, bot_const, word_bot, H.q, H.k, H.b, H.p, ← EReal.coe_mul, div_coe _ log_two_pos.ne', sum_coe, ← EReal.coe_sub, host_score,
    top_eq, host_ex]
  rw [div_coe _ ((A.head h).exA_sum_pos _ i).ne', ← (A.head h).exA_O (top A h)]
  rfl

end Cert.KernelIdeal.Attn
end
-- ==== Proof.Blocks.lean ====
/-
What a grid point of the attention backward kernel works on over the reals, and what its accumulators then hold.
-/
module

public import proofs.«01_k».proof.Proof.Accum
public import proofs.«01_k».proof.Proof.Prefix
public import proofs.«01_k».proof.Proof.Run

@[expose] public section

set_option maxRecDepth 16384

noncomputable section

namespace Cert.KernelIdeal.Attn

open Cert.KernelIdeal Cert.KernelIdeal.Gen
open Idealize.ShloMosaic Idealize.ShloMosaic.TcCoe
open Cert.Math Cert.Reals

/-- The head of a grid point. -/
def hd (t : Fin cfg0.N) : Fin 16 := ⟨t.val / 8, by have : t.val < 128 := t.isLt; omega⟩

/-- The blocks of the windows at a grid point. -/
theorem idx : ∀ t : Fin cfg0.N, win0_0.index t = ![t.val % 8, t.val / 8] ∧ win0_1.index t = ![t.val % 8, t.val / 8]
    ∧ win0_2.index t = ![t.val % 8, t.val / 8] ∧ win0_3.index t = ![t.val % 8, 48 + t.val / 8] ∧ win0_4.index t = ![t.val / 8, t.val % 8, 0]
    ∧ win0_5.index t = ![t.val / 8, t.val % 8, 0] ∧ win0_6.index t = ![0, t.val / 8] ∧ win0_7.index t = ![t.val / 8, 0]
    ∧ win0_8.index t = ![0, 32 + t.val / 8] ∧ win0_9.index t = ![t.val / 8, 0, 0, 0] ∧ win0_10.index t = ![t.val % 8, t.val / 8]
    ∧ win0_11.index t = ![t.val / 8, 0] ∧ win0_12.index t = ![t.val / 8, 0] ∧ win0_13.index t = ![t.val / 8, 0, 0, 0]
    ∧ win0_14.index t = ![t.val % 8, t.val / 8] :=
  (by decide +kernel : ∀ t : Fin grid0.N, _)

variable (m : (ℓ : Loc nD τ sig) → Buf (Elt Ideal) ℓ) (c : Dev nD)

/-- Where an index of the block of the scaled queries lies in the whole array. -/
theorem emb0 (t : Fin cfg0.N) (r : Fin 1024) (e : Fin 128) : (((cfg0.win 0).blk t).view.emb (ix2 r e) : S8192x2048.Idx) = ix2 (row (qb t) r) (feat (hd t) e) := by
  unfold row qb feat hd; blk_ext [idx t]
/-- The block of the scaled queries, read from any array at an index. -/
theorem read0 (f : Buf (Elt Ideal) ((c : Thread nD τ).loc main_v5)) (t : Fin cfg0.N) (r : Fin 1024) (e : Fin 128) :
    ((cfg0.win 0).blk t).view.read (Elt Ideal) f (ix2 r e) = f (ix2 (row (qb t) r) (feat (hd t) e)) :=
  congrArg f (emb0 t r e)
/-- The block of the scaled queries at a grid point, at an index of the array that the host passes. -/
theorem iblk0 (t : Fin cfg0.N) (r : Fin 1024) (e : Fin 128) :
    iblk (F := Ideal) m c 0 t (ix2 r e) = V (F := Ideal) m c main_v5 (ix2 (row (qb t) r) (feat (hd t) e)) := by
  unfold iblk
  exact read0 c (V (F := Ideal) m c main_v5) t r e
/-- Where an index of the block of the gradients of the gated output lies in the whole array. -/
theorem emb1 (t : Fin cfg0.N) (r : Fin 1024) (e : Fin 128) : (((cfg0.win 1).blk t).view.emb (ix2 r e) : S8192x2048.Idx) = ix2 (row (qb t) r) (feat (hd t) e) := by
  unfold row qb feat hd; blk_ext [idx t]
/-- The block of the gradients of the gated output, read from any array at an index. -/
theorem read1 (f : Buf (Elt Ideal) ((c : Thread nD τ).loc main_arg4)) (t : Fin cfg0.N) (r : Fin 1024) (e : Fin 128) :
    ((cfg0.win 1).blk t).view.read (Elt Ideal) f (ix2 r e) = f (ix2 (row (qb t) r) (feat (hd t) e)) :=
  congrArg f (emb1 t r e)
/-- The block of the gradients of the gated output at a grid point, at an index of the array that the host passes. -/
theorem iblk1 (t : Fin cfg0.N) (r : Fin 1024) (e : Fin 128) :
    iblk (F := Ideal) m c 1 t (ix2 r e) = V (F := Ideal) m c main_arg4 (ix2 (row (qb t) r) (feat (hd t) e)) := by
  unfold iblk
  exact read1 c (V (F := Ideal) m c main_arg4) t r e
/-- Where an index of the block of the outputs lies in the whole array. -/
theorem emb2 (t : Fin cfg0.N) (r : Fin 1024) (e : Fin 128) : (((cfg0.win 2).blk t).view.emb (ix2 r e) : S8192x2048.Idx) = ix2 (row (qb t) r) (feat (hd t) e) := by
  unfold row qb feat hd; blk_ext [idx t]
/-- The block of the outputs, read from any array at an index. -/
theorem read2 (f : Buf (Elt Ideal) ((c : Thread nD τ).loc main_v45)) (t : Fin cfg0.N) (r : Fin 1024) (e : Fin 128) :
    ((cfg0.win 2).blk t).view.read (Elt Ideal) f (ix2 r e) = f (ix2 (row (qb t) r) (feat (hd t) e)) :=
  congrArg f (emb2 t r e)
/-- The block of the outputs at a grid point, at an index of the array that the host passes. -/
theorem iblk2 (t : Fin cfg0.N) (r : Fin 1024) (e : Fin 128) :
    iblk (F := Ideal) m c 2 t (ix2 r e) = V (F := Ideal) m c main_v45 (ix2 (row (qb t) r) (feat (hd t) e)) := by
  unfold iblk
  exact read2 c (V (F := Ideal) m c main_v45) t r e
/-- Where an index of the block of the gates lies in the whole array. -/
theorem emb3 (t : Fin cfg0.N) (r : Fin 1024) (e : Fin 128) : (((cfg0.win 3).blk t).view.emb (ix2 r e) : S8192x8192.Idx) = ix2 (row (qb t) r) (colZ (hd t) e) := by
  unfold row qb colZ hd; blk_ext [idx t]
/-- The block of the gates, read from any array at an index. -/
theorem read3 (f : Buf (Elt Ideal) ((c : Thread nD τ).loc main_arg2)) (t : Fin cfg0.N) (r : Fin 1024) (e : Fin 128) :
    ((cfg0.win 3).blk t).view.read (Elt Ideal) f (ix2 r e) = f (ix2 (row (qb t) r) (colZ (hd t) e)) :=
  congrArg f (emb3 t r e)
/-- The block of the gates at a grid point, at an index of the array that the host passes. -/
theorem iblk3 (t : Fin cfg0.N) (r : Fin 1024) (e : Fin 128) :
    iblk (F := Ideal) m c 3 t (ix2 r e) = V (F := Ideal) m c main_arg2 (ix2 (row (qb t) r) (colZ (hd t) e)) := by
  unfold iblk
  exact read3 c (V (F := Ideal) m c main_arg2) t r e
/-- Where an index of the block of the maxima lies in the whole array. -/
theorem emb4 (t : Fin cfg0.N) (r : Fin 1024) (e : Fin 128) : (((cfg0.win 4).blk t).view.emb (ix3 0 r e) : S16x8192x128.Idx) = ix3 (hd t) (row (qb t) r) e := by
  unfold row qb hd; blk_ext [idx t]
/-- The block of the maxima, read from any array at an index. -/
theorem read4 (f : Buf (Elt Ideal) ((c : Thread nD τ).loc main_v47)) (t : Fin cfg0.N) (r : Fin 1024) (e : Fin 128) :
    ((cfg0.win 4).blk t).view.read (Elt Ideal) f (ix3 0 r e) = f (ix3 (hd t) (row (qb t) r) e) :=
  congrArg f (emb4 t r e)
/-- The block of the maxima at a grid point, at an index of the array that the host passes. -/
theorem iblk4 (t : Fin cfg0.N) (r : Fin 1024) (e : Fin 128) :
    iblk (F := Ideal) m c 4 t (ix3 0 r e) = V (F := Ideal) m c main_v47 (ix3 (hd t) (row (qb t) r) e) := by
  unfold iblk
  exact read4 c (V (F := Ideal) m c main_v47) t r e
/-- Where an index of the block of the row sums lies in the whole array. -/
theorem emb5 (t : Fin cfg0.N) (r : Fin 1024) (e : Fin 128) : (((cfg0.win 5).blk t).view.emb (ix3 0 r e) : S16x8192x128.Idx) = ix3 (hd t) (row (qb t) r) e := by
  unfold row qb hd; blk_ext [idx t]
/-- The block of the row sums, read from any array at an index. -/
theorem read5 (f : Buf (Elt Ideal) ((c : Thread nD τ).loc main_v49)) (t : Fin cfg0.N) (r : Fin 1024) (e : Fin 128) :
    ((cfg0.win 5).blk t).view.read (Elt Ideal) f (ix3 0 r e) = f (ix3 (hd t) (row (qb t) r) e) :=
  congrArg f (emb5 t r e)
/-- The block of the row sums at a grid point, at an index of the array that the host passes. -/
theorem iblk5 (t : Fin cfg0.N) (r : Fin 1024) (e : Fin 128) :
    iblk (F := Ideal) m c 5 t (ix3 0 r e) = V (F := Ideal) m c main_v49 (ix3 (hd t) (row (qb t) r) e) := by
  unfold iblk
  exact read5 c (V (F := Ideal) m c main_v49) t r e
/-- Where an index of the block of the keys lies in the whole array. -/
theorem emb6 (t : Fin cfg0.N) (i : Fin 8192) (e : Fin 128) : (((cfg0.win 6).blk t).view.emb (ix2 i e) : S8192x2048.Idx) = ix2 i (feat (hd t) e) := by
  unfold feat hd; blk_ext [idx t]
/-- The block of the keys, read from any array at an index. -/
theorem read6 (f : Buf (Elt Ideal) ((c : Thread nD τ).loc main_v6)) (t : Fin cfg0.N) (i : Fin 8192) (e : Fin 128) :
    ((cfg0.win 6).blk t).view.read (Elt Ideal) f (ix2 i e) = f (ix2 i (feat (hd t) e)) :=
  congrArg f (emb6 t i e)
/-- The block of the keys at a grid point, at an index of the array that the host passes. -/
theorem iblk6 (t : Fin cfg0.N) (i : Fin 8192) (e : Fin 128) :
    iblk (F := Ideal) m c 6 t (ix2 i e) = V (F := Ideal) m c main_v6 (ix2 i (feat (hd t) e)) := by
  unfold iblk
  exact read6 c (V (F := Ideal) m c main_v6) t i e
/-- Where an index of the block of the transposed keys lies in the whole array. -/
theorem emb7 (t : Fin cfg0.N) (i : Fin 8192) (e : Fin 128) : (((cfg0.win 7).blk t).view.emb (ix2 e i) : S2048x8192.Idx) = ix2 (feat (hd t) e) i := by
  unfold feat hd; blk_ext [idx t]
/-- The block of the transposed keys, read from any array at an index. -/
theorem read7 (f : Buf (Elt Ideal) ((c : Thread nD τ).loc main_v8)) (t : Fin cfg0.N) (i : Fin 8192) (e : Fin 128) :
    ((cfg0.win 7).blk t).view.read (Elt Ideal) f (ix2 e i) = f (ix2 (feat (hd t) e) i) :=
  congrArg f (emb7 t i e)
/-- The block of the transposed keys at a grid point, at an index of the array that the host passes. -/
theorem iblk7 (t : Fin cfg0.N) (i : Fin 8192) (e : Fin 128) :
    iblk (F := Ideal) m c 7 t (ix2 e i) = V (F := Ideal) m c main_v8 (ix2 (feat (hd t) e) i) := by
  unfold iblk
  exact read7 c (V (F := Ideal) m c main_v8) t i e
/-- Where an index of the block of the values lies in the whole array. -/
theorem emb8 (t : Fin cfg0.N) (i : Fin 8192) (e : Fin 128) : (((cfg0.win 8).blk t).view.emb (ix2 i e) : S8192x8192.Idx) = ix2 i (colV (hd t) e) := by
  unfold colV hd; blk_ext [idx t]
/-- The block of the values, read from any array at an index. -/
theorem read8 (f : Buf (Elt Ideal) ((c : Thread nD τ).loc main_arg2)) (t : Fin cfg0.N) (i : Fin 8192) (e : Fin 128) :
    ((cfg0.win 8).blk t).view.read (Elt Ideal) f (ix2 i e) = f (ix2 i (colV (hd t) e)) :=
  congrArg f (emb8 t i e)
/-- The block of the values at a grid point, at an index of the array that the host passes. -/
theorem iblk8 (t : Fin cfg0.N) (i : Fin 8192) (e : Fin 128) :
    iblk (F := Ideal) m c 8 t (ix2 i e) = V (F := Ideal) m c main_arg2 (ix2 i (colV (hd t) e)) := by
  unfold iblk
  exact read8 c (V (F := Ideal) m c main_arg2) t i e
/-- Where an index of the block of the biases lies in the whole array. -/
theorem emb9 (t : Fin cfg0.N) (j : Fin 8) (r : Fin 1024) : (((cfg0.win 9).blk t).view.emb (ix4 0 j 0 r) : S128x8x1x1024.Idx) = ix4 (rowC (hd t)) j 0 r := by
  unfold rowC hd; blk_ext [idx t]
/-- The block of the biases, read from any array at an index. -/
theorem read9 (f : Buf (Elt Ideal) ((c : Thread nD τ).loc main_v11)) (t : Fin cfg0.N) (j : Fin 8) (r : Fin 1024) :
    ((cfg0.win 9).blk t).view.read (Elt Ideal) f (ix4 0 j 0 r) = f (ix4 (rowC (hd t)) j 0 r) :=
  congrArg f (emb9 t j r)
/-- The block of the biases at a grid point, at an index of the array that the host passes. -/
theorem iblk9 (t : Fin cfg0.N) (j : Fin 8) (r : Fin 1024) :
    iblk (F := Ideal) m c 9 t (ix4 0 j 0 r) = V (F := Ideal) m c main_v11 (ix4 (rowC (hd t)) j 0 r) := by
  unfold iblk
  exact read9 c (V (F := Ideal) m c main_v11) t j r

/-- A point's input blocks are those of query block `b` of head `X`. -/
structure BlkOf (X : Hd) (a : Fin 8192 → ℝ) (b : Fin 8) (B : Blk Ideal) : Prop where
  q : ∀ r e, B.q (ix2 r e) = ((X.q (row b r) e * X.s / Real.log 2 : ℝ) : EReal)
  dy : ∀ r e, B.dy (ix2 r e) = (X.y (row b r) e : EReal)
  o : ∀ r e, B.o (ix2 r e) = (X.O (row b r) e : EReal)
  z : ∀ r e, B.z (ix2 r e) = (X.z (row b r) e : EReal)
  m : ∀ r e, B.m (ix3 0 r e) = ((a (row b r) / Real.log 2 : ℝ) : EReal)
  l : ∀ r e, B.l (ix3 0 r e) = ((∑ j, X.exA a (row b r) j : ℝ) : EReal)
  k : ∀ i e, B.k (ix2 i e) = (X.k i e : EReal)
  kt : ∀ i e, B.kt (ix2 e i) = (X.k i e : EReal)
  v : ∀ i e, B.v (ix2 i e) = (X.v i e : EReal)
  ck : ∀ j r, B.ck (ix4 0 j 0 r) = ((X.c (row j r) / Real.log 2 : ℝ) : EReal)

variable {m c} {A : Args}

/-- The queries of a grid point over the reals. -/
theorem blk_q (H : Are m c A) (t : Fin cfg0.N) (r : Fin 1024) (e : Fin 128) : (blkAt m c t).q (ix2 r e) = (((A.head (hd t)).q (row (qb t) r) e * (A.head (hd t)).s / Real.log 2 : ℝ) : EReal) := by
  dsimp only [blkAt]
  rw [iblk0]; exact v5_apply H _ _ _
/-- The incoming gradients of a grid point over the reals. -/
theorem blk_dy (H : Are m c A) (t : Fin cfg0.N) (r : Fin 1024) (e : Fin 128) : (blkAt m c t).dy (ix2 r e) = ((A.head (hd t)).y (row (qb t) r) e : EReal) := by
  dsimp only [blkAt]
  rw [iblk1, V_main_arg4]; exact H.y _ _
/-- The outputs of a grid point over the reals. -/
theorem blk_o (H : Are m c A) (t : Fin cfg0.N) (r : Fin 1024) (e : Fin 128) : (blkAt m c t).o (ix2 r e) = ((A.head (hd t)).O (row (qb t) r) e : EReal) := by
  dsimp only [blkAt]
  rw [iblk2]; exact v45_apply H _ _ _
/-- The gates of a grid point over the reals. -/
theorem blk_z (H : Are m c A) (t : Fin cfg0.N) (r : Fin 1024) (e : Fin 128) : (blkAt m c t).z (ix2 r e) = ((A.head (hd t)).z (row (qb t) r) e : EReal) := by
  dsimp only [blkAt]
  rw [iblk3, V_main_arg2]; exact H.p _ _
/-- The maxima of a grid point over the reals. -/
theorem blk_m (H : Are m c A) (t : Fin cfg0.N) (r : Fin 1024) (e : Fin 128) : (blkAt m c t).m (ix3 0 r e) = ((top A (hd t) (row (qb t) r) / Real.log 2 : ℝ) : EReal) := by
  dsimp only [blkAt]
  rw [iblk4]; exact v47_apply H _ _ _
/-- The row sums of a grid point over the reals. -/
theorem blk_l (H : Are m c A) (t : Fin cfg0.N) (r : Fin 1024) (e : Fin 128) : (blkAt m c t).l (ix3 0 r e) = ((∑ j, (A.head (hd t)).exA (top A (hd t)) (row (qb t) r) j : ℝ) : EReal) := by
  dsimp only [blkAt]
  rw [iblk5]; exact v49_apply H _ _ _
/-- The keys of a grid point over the reals. -/
theorem blk_k (H : Are m c A) (t : Fin cfg0.N) (i : Fin 8192) (e : Fin 128) : (blkAt m c t).k (ix2 i e) = ((A.head (hd t)).k i e : EReal) := by
  dsimp only [blkAt]
  rw [iblk6]; exact v6_apply H _ _ _
/-- The transposed keys of a grid point over the reals. -/
theorem blk_kt (H : Are m c A) (t : Fin cfg0.N) (i : Fin 8192) (e : Fin 128) : (blkAt m c t).kt (ix2 e i) = ((A.head (hd t)).k i e : EReal) := by
  dsimp only [blkAt]
  rw [iblk7]; exact v8_apply H _ _ _
/-- The values of a grid point over the reals. -/
theorem blk_v (H : Are m c A) (t : Fin cfg0.N) (i : Fin 8192) (e : Fin 128) : (blkAt m c t).v (ix2 i e) = ((A.head (hd t)).v i e : EReal) := by
  dsimp only [blkAt]
  rw [iblk8, V_main_arg2]; exact H.p _ _
/-- The biases of a grid point over the reals. -/
theorem blk_ck (H : Are m c A) (t : Fin cfg0.N) (j : Fin 8) (r : Fin 1024) : (blkAt m c t).ck (ix4 0 j 0 r) = (((A.head (hd t)).c (row j r) / Real.log 2 : ℝ) : EReal) := by
  dsimp only [blkAt]
  rw [iblk9]; exact v11_apply H _ _ _
/-- A grid point's blocks are those of its head. -/
theorem blkAt_of (H : Are m c A) (t : Fin cfg0.N) : BlkOf (A.head (hd t)) (top A (hd t)) (qb t) (blkAt m c t) :=
  ⟨blk_q H t, blk_dy H t, blk_o H t, blk_z H t, blk_m H t, blk_l H t, blk_k H t, blk_kt H t, blk_v H t, blk_ck H t⟩

/-- The first lane of a row. -/
theorem emb_lane (h) (r : Fin 1024) : (Rect.unit (s := S1x1024x128) ![0, 0, 0] ![1, 1024, 1] h).emb (ix3 0 r 0) = ix3 0 r 0 := by
  refine idx_ext fun a => ?_
  fin_cases a <;> (show _ + 1 * _ = _; simp)

variable {X : Hd} {a : Fin 8192 → ℝ} {b : Fin 8} {B : Blk Ideal}

/-- The gate's derivative by the kernel's hyperbolic tangent. -/
theorem tanh_word (x : ℝ) :
    Ideal.ofBits .f32 0x3F000000#32 * Ideal.tanh (Ideal.ofBits .f32 0x3F000000#32 * (x : EReal)) + Ideal.ofBits .f32 0x3F000000#32 = (Cert.Math.sig x : EReal) := by
  rw [word_half, ← EReal.coe_mul, Ideal.tanh_coe, ← EReal.coe_mul, ← EReal.coe_add, sig_tanh]

/-- The unnormalised output's gradient as the kernel has it. -/
theorem d_apply (H : BlkOf X a b B) (r : Fin 1024) (e : Fin 128) : B.ctx.d (ix2 r e) = (X.kd a (row b r) e : EReal) := by
  have h : B.ctx.d (ix2 r e) = Ideal.div (B.dy (ix2 r e) * (B.z (ix2 r e) * (Ideal.ofBits .f32 0x3F000000#32 * Ideal.tanh (Ideal.ofBits .f32 0x3F000000#32 * B.z (ix2 r e))
      + Ideal.ofBits .f32 0x3F000000#32))) (B.l (ix3 0 r 0)) := by
    unfold Blk.ctx lane0 VecWindow.window
    pointwise [k0_pay90, k0_pay86, k0_pay87, k0_pay88]
    rw [← emb_lane inb_S1x1024x128_S1x1024x1_0_0_0]
  rw [h, H.dy, H.z, H.l, tanh_word, ← EReal.coe_mul, ← EReal.coe_mul, div_coe _ (X.exA_sum_pos a _).ne']
  rfl

/-- What the body works on is its head's part. -/
theorem ctx_of (H : BlkOf X a b B) : Of X a b B.ctx where
  k := H.k
  kt d i := H.kt i d
  v := H.v
  ck := H.ck
  d := d_apply H
  dl r := by
    have h : B.ctx.dl (ix2 r 0) = ∑ x, B.ctx.d (ix2 r x) * B.o (ix2 r x) := by
      unfold Blk.ctx
      pointwise [k0_pay92, k0_pay89]
    rw [h]
    simp only [d_apply H, H.o, ← EReal.coe_mul, sum_coe]
    rfl
  q r e := by
    have h : B.ctx.q (ix2 r e) = B.q (ix2 r e) := by
      unfold Blk.ctx
      pointwise [k0_pay93]
    rw [h, H.q]
  qt e r := by
    have h : B.ctx.qt (ix2 e r) = B.q (ix2 r e) := by
      unfold Blk.ctx
      pointwise [k0_pay94, k0_pay93]
    rw [h, H.q]
  dt e r := by
    have h : B.ctx.dt (ix2 e r) = B.ctx.d (ix2 r e) := by
      unfold Blk.ctx
      pointwise [k0_pay95]
    rw [h, d_apply H]
  m r := by
    have h : B.ctx.m (ix2 r 0) = B.m (ix3 0 r 0) := by
      unfold Blk.ctx lane0 VecWindow.window
      pointwise [k0_pay96]
      rw [← emb_lane inb_S1x1024x128_S1x1024x1_0_0_0]
    rw [h, H.m]

/-- The gate's gradient. -/
theorem dz_apply (H : BlkOf X a b B) (r : Fin 1024) (e : Fin 128) : B.dz (ix2 r e) = (X.dZ (row b r) e : EReal) := by
  have h : B.dz (ix2 r e) = B.dy (ix2 r e) * B.o (ix2 r e) * ((Ideal.ofBits .f32 0x3F000000#32 * Ideal.tanh (Ideal.ofBits .f32 0x3F000000#32 * B.z (ix2 r e)) + Ideal.ofBits .f32 0x3F000000#32)
      * (1 + B.z (ix2 r e) * (1 - (Ideal.ofBits .f32 0x3F000000#32 * Ideal.tanh (Ideal.ofBits .f32 0x3F000000#32 * B.z (ix2 r e)) + Ideal.ofBits .f32 0x3F000000#32)))) := by
    unfold Blk.dz
    pointwise [k0_pay91, k0_pay86, k0_pay87, k0_pay88, k0_pay89]
  rw [h, H.dy, H.z, H.o, tanh_word, ← EReal.coe_one, ← EReal.coe_sub, ← EReal.coe_mul, ← EReal.coe_mul, ← EReal.coe_add, ← EReal.coe_mul, ← EReal.coe_mul]
  rfl

/-- After each grid point the accumulators hold the sums over its head's query blocks so far. -/
theorem acc_holds (H : Are m c A) (n : ℕ) (t : Fin cfg0.N) (ht : t.val = n) :
    Holds (accAt m c (t.val + 1)) (fun d i => upto ((qb t).val + 1) fun b => gk (A.head (hd t)) b d i)
      (fun d i => upto ((qb t).val + 1) fun b => gv (A.head (hd t)) (top A (hd t)) b d i)
      (fun i => - upto ((qb t).val + 1) fun b => gc (A.head (hd t)) b i)
      (fun d r => ∑ i, (A.head (hd t)).k i d * (A.head (hd t)).dS (row (qb t) r) i) := by
  induction n generalizing t with
  | zero =>
    rw [accAt_succ]
    refine point_start_holds (fq := fun _ _ => 0) (ctx_of (blkAt_of H t)) fun h => absurd ?_ h
    show t.val % 8 = 0
    omega
  | succ n ih =>
    rw [accAt_succ]
    have hN : t.val < 128 := t.isLt
    have ht' : n < cfg0.N := by show n < 128; omega
    refine point_start_holds (fq := fun d r => ∑ i, (A.head (hd ⟨n, ht'⟩)).k i d * (A.head (hd ⟨n, ht'⟩)).dS (row (qb ⟨n, ht'⟩) r) i) (ctx_of (blkAt_of H t)) fun h => ?_
    have h8 : t.val % 8 ≠ 0 := h
    have e1 : hd ⟨n, ht'⟩ = hd t := Fin.ext (by simp only [hd]; omega)
    have e2 : (qb ⟨n, ht'⟩).val + 1 = (qb t).val := by simp only [qb]; omega
    have h := ih ⟨n, ht'⟩ rfl
    rw [e2, e1] at h
    rw [ht, e1]
    exact h

end Cert.KernelIdeal.Attn
end
-- ==== Proof.Results.lean ====
/-
The five gradients over the real arguments, by the places of the result arrays.
-/
module

public import proofs.«01_k».proof.Proof.Args

@[expose] public section

noncomputable section

namespace Cert.Math

/-- The head a feature belongs to. -/
def headOf (f : Fin 2048) : Fin 16 := ⟨f.val / 128, by omega⟩
/-- A feature's place within its head. -/
def within (f : Fin 2048) : Fin 128 := ⟨f.val % 128, by omega⟩

/-- The head of a head's feature. -/
theorem headOf_feat (h : Fin 16) (d : Fin 128) : headOf (feat h d) = h := Fin.ext (by simp only [headOf, feat]; omega)
/-- The place of a feature within its head. -/
theorem within_feat (h : Fin 16) (d : Fin 128) : within (feat h d) = d := Fin.ext (by simp only [within, feat]; omega)
/-- A feature is its head's at its place. -/
theorem feat_of (f : Fin 2048) : feat (headOf f) (within f) = f := Fin.ext (by simp only [headOf, within, feat]; omega)

/-- The position of row `r` of block `b`. -/
def posOf (b : Fin 8) (r : Fin 1024) : Fin 8192 := ⟨b.val * 1024 + r.val, by omega⟩

variable (A : Args)

/-- The gradient of the queries. -/
def Args.outQ (i : Fin 8192) (f : Fin 2048) : ℝ := (A.head (headOf f)).dQ i (within f)
/-- The gradient of the keys. -/
def Args.outK (f : Fin 2048) (i : Fin 8192) : ℝ := (A.head (headOf f)).dK i (within f)
/-- The gradient of the values. -/
def Args.outV (f : Fin 2048) (i : Fin 8192) : ℝ := (A.head (headOf f)).dV i (within f)
/-- The gradient of the key bias. -/
def Args.outC (h : Fin 16) (b : Fin 8) (r : Fin 1024) : ℝ := (A.head h).dC (posOf b r)
/-- The gradient of the gate. -/
def Args.outZ (i : Fin 8192) (f : Fin 2048) : ℝ := (A.head (headOf f)).dZ i (within f)

end Cert.Math

end
-- ==== Proof.Arrays.lean ====
/-
The attention backward kernel's result arrays, and what the host makes of them.
-/
module

public import proofs.«01_k».proof.Proof.Blocks
public import proofs.«01_k».proof.Proof.Results
public import Idealize.ShloMosaic.Lib.Pipeline.ValueKit
public import Idealize.ShloMosaic.Lib.StableHlo.ReadAt

@[expose] public section

set_option maxRecDepth 16384

noncomputable section

namespace Cert.KernelIdeal.Attn

open Cert.KernelIdeal Cert.KernelIdeal.Gen
open Idealize.ShloMosaic Idealize.ShloMosaic.TcCoe
open Idealize.ShloMosaic.Pipeline (Dat Cfg Window)
open Cert.Math Cert.Reals

/-- Where an index of the block of the query gradients lies in the whole array. -/
theorem place10 (t : Fin cfg0.N) (r : Fin 1024) (e : Fin 128) : (((cfg0.win 10).blk t).view.emb (ix2 r e) : S8192x2048.Idx) = ix2 (row (qb t) r) (feat (hd t) e) := by
  unfold row qb feat hd; blk_ext [idx t]
/-- Where an index of the block of the key gradients lies in the whole array. -/
theorem place11 (t : Fin cfg0.N) (e : Fin 128) (i : Fin 8192) : (((cfg0.win 11).blk t).view.emb (ix2 e i) : S2048x8192.Idx) = ix2 (feat (hd t) e) i := by
  unfold feat hd; blk_ext [idx t]
/-- Where an index of the block of the value gradients lies in the whole array. -/
theorem place12 (t : Fin cfg0.N) (e : Fin 128) (i : Fin 8192) : (((cfg0.win 12).blk t).view.emb (ix2 e i) : S2048x8192.Idx) = ix2 (feat (hd t) e) i := by
  unfold feat hd; blk_ext [idx t]
/-- Where an index of the block of the bias gradients lies in the whole array. -/
theorem place13 (t : Fin cfg0.N) (j : Fin 8) (r : Fin 1024) : (((cfg0.win 13).blk t).view.emb (ix4 0 j 0 r) : S16x8x1x1024.Idx) = ix4 (hd t) j 0 r := by
  unfold hd; blk_ext [idx t]
/-- Where an index of the block of the gate gradients lies in the whole array. -/
theorem place14 (t : Fin cfg0.N) (r : Fin 1024) (e : Fin 128) : (((cfg0.win 14).blk t).view.emb (ix2 r e) : S8192x2048.Idx) = ix2 (row (qb t) r) (feat (hd t) e) := by
  unfold row qb feat hd; blk_ext [idx t]

variable {m : (ℓ : Loc nD τ sig) → Buf (Elt Ideal) ℓ} {c : Dev nD} {A : Args}

/-- At a head's last query block the accumulators hold the sums over all of them. -/
theorem acc_last (H : Are m c A) (t : Fin cfg0.N) (h : t.val % 8 = 7) :
    Holds (accAt m c (t.val + 1)) (fun d i => upto 8 fun b => gk (A.head (hd t)) b d i)
      (fun d i => upto 8 fun b => gv (A.head (hd t)) (top A (hd t)) b d i)
      (fun i => - upto 8 fun b => gc (A.head (hd t)) b i)
      (fun d r => ∑ i, (A.head (hd t)).k i d * (A.head (hd t)).dS (row (qb t) r) i) := by
  have e := acc_holds H t.val t rfl
  have e8 : (qb t).val + 1 = 8 := by show t.val % 8 + 1 = 8; omega
  rw [e8] at e
  exact e

/-- The unscaled gradient of the queries. -/
def rawQ (A : Args) (i : S8192x2048.Idx) : EReal :=
  ((∑ j, (A.head (headOf (i 1))).k j (within (i 1)) * (A.head (headOf (i 1))).dS (i 0) j : ℝ) : EReal)
/-- The gradient of the keys over the logarithm of two. -/
def rawK (A : Args) (i : S2048x8192.Idx) : EReal :=
  ((upto 8 fun b => gk (A.head (headOf (i 0))) b (within (i 0)) (i 1) : ℝ) : EReal)
/-- The value gradients as an array. -/
def arrV (A : Args) (i : S2048x8192.Idx) : EReal := (A.outV (i 0) (i 1) : EReal)
/-- The bias gradients as an array. -/
def arrC (A : Args) (i : S16x8x1x1024.Idx) : EReal := (A.outC (i 0) (i 1) (i 3) : EReal)
/-- The gate gradients as an array. -/
def arrZ (A : Args) (i : S8192x2048.Idx) : EReal := (A.outZ (i 0) (i 1) : EReal)

/-- What a grid point leaves in the block of the query gradients is that block of the whole result. -/
theorem leaf10 (H : Are m c A) (t : Fin cfg0.N) (y : S1024x128.Idx) :
    (dat m c).after 10 t y = rawQ A (((cfg0.win 10).blk t).view.emb y) := by
  obtain ⟨r, e, rfl⟩ : ∃ (r : Fin 1024) (e : Fin 128), y = ix2 r e := ⟨y 0, y 1, eq_ix2 y⟩
  refine Eq.trans ?_ (congrArg (rawQ A) (place10 t r e)).symm
  rw [after_10]
  refine Eq.trans ?_ ((acc_holds H t.val t rfl).dq e r |>.trans ?_)
  · pointwise
  · show _ = ((∑ j, (A.head (headOf (feat _ _))).k j (within (feat _ _)) * (A.head (headOf (feat _ _))).dS _ j : ℝ) : EReal)
    rw [headOf_feat, within_feat]; rfl
/-- What a grid point leaves in the block of the key gradients is that block of the whole result. -/
theorem leaf11 (H : Are m c A) (t : Fin cfg0.N) (h : t.val % 8 = 7) (y : S128x8192.Idx) :
    (dat m c).after 11 t y = rawK A (((cfg0.win 11).blk t).view.emb y) := by
  obtain ⟨r, e, rfl⟩ : ∃ (r : Fin 128) (e : Fin 8192), y = ix2 r e := ⟨y 0, y 1, eq_ix2 y⟩
  refine Eq.trans ?_ (congrArg (rawK A) (place11 t r e)).symm
  rw [after_11]
  refine ((acc_last H t h).dk r e).trans ?_
  show _ = ((upto 8 fun b => gk (A.head (headOf (feat _ _))) b (within (feat _ _)) _ : ℝ) : EReal)
  rw [headOf_feat, within_feat]; rfl
/-- What a grid point leaves in the block of the value gradients is that block of the whole result. -/
theorem leaf12 (H : Are m c A) (t : Fin cfg0.N) (h : t.val % 8 = 7) (y : S128x8192.Idx) :
    (dat m c).after 12 t y = arrV A (((cfg0.win 12).blk t).view.emb y) := by
  obtain ⟨r, e, rfl⟩ : ∃ (r : Fin 128) (e : Fin 8192), y = ix2 r e := ⟨y 0, y 1, eq_ix2 y⟩
  refine Eq.trans ?_ (congrArg (arrV A) (place12 t r e)).symm
  rw [after_12]
  refine ((acc_last H t h).dv r e).trans ?_
  rw [gv_sum]
  show _ = (((A.head (headOf (feat _ _))).dV _ (within (feat _ _)) : ℝ) : EReal)
  rw [headOf_feat, within_feat]; rfl
/-- What a grid point leaves in the block of the bias gradients is that block of the whole result. -/
theorem leaf13 (H : Are m c A) (t : Fin cfg0.N) (h : t.val % 8 = 7) (y : S1x8x1x1024.Idx) :
    (dat m c).after 13 t y = arrC A (((cfg0.win 13).blk t).view.emb y) := by
  obtain ⟨j, r, rfl⟩ : ∃ (j : Fin 8) (r : Fin 1024), y = ix4 0 j 0 r :=
    ⟨y 1, y 3, idx_ext fun a => by fin_cases a <;> first | rfl | exact congrArg Fin.val (Subsingleton.elim (α := Fin 1) _ _)⟩
  refine Eq.trans ?_ (congrArg (arrC A) (place13 t j r)).symm
  rw [after_13]
  refine ((acc_last H t h).dc j r).trans ?_
  rw [gc_sum]
  rfl
/-- What a grid point leaves in the block of the gate gradients is that block of the whole result. -/
theorem leaf14 (H : Are m c A) (t : Fin cfg0.N) (y : S1024x128.Idx) :
    (dat m c).after 14 t y = arrZ A (((cfg0.win 14).blk t).view.emb y) := by
  obtain ⟨r, e, rfl⟩ : ∃ (r : Fin 1024) (e : Fin 128), y = ix2 r e := ⟨y 0, y 1, eq_ix2 y⟩
  refine Eq.trans ?_ (congrArg (arrZ A) (place14 t r e)).symm
  rw [after_14]
  refine (dz_apply (blkAt_of H t) r e).trans ?_
  show _ = (((A.head (headOf (feat _ _))).dZ _ (within (feat _ _)) : ℝ) : EReal)
  rw [headOf_feat, within_feat]; rfl

/-- After the grid the array of the query gradients is the whole result. -/
theorem arr10 (H : Are m c A) : (dats m 0 c).arrAt 10 (cfgs 0).N = rawQ A := by
  refine (dats m 0 c).arrAt_eq_of_covers 10 _ (by decide +kernel) fun t hf y => ?_
  blk_simp
  exact leaf10 H t y
/-- After the grid the array of the key gradients is the whole result. -/
theorem arr11 (H : Are m c A) : (dats m 0 c).arrAt 11 (cfgs 0).N = rawK A := by
  refine (dats m 0 c).arrAt_eq_of_covers 11 _ (by decide +kernel) fun t hf y => ?_
  blk_simp
  exact leaf11 H t ((flush0_11 t).mp hf) y
/-- After the grid the array of the value gradients is the whole result. -/
theorem arr12 (H : Are m c A) : (dats m 0 c).arrAt 12 (cfgs 0).N = arrV A := by
  refine (dats m 0 c).arrAt_eq_of_covers 12 _ (by decide +kernel) fun t hf y => ?_
  blk_simp
  exact leaf12 H t ((flush0_12 t).mp hf) y
/-- After the grid the array of the bias gradients is the whole result. -/
theorem arr13 (H : Are m c A) : (dats m 0 c).arrAt 13 (cfgs 0).N = arrC A := by
  refine (dats m 0 c).arrAt_eq_of_covers 13 _ (by decide +kernel) fun t hf y => ?_
  blk_simp
  exact leaf13 H t ((flush0_13 t).mp hf) y
/-- After the grid the array of the gate gradients is the whole result. -/
theorem arr14 (H : Are m c A) : (dats m 0 c).arrAt 14 (cfgs 0).N = arrZ A := by
  refine (dats m 0 c).arrAt_eq_of_covers 14 _ (by decide +kernel) fun t hf y => ?_
  blk_simp
  exact leaf14 H t y

/-- The kernel's arrays as the lines after it find them. -/
abbrev found (m : (ℓ : Loc nD τ sig) → Buf (Elt Ideal) ℓ) (c : Dev nD) : Valuation τ sig (Elt Ideal) :=
  Pipeline.withArrays spec0 c (V0 m c) fun w => (dats m 0 c).arrAt w (cfgs 0).N

/-- The query gradients that the host finds after the call. -/
theorem found_10 (H : Are m c A) : found m c (Proc.devRef .tc main_v50_0) = rawQ A := by
  refine Eq.trans (Pipeline.withArrays_arr_shared spec0 c (V0 m c) _ (fun w w' hw e => ?_) 10) (arr10 H)
  have h : (spec0 w).isOut = false := by
    revert w w'; decide
  exact (dats m 0 c).arrAt_in w h _

/-- The key gradients that the host finds after the call. -/
theorem found_11 (H : Are m c A) : found m c (Proc.devRef .tc main_v50_1) = rawK A := by
  refine Eq.trans (Pipeline.withArrays_arr_shared spec0 c (V0 m c) _ (fun w w' hw e => ?_) 11) (arr11 H)
  have h : (spec0 w).isOut = false := by
    revert w w'; decide
  exact (dats m 0 c).arrAt_in w h _

omit A in
variable (m c) in
/-- The host's constant is the logarithm of two. -/
theorem found_v0 : found m c (Proc.devRef .tc main_v0) ix0 = (Real.log 2 : EReal) := by
  unfold found
  rw [Pipeline.withArrays_of_ne spec0 c (V0 m c) _ main_v0 (by exact (by decide : ∀ w, Pipeline.arrRef spec0 w ≠ main_v0))]
  unfold V0 hostOps0 hostOps0_1 hostOps0_2
  after_reads_at
  exact log_two

/-- The first result. -/
theorem tail_52 (H : Are m c A) (i : Fin 8192) (f : Fin 2048) :
    Pipeline.afterTail₀ cfgs (dats m) 0 (V0 m) [hostOps1] c main_v52 (ix2 i f) = (A.outQ i f : EReal) := by
  show StableHlo.after (List.flatten [hostOps1]) (found m c) (Proc.devRef .tc main_v52) _ = _
  have h := found_10 H
  revert h
  generalize found m c = W
  intro h
  unfold hostOps1
  after_reads_at
  rw [h, word_scale, rawQ, ← EReal.coe_mul]
  congr 1
  show (∑ j, (A.head (headOf f)).k j (within f) * (A.head (headOf f)).dS i j) * scale = scale * ∑ j, (A.head (headOf f)).dS i j * (A.head (headOf f)).k j (within f)
  rw [mul_comm]
  simp only [mul_comm]

/-- The second result. -/
theorem tail_54 (H : Are m c A) (f : Fin 2048) (i : Fin 8192) :
    Pipeline.afterTail₀ cfgs (dats m) 0 (V0 m) [hostOps1] c main_v54 (ix2 f i) = (A.outK f i : EReal) := by
  show StableHlo.after (List.flatten [hostOps1]) (found m c) (Proc.devRef .tc main_v54) _ = _
  have h := found_11 H
  have h0 := found_v0 m c
  revert h h0
  generalize found m c = W
  intro h h0
  unfold hostOps1
  after_reads_at
  rw [h, h0, rawK, ← EReal.coe_mul]
  congr 1
  exact gk_sum _ _

end Cert.KernelIdeal.Attn

end
-- ==== Proof.RefValue.lean ====
/-
The reference's results over the reals.
-/
module

public import proofs.«01_k».proof.Proof.Results
public import proofs.«01_k».proof.Proof.Gen.ReferenceIdeal.Read
public import Idealize.ShloMosaic.Lib.Pointwise

@[expose] public section

set_option maxRecDepth 16384

noncomputable section

namespace Cert.ReferenceIdeal.Attn

open Cert.ReferenceIdeal Cert.ReferenceIdeal.Gen Cert.ReferenceIdeal.Read
open Idealize.ShloMosaic Idealize.ShloMosaic.TcCoe
open Cert.Math Cert.Reals

/-- The argument arrays are the reals `A`. -/
structure Are (x0 x1 : (⟨S8192x2048, .f32⟩ : BufTy).Contents (Elt Ideal)) (x2 : (⟨S8192x8192, .bf16⟩ : BufTy).Contents (Elt Ideal))
    (x3 : (⟨S128x8192, .f32⟩ : BufTy).Contents (Elt Ideal)) (x4 : (⟨S8192x2048, .bf16⟩ : BufTy).Contents (Elt Ideal)) (A : Args) : Prop where
  q : ∀ i e, x0 (ix2 i e) = (A.q i e : EReal)
  k : ∀ i e, x1 (ix2 i e) = (A.k i e : EReal)
  p : ∀ i e, x2 (ix2 i e) = (A.p i e : EReal)
  b : ∀ i e, x3 (ix2 i e) = (A.c i e : EReal)
  y : ∀ i e, x4 (ix2 i e) = (A.y i e : EReal)

/-- The causal comparison. -/
theorem causal (i j : Fin 8192) {α : Type} (x y : α) :
    Scalar.select (IntOp.cmpi .sle (BitVec.ofNat 32 j.val) (BitVec.ofNat 32 i.val)) x y = if j ≤ i then x else y := by
  have h (i : Fin 8192) : (BitVec.ofNat 32 i.val).toInt = i.val := by
    rw [BitVec.toInt_eq_toNat_cond, BitVec.toNat_ofNat]; split_ifs <;> omega
  simp only [IntOp.cmpi, BitVec.sle, h, Nat.cast_le, Fin.val_fin_le]
  by_cases h : j ≤ i <;> simp [h, Scalar.select]

/-- The constant of the mask is minus infinity. -/
theorem bot_const : id (constant (F := Ideal) S_ .f32 0xFF800000#32) ix0 = (⊥ : EReal) := word_bot

/-- A row's largest score is a real. -/
theorem row_max (A : Args) (h : Fin 16) (i : Fin 8192) :
    ∃ a : ℝ, Finset.univ.fold max ⊥ (fun j => if j ≤ i then (((A.head h).sc i j + (A.head h).c i : ℝ) : EReal) else ⊥) = (a : EReal) := by
  rcases fold_max_real Finset.univ (fun j => if j ≤ i then (((A.head h).sc i j + (A.head h).c i : ℝ) : EReal) else ⊥) (fun j _ => by
    by_cases h : j ≤ i
    · right; exact ⟨_, if_pos h⟩
    · left; exact if_neg h) with ⟨h1, _⟩ | ⟨r, hr⟩
  · have := h1 i (Finset.mem_univ _)
    rw [if_pos le_rfl] at this
    exact absurd this (EReal.coe_ne_bot _)
  · exact ⟨r, hr⟩

/-- The rows' largest scores. -/
noncomputable def peak (A : Args) (h : Fin 16) (i : Fin 8192) : ℝ := (row_max A h i).choose
/-- The reference's row maximum, taken over the extended reals, is a real number. -/
theorem peak_eq (A : Args) (h : Fin 16) (i : Fin 8192) :
    Finset.univ.fold max ⊥ (fun j => if j ≤ i then (((A.head h).sc i j + (A.head h).c i : ℝ) : EReal) else ⊥) = (peak A h i : EReal) :=
  (row_max A h i).choose_spec

/-- What the rows' weights have taken off their scores. -/
def off (A : Args) (h : Fin 16) (i : Fin 8192) : ℝ := peak A h i - (A.head h).c i

/-- The logistic function of a real. -/
theorem logistic (x : ℝ) : Ideal.div 1 (1 + Ideal.exp (-(x : EReal))) = (Cert.Math.sig x : EReal) := by
  rw [← EReal.coe_neg, Ideal.exp_coe, ← EReal.coe_one, ← EReal.coe_add, div_coe _ (by positivity)]
  rfl

variable {x0 x1 : (⟨S8192x2048, .f32⟩ : BufTy).Contents (Elt Ideal)} {x2 : (⟨S8192x8192, .bf16⟩ : BufTy).Contents (Elt Ideal)}
    {x3 : (⟨S128x8192, .f32⟩ : BufTy).Contents (Elt Ideal)} {x4 : (⟨S8192x2048, .bf16⟩ : BufTy).Contents (Elt Ideal)} {A : Args}
    (H : Are x0 x1 x2 x3 x4 A)
include H

/-- The reference's masked logits. -/
theorem score (h : Fin 16) (i j : Fin 8192) :
    val_main_v23_0 (F := Ideal) x0 x1 x3 (ix3 h i j) = if j ≤ i then (((A.head h).sc i j + (A.head h).c i : ℝ) : EReal) else ⊥ := by
  pointwise [val_main_v23_0, val_main_v23_1, val_main_call0_v2, val_main_call0_v0, val_main_cst_0, val_main_v22, val_main_v21, val_main_v20, val_main_v19, val_main_v18, val_main_v17, val_main_v16, val_main_v15, val_main_v14, val_main_v13, val_main_v12, val_main_v11, val_main_v10, val_main_v9, val_main_cst, val_main_v8, val_main_v6, val_main_v5, val_main_v4]
  rw [causal, bot_const]
  simp only [H.q, H.k, H.b, word_scale, ← EReal.coe_mul, sum_coe, ← EReal.coe_add, ← EReal.coe_sub]
  have e : (∑ x : Fin 128, A.q i ⟨h.val * 128 + x.val, by omega⟩ * A.k j ⟨h.val * 128 + x.val, by omega⟩) * scale + A.c ⟨h.val, by omega⟩ i - A.c ⟨h.val, by omega⟩ j
      = (A.head h).sc i j + (A.head h).c i := by
    show _ = (∑ x, A.q i (feat h x) * A.k j (feat h x)) * scale - A.c (rowC h) j + A.c (rowC h) i
    unfold feat rowC
    ring
  rw [e]

/-- The reference's row maxima. -/
theorem max_apply (h : Fin 16) (i : Fin 8192) : val_main_v31 (F := Ideal) x0 x1 x3 (ix2 h i) = (peak A h i : EReal) := by
  have e : val_main_v24 (F := Ideal) x0 x1 x3 (ix2 h i) = (peak A h i : EReal) := by
    pointwise [val_main_v24]
    simp only [score H]
    exact peak_eq A h i
  rw [val_main_v31_apply, e, val_main_v30_apply]
  show max (Ideal.ofBits .f32 0xFF800000#32) _ = _
  rw [word_bot]
  exact max_eq_right bot_le

/-- The reference's exponentials. -/
theorem ex_apply (h : Fin 16) (i j : Fin 8192) : val_main_v44 (F := Ideal) x0 x1 x3 (ix3 h i j) = ((A.head h).exA (off A h) i j : EReal) := by
  pointwise [val_main_v44, val_main_v43, val_main_v42, val_main_v41]
  rw [score H, max_apply H]
  unfold Head.exA off
  split_ifs
  · rw [← EReal.coe_sub, Ideal.exp_coe]
    congr 2
    ring
  · rw [EReal.bot_sub]; rfl

/-- The reference's row sums. -/
theorem sum_apply (h : Fin 16) (i : Fin 8192) : val_main_v45 (F := Ideal) x0 x1 x3 (ix2 h i) = ((∑ j, (A.head h).exA (off A h) i j : ℝ) : EReal) := by
  pointwise [val_main_v45, val_main_cst_9]
  simp only [ex_apply H, sum_coe]

/-- The reference's attention outputs. -/
theorem out_apply (i : Fin 8192) (h : Fin 16) (d : Fin 128) : val_main_v54 (F := Ideal) x0 x1 x2 x3 (ix2 i (feat h d)) = ((A.head h).O i d : EReal) := by
  unfold feat
  pointwise [val_main_v54, val_main_v53, val_main_v52, val_main_v7, val_main_v1, val_main_v0, val_main_v48, val_main_v47, val_main_v46]
  simp only [ex_apply H, sum_apply H, H.p, div_coe _ ((A.head h).exA_sum_pos (off A h) i).ne', Head.exA_div, ← EReal.coe_mul, sum_coe]
  congr 1
  exact Finset.sum_congr rfl fun j _ => mul_comm _ _

/-- The reference's gradients of the outputs. -/
theorem g_apply (i : Fin 8192) (h : Fin 16) (d : Fin 128) : val_main_v59 (F := Ideal) x2 x4 (ix2 i ⟨h.val * 128 + d.val, by omega⟩) = ((A.head h).g i d : EReal) := by
  pointwise [val_main_v59, val_main_v57, val_main_v55_0, val_main_v55_2, val_main_call1_v4, val_main_call1_cst_0, val_main_call1_v3, val_main_call1_v2, val_main_call1_cst, val_main_call1_v1, val_main_call1_v0, val_main_v3, val_main_v2]
  simp only [H.p, H.y, logistic, ← EReal.coe_mul]
  rfl

/-- The reference's gate gradients. -/
theorem dz_apply (i : Fin 8192) (h : Fin 16) (d : Fin 128) : val_main_v99 (F := Ideal) x0 x1 x2 x3 x4 (ix2 i (feat h d)) = ((A.head h).dZ i d : EReal) := by
  have e : val_main_v99 (F := Ideal) x0 x1 x2 x3 x4 (ix2 i (feat h d))
      = val_main_v54 (F := Ideal) x0 x1 x2 x3 (ix2 i (feat h d)) * x4 (ix2 i (feat h d)) * Ideal.div 1 (1 + Ideal.exp (-x2 (ix2 i (colZ h d))))
        + x2 (ix2 i (colZ h d)) * (val_main_v54 (F := Ideal) x0 x1 x2 x3 (ix2 i (feat h d)) * x4 (ix2 i (feat h d)))
          * (Ideal.div 1 (1 + Ideal.exp (-x2 (ix2 i (colZ h d)))) * (1 - Ideal.div 1 (1 + Ideal.exp (-x2 (ix2 i (colZ h d)))))) := by
    unfold feat colZ
    pointwise [val_main_v99, val_main_v60, val_main_call2_v2, val_main_call2_v1, val_main_call2_v0, val_main_v58, val_main_v55_1, val_main_call1_v7, val_main_call1_v6, val_main_call1_cst_1, val_main_v57, val_main_v55_0, val_main_v55_2, val_main_call1_v4, val_main_call1_cst_0, val_main_call1_v3, val_main_call1_v2, val_main_call1_cst, val_main_call1_v1, val_main_call1_v0, val_main_v3, val_main_v2]
  rw [e, out_apply H, H.p, H.y, logistic, ← EReal.coe_one]
  simp only [← EReal.coe_mul, ← EReal.coe_sub, ← EReal.coe_add]
  congr 1
  show _ = A.y i (feat h d) * _ * (Cert.Math.sig (A.p i (colZ h d)) * (1 + A.p i (colZ h d) * (1 - Cert.Math.sig (A.p i (colZ h d)))))
  ring

/-- The reference's gradients of the weights. -/
theorem dp_apply (h : Fin 16) (i j : Fin 8192) : val_main_v63 (F := Ideal) x2 x4 (ix3 h i j) = ((A.head h).dP i j : EReal) := by
  pointwise [val_main_v63, val_main_v62, val_main_v61, val_main_v7, val_main_v1, val_main_v0]
  simp only [g_apply H, H.p, ← EReal.coe_mul, sum_coe]
  rfl

/-- The reference's gradients of the logits. -/
theorem ds_apply (h : Fin 16) (i j : Fin 8192) : val_main_v78 (F := Ideal) x0 x1 x2 x3 x4 (ix3 h i j) = ((A.head h).dS i j : EReal) := by
  have p := (A.head h).exA_sum_pos (off A h) i
  pointwise [val_main_v78, val_main_call3_v0, val_main_call3_cst, val_main_v77, val_main_v76, val_main_v75, val_main_v74, val_main_v73, val_main_v72, val_main_v71, val_main_v70, val_main_v69, val_main_v68, val_main_v67, val_main_v66, val_main_v51, val_main_v50, val_main_v49, val_main_cst_10, val_main_v46, val_main_cst_11, val_main_cst_12, val_main_v23_1, val_main_v22, val_main_v21, val_main_v20, val_main_v19, val_main_v18, val_main_v17]
  rw [causal]
  split_ifs with hij
  · simp only [dp_apply H, ex_apply H, sum_apply H, ← EReal.coe_one, ← EReal.coe_mul, div_coe _ p.ne', div_coe _ (mul_pos p p).ne', sum_coe, ← EReal.coe_neg, ← EReal.coe_add,
      Finset.sum_const, Finset.card_univ, Fintype.card_fin, one_smul]
    congr 1
    exact (A.head h).rs_eq (off A h) i j
  · rw [(A.head h).dS_of_lt hij]; rfl

/-- The reference's query gradients. -/
theorem dq_apply (i : Fin 8192) (h : Fin 16) (d : Fin 128) : val_main_v95 (F := Ideal) x0 x1 x2 x3 x4 (ix2 i (feat h d)) = ((A.head h).dQ i d : EReal) := by
  unfold feat
  pointwise [val_main_v95, val_main_v92, val_main_v91, val_main_v88, val_main_v87, val_main_cst_17, val_main_v6]
  simp only [ds_apply H, H.k, word_scale, ← EReal.coe_mul, sum_coe]
  congr 1
  show _ = scale * ∑ j, (A.head h).dS i j * A.k j (feat h d)
  rw [Finset.mul_sum]
  exact Finset.sum_congr rfl fun j _ => by unfold feat; ring

/-- The reference's key gradients. -/
theorem dk_apply (i : Fin 8192) (h : Fin 16) (d : Fin 128) : val_main_v96 (F := Ideal) x0 x1 x2 x3 x4 (ix2 (feat h d) i) = ((A.head h).dK i d : EReal) := by
  unfold feat
  pointwise [val_main_v96, val_main_v94, val_main_v90, val_main_v89, val_main_v88, val_main_v87, val_main_cst_17, val_main_v5]
  simp only [ds_apply H, H.q, word_scale, ← EReal.coe_mul, sum_coe]
  congr 1
  show _ = scale * ∑ j, (A.head h).dS j i * A.q j (feat h d)
  rw [Finset.mul_sum]
  exact Finset.sum_congr rfl fun j _ => by unfold feat; ring

/-- The reference's value gradients. -/
theorem dv_apply (i : Fin 8192) (h : Fin 16) (d : Fin 128) : val_main_v97 (F := Ideal) x0 x1 x2 x3 x4 (ix2 (feat h d) i) = ((A.head h).dV i d : EReal) := by
  unfold feat
  pointwise [val_main_v97, val_main_v93, val_main_v65, val_main_v64, val_main_v62, val_main_v61, val_main_v48, val_main_v47, val_main_v46]
  simp only [g_apply H, ex_apply H, sum_apply H, div_coe _ ((A.head h).exA_sum_pos (off A h) _).ne', Head.exA_div, ← EReal.coe_mul, sum_coe]
  rfl

/-- The reference's bias gradients. -/
theorem dc_apply (h : Fin 16) (b : Fin 8) (r : Fin 1024) : val_main_v98 (F := Ideal) x0 x1 x2 x3 x4 (ix4 h b 0 r) = ((A.head h).dC (posOf b r) : EReal) := by
  pointwise [val_main_v98, val_main_v86, val_main_v85, val_main_v84, val_main_v83, val_main_v82, val_main_v81, val_main_v80, val_main_v79, val_main_cst_13, val_main_cst_14, val_main_cst_15, val_main_cst_16]
  simp only [ds_apply H, ← EReal.coe_neg, sum_coe, ← EReal.coe_add, Head.dS_sum, Finset.sum_neg_distrib, Finset.sum_const, Finset.card_univ, Fintype.card_fin, one_smul, add_zero]
  rfl

end Cert.ReferenceIdeal.Attn

end
-- ==== Proof.Value.lean ====
/-
The values the two programs end with: the five gradients over the reals.
-/
module

public import proofs.«01_k».proof.Proof.Arrays
public import proofs.«01_k».proof.Proof.RefValue
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.SL.Sem
open Cert.Math

/-- The gradient of the queries, as an array. -/
def arrQ (A : Args) (i : S8192x2048.Idx) : EReal := (A.outQ (i 0) (i 1) : EReal)
/-- The gradient of the keys, as an array. -/
def arrK (A : Args) (i : S2048x8192.Idx) : EReal := (A.outK (i 0) (i 1) : EReal)

variable (m : (ℓ : Loc nD τ sig) → Buf (Elt Ideal) ℓ) (ρ : Dev nD → PrngReg)

/-- The idealized kernel ends with the five gradients. -/
theorem run_value (A : Dev nD → Args) (H : ∀ c, Are m c (A c)) :
    θ_run defs (onTc (τ := τ) (main (F := Ideal))) ⟨m, fun _ => 0, ρ⟩ (fun r => ∀ c : Dev nD,
      r.2.mem ((c.tc : Thread nD τ).loc main_v52) = arrQ (A c)
      ∧ r.2.mem ((c.tc : Thread nD τ).loc main_v54) = arrK (A c)
      ∧ r.2.mem ((c.tc : Thread nD τ).loc main_v50_2) = arrV (A c)
      ∧ r.2.mem ((c.tc : Thread nD τ).loc main_v50_3) = arrC (A c)
      ∧ r.2.mem ((c.tc : Thread nD τ).loc main_v50_4) = arrZ (A c)) :=
  (θ_run defs _ _).mono (fun _ h c =>
    ⟨((h.1 c).2 main_v52 (Pipeline.mem_restRefs_of main_v52 (by decide) (by decide))).trans (funext fun i => by
        obtain ⟨a, b, rfl⟩ : ∃ (a : Fin 8192) (b : Fin 2048), i = ix2 a b := ⟨i 0, i 1, eq_ix2 i⟩
        exact tail_52 (H c) a b),
      ((h.1 c).2 main_v54 (Pipeline.mem_restRefs_of main_v54 (by decide) (by decide))).trans (funext fun i => by
        obtain ⟨a, b, rfl⟩ : ∃ (a : Fin 2048) (b : Fin 8192), i = ix2 a b := ⟨i 0, i 1, eq_ix2 i⟩
        exact tail_54 (H c) a b),
      ((h.1 c).1 12).trans (arr12 (H c)), ((h.1 c).1 13).trans (arr13 (H c)), ((h.1 c).1 14).trans (arr14 (H c))⟩) (run_main m ρ)

end Cert.KernelIdeal.Attn

namespace Cert.ReferenceIdeal.Attn

open Cert.ReferenceIdeal Cert.ReferenceIdeal.Gen Cert.ReferenceIdeal.Read
open Idealize.ShloMosaic Idealize.ShloMosaic.TcCoe Idealize.SL.Sem
open Cert.Math
open Cert.KernelIdeal.Attn (arrQ arrK arrV arrC arrZ)

variable {x0 x1 : (⟨S8192x2048, .f32⟩ : BufTy).Contents (Elt Ideal)} {x2 : (⟨S8192x8192, .bf16⟩ : BufTy).Contents (Elt Ideal)}
    {x3 : (⟨S128x8192, .f32⟩ : BufTy).Contents (Elt Ideal)} {x4 : (⟨S8192x2048, .bf16⟩ : BufTy).Contents (Elt Ideal)} {A : Args}
    (H : Are x0 x1 x2 x3 x4 A)
include H

/-- The reference's query gradients are the named array. -/
theorem q_eq : val_main_v95 (F := Ideal) x0 x1 x2 x3 x4 = arrQ A := funext fun i => by
  obtain ⟨a, b, rfl⟩ : ∃ (a : Fin 8192) (b : Fin 2048), i = ix2 a b := ⟨i 0, i 1, eq_ix2 i⟩
  rw [← feat_of b, dq_apply H]
  show _ = ((A.head (headOf (feat _ _))).dQ _ (within (feat _ _)) : EReal)
  rw [headOf_feat, within_feat]; rfl
/-- The reference's key gradients are the named array. -/
theorem k_eq : val_main_v96 (F := Ideal) x0 x1 x2 x3 x4 = arrK A := funext fun i => by
  obtain ⟨b, a, rfl⟩ : ∃ (b : Fin 2048) (a : Fin 8192), i = ix2 b a := ⟨i 0, i 1, eq_ix2 i⟩
  rw [← feat_of b, dk_apply H]
  show _ = ((A.head (headOf (feat _ _))).dK _ (within (feat _ _)) : EReal)
  rw [headOf_feat, within_feat]; rfl
/-- The reference's value gradients are the named array. -/
theorem v_eq : val_main_v97 (F := Ideal) x0 x1 x2 x3 x4 = arrV A := funext fun i => by
  obtain ⟨b, a, rfl⟩ : ∃ (b : Fin 2048) (a : Fin 8192), i = ix2 b a := ⟨i 0, i 1, eq_ix2 i⟩
  rw [← feat_of b, dv_apply H]
  show _ = ((A.head (headOf (feat _ _))).dV _ (within (feat _ _)) : EReal)
  rw [headOf_feat, within_feat]; rfl
/-- The reference's bias gradients are the named array. -/
theorem c_eq : val_main_v98 (F := Ideal) x0 x1 x2 x3 x4 = arrC A := funext fun i => by
  obtain ⟨h, b, r, rfl⟩ : ∃ (h : Fin 16) (b : Fin 8) (r : Fin 1024), i = ix4 h b 0 r :=
    ⟨i 0, i 1, i 3, funext fun a => by fin_cases a <;> first | rfl | exact Subsingleton.elim (α := Fin 1) _ _⟩
  exact dc_apply H h b r
/-- The reference's gate gradients are the named array. -/
theorem z_eq : val_main_v99 (F := Ideal) x0 x1 x2 x3 x4 = arrZ A := funext fun i => by
  obtain ⟨a, b, rfl⟩ : ∃ (a : Fin 8192) (b : Fin 2048), i = ix2 a b := ⟨i 0, i 1, eq_ix2 i⟩
  rw [← feat_of b, dz_apply H]
  show _ = ((A.head (headOf (feat _ _))).dZ _ (within (feat _ _)) : EReal)
  rw [headOf_feat, within_feat]; rfl

omit H in
/-- The reference ends with the same five gradients. -/
theorem run_value (m : (ℓ : Loc nD τ sig) → Buf (Elt Ideal) ℓ) (ρ : Dev nD → PrngReg) (A : Dev nD → Args)
    (H : ∀ c : Dev nD, Are (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (A c)) :
    θ_run defs (onTc (τ := τ) (main (F := Ideal))) ⟨m, fun _ => 0, ρ⟩ (fun r => ∀ c : Dev nD,
      r.2.mem ((c.tc : Thread nD τ).loc main_v95) = arrQ (A c)
      ∧ r.2.mem ((c.tc : Thread nD τ).loc main_v96) = arrK (A c)
      ∧ r.2.mem ((c.tc : Thread nD τ).loc main_v97) = arrV (A c)
      ∧ r.2.mem ((c.tc : Thread nD τ).loc main_v98) = arrC (A c)
      ∧ r.2.mem ((c.tc : Thread nD τ).loc main_v99) = arrZ (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1.trans (val_main_v95_eq m c)).trans (q_eq (H c)), ((h c).2.1.trans (val_main_v96_eq m c)).trans (k_eq (H c)),
      ((h c).2.2.1.trans (val_main_v97_eq m c)).trans (v_eq (H c)), ((h c).2.2.2.1.trans (val_main_v98_eq m c)).trans (c_eq (H c)),
      ((h c).2.2.2.2.1.trans (val_main_v99_eq m c)).trans (z_eq (H c)), (h c).2.2.2.2.2⟩)
    (Cert.ReferenceIdeal.Value.run (F := Ideal) m ρ)

end Cert.ReferenceIdeal.Attn

end
-- ==== Proof.Finite.lean ====
/-
What the precondition says: the argument arrays are arrays of reals.
-/
module

public import proofs.«01_k».proof.Pre_finite
public import proofs.«01_k».proof.Proof.Reals
public import Idealize.ShloMosaic.Lib.Pointwise

@[expose] public section

set_option maxRecDepth 16384

noncomputable section

namespace Cert.Finite

open Cert.Pre_finite
open Idealize.ShloMosaic Idealize.ShloMosaic.TcCoe

/-- The shape relations the precondition's operations take. -/
theorem facts : Cert.Pre_finite.Facts where
  bcast_S_S8192x2048 := by decide
  reducesTo_S8192x2048_S_d0_1 := by decide
  h_S_ := by decide
  bcast_S_S8192x8192 := by decide
  reducesTo_S8192x8192_S_d0_1 := by decide
  bcast_S_S128x8192 := by decide
  reducesTo_S128x8192_S_d0_1 := by decide

/-- A conjunction is true only where both parts are. -/
theorem and_one {a b : BitVec 1} (h : IntOp.andi a b = 1#1) : a = 1#1 ∧ b = 1#1 := by
  revert a b; decide

/-- Bits whose conjunction is one are one each. -/
theorem all_one {ι : Type} (s : Finset ι) (p : ι → BitVec 1) (h : Finset.fold IntOp.andi (1#1) p s = 1#1) : ∀ x ∈ s, p x = 1#1 := by
  classical
  induction s using Finset.induction_on with
  | empty => simp
  | insert a s ha ih =>
    rw [Finset.fold_insert ha] at h
    intro x hx
    rcases Finset.mem_insert.mp hx with rfl | hx
    · exact (and_one h).1
    · exact ih (and_one h).2 x hx

/-- A conjunction over a whole type is true only where each part is. -/
theorem univ_one {ι : Type} [Fintype ι] {p : ι → BitVec 1} (h : Finset.fold IntOp.andi (1#1) p Finset.univ = 1#1) (x : ι) : p x = 1#1 :=
  all_one _ p h x (Finset.mem_univ x)

/-- The word of infinity in f32. -/
theorem word_top32 : Ideal.ofBits .f32 0x7F800000#32 = ⊤ := by
  simp [Ideal.ofBits, Ideal.ieee, -EReal.coe_mul]
/-- The word of infinity in bf16. -/
theorem word_top16 : Ideal.ofBits .bf16 0x7F80#16 = ⊤ := by
  simp [Ideal.ofBits, Ideal.ieee, -EReal.coe_mul]

/-- A value whose magnitude is below infinity is a real. -/
theorem real_of {t : FTy} (x : Ideal t) (h : BitVec.ofBool (decide (FloatOps.absf x < (⊤ : EReal))) = 1#1) : ∃ r : ℝ, x = (r : EReal) := by
  have h' : FloatOps.absf x < (⊤ : EReal) := by
    by_contra h'
    rw [decide_eq_false h'] at h
    exact absurd h (by decide)
  change max (x : EReal) (-x) < ⊤ at h'
  change EReal at x
  induction x using EReal.rec with
  | bot => simp at h'
  | top => simp at h'
  | coe r => exact ⟨r, rfl⟩

/-- Under the precondition every argument array holds reals. -/
theorem reals [Cert.Pre_finite.Facts] {x0 x1 : FVec Ideal S8192x2048 .f32} {x2 : FVec Ideal S8192x8192 .bf16} {x3 : FVec Ideal S128x8192 .f32} {x4 : FVec Ideal S8192x2048 .bf16}
    (h : Cert.Pre_finite.fn (F := Ideal) x0 x1 x2 x3 x4 = fun _ => 1#1) :
    (∀ i j, ∃ r : ℝ, x0 (ix2 i j) = (r : EReal)) ∧ (∀ i j, ∃ r : ℝ, x1 (ix2 i j) = (r : EReal)) ∧ (∀ i j, ∃ r : ℝ, x2 (ix2 i j) = (r : EReal))
      ∧ (∀ i j, ∃ r : ℝ, x3 (ix2 i j) = (r : EReal)) ∧ ∀ i j, ∃ r : ℝ, x4 (ix2 i j) = (r : EReal) := by
  have h := congrFun h ix0
  unfold fn fn_part1 at h
  dsimp only at h
  pointwise at h
  rw [word_top32, word_top16] at h
  obtain ⟨h, h4⟩ := and_one h
  obtain ⟨h, h3⟩ := and_one h
  obtain ⟨h, h2⟩ := and_one h
  obtain ⟨h, h1⟩ := and_one h
  obtain ⟨_, h0⟩ := and_one h
  have e0 := univ_one h0
  have e1 := univ_one h1
  have e2 := univ_one h2
  have e3 := univ_one h3
  have e4 := univ_one h4
  exact ⟨fun i j => real_of _ (e0 (i, j)), fun i j => real_of _ (e1 (i, j)), fun i j => real_of _ (e2 (i, j)), fun i j => real_of _ (e3 (i, j)),
    fun i j => real_of _ (e4 (i, j))⟩

end Cert.Finite

end
-- ==== Proof.NormGrad.lean ====
/- The gradient of the input projection and the norm before it: for each block of 1024 rows six grid points walk the 6144
   columns of `dproj` and add each block's product with the weight to a carried scratch, which then holds the gradient `a` of
   the normalised input; the last of the six takes `a` through the norm and adds the block's part of the gradient of the
   norm's gain to a row that stays until the end. -/
module

public import proofs.«01_k».proof.Defs
public import proofs.«01_k».proof.Proof.Reals
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Claim

@[expose] public section

set_option maxRecDepth 16384

noncomputable section

namespace Cert.NormGrad

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- The scratch is cleared to zero. -/
theorem clear (j) : k0_pay1 (F := Ideal) j = 0 := by pointwise [k0_pay1]

/-- A point adds its block's product. -/
theorem step (acc : FVec Ideal S1024x1024 .f32) (dp w : FVec Ideal S1024x1024 .bf16) (j) :
    k0_pay2 (F := Ideal) acc dp w j = acc j + ∑ k : Fin 1024, dp (ix2 (j 0) k) * w (ix2 (j 1) k) := by pointwise [k0_pay2]

/-- The factor that brings a row to unit size. -/
abbrev unit (x : Fin 1024 → EReal) : EReal :=
  Ideal.rsqrt (Ideal.div (∑ k, x k * x k) (Ideal.ofBits .f32 0x44800000#32) + Ideal.ofBits .f32 0x358637BD#32)

/-- What the last point of a block of rows stores of the input's gradient. -/
theorem store (a x : FVec Ideal S1024x1024 .f32) (g : FVec Ideal S1x1024 .f32) (d : FVec Ideal S1024x1024 .f32) (j) :
    k0_pay5 (F := Ideal) a x g d j = d j + unit (fun k => x (ix2 (j 0) k)) * (a j * g (ix2 0 (j 1))
      - x j * unit (fun k => x (ix2 (j 0) k)) * Ideal.div (∑ k, a (ix2 (j 0) k) * g (ix2 0 k) * (x (ix2 (j 0) k) * unit (fun k => x (ix2 (j 0) k))))
          (Ideal.ofBits .f32 0x44800000#32)) := by
  pointwise [k0_pay5, k0_pay4, k0_pay3]

/-- Its part of the gain's gradient. -/
theorem part (a x : FVec Ideal S1024x1024 .f32) (j) :
    k0_pay6 (F := Ideal) a x j = ∑ k : Fin 1024, a (ix2 k (j 1)) * (x (ix2 k (j 1)) * unit (fun l => x (ix2 k l))) := by
  pointwise [k0_pay6, k0_pay4, k0_pay3]

/-- It is added to what is there. -/
theorem more (a x : FVec Ideal S1024x1024 .f32) (p) (j) : k0_pay7 (F := Ideal) a x p j = p j + k0_pay6 (F := Ideal) a x j := by
  pointwise [k0_pay7]

/-- The gradient of the normalised input. -/
abbrev ref17 (w : FVec Ideal S1024x6144 .f32) (dp : FVec Ideal S8192x6144 .bf16) : FVec Ideal S8192x1024 .f32 :=
  Cert.Reference2Ideal.Read.val_main_v17 (F := Ideal) w dp

/-- Its entries. -/
theorem ref17_at (w : FVec Ideal S1024x6144 .f32) (dp : FVec Ideal S8192x6144 .bf16) (j) :
    ref17 w dp j = ∑ l : Fin 6144, dp (ix2 (j 0) l) * w (ix2 (j 1) l) := by
  pointwise [ref17, Cert.Reference2Ideal.Read.val_main_v17, Cert.Reference2Ideal.Read.val_main_v16]

/-- The gain's gradient. -/
theorem ref20_at (x : FVec Ideal S8192x1024 .f32) (w : FVec Ideal S1024x6144 .f32) (dp : FVec Ideal S8192x6144 .bf16) (j) :
    Cert.Reference2Ideal.Read.val_main_v20 (F := Ideal) x w dp j
      = ∑ k : Fin 8192, x (ix2 k (j 1)) * unit (fun l => x (ix2 k l)) * ref17 w dp (ix2 k (j 1)) := by
  pointwise [ref17, Cert.Reference2Ideal.Read.val_main_v20, Cert.Reference2Ideal.Read.val_main_v19, Cert.Reference2Ideal.Read.val_main_v18,
    Cert.Reference2Ideal.Read.val_main_v12, Cert.Reference2Ideal.Read.val_main_v11, Cert.Reference2Ideal.Read.val_main_v7, Cert.Reference2Ideal.Read.val_main_v6,
    Cert.Reference2Ideal.Read.val_main_v5, Cert.Reference2Ideal.Read.val_main_v4, Cert.Reference2Ideal.Read.val_main_v3, Cert.Reference2Ideal.Read.val_main_v2,
    Cert.Reference2Ideal.Read.val_main_v1, Cert.Reference2Ideal.Read.val_main_v0, Cert.Reference2Ideal.Read.val_main_cst, Cert.Reference2Ideal.Read.val_main_cst_0,
    Cert.Reference2Ideal.Read.val_main_cst_1, Cert.Reference2Ideal.Read.val_main_cst_3]

/-- The word of 1024. -/
theorem word_width : Ideal.ofBits .f32 0x44800000#32 = ((1024 : ℝ) : EReal) := by
  simp [Ideal.ofBits, Ideal.ieee, -EReal.coe_mul]; norm_num
/-- The word of minus one half. -/
theorem word_minus_half : Ideal.ofBits .f32 0xBF000000#32 = ((-(1 / 2) : ℝ) : EReal) := by
  simp [Ideal.ofBits, Ideal.ieee, -EReal.coe_mul]; norm_num
/-- What is added to a row's mean square. -/
def eps : ℝ := 8796093 / 8796093022208
/-- Its word. -/
theorem word_eps : Ideal.ofBits .f32 0x358637BD#32 = (eps : EReal) := by
  unfold eps; simp [Ideal.ofBits, Ideal.ieee, -EReal.coe_mul]; norm_num

/-- Half the shift of a row of the input's gradient along the row itself. -/
abbrev shift (x a g : Fin 1024 → EReal) : EReal :=
  Ideal.div ((∑ k, x k * (a k * g k)) * (Ideal.ofBits .f32 0xBF000000#32
    * Ideal.div (unit x) (Ideal.div (∑ k, x k * x k) (Ideal.ofBits .f32 0x44800000#32) + Ideal.ofBits .f32 0x358637BD#32)))
    (Ideal.ofBits .f32 0x44800000#32)

/-- The input's gradient. -/
theorem ref37_at (x : FVec Ideal S8192x1024 .f32) (g : FVec Ideal S1x1024 .f32) (w : FVec Ideal S1024x6144 .f32)
    (dp : FVec Ideal S8192x6144 .bf16) (d : FVec Ideal S8192x1024 .f32) (j) :
    Cert.Reference2Ideal.Read.val_main_v37 (F := Ideal) x g w dp d j
      = d j + ref17 w dp j * g (ix2 0 (j 1)) * unit (fun k => x (ix2 (j 0) k))
        + x j * shift (fun k => x (ix2 (j 0) k)) (fun k => ref17 w dp (ix2 (j 0) k)) (fun k => g (ix2 0 k))
        + shift (fun k => x (ix2 (j 0) k)) (fun k => ref17 w dp (ix2 (j 0) k)) (fun k => g (ix2 0 k)) * x j := by
  pointwise [ref17, Cert.Reference2Ideal.Read.val_main_v37, Cert.Reference2Ideal.Read.val_main_v36, Cert.Reference2Ideal.Read.val_main_v35, Cert.Reference2Ideal.Read.val_main_v34, Cert.Reference2Ideal.Read.val_main_v33, Cert.Reference2Ideal.Read.val_main_v32, Cert.Reference2Ideal.Read.val_main_v31, Cert.Reference2Ideal.Read.val_main_v30, Cert.Reference2Ideal.Read.val_main_v29, Cert.Reference2Ideal.Read.val_main_v28, Cert.Reference2Ideal.Read.val_main_v27, Cert.Reference2Ideal.Read.val_main_v26, Cert.Reference2Ideal.Read.val_main_v25, Cert.Reference2Ideal.Read.val_main_v24, Cert.Reference2Ideal.Read.val_main_v23, Cert.Reference2Ideal.Read.val_main_v22, Cert.Reference2Ideal.Read.val_main_v21, Cert.Reference2Ideal.Read.val_main_v10, Cert.Reference2Ideal.Read.val_main_v9, Cert.Reference2Ideal.Read.val_main_v8, Cert.Reference2Ideal.Read.val_main_v7, Cert.Reference2Ideal.Read.val_main_v6,
    Cert.Reference2Ideal.Read.val_main_v5, Cert.Reference2Ideal.Read.val_main_v4, Cert.Reference2Ideal.Read.val_main_v3, Cert.Reference2Ideal.Read.val_main_v2,
    Cert.Reference2Ideal.Read.val_main_v1, Cert.Reference2Ideal.Read.val_main_v0, Cert.Reference2Ideal.Read.val_main_cst, Cert.Reference2Ideal.Read.val_main_cst_0,
    Cert.Reference2Ideal.Read.val_main_cst_1, Cert.Reference2Ideal.Read.val_main_cst_2, Cert.Reference2Ideal.Read.val_main_cst_4, Cert.Reference2Ideal.Read.val_main_cst_5, Cert.Reference2Ideal.Read.val_main_cst_6]
  simp only [Fin.sum_univ_one]

/-- Scaling by a real that is not negative distributes over a sum. -/
theorem scale_sum {ι : Type} (s : Finset ι) (f : ι → EReal) {u : ℝ} (hu : 0 ≤ u) : ∑ k ∈ s, f k * (u : EReal) = (∑ k ∈ s, f k) * (u : EReal) := by
  classical
  induction s using Finset.induction_on with
  | empty => simp
  | insert a s ha ih =>
    rw [Finset.sum_insert ha, Finset.sum_insert ha, ih, mul_comm (_ + _) (u : EReal),
      EReal.left_distrib_of_nonneg_of_ne_top (by exact_mod_cast hu) (EReal.coe_ne_top _), mul_comm, mul_comm _ (u : EReal)]

/-- A square is not negative. -/
theorem square_nonneg (x : EReal) : 0 ≤ x * x := by
  induction x using EReal.rec with
  | bot => simp
  | top => simp
  | coe r => exact_mod_cast mul_self_nonneg r

/-- A row has an infinite entry, and with it an infinite sum of squares, or holds reals. -/
theorem row_cases (x : Fin 1024 → EReal) : (∑ k, x k * x k) = ⊤ ∨ ∃ r : Fin 1024 → ℝ, x = fun k => (r k : EReal) := by
  by_cases h : ∃ k, x k * x k = ⊤
  · obtain ⟨k, hk⟩ := h
    refine Or.inl (top_le_iff.mp (hk ▸ Finset.single_le_sum (f := fun k => x k * x k) (fun l _ => square_nonneg (x l)) (Finset.mem_univ k)))
  · refine Or.inr ?_
    have e : ∀ k, ∃ r : ℝ, x k = (r : EReal) := fun k => by
      have h' : x k * x k ≠ ⊤ := fun h' => h ⟨k, h'⟩
      generalize x k = y at h'
      induction y using EReal.rec with
      | bot => simp at h'
      | top => simp at h'
      | coe r => exact ⟨r, rfl⟩
    choose r hr using e
    exact ⟨r, funext hr⟩

/-- The kernel's and the derivative's gradients of a row agree: the reciprocal root's derivative is minus half its cube, and where the row's square is infinite both pass only the residual's gradient. -/
theorem core (x a g : Fin 1024 → EReal) (d : EReal) (b : Fin 1024) :
    d + unit x * (a b * g b - x b * unit x * Ideal.div (∑ k, a k * g k * (x k * unit x)) (Ideal.ofBits .f32 0x44800000#32))
    = d + a b * g b * unit x + x b * shift x a g + shift x a g * x b := by
  have h1024 : (1024 : ℝ) ≠ 0 := by norm_num
  rcases row_cases x with h | ⟨r, rfl⟩
  · have hv : Ideal.div (∑ k, x k * x k) (Ideal.ofBits .f32 0x44800000#32) + Ideal.ofBits .f32 0x358637BD#32 = ⊤ := by
      rw [h, word_width, Ideal.div_coe h1024, word_eps, EReal.top_mul_coe_of_pos (by norm_num), EReal.top_add_coe]
    have hu : unit x = 0 := by
      unfold unit; rw [hv]; rfl
    have hs : shift x a g = 0 := by
      unfold shift; rw [hu, hv]
      simp [Ideal.div, word_width]
    rw [hu, hs]; simp
  · have hv : Ideal.div (∑ k, (r k : EReal) * (r k : EReal)) (Ideal.ofBits .f32 0x44800000#32) + Ideal.ofBits .f32 0x358637BD#32
        = (((∑ k, r k * r k) / 1024 + eps : ℝ) : EReal) := by
      simp only [word_width, word_eps, ← EReal.coe_mul, Cert.Reals.sum_coe, Cert.Reals.div_coe _ h1024, ← EReal.coe_add]
    have hp : 0 < (∑ k, r k * r k) / 1024 + eps := by
      have h := Finset.sum_nonneg (s := Finset.univ) fun k _ => mul_self_nonneg (r k)
      have he : 0 < eps := by unfold eps; norm_num
      positivity
    unfold shift
    unfold unit
    rw [hv]
    generalize (∑ k, r k * r k) / 1024 + eps = v at hp
    have hr : Ideal.rsqrt (v : EReal) = (((Real.sqrt v)⁻¹ : ℝ) : EReal) := by
      rw [Ideal.rsqrt_coe, if_neg (not_lt.mpr hp.le), if_neg hp.ne']
    rw [hr]
    have hs : 0 < Real.sqrt v := Real.sqrt_pos.mpr hp
    have hq : v = Real.sqrt v * Real.sqrt v := (Real.mul_self_sqrt hp.le).symm
    generalize Real.sqrt v = s at hs hq
    subst hq
    have hi : (0 : EReal) ≤ ((s⁻¹ : ℝ) : EReal) := by exact_mod_cast (inv_pos.mpr hs).le
    have ht : ∑ k, a k * g k * ((r k : EReal) * ((s⁻¹ : ℝ) : EReal)) = (∑ k, (r k : EReal) * (a k * g k)) * ((s⁻¹ : ℝ) : EReal) := by
      rw [← scale_sum _ _ (inv_pos.mpr hs).le]
      exact Finset.sum_congr rfl fun k _ => by rw [← mul_assoc, mul_comm (a k * g k)]
    rw [ht, word_width, word_minus_half, Ideal.div_coe h1024, Ideal.div_coe h1024, Cert.Reals.div_coe _ hp.ne']
    dsimp only
    generalize (∑ k, (r k : EReal) * (a k * g k)) = q
    generalize a b * g b = p
    have e1 : (r b : EReal) * ((s⁻¹ : ℝ) : EReal) * (q * ((s⁻¹ : ℝ) : EReal) * ((1 / 1024 : ℝ) : EReal))
        = q * ((r b * s⁻¹ * s⁻¹ * (1 / 1024) : ℝ) : EReal) := by
      simp only [EReal.coe_mul]; ac_rfl
    have e2 : (r b : EReal) * (q * (((-(1 / 2) : ℝ) : EReal) * ((s⁻¹ / (s * s) : ℝ) : EReal)) * ((1 / 1024 : ℝ) : EReal))
        = q * ((r b * (-(1 / 2) * (s⁻¹ / (s * s))) * (1 / 1024) : ℝ) : EReal) := by
      simp only [EReal.coe_mul]; ac_rfl
    rw [mul_comm (_ * _) (r b : EReal), e1, e2, add_assoc (d + _)]
    have e3 : ∀ z : EReal, z + z = z * ((2 : ℝ) : EReal) := fun z => by
      have h := EReal.left_distrib_of_nonneg (c := z) (zero_le_one (α := EReal)) (zero_le_one (α := EReal))
      rw [mul_one] at h
      exact h.symm.trans (congrArg (z * ·) (by rw [← EReal.coe_one, ← EReal.coe_add]; norm_num))
    rw [e3, mul_assoc q, ← EReal.coe_mul, sub_eq_add_neg, EReal.left_distrib_of_nonneg_of_ne_top hi (EReal.coe_ne_top _), ← add_assoc, mul_comm _ p,
      ← mul_neg q, ← EReal.coe_neg, mul_left_comm, ← EReal.coe_mul]
    congr 3
    field_simp
    try ring

/-- The rows of point `t`'s block. -/
abbrev row (t : Fin cfg0.N) (k : Fin 1024) : Fin 8192 := ⟨t.val / 6 * 1024 + k.val, by
  have h : t.val < 48 := t.isLt
  omega⟩

/-- Point `t` reads the rows of block `t / 6`, of `dproj` and the weight at columns `t % 6`, and writes the rows of block `t / 6` and the one row of the gain's gradient. -/
theorem places : ∀ t : Fin cfg0.N, win0_0.index t = ![t.val / 6, t.val % 6] ∧ win0_1.index t = ![0, t.val % 6]
    ∧ win0_2.index t = ![t.val / 6, 0] ∧ win0_3.index t = ![0, 0] ∧ win0_4.index t = ![t.val / 6, 0] ∧ win0_5.index t = ![t.val / 6, 0]
    ∧ win0_6.index t = ![0, 0] :=
  (by decide +kernel : ∀ t : Fin grid0.N, _)

/-- After a block's six points the scratch holds the gradient of the normalised input at the block's rows. -/
theorem sum_at (c : Dev nD) (t : Fin cfg0.N) (h : t.val % 6 = 5) (j : S1024x1024.Idx) : (outsAt0 m c t.val t.isLt).2.2 j
    = ref17 (m ((c : Thread nD τ).loc main_arg2)) (m ((c : Thread nD τ).loc main_arg3)) (ix2 (row t (j 0)) (j 1)) := by
  rw [Pipeline.eq_sum_fin_of_reset_step_apply_of_flush (fun n h => (outsAt0 m c n h).2.2) 6 (fun _ => 0) _
    (fun t h j => by rw [outsAt0_A m c t h (by omega)]; frame_out; rw [step, clear])
    (fun t h j => by
      by_cases h' : t.val % 6 = 5
      · by_cases h6 : t.val < 6
        · rw [outsAt0_C m c t h h' h6 (by omega)]; frame_out; rw [step]; exact congrArg (· + _) (congrFun ((Memref.isWhole_whole cc0_scratch0).read_unread _) j)
        · rw [outsAt0_D m c t h h' h6 (by omega)]; frame_out; rw [step]; exact congrArg (· + _) (congrFun ((Memref.isWhole_whole cc0_scratch0).read_unread _) j)
      · rw [outsAt0_B m c t h h']; frame_out; rw [step]; exact congrArg (· + _) (congrFun ((Memref.isWhole_whole cc0_scratch0).read_unread _) j))
    t h _, zero_add, ref17_at]
  refine Fin.sum_mul_add_congr fun s k hl => ?_
  blk_point [iblk, V, places t, places ⟨_, Pipeline.run_point_lt_of_flush t h s⟩]

/-- The last of six points takes the scratch as it leaves it through the norm. -/
theorem last (c : Dev nD) (t : Fin cfg0.N) (h : t.val % 6 = 5) : (outsAt0 m c t.val t.isLt).1
    = k0_pay5 (F := Ideal) (outsAt0 m c t.val t.isLt).2.2 (iblk m c 2 t) (iblk m c 3 t) (iblk m c 4 t) := by
  by_cases h6 : t.val < 6
  · rw [outsAt0_C m c t (by omega) h h6 (by omega)]; frame_out
  · rw [outsAt0_D m c t (by omega) h h6 (by omega)]; frame_out

/-- The reads of point `t`. -/
theorem x_at (c : Dev nD) (t : Fin cfg0.N) (a b : Fin 1024) : (iblk m c 2 t : FVec Ideal S1024x1024 .f32) (ix2 a b)
    = m ((c : Thread nD τ).loc main_arg0) (ix2 (row t a) b) := by
  blk_point [iblk, V, places t]

theorem g_at (c : Dev nD) (t : Fin cfg0.N) (b : Fin 1024) : (iblk m c 3 t : FVec Ideal S1x1024 .f32) (ix2 0 b)
    = m ((c : Thread nD τ).loc main_arg1) (ix2 0 b) := by
  blk_point [iblk, V, places t]

theorem d_at (c : Dev nD) (t : Fin cfg0.N) (a b : Fin 1024) : (iblk m c 4 t : FVec Ideal S1024x1024 .f32) (ix2 a b)
    = m ((c : Thread nD τ).loc main_arg4) (ix2 (row t a) b) := by
  blk_point [iblk, V, places t]

/-- Where the last point of a block of rows writes the input's gradient. -/
theorem place5 (t : Fin cfg0.N) (a b : Fin 1024) : (((cfg0.win 5).blk t).view.emb (ix2 a b) : S8192x1024.Idx) = ix2 (row t a) b := by
  blk_ext [places t]

/-- Where it writes the gain's gradient. -/
theorem place6 (t : Fin cfg0.N) (b : Fin 1024) : (((cfg0.win 6).blk t).view.emb (ix2 0 b) : S1x1024.Idx) = ix2 0 b := by
  blk_ext [places t]

/-- The input's gradient at a place of a block of rows. -/
theorem entry (c : Dev nD) (t : Fin cfg0.N) (h : t.val % 6 = 5) (a b : Fin 1024) :
    (outsAt0 m c t.val t.isLt).1 (ix2 a b)
      = Cert.Reference2Ideal.Read.val_main_v37 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (ix2 (row t a) b) := by
  rw [last m c t h, store, ref37_at]
  refine (core (fun k => (iblk m c 2 t : FVec Ideal S1024x1024 .f32) (ix2 a k)) (fun k => (outsAt0 m c t.val t.isLt).2.2 (ix2 a k))
    (fun k => (iblk m c 3 t : FVec Ideal S1x1024 .f32) (ix2 0 k)) _ b).trans ?_
  simp only [x_at m c t, g_at m c t, d_at m c t, fun k => sum_at m c t h (ix2 a k)]
  rfl

/-- One row's part of the gain's gradient. -/
def gainRow (x a : FVec Ideal S8192x1024 .f32) (b : Fin 1024) (n : ℕ) : EReal :=
  if h : n < 8192 then x (ix2 ⟨n, h⟩ b) * unit (fun l => x (ix2 ⟨n, h⟩ l)) * a (ix2 ⟨n, h⟩ b) else 0

/-- Of this run. -/
abbrev term (c : Dev nD) (b : Fin 1024) (n : ℕ) : EReal :=
  gainRow (m ((c : Thread nD τ).loc main_arg0)) (ref17 (m ((c : Thread nD τ).loc main_arg2)) (m ((c : Thread nD τ).loc main_arg3))) b n

/-- A block of rows gives its rows' parts. -/
theorem part_at (c : Dev nD) (t : Fin cfg0.N) (h : t.val % 6 = 5) (b : Fin 1024) :
    k0_pay6 (F := Ideal) (outsAt0 m c t.val t.isLt).2.2 (iblk m c 2 t) (ix2 0 b)
      = ∑ k ∈ Finset.range 1024, term m c b (t.val / 6 * 1024 + k) := by
  rw [part, Finset.sum_range]
  refine Finset.sum_congr rfl fun k _ => ?_
  unfold term gainRow
  rw [dif_pos (row t k).isLt, mul_comm]
  refine congrArg₂ (· * ·) (congrArg₂ (· * ·) (x_at m c t k b) (congrArg unit (funext fun l => x_at m c t k l))) (sum_at m c t h (ix2 k b))

/-- The first block of rows' last point starts the gain's gradient. -/
theorem gain_first (c : Dev nD) (t : Fin cfg0.N) (h : t.val % 6 = 5) (h6 : t.val < 6) : (outsAt0 m c t.val t.isLt).2.1
    = k0_pay6 (F := Ideal) (outsAt0 m c t.val t.isLt).2.2 (iblk m c 2 t) := by
  rw [outsAt0_C m c t (by omega) h h6 (by omega)]; frame_out

/-- A later block's last point adds to it. -/
theorem gain_next (c : Dev nD) (t : Fin cfg0.N) (h : t.val % 6 = 5) (h6 : ¬t.val < 6) (j) : (outsAt0 m c t.val t.isLt).2.1 j
    = (outsAt0 m c (t.val - 1) (Nat.lt_of_le_of_lt (Nat.sub_le _ _) t.isLt)).2.1 j + k0_pay6 (F := Ideal) (outsAt0 m c t.val t.isLt).2.2 (iblk m c 2 t) j := by
  rw [outsAt0_D m c t (by omega) h h6 (by omega)]; frame_out
  rw [more]

/-- Every other point leaves it. -/
theorem gain_keep (c : Dev nD) (t : Fin cfg0.N) (h : ¬t.val % 6 = 5) : (outsAt0 m c t.val t.isLt).2.1
    = (outsAt0 m c (t.val - 1) (Nat.lt_of_le_of_lt (Nat.sub_le _ _) t.isLt)).2.1 := by
  by_cases h0 : t.val % 6 = 0
  · rw [outsAt0_A m c t h0 h]; unfold out0_A_6; frame_out
  · rw [outsAt0_B m c t h0 h]; unfold out0_B_6; frame_out

/-- The gain's gradient holds the parts of the blocks of rows done so far. -/
theorem gain (c : Dev nD) (b : Fin 1024) : ∀ (n : ℕ) (h : n < cfg0.N), 5 ≤ n →
    (outsAt0 m c n h).2.1 (ix2 0 b) = ∑ k ∈ Finset.range ((n + 1) / 6 * 1024), term m c b k := by
  intro n
  induction n with
  | zero => intro h h5; omega
  | succ n ih =>
    intro h h5
    by_cases h' : (n + 1) % 6 = 5
    · by_cases h6 : n + 1 < 6
      · have hn : n = 4 := by omega
        subst hn
        rw [gain_first m c ⟨4 + 1, h⟩ h' h6, part_at m c ⟨4 + 1, h⟩ h' b]
        exact Finset.sum_congr rfl fun k _ => congrArg _ (show (4 + 1) / 6 * 1024 + k = k by omega)
      · rw [gain_next m c ⟨n + 1, h⟩ h' h6, part_at m c ⟨n + 1, h⟩ h' b]
        have e := ih (Nat.lt_of_succ_lt h) (by omega)
        have e' : (n + 1 + 1) / 6 * 1024 = (n + 1) / 6 * 1024 + 1024 := by omega
        rw [e', Finset.sum_range_add]
        exact congrArg (· + _) e
    · rw [gain_keep m c ⟨n + 1, h⟩ h']
      have e := ih (Nat.lt_of_succ_lt h) (by omega)
      have e' : (n + 1 + 1) / 6 = (n + 1) / 6 := by omega
      rw [e']
      exact e

/-- The gain's gradient after the run. -/
theorem final_gain (c : Dev nD) : (dats m 0 c).arrAt 6 (cfgs 0).N
    = Cert.Reference2Ideal.Read.val_main_v20 (F := Ideal) (m ((c : Thread nD τ).loc main_arg0)) (m ((c : Thread nD τ).loc main_arg2))
        (m ((c : Thread nD τ).loc main_arg3)) := by
  refine (dats m 0 c).arrAt_eq_of_covers 6 _ (by decide +kernel) fun t hf y => ?_
  have h47 := (flush0_6 t).mp hf
  have ht : t.val < 48 := t.isLt
  obtain ⟨a, b, rfl⟩ : ∃ (a : Fin 1) (b : Fin 1024), y = ix2 a b := ⟨y 0, y 1, by funext i; fin_cases i <;> rfl⟩
  obtain rfl : a = 0 := Subsingleton.elim _ _
  rw [after0_6]
  refine (gain m c b t.val t.isLt (by omega)).trans ?_
  refine Eq.trans ?_ (congrArg _ (place6 t b).symm)
  rw [show (t.val + 1) / 6 * 1024 = 8192 by omega, Finset.sum_range, ref20_at]
  refine Finset.sum_congr rfl fun k _ => ?_
  unfold term gainRow
  rw [dif_pos k.isLt]
  rfl

/-- The input's gradient after the run. -/
theorem final (c : Dev nD) : (dats m 0 c).arrAt 5 (cfgs 0).N
    = Cert.Reference2Ideal.Read.val_main_v37 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨a, b, rfl⟩ : ∃ (a b : Fin 1024), y = ix2 a b := ⟨y 0, y 1, by funext i; fin_cases i <;> rfl⟩
  rw [after0_5]
  exact (entry m c t ((flush0_5 t).mp hf) a b).trans (congrArg _ (place5 t a b).symm)

/-- The kernel as compiled runs, keeps its arguments and ends with every counter at zero. -/
theorem frame_kernel : Cert.quiescent_Kernel2 (hKernel2 := Cert.Kernel2.Gen.facts) := fun m ρ _ => Cert.Kernel2.Gen.frame m ρ

/-- So does the idealized kernel. -/
theorem frame_ideal : Cert.quiescent_Kernel2Ideal (hKernel2Ideal := Cert.Kernel2Ideal.Gen.facts) := fun m ρ _ => Cert.Kernel2Ideal.Gen.frame m ρ

/-- So does the reference. -/
theorem frame_reference : Cert.quiescent_Reference2Ideal (hReference2Ideal := Cert.Reference2Ideal.Gen.facts) := fun m ρ _ =>
  (θ_run _ _ _).mono (fun r h => ⟨fun c => (h c).2.2, sem_eq_zero_of_no_sems (by decide) r.2⟩)
    (Cert.Reference2Ideal.Value.run (F := Ideal) m ρ)

/-- The idealized kernel and the reference end with the same two gradients. -/
theorem same : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Reference2Ideal.Read.val_main_v37 (F := Ideal) (m ((c : Thread nD τ).loc main_arg0)) (m ((c : Thread nD τ).loc main_arg1))
      (m ((c : Thread nD τ).loc main_arg2)) (m ((c : Thread nD τ).loc main_arg3)) (m ((c : Thread nD τ).loc main_arg4)),
    fun c => Cert.Reference2Ideal.Read.val_main_v20 (F := Ideal) (m ((c : Thread nD τ).loc main_arg0)) (m ((c : Thread nD τ).loc main_arg2))
      (m ((c : Thread nD τ).loc main_arg3)), ?_, ?_⟩
  · refine (θ_run _ _ _).mono (fun r h c => ?_) (Cert.Kernel2Ideal.Value.run_blocks m g)
    exact ⟨(h c).1.trans (final m c), (h c).2.1.trans (final_gain m c), (h c).2.2⟩
  · refine (θ_run _ _ _).mono (fun r h c => ?_) (Cert.Reference2Ideal.Value.run (F := Ideal) m' g')
    obtain ⟨e0, e1, e2, e3, e4⟩ := hagree c
    exact ⟨(h c).1.trans (by dsimp only; rw [← e0, ← e1, ← e2, ← e3, ← e4]; rfl), (h c).2.1.trans (by rw [e0, e2, e3]; rfl), (h c).2.2⟩

end Cert.NormGrad

end
-- ==== Proof.OutGrad.lean ====
/- The gradient of the output projection's input, `dh · wᵀ`: each grid point writes its own block of 1024 rows, and the
   blocks together are the reference's product. -/
module

public import proofs.«01_k».proof.Defs
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Claim

@[expose] public section

set_option maxRecDepth 16384

noncomputable section

namespace Cert.OutGrad

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- The reference's result over the weight `w` and the gradient `dh`. -/
abbrev ref (w : FVec Ideal S2048x1024 .f32) (dh : FVec Ideal S8192x1024 .f32) : FVec Ideal S8192x2048 .bf16 :=
  Cert.Reference3Ideal.Read.val_main_v3 (F := Ideal) w dh

/-- Point `t` reads the `t`-th block of rows and the whole weight, and writes the `t`-th block of rows. -/
theorem places : ∀ t : Fin cfg0.N, win0_0.index t = ![t.val, 0] ∧ win0_1.index t = ![0, 0] ∧ win0_2.index t = ![t.val, 0] :=
  (by decide +kernel : ∀ t : Fin grid0.N, _)

/-- What a point stores is the reference's entry at the place the block puts it. -/
theorem point (c : Dev nD) (t : Fin cfg0.N) (y) : k0_pay1 (F := Ideal) (iblk m c 0 t) (iblk m c 1 t) y
    = ref (m ((c : Thread nD τ).loc main_arg0)) (m ((c : Thread nD τ).loc main_arg1)) (((cfg0.win 2).blk t).view.emb y) := by
  pointwise [k0_pay1, ref, Cert.Reference3Ideal.Read.val_main_v3, Cert.Reference3Ideal.Read.val_main_v2]
  blk_point [iblk, V, places t]

/-- The result array after the run. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel as compiled runs, keeps its arguments and ends with every counter at zero. -/
theorem frame_kernel : Cert.quiescent_Kernel3 (hKernel3 := Cert.Kernel3.Gen.facts) := fun m ρ _ => Cert.Kernel3.Gen.frame m ρ

/-- So does the idealized kernel. -/
theorem frame_ideal : Cert.quiescent_Kernel3Ideal (hKernel3Ideal := Cert.Kernel3Ideal.Gen.facts) := fun m ρ _ => Cert.Kernel3Ideal.Gen.frame m ρ

/-- So does the reference. -/
theorem frame_reference : Cert.quiescent_Reference3Ideal (hReference3Ideal := Cert.Reference3Ideal.Gen.facts) := fun m ρ _ =>
  (θ_run _ _ _).mono (fun r h => ⟨fun c => (h c).2, sem_eq_zero_of_no_sems (by decide) r.2⟩)
    (Cert.Reference3Ideal.Value.run (F := Ideal) m ρ)

/-- The idealized kernel and the reference end with the same array. -/
theorem same : Cert.algebraic_Kernel3Ideal_Reference3Ideal (hKernel3Ideal := Cert.Kernel3Ideal.Gen.facts)
    (hReference3Ideal := Cert.Reference3Ideal.Gen.facts) := by
  intro m g m' g' _ hagree
  refine ⟨fun c => ref (m ((c : Thread nD τ).loc main_arg0)) (m ((c : Thread nD τ).loc main_arg1)), ?_, ?_⟩
  · refine (θ_run _ _ _).mono (fun r h c => ?_) (Cert.Kernel3Ideal.Value.run_blocks m g)
    exact ⟨(h c).1.trans (final m c), (h c).2⟩
  · refine (θ_run _ _ _).mono (fun r h c => ?_) (Cert.Reference3Ideal.Value.run (F := Ideal) m' g')
    obtain ⟨e0, e1⟩ := hagree c
    exact ⟨(h c).1.trans (by rw [e0, e1]; rfl), (h c).2⟩

end Cert.OutGrad

end
-- ==== Proof.OutWeights.lean ====
/- The gradient of the output projection's weight, `yᵀ · dh`: the eight grid points walk the 8192 rows in blocks of 1024 and
   add each block's product to a carried scratch; the last point writes the sum. -/
module

public import proofs.«01_k».proof.Defs
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Claim

@[expose] public section

set_option maxRecDepth 16384

noncomputable section

namespace Cert.OutWeights

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

/-- The reference's result over the projection's input `y` and the gradient `dh`. -/
abbrev ref (y : FVec Ideal S8192x2048 .bf16) (dh : FVec Ideal S8192x1024 .f32) : FVec Ideal S2048x1024 .bf16 :=
  Cert.Reference4Ideal.Read.val_main_v5 (F := Ideal) y dh

/-- The reference's entry is the sum over all rows. -/
theorem ref_at (y : FVec Ideal S8192x2048 .bf16) (dh : FVec Ideal S8192x1024 .f32) (j : S2048x1024.Idx) :
    ref y dh j = ∑ l : Fin 8192, y (ix2 l (j 0)) * dh (ix2 l (j 1)) := by
  pointwise [ref, Cert.Reference4Ideal.Read.val_main_v5, Cert.Reference4Ideal.Read.val_main_v4, Cert.Reference4Ideal.Read.val_main_v3,
    Cert.Reference4Ideal.Read.val_main_v1]
  exact Finset.sum_congr rfl fun l _ => mul_comm _ _

/-- The scratch is cleared to zero. -/
theorem clear (j) : k0_pay1 (F := Ideal) j = 0 := by pointwise [k0_pay1]

/-- A point adds its block's product. -/
theorem step (acc : FVec Ideal S2048x1024 .f32) (y : FVec Ideal S1024x2048 .bf16) (dh : FVec Ideal S1024x1024 .f32) (j) :
    k0_pay2 (F := Ideal) acc y dh j = acc j + ∑ k : Fin 1024, y (ix2 k (j 0)) * dh (ix2 k (j 1)) := by pointwise [k0_pay2]

/-- What is written is what was summed. -/
theorem write (acc : FVec Ideal S2048x1024 .f32) (j) : k0_pay3 (F := Ideal) acc j = acc j := by pointwise [k0_pay3]

/-- Point `t` reads the `t`-th block of rows of both arrays; the one output block is the array. -/
theorem places : ∀ t : Fin cfg0.N, win0_0.index t = ![t.val, 0] ∧ win0_1.index t = ![t.val, 0] ∧ win0_2.index t = ![0, 0] :=
  (by decide +kernel : ∀ t : Fin grid0.N, _)

/-- The last point writes the scratch as it leaves it. -/
theorem last (c : Dev nD) (t : Fin cfg0.N) (h : t.val % 8 = 7) (j : S2048x1024.Idx) :
    (outsAt0 m c t.val t.isLt).1 j = (outsAt0 m c t.val t.isLt).2 j := by
  rw [outsAt0_C m c t (by omega) h]; frame_out
  rw [write]

/-- The result array after the run. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2]
  have h7 := (flush0_2 t).mp hf
  rw [last m c t h7]
  rw [Pipeline.eq_sum_fin_of_reset_step_apply_of_flush (fun n h => (outsAt0 m c n h).2) 8 (fun _ => 0) _
    (fun t h j => by rw [outsAt0_A m c t h (by omega)]; frame_out; rw [step, clear])
    (fun t h j => by
      by_cases h' : t.val % 8 = 7
      · rw [outsAt0_C m c t h h']; frame_out; rw [step]; exact congrArg (· + _) (congrFun ((Memref.isWhole_whole cc0_scratch0).read_unread _) j)
      · rw [outsAt0_B m c t h h']; frame_out; rw [step]; exact congrArg (· + _) (congrFun ((Memref.isWhole_whole cc0_scratch0).read_unread _) j))
    t h7 _, zero_add, ref_at]
  refine Fin.sum_mul_add_congr fun s k hl => ?_
  blk_point [iblk, V, places t, places ⟨_, Pipeline.run_point_lt_of_flush t h7 s⟩]

/-- The kernel as compiled runs, keeps its arguments and ends with every counter at zero. -/
theorem frame_kernel : Cert.quiescent_Kernel4 (hKernel4 := Cert.Kernel4.Gen.facts) := fun m ρ _ => Cert.Kernel4.Gen.frame m ρ

/-- So does the idealized kernel. -/
theorem frame_ideal : Cert.quiescent_Kernel4Ideal (hKernel4Ideal := Cert.Kernel4Ideal.Gen.facts) := fun m ρ _ => Cert.Kernel4Ideal.Gen.frame m ρ

/-- So does the reference. -/
theorem frame_reference : Cert.quiescent_Reference4Ideal (hReference4Ideal := Cert.Reference4Ideal.Gen.facts) := fun m ρ _ =>
  (θ_run _ _ _).mono (fun r h => ⟨fun c => (h c).2, sem_eq_zero_of_no_sems (by decide) r.2⟩)
    (Cert.Reference4Ideal.Value.run (F := Ideal) m ρ)

/-- The idealized kernel and the reference end with the same array. -/
theorem same : Cert.algebraic_Kernel4Ideal_Reference4Ideal (hKernel4Ideal := Cert.Kernel4Ideal.Gen.facts)
    (hReference4Ideal := Cert.Reference4Ideal.Gen.facts) := by
  intro m g m' g' _ hagree
  refine ⟨fun c => ref (m ((c : Thread nD τ).loc main_arg0)) (m ((c : Thread nD τ).loc main_arg1)), ?_, ?_⟩
  · refine (θ_run _ _ _).mono (fun r h c => ?_) (Cert.Kernel4Ideal.Value.run_blocks m g)
    exact ⟨(h c).1.trans (final m c), (h c).2⟩
  · refine (θ_run _ _ _).mono (fun r h c => ?_) (Cert.Reference4Ideal.Value.run (F := Ideal) m' g')
    obtain ⟨e0, e1⟩ := hagree c
    exact ⟨(h c).1.trans (by rw [e0, e1]; rfl), (h c).2⟩

end Cert.OutWeights

end
-- ==== Proof.InWeights.lean ====
/- The gradient of the input projection's weight, `hnᵀ · dproj`: for each block of 2048 columns eight grid points walk the
   8192 rows in blocks of 1024 and add each block's product to a carried scratch; the last of the eight writes the sum. -/
module

public import proofs.«01_k».proof.Defs
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Claim

@[expose] public section

set_option maxRecDepth 16384

noncomputable section

namespace Cert.InWeights

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ)

/-- The reference's result over the projection's input `hn` and the gradient `dp`. -/
abbrev ref (hn : FVec Ideal S8192x1024 .bf16) (dp : FVec Ideal S8192x6144 .bf16) : FVec Ideal S1024x6144 .bf16 :=
  Cert.Reference5Ideal.Read.val_main_v6 (F := Ideal) hn dp

/-- The reference's entry is the sum over all rows. -/
theorem ref_at (hn : FVec Ideal S8192x1024 .bf16) (dp : FVec Ideal S8192x6144 .bf16) (j : S1024x6144.Idx) :
    ref hn dp j = ∑ l : Fin 8192, hn (ix2 l (j 0)) * dp (ix2 l (j 1)) := by
  pointwise [ref, Cert.Reference5Ideal.Read.val_main_v6, Cert.Reference5Ideal.Read.val_main_v5, Cert.Reference5Ideal.Read.val_main_v4, Cert.Reference5Ideal.Read.val_main_v3,
    Cert.Reference5Ideal.Read.val_main_v1]
  exact Finset.sum_congr rfl fun l _ => mul_comm _ _

/-- The scratch is cleared to zero. -/
theorem clear (j) : k0_pay1 (F := Ideal) j = 0 := by pointwise [k0_pay1]

/-- A point adds its block's product. -/
theorem step (acc : FVec Ideal S1024x2048 .f32) (hn : FVec Ideal S1024x1024 .bf16) (dp : FVec Ideal S1024x2048 .bf16) (j) :
    k0_pay2 (F := Ideal) acc hn dp j = acc j + ∑ k : Fin 1024, hn (ix2 k (j 0)) * dp (ix2 k (j 1)) := by pointwise [k0_pay2]

/-- What is written is what was summed. -/
theorem write (acc : FVec Ideal S1024x2048 .f32) (j) : k0_pay3 (F := Ideal) acc j = acc j := by pointwise [k0_pay3]

/-- Point `t` reads the `t % 8`-th block of rows of both arrays, of the second at columns `t / 8`, where the output block is too. -/
theorem places : ∀ t : Fin cfg0.N, win0_0.index t = ![t.val % 8, 0] ∧ win0_1.index t = ![t.val % 8, t.val / 8]
    ∧ win0_2.index t = ![0, t.val / 8] :=
  (by decide +kernel : ∀ t : Fin grid0.N, _)

/-- The last point of eight writes the scratch as it leaves it. -/
theorem last (c : Dev nD) (t : Fin cfg0.N) (h : t.val % 8 = 7) (j : S1024x2048.Idx) :
    (outsAt0 m c t.val t.isLt).1 j = (outsAt0 m c t.val t.isLt).2 j := by
  rw [outsAt0_C m c t (by omega) h]; frame_out
  rw [write]

/-- The result array after the run. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2]
  have h7 := (flush0_2 t).mp hf
  rw [last m c t h7]
  rw [Pipeline.eq_sum_fin_of_reset_step_apply_of_flush (fun n h => (outsAt0 m c n h).2) 8 (fun _ => 0) _
    (fun t h j => by rw [outsAt0_A m c t h (by omega)]; frame_out; rw [step, clear])
    (fun t h j => by
      by_cases h' : t.val % 8 = 7
      · rw [outsAt0_C m c t h h']; frame_out; rw [step]; exact congrArg (· + _) (congrFun ((Memref.isWhole_whole cc0_scratch0).read_unread _) j)
      · rw [outsAt0_B m c t h h']; frame_out; rw [step]; exact congrArg (· + _) (congrFun ((Memref.isWhole_whole cc0_scratch0).read_unread _) j))
    t h7 _, zero_add, ref_at]
  refine Fin.sum_mul_add_congr fun s k hl => ?_
  blk_point [iblk, V, places t, places ⟨_, Pipeline.run_point_lt_of_flush t h7 s⟩]

/-- The kernel as compiled runs, keeps its arguments and ends with every counter at zero. -/
theorem frame_kernel : Cert.quiescent_Kernel5 (hKernel5 := Cert.Kernel5.Gen.facts) := fun m ρ _ => Cert.Kernel5.Gen.frame m ρ

/-- So does the idealized kernel. -/
theorem frame_ideal : Cert.quiescent_Kernel5Ideal (hKernel5Ideal := Cert.Kernel5Ideal.Gen.facts) := fun m ρ _ => Cert.Kernel5Ideal.Gen.frame m ρ

/-- So does the reference. -/
theorem frame_reference : Cert.quiescent_Reference5Ideal (hReference5Ideal := Cert.Reference5Ideal.Gen.facts) := fun m ρ _ =>
  (θ_run _ _ _).mono (fun r h => ⟨fun c => (h c).2, sem_eq_zero_of_no_sems (by decide) r.2⟩)
    (Cert.Reference5Ideal.Value.run (F := Ideal) m ρ)

/-- The idealized kernel and the reference end with the same array. -/
theorem same : Cert.algebraic_Kernel5Ideal_Reference5Ideal (hKernel5Ideal := Cert.Kernel5Ideal.Gen.facts)
    (hReference5Ideal := Cert.Reference5Ideal.Gen.facts) := by
  intro m g m' g' _ hagree
  refine ⟨fun c => ref (m ((c : Thread nD τ).loc main_arg0)) (m ((c : Thread nD τ).loc main_arg1)), ?_, ?_⟩
  · refine (θ_run _ _ _).mono (fun r h c => ?_) (Cert.Kernel5Ideal.Value.run_blocks m g)
    exact ⟨(h c).1.trans (final m c), (h c).2⟩
  · refine (θ_run _ _ _).mono (fun r h c => ?_) (Cert.Reference5Ideal.Value.run (F := Ideal) m' g')
    obtain ⟨e0, e1⟩ := hagree c
    exact ⟨(h c).1.trans (by rw [e0, e1]; rfl), (h c).2⟩

end Cert.InWeights

end
-- ==== Proof.ShortWeights.lean ====
/- The gradient of the input projection's weight of the short convolution layer, `hnᵀ · dproj`: for each block of 2048 columns
   eight grid points walk the 8192 rows in blocks of 1024 and add each block's product to a carried scratch; the last of the
   eight writes the sum. -/
module

public import proofs.«01_k».proof.Defs
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Claim

@[expose] public section

set_option maxRecDepth 16384

noncomputable section

namespace Cert.ShortWeights

open Idealize.ShloMosaic Idealize.ShloMosaic.TcCoe Idealize.SL.Sem
open Idealize.ShloMosaic.Pipeline (Dat)
open Cert.Kernel6Ideal Cert.Kernel6Ideal.Gen

variable (m : (ℓ : Loc nD τ sig) → Buf (Elt Ideal) ℓ)

/-- The reference's result over the projection's input `hn` and the gradient `dp`. -/
abbrev ref (hn : FVec Ideal S8192x1024 .bf16) (dp : FVec Ideal S8192x8192 .bf16) : FVec Ideal S1024x8192 .bf16 :=
  Cert.Reference6Ideal.Read.val_main_v6 (F := Ideal) hn dp

/-- The reference's entry is the sum over all rows. -/
theorem ref_at (hn : FVec Ideal S8192x1024 .bf16) (dp : FVec Ideal S8192x8192 .bf16) (j : S1024x8192.Idx) :
    ref hn dp j = ∑ l : Fin 8192, hn (ix2 l (j 0)) * dp (ix2 l (j 1)) := by
  pointwise [ref, Cert.Reference6Ideal.Read.val_main_v6, Cert.Reference6Ideal.Read.val_main_v5, Cert.Reference6Ideal.Read.val_main_v4, Cert.Reference6Ideal.Read.val_main_v3,
    Cert.Reference6Ideal.Read.val_main_v1]
  exact Finset.sum_congr rfl fun l _ => mul_comm _ _

/-- The scratch is cleared to zero. -/
theorem clear (j) : k0_pay1 (F := Ideal) j = 0 := by pointwise [k0_pay1]

/-- A point adds its block's product. -/
theorem step (acc : FVec Ideal S1024x2048 .f32) (hn : FVec Ideal S1024x1024 .bf16) (dp : FVec Ideal S1024x2048 .bf16) (j) :
    k0_pay2 (F := Ideal) acc hn dp j = acc j + ∑ k : Fin 1024, hn (ix2 k (j 0)) * dp (ix2 k (j 1)) := by pointwise [k0_pay2]

/-- What is written is what was summed. -/
theorem write (acc : FVec Ideal S1024x2048 .f32) (j) : k0_pay3 (F := Ideal) acc j = acc j := by pointwise [k0_pay3]

/-- Point `t` reads the `t % 8`-th block of rows of both arrays, of the second at columns `t / 8`, where the output block is too. -/
theorem places : ∀ t : Fin cfg0.N, win0_0.index t = ![t.val % 8, 0] ∧ win0_1.index t = ![t.val % 8, t.val / 8]
    ∧ win0_2.index t = ![0, t.val / 8] :=
  (by decide +kernel : ∀ t : Fin grid0.N, _)

/-- The last point of eight writes the scratch as it leaves it. -/
theorem last (c : Dev nD) (t : Fin cfg0.N) (h : t.val % 8 = 7) (j : S1024x2048.Idx) :
    (outsAt0 m c t.val t.isLt).1 j = (outsAt0 m c t.val t.isLt).2 j := by
  rw [outsAt0_C m c t (by omega) h]; frame_out
  rw [write]

/-- The result array after the run. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2]
  have h7 := (flush0_2 t).mp hf
  rw [last m c t h7]
  rw [Pipeline.eq_sum_fin_of_reset_step_apply_of_flush (fun n h => (outsAt0 m c n h).2) 8 (fun _ => 0) _
    (fun t h j => by rw [outsAt0_A m c t h (by omega)]; frame_out; rw [step, clear])
    (fun t h j => by
      by_cases h' : t.val % 8 = 7
      · rw [outsAt0_C m c t h h']; frame_out; rw [step]; exact congrArg (· + _) (congrFun ((Memref.isWhole_whole cc0_scratch0).read_unread _) j)
      · rw [outsAt0_B m c t h h']; frame_out; rw [step]; exact congrArg (· + _) (congrFun ((Memref.isWhole_whole cc0_scratch0).read_unread _) j))
    t h7 _, zero_add, ref_at]
  refine Fin.sum_mul_add_congr fun s k hl => ?_
  blk_point [iblk, V, places t, places ⟨_, Pipeline.run_point_lt_of_flush t h7 s⟩]

/-- The kernel as compiled runs, keeps its arguments and ends with every counter at zero. -/
theorem frame_kernel : Cert.quiescent_Kernel6 (hKernel6 := Cert.Kernel6.Gen.facts) := fun m ρ _ => Cert.Kernel6.Gen.frame m ρ

/-- So does the idealized kernel. -/
theorem frame_ideal : Cert.quiescent_Kernel6Ideal (hKernel6Ideal := Cert.Kernel6Ideal.Gen.facts) := fun m ρ _ => Cert.Kernel6Ideal.Gen.frame m ρ

/-- So does the reference. -/
theorem frame_reference : Cert.quiescent_Reference6Ideal (hReference6Ideal := Cert.Reference6Ideal.Gen.facts) := fun m ρ _ =>
  (θ_run _ _ _).mono (fun r h => ⟨fun c => (h c).2, sem_eq_zero_of_no_sems (by decide) r.2⟩)
    (Cert.Reference6Ideal.Value.run (F := Ideal) m ρ)

/-- The idealized kernel and the reference end with the same array. -/
theorem same : Cert.algebraic_Kernel6Ideal_Reference6Ideal (hKernel6Ideal := Cert.Kernel6Ideal.Gen.facts)
    (hReference6Ideal := Cert.Reference6Ideal.Gen.facts) := by
  intro m g m' g' _ hagree
  refine ⟨fun c => ref (m ((c : Thread nD τ).loc main_arg0)) (m ((c : Thread nD τ).loc main_arg1)), ?_, ?_⟩
  · refine (θ_run _ _ _).mono (fun r h c => ?_) (Cert.Kernel6Ideal.Value.run_blocks m g)
    exact ⟨(h c).1.trans (final m c), (h c).2⟩
  · refine (θ_run _ _ _).mono (fun r h c => ?_) (Cert.Reference6Ideal.Value.run (F := Ideal) m' g')
    obtain ⟨e0, e1⟩ := hagree c
    exact ⟨(h c).1.trans (by rw [e0, e1]; rfl), (h c).2⟩

end Cert.ShortWeights

end
-- ==== Proof.AttnWeights.lean ====
/- The gradient of the input projection's weight of the attention layer, `hnᵀ · dproj`: for each block of 1664 columns eight
   grid points walk the 8192 rows in blocks of 1024 and add each block's product to a carried scratch; the last of the eight
   writes the sum. -/
module

public import proofs.«01_k».proof.Defs
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Claim

@[expose] public section

set_option maxRecDepth 16384

noncomputable section

namespace Cert.AttnWeights

open Idealize.ShloMosaic Idealize.ShloMosaic.TcCoe Idealize.SL.Sem
open Idealize.ShloMosaic.Pipeline (Dat)
open Cert.Kernel7Ideal Cert.Kernel7Ideal.Gen

variable (m : (ℓ : Loc nD τ sig) → Buf (Elt Ideal) ℓ)

/-- The reference's result over the projection's input `hn` and the gradient `dp`. -/
abbrev ref (hn : FVec Ideal S8192x1024 .bf16) (dp : FVec Ideal S8192x8320 .bf16) : FVec Ideal S1024x8320 .bf16 :=
  Cert.Reference7Ideal.Read.val_main_v6 (F := Ideal) hn dp

/-- The reference's entry is the sum over all rows. -/
theorem ref_at (hn : FVec Ideal S8192x1024 .bf16) (dp : FVec Ideal S8192x8320 .bf16) (j : S1024x8320.Idx) :
    ref hn dp j = ∑ l : Fin 8192, hn (ix2 l (j 0)) * dp (ix2 l (j 1)) := by
  pointwise [ref, Cert.Reference7Ideal.Read.val_main_v6, Cert.Reference7Ideal.Read.val_main_v5, Cert.Reference7Ideal.Read.val_main_v4, Cert.Reference7Ideal.Read.val_main_v3,
    Cert.Reference7Ideal.Read.val_main_v1]
  exact Finset.sum_congr rfl fun l _ => mul_comm _ _

/-- The scratch is cleared to zero. -/
theorem clear (j) : k0_pay1 (F := Ideal) j = 0 := by pointwise [k0_pay1]

/-- A point adds its block's product. -/
theorem step (acc : FVec Ideal S1024x1664 .f32) (hn : FVec Ideal S1024x1024 .bf16) (dp : FVec Ideal S1024x1664 .bf16) (j) :
    k0_pay2 (F := Ideal) acc hn dp j = acc j + ∑ k : Fin 1024, hn (ix2 k (j 0)) * dp (ix2 k (j 1)) := by pointwise [k0_pay2]

/-- What is written is what was summed. -/
theorem write (acc : FVec Ideal S1024x1664 .f32) (j) : k0_pay3 (F := Ideal) acc j = acc j := by pointwise [k0_pay3]

/-- Point `t` reads the `t % 8`-th block of rows of both arrays, of the second at columns `t / 8`, where the output block is too. -/
theorem places : ∀ t : Fin cfg0.N, win0_0.index t = ![t.val % 8, 0] ∧ win0_1.index t = ![t.val % 8, t.val / 8]
    ∧ win0_2.index t = ![0, t.val / 8] :=
  (by decide +kernel : ∀ t : Fin grid0.N, _)

/-- The last point of eight writes the scratch as it leaves it. -/
theorem last (c : Dev nD) (t : Fin cfg0.N) (h : t.val % 8 = 7) (j : S1024x1664.Idx) :
    (outsAt0 m c t.val t.isLt).1 j = (outsAt0 m c t.val t.isLt).2 j := by
  rw [outsAt0_C m c t (by omega) h]; frame_out
  rw [write]

/-- The result array after the run. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2]
  have h7 := (flush0_2 t).mp hf
  rw [last m c t h7]
  rw [Pipeline.eq_sum_fin_of_reset_step_apply_of_flush (fun n h => (outsAt0 m c n h).2) 8 (fun _ => 0) _
    (fun t h j => by rw [outsAt0_A m c t h (by omega)]; frame_out; rw [step, clear])
    (fun t h j => by
      by_cases h' : t.val % 8 = 7
      · rw [outsAt0_C m c t h h']; frame_out; rw [step]; exact congrArg (· + _) (congrFun ((Memref.isWhole_whole cc0_scratch0).read_unread _) j)
      · rw [outsAt0_B m c t h h']; frame_out; rw [step]; exact congrArg (· + _) (congrFun ((Memref.isWhole_whole cc0_scratch0).read_unread _) j))
    t h7 _, zero_add, ref_at]
  refine Fin.sum_mul_add_congr fun s k hl => ?_
  blk_point [iblk, V, places t, places ⟨_, Pipeline.run_point_lt_of_flush t h7 s⟩]

/-- The kernel as compiled runs, keeps its arguments and ends with every counter at zero. -/
theorem frame_kernel : Cert.quiescent_Kernel7 (hKernel7 := Cert.Kernel7.Gen.facts) := fun m ρ _ => Cert.Kernel7.Gen.frame m ρ

/-- So does the idealized kernel. -/
theorem frame_ideal : Cert.quiescent_Kernel7Ideal (hKernel7Ideal := Cert.Kernel7Ideal.Gen.facts) := fun m ρ _ => Cert.Kernel7Ideal.Gen.frame m ρ

/-- So does the reference. -/
theorem frame_reference : Cert.quiescent_Reference7Ideal (hReference7Ideal := Cert.Reference7Ideal.Gen.facts) := fun m ρ _ =>
  (θ_run _ _ _).mono (fun r h => ⟨fun c => (h c).2, sem_eq_zero_of_no_sems (by decide) r.2⟩)
    (Cert.Reference7Ideal.Value.run (F := Ideal) m ρ)

/-- The idealized kernel and the reference end with the same array. -/
theorem same : Cert.algebraic_Kernel7Ideal_Reference7Ideal (hKernel7Ideal := Cert.Kernel7Ideal.Gen.facts)
    (hReference7Ideal := Cert.Reference7Ideal.Gen.facts) := by
  intro m g m' g' _ hagree
  refine ⟨fun c => ref (m ((c : Thread nD τ).loc main_arg0)) (m ((c : Thread nD τ).loc main_arg1)), ?_, ?_⟩
  · refine (θ_run _ _ _).mono (fun r h c => ?_) (Cert.Kernel7Ideal.Value.run_blocks m g)
    exact ⟨(h c).1.trans (final m c), (h c).2⟩
  · refine (θ_run _ _ _).mono (fun r h c => ?_) (Cert.Reference7Ideal.Value.run (F := Ideal) m' g')
    obtain ⟨e0, e1⟩ := hagree c
    exact ⟨(h c).1.trans (by rw [e0, e1]; rfl), (h c).2⟩

end Cert.AttnWeights

end
-- ==== Proof.OutProj.lean ====
/- The output projection with its residual, `x + y · w`: each grid point writes its own block of 1024 rows. -/
module

public import proofs.«01_k».proof.Defs
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Claim

@[expose] public section

set_option maxRecDepth 16384

noncomputable section

namespace Cert.OutProj

open Idealize.ShloMosaic Idealize.ShloMosaic.TcCoe Idealize.SL.Sem
open Idealize.ShloMosaic.Pipeline (Dat)
open Cert.Kernel8Ideal Cert.Kernel8Ideal.Gen

variable (m : (ℓ : Loc nD τ sig) → Buf (Elt Ideal) ℓ)

/-- The reference's result over the mixer's output `y`, the weight `w` and the residual `x`. -/
abbrev ref (y : FVec Ideal S8192x2048 .bf16) (w : FVec Ideal S2048x1024 .f32) (x : FVec Ideal S8192x1024 .f32) :
    FVec Ideal S8192x1024 .f32 := Cert.Reference8Ideal.Read.val_main_v2 (F := Ideal) y w x

/-- Point `t` reads the `t`-th block of rows of `y` and `x` and the whole weight, and writes the `t`-th block of rows. -/
theorem places : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- What a point stores is the reference's entry at the place the block puts it. -/
theorem point (c : Dev nD) (t : Fin cfg0.N) (y) : k0_pay1 (F := Ideal) (iblk m c 2 t) (iblk m c 0 t) (iblk m c 1 t) y
    = ref (m ((c : Thread nD τ).loc main_arg0)) (m ((c : Thread nD τ).loc main_arg1)) (m ((c : Thread nD τ).loc main_arg2))
        (((cfg0.win 3).blk t).view.emb y) := by
  pointwise [k0_pay1, ref, Cert.Reference8Ideal.Read.val_main_v2, Cert.Reference8Ideal.Read.val_main_v1,
    Cert.Reference8Ideal.Read.val_main_v0]
  blk_point [iblk, V, places t]

/-- The result array after the run. -/
theorem final (c : Dev nD) : (dats m 0 c).arrAt 3 (cfgs 0).N
    = ref (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact point m c t y

/-- The kernel as compiled runs, keeps its arguments and ends with every counter at zero. -/
theorem frame_kernel : Cert.quiescent_Kernel8 (hKernel8 := Cert.Kernel8.Gen.facts) := fun m ρ _ => Cert.Kernel8.Gen.frame m ρ

/-- So does the idealized kernel. -/
theorem frame_ideal : Cert.quiescent_Kernel8Ideal (hKernel8Ideal := Cert.Kernel8Ideal.Gen.facts) := fun m ρ _ => Cert.Kernel8Ideal.Gen.frame m ρ

/-- So does the reference. -/
theorem frame_reference : Cert.quiescent_Reference8Ideal (hReference8Ideal := Cert.Reference8Ideal.Gen.facts) := fun m ρ _ =>
  (θ_run _ _ _).mono (fun r h => ⟨fun c => (h c).2, sem_eq_zero_of_no_sems (by decide) r.2⟩)
    (Cert.Reference8Ideal.Value.run (F := Ideal) m ρ)

/-- The idealized kernel and the reference end with the same array. -/
theorem same : Cert.algebraic_Kernel8Ideal_Reference8Ideal (hKernel8Ideal := Cert.Kernel8Ideal.Gen.facts)
    (hReference8Ideal := Cert.Reference8Ideal.Gen.facts) := by
  intro m g m' g' _ hagree
  refine ⟨fun c => ref (m ((c : Thread nD τ).loc main_arg0)) (m ((c : Thread nD τ).loc main_arg1))
    (m ((c : Thread nD τ).loc main_arg2)), ?_, ?_⟩
  · refine (θ_run _ _ _).mono (fun r h c => ?_) (Cert.Kernel8Ideal.Value.run_blocks m g)
    exact ⟨(h c).1.trans (final m c), (h c).2⟩
  · refine (θ_run _ _ _).mono (fun r h c => ?_) (Cert.Reference8Ideal.Value.run (F := Ideal) m' g')
    obtain ⟨e0, e1, e2⟩ := hagree c
    exact ⟨(h c).1.trans (by rw [e0, e1, e2]; rfl), (h c).2⟩

end Cert.OutProj

end
-- ==== Proof.NormRun.lean ====
/- The input projection with its norm: what its buffers hold point by point, and its run. -/
module

public import proofs.«01_k».proof.Defs
public import proofs.«01_k».proof.Proof.Gen.Kernel9Ideal.Frame
public import proofs.«01_k».proof.Proof.Gen.Kernel9Ideal.Skeleton
public import Idealize.ShloMosaic.Lib.Tactic
public import Idealize.ShloMosaic.Lib.VecWindow
public import Idealize.ShloMosaic.Lib.Pipeline.Frame
public import Idealize.ShloMosaic.Lib.Pipeline.TableIdle
public import Idealize.ShloMosaic.Lib.LaneScatter.Fold
public import Idealize.ShloMosaic.Lib.LaneScatter.Own
public import Idealize.ShloMosaic.Lib.Updates.Own
public import Idealize.ShloMosaic.Lib.Claim

@[expose] public section

noncomputable section

namespace Cert.NormProj

open Cert.Kernel9Ideal Cert.Kernel9Ideal.Gen
open Idealize.ShloMosaic Idealize.ShloMosaic.TcCoe Idealize.ShloMosaic.Tactic Idealize.ShloMosaic.LaneScatter Idealize.ShloMosaic.Updates
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-- The rows are normed at the first column block. -/
theorem first_iff : ∀ i : grid0.Coords, k0_cond1 i = 1#1 ↔ (i 1).val = 0 := by decide +kernel

section body

variable (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S2048x1024 .bf16) (harg6 : arg6.IsWhole)

set_option maxRecDepth 4096 in
/-- The body at the first column block of a row block: the normed rows are stored, and their product with the weights. -/
theorem body_first (x2 : FVec F S2048x1024 .f32) (x3 : FVec F S1x1024 .f32) (x4 : FVec F S1024x1024 .bf16) (x5 x6 : FVec F S2048x1024 .bf16)
    (hi : (i 1).val = 0) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6) : sProp 𝕄) ⊢
      wp frame (wpE (defs₀ (F := F)) Variants.none (c : Thread nD τ) none) Set.univ (cc0_a_in_proj_l0 (F := F) i arg2 harg2 arg3 harg3 arg4 harg4 arg5 harg5 arg6 harg6)
        (fun _ => iprop(owns (c : Thread nD τ) arg2 fullShare x2 ∗ owns (c : Thread nD τ) arg3 fullShare x3 ∗ owns (c : Thread nD τ) arg4 fullShare x4 ∗ owns (c : Thread nD τ) arg5 fullShare (k0_pay1 x2 x3) ∗ owns (c : Thread nD τ) arg6 fullShare (k0_pay2 (k0_pay1 x2 x3) x4))) := by
  have hc := (first_iff i).2 hi
  iintro ⟨H2, H3, H4, H5, H6⟩
  icases (owns_read (c : Thread nD τ) arg2 _) $$ H2 with ⟨%f2, H2, %e2⟩
  icases (owns_read (c : Thread nD τ) arg3 _) $$ H3 with ⟨%f3, H3, %e3⟩
  icases (owns_read (c : Thread nD τ) arg4 _) $$ H4 with ⟨%f4, H4, %e4⟩
  icases (owns_read (c : Thread nD τ) arg5 _) $$ H5 with ⟨%f5, H5, %e5⟩
  icases (owns_read (c : Thread nD τ) arg6 _) $$ H6 with ⟨%f6, H6, %e6⟩
  have h2 : ∀ hin, View.readAt (Elt F) arg2.view (Rect.unit (s := S2048x1024) ![0, 0] S2048x1024.size hin).toLoadRect f2 = x2 := fun hin =>
    (View.readAt_full arg2.view f2 _).trans e2
  have h3 : ∀ hin, View.readAt (Elt F) arg3.view (Rect.unit (s := S1x1024) ![0, 0] S1x1024.size hin).toLoadRect f3 = x3 := fun hin =>
    (View.readAt_full arg3.view f3 _).trans e3
  have h4 : ∀ hin, View.readAt (Elt F) arg4.view (Rect.unit (s := S1024x1024) ![0, 0] S1024x1024.size hin).toLoadRect f4 = x4 := fun hin =>
    (View.readAt_full arg4.view f4 _).trans e4
  rw [cc0_a_in_proj_l0_eq_skeleton]; unfold cc0_a_in_proj_l0_skel
  sl_exec_parts
  sl_step
  isplitl [H2]
  · iapply (raw_owns (c : Thread nD τ) arg2 e2); iexact H2
  isplitl [H3]
  · iapply (raw_owns (c : Thread nD τ) arg3 e3); iexact H3
  isplitl [H4]
  · iapply (raw_owns (c : Thread nD τ) arg4 e4); iexact H4
  isplitl [H5]
  · iapply (raw_owns (c : Thread nD τ) arg5 ?_) $$ H5
    sl_unfold_run_names
    simp only [h2, h3]
    rw [View.read_writes_full]
  · iapply (raw_owns (c : Thread nD τ) arg6 ?_) $$ H6
    sl_unfold_run_names
    simp only [h2, h3, h4]
    rw [View.read_writes_full]
    rw [View.readCov_cons_toLoadRect]

set_option maxRecDepth 4096 in
/-- The body at a later column block: the normed rows are read back as they were left. -/
theorem body_later (x2 : FVec F S2048x1024 .f32) (x3 : FVec F S1x1024 .f32) (x4 : FVec F S1024x1024 .bf16) (x5 x6 : FVec F S2048x1024 .bf16)
    (hi : (i 1).val ≠ 0) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6) : sProp 𝕄) ⊢
      wp frame (wpE (defs₀ (F := F)) Variants.none (c : Thread nD τ) none) Set.univ (cc0_a_in_proj_l0 (F := F) i arg2 harg2 arg3 harg3 arg4 harg4 arg5 harg5 arg6 harg6)
        (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (k0_pay2 x5 x4))) := by
  have hc := fun h => hi ((first_iff i).1 h)
  iintro ⟨H2, H3, H4, H5, H6⟩
  icases (owns_read (c : Thread nD τ) arg2 _) $$ H2 with ⟨%f2, H2, %e2⟩
  icases (owns_read (c : Thread nD τ) arg3 _) $$ H3 with ⟨%f3, H3, %e3⟩
  icases (owns_read (c : Thread nD τ) arg4 _) $$ H4 with ⟨%f4, H4, %e4⟩
  icases (owns_read (c : Thread nD τ) arg5 _) $$ H5 with ⟨%f5, H5, %e5⟩
  icases (owns_read (c : Thread nD τ) arg6 _) $$ H6 with ⟨%f6, H6, %e6⟩
  have h4 : ∀ hin, View.readAt (Elt F) arg4.view (Rect.unit (s := S1024x1024) ![0, 0] S1024x1024.size hin).toLoadRect f4 = x4 := fun hin =>
    (View.readAt_full arg4.view f4 _).trans e4
  have h5 : ∀ hin, View.readAt (Elt F) arg5.view (Rect.unit (s := S2048x1024) ![0, 0] S2048x1024.size hin).toLoadRect f5 = x5 := fun hin =>
    (View.readAt_full arg5.view f5 _).trans e5
  rw [cc0_a_in_proj_l0_eq_skeleton]; unfold cc0_a_in_proj_l0_skel
  sl_exec_parts
  sl_step
  isplitl [H2]
  · iapply (raw_owns (c : Thread nD τ) arg2 e2); iexact H2
  isplitl [H3]
  · iapply (raw_owns (c : Thread nD τ) arg3 e3); iexact H3
  isplitl [H4]
  · iapply (raw_owns (c : Thread nD τ) arg4 e4); iexact H4
  isplitl [H5]
  · iapply (raw_owns (c : Thread nD τ) arg5 ?_) $$ H5
    sl_unfold_run_names
    exact e5
  · iapply (raw_owns (c : Thread nD τ) arg6 ?_) $$ H6
    sl_unfold_run_names
    simp only [h4, h5]
    rw [View.read_writes_full]

end body

variable (m : (ℓ : Loc nD τ sig) → Buf (Elt F) ℓ) (ρ : Dev nD → PrngReg)

/-- The first point of a point's row block. -/
def start (t : Fin cfg0.N) : Fin cfg0.N := ⟨t.val - t.val % 6, Nat.lt_of_le_of_lt (Nat.sub_le _ _) t.isLt⟩

/-- The normed rows of a point's row block. -/
def rows (c : Dev nD) (t : Fin cfg0.N) : FVec F S2048x1024 .bf16 := k0_pay1 (iblk m c 0 (start t)) (iblk m c 1 (start t))

/-- What each window's buffer holds after the body at each point. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rows m c t
    | ⟨4, _⟩ => k0_pay2 (rows m c t) (iblk m c 2 t)
  Φ _ := Pipeline.ΦA spec0 c
  q _ := fullShare
  owed _ := 0

/-- The proof data of the one call. -/
def dats : (p : Fin 1) → (c : Dev nD) → Dat τ (Elt F) Unit ℕ (UR sig nD τ) ℕ (cfgs p) c
  | 0 => dat m

/-- The arrays under the windows are the host's. -/
theorem A_eq (c : Dev nD) (w : Fin cfg0.W) : (dat m c).A w = V m c (Pipeline.arrRef spec0 w) := by dsimp only [dat]
/-- What the window of the input rows holds after the body. -/
theorem after_0 (c : Dev nD) (t : Fin cfg0.N) : (dat m c).after 0 t = iblk m c 0 t := by dsimp only [dat]
/-- What the window of the gain holds after the body. -/
theorem after_1 (c : Dev nD) (t : Fin cfg0.N) : (dat m c).after 1 t = iblk m c 1 t := by dsimp only [dat]
/-- What the window of the weights holds after the body. -/
theorem after_2 (c : Dev nD) (t : Fin cfg0.N) : (dat m c).after 2 t = iblk m c 2 t := by dsimp only [dat]
/-- What the window of the normed rows holds after the body. -/
theorem after_3 (c : Dev nD) (t : Fin cfg0.N) : (dat m c).after 3 t = rows m c t := by dsimp only [dat]
/-- What the window of the product holds after the body. -/
theorem after_4 (c : Dev nD) (t : Fin cfg0.N) : (dat m c).after 4 t = k0_pay2 (rows m c t) (iblk m c 2 t) := by dsimp only [dat]

/-- The second grid coordinate is the column block. -/
theorem coords_col (t : Fin cfg0.N) : (grid0.coords t 1).val = t.val % 6 :=
  (by decide +kernel : ∀ t : Fin grid0.N, (grid0.coords t 1).val = t.val % 6) t

/-- The normed rows are left alone past the first column block. -/
theorem idle_3 (t : Fin cfg0.N) : cfg0.idle 3 (cfg0.grid.coords t) = decide (t.val % 6 ≠ 0) :=
  (by decide +kernel : ∀ t : Fin grid0.N, idle0 3 (grid0.coords t) = decide (t.val % 6 ≠ 0)) t

/-- They are written back after the last. -/
theorem flush_3 (t : Fin cfg0.N) : (cfg0.win 3).flush t = decide (t.val % 6 = 5) := by
  rw [Bool.eq_iff_iff, flush0_3 t, decide_eq_true_iff]

/-- Nothing is stored of a row block before its first point. -/
theorem fresh_3 (n : ℕ) (h : n ≤ cfg0.N) : cfg0.fresh 3 n = decide (n % 6 = 0) :=
  Cfg.fresh_tab cfg0 3 (fun n => decide (n % 6 = 0)) rfl (fun t => by
    rw [idle_3, flush_3]
    rw [Bool.eq_iff_iff]
    simp only [Bool.or_eq_true, Bool.and_eq_true, decide_eq_true_iff]
    omega) n h

/-- Past the first column block the buffer of the normed rows holds them. -/
theorem rows_before (c : Dev nD) (t : Fin cfg0.N) (h : t.val % 6 ≠ 0) (d) : (dat m c).before 3 t d = rows m c t := by
  have carry : ∀ (t : Fin cfg0.N), t.val % 6 ≠ 0 → rows m c t = rows m c ⟨t.val - 1, by omega⟩ := fun t ht => by
    unfold rows
    rw [show start ⟨t.val - 1, by omega⟩ = start t from Fin.ext (by unfold start; dsimp only; omega)]
  refine ((dat m c).before_out_traj 3 rfl (fun _ _ => rfl) (fun t _ hi _ => ?_) t.val t rfl d).trans ?_
  · rw [after_3, after_3]
    exact carry t (by rw [idle_3] at hi; exact of_decide_eq_true hi)
  · rw [fresh_3 t.val (Nat.le_of_lt t.isLt), if_neg (by rw [decide_eq_true_iff]; exact h), after_3]
    exact (carry t h).symm

/-- What the obligation asks of the buffer of the normed rows after the body. -/
theorem leave_3 (c : Dev nD) (t : Fin cfg0.N) :
    (owns (c : Thread nD τ) (win0_3.stage (cfg0.slots t 3)) fullShare (rows m c t) : sProp 𝕄) ⊢ (dat m c).leavesExact 3 t := by
  unfold Dat.leavesExact
  rw [idle_3, flush_3]
  by_cases h : t.val % 6 ≠ 0
  · rw [decide_eq_true h]
    by_cases h5 : t.val % 6 = 5
    · rw [decide_eq_true h5]
      dsimp only
      rw [after_3]
    · rw [decide_eq_false h5]
      dsimp only
      iintro H
      iexists rows m c t
      rw [rows_before m c t h]
      iexact H
  · rw [decide_eq_false h]
    dsimp only
    rw [after_3]

/-- The body between the buffers as the pipeline hands them over and as it takes them back. -/
theorem glue (c : Dev nD) (i : grid0.Coords) (arg2 : Memref sig .tc .vmem S2048x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S2048x1024 .bf16) (harg6 : arg6.IsWhole) (P O R : sProp 𝕄)
    (bef2 : FVec F S2048x1024 .f32 → FVec F S2048x1024 .f32) (bef3 : FVec F S1x1024 .f32 → FVec F S1x1024 .f32) (bef4 : FVec F S1024x1024 .bf16 → FVec F S1024x1024 .bf16)
    (bef5 bef6 : FVec F S2048x1024 .bf16 → FVec F S2048x1024 .bf16)
    (x2 : FVec F S2048x1024 .f32) (x3 : FVec F S1x1024 .f32) (x4 : FVec F S1024x1024 .bf16) (x5 x6 : FVec F S2048x1024 .bf16)
    (aft2 : FVec F S2048x1024 .f32) (aft3 : FVec F S1x1024 .f32) (aft4 : FVec F S1024x1024 .bf16) (aft6 : FVec F S2048x1024 .bf16)
    (hb2 : ∀ d, bef2 d = x2) (hb3 : ∀ d, bef3 d = x3) (hb4 : ∀ d, bef4 d = x4)
    (h5 : (i 1).val = 0 ∧ x5 = k0_pay1 x2 x3 ∨ (i 1).val ≠ 0 ∧ ∀ d, bef5 d = x5)
    (ha2 : aft2 = x2) (ha3 : aft3 = x3) (ha4 : aft4 = x4) (ha6 : aft6 = k0_pay2 x5 x4)
    (hR : owns (c : Thread nD τ) arg5 fullShare x5 ⊢ R) :
    (iprop(P ∗ O ∗ (∃ d, owns (c : Thread nD τ) arg2 fullShare (bef2 d)) ∗ (∃ d, owns (c : Thread nD τ) arg3 fullShare (bef3 d)) ∗ (∃ d, owns (c : Thread nD τ) arg4 fullShare (bef4 d)) ∗ (∃ d, owns (c : Thread nD τ) arg5 fullShare (bef5 d)) ∗ (∃ d, owns (c : Thread nD τ) arg6 fullShare (bef6 d))) : sProp 𝕄) ⊢
      wp frame (wpE (defs₀ (F := F)) Variants.none (c : Thread nD τ) none) Set.univ (cc0_a_in_proj_l0 (F := F) i arg2 harg2 arg3 harg3 arg4 harg4 arg5 harg5 arg6 harg6)
        fun _ => iprop(P ∗ O ∗ owns (c : Thread nD τ) arg2 fullShare aft2 ∗ owns (c : Thread nD τ) arg3 fullShare aft3 ∗ owns (c : Thread nD τ) arg4 fullShare aft4 ∗ R ∗ owns (c : Thread nD τ) arg6 fullShare aft6) := by
  obtain rfl : bef2 = fun _ => x2 := funext hb2
  obtain rfl : bef3 = fun _ => x3 := funext hb3
  obtain rfl : bef4 = fun _ => x4 := funext hb4
  rw [ha2, ha3, ha4, ha6]
  iintro ⟨HP, HO, ⟨%d2, H2⟩, ⟨%d3, H3⟩, ⟨%d4, H4⟩, ⟨%d5, H5⟩, ⟨%d6, H6⟩⟩
  iapply (wp_wand_r frame (wpE (defs₀ (F := F)) Variants.none (c : Thread nD τ) none) Set.univ)
  isplitl [H2 H3 H4 H5 H6]
  · have run : (iprop(owns (c : Thread nD τ) arg2 fullShare x2 ∗ owns (c : Thread nD τ) arg3 fullShare x3 ∗ owns (c : Thread nD τ) arg4 fullShare x4 ∗ owns (c : Thread nD τ) arg5 fullShare (bef5 d5) ∗ owns (c : Thread nD τ) arg6 fullShare (bef6 d6)) : sProp 𝕄) ⊢
        wp frame (wpE (defs₀ (F := F)) Variants.none (c : Thread nD τ) none) Set.univ (cc0_a_in_proj_l0 (F := F) i arg2 harg2 arg3 harg3 arg4 harg4 arg5 harg5 arg6 harg6)
          (fun _ => iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (k0_pay2 x5 x4))) := by
      rcases h5 with ⟨hi, rfl⟩ | ⟨hi, h⟩
      · exact body_first c i arg2 harg2 arg3 harg3 arg4 harg4 arg5 harg5 arg6 harg6 x2 x3 x4 (bef5 d5) (bef6 d6) hi
      · rw [h d5]
        exact body_later c i arg2 harg2 arg3 harg3 arg4 harg4 arg5 harg5 arg6 harg6 x2 x3 x4 x5 (bef6 d6) hi
    iapply run
    isplitl [H2]; · iexact H2
    isplitl [H3]; · iexact H3
    isplitl [H4]; · iexact H4
    isplitl [H5]; · iexact H5
    iexact H6
  iintro %r ⟨H2, H3, H4, H5, H6⟩
  isplitl [HP]; · iexact HP
  isplitl [HO]; · iexact HO
  isplitl [H2]; · iexact H2
  isplitl [H3]; · iexact H3
  isplitl [H4]; · iexact H4
  isplitl [H5]; · iapply hR; iexact H5
  iexact H6

/-- The rows' block a point norms is its own at the first column block. -/
theorem start_self (t : Fin cfg0.N) (h : t.val % 6 = 0) : start t = t := Fin.ext (by unfold start; dsimp only; omega)

/-- Either the point norms its rows, or it finds them normed. -/
theorem rows_found (c : Dev nD) (t : Fin cfg0.N) :
    (grid0.coords t 1).val = 0 ∧ rows m c t = k0_pay1 (iblk m c 0 t) (iblk m c 1 t)
      ∨ (grid0.coords t 1).val ≠ 0 ∧ ∀ d, (dat m c).before 3 t d = rows m c t := by
  rw [coords_col]
  by_cases h : t.val % 6 = 0
  · refine .inl ⟨h, ?_⟩
    unfold rows
    rw [start_self t h]
  · exact .inr ⟨h, rows_before m c t h⟩

set_option maxRecDepth 16384 in
/-- The body at a point, from and to what the pipeline holds there. -/
theorem body_obligation (c : Dev nD) : BodyObligation (dat (F := F) m c) (defs₀ (F := F)) Variants.none () Set.univ := fun t => by
  rw [bigSep_W0, bigSep_W0]
  exact glue c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4))
    (Pipeline.ΦA spec0 c) ((dat m c).owesAt () t.castSucc) ((dat m c).leavesExact 3 t)
    ((dat m c).before 0 t) ((dat m c).before 1 t) ((dat m c).before 2 t) ((dat m c).before 3 t) ((dat m c).before 4 t)
    (iblk m c 0 t) (iblk m c 1 t) (iblk m c 2 t) (rows m c t) (rows m c t)
    ((dat m c).after 0 t) ((dat m c).after 1 t) ((dat m c).after 2 t) ((dat m c).after 4 t)
    (before0_0_of m (dat m c) (A_eq m c 0) (after_0 m c) t) (before0_1_of m (dat m c) (A_eq m c 1) (after_1 m c) t) (before0_2_of m (dat m c) (A_eq m c 2) (after_2 m c) t)
    (rows_found m c t) (after_0 m c t) (after_1 m c t) (after_2 m c t) (after_4 m c t) (leave_3 m c t)

set_option backward.isDefEq.respectTransparency.types false in
set_option maxHeartbeats 800000 in
/-- The run of the whole program: what its buffers hold at the end, and every counter back at zero. -/
theorem run_all : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program keeps its arguments and ends with every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_all m ρ))) ((θ_run defs _ _).mono (fun _ h => h.2) (run_all m ρ))

end Cert.NormProj
end
-- ==== Proof.NormProj.lean ====
/- The input projection with its norm: a block of 2048 rows is normed at the first of its six grid points and stays in its
   buffer while the six walk the 6144 columns of the weights, each point storing its block of the product. -/
module

public import proofs.«01_k».proof.Proof.NormRun
public import proofs.«01_k».proof.Proof.Gen.Kernel9
public import proofs.«01_k».proof.Proof.Gen.Reference9Ideal.Run
public import proofs.«01_k».proof.Proof.Gen.Reference9Ideal.Read
public import Idealize.ShloMosaic.Lib.Pipeline.ValueKit
public import Idealize.ShloMosaic.Lib.Claim

@[expose] public section

set_option maxRecDepth 16384

noncomputable section

namespace Cert.NormProj

open Idealize.ShloMosaic Idealize.ShloMosaic.TcCoe Idealize.SL.Sem
open Idealize.ShloMosaic.Pipeline (Dat)
open Cert.Kernel9Ideal Cert.Kernel9Ideal.Gen

variable (m : (ℓ : Loc nD τ sig) → Buf (Elt Ideal) ℓ)

/-- The factor that brings a row to unit size. -/
abbrev unit (x : Fin 1024 → EReal) : EReal :=
  Ideal.rsqrt (Ideal.div (∑ k, x k * x k) (Ideal.ofBits .f32 0x44800000#32) + Ideal.ofBits .f32 0x358637BD#32)

/-- A normed row, as the kernel stores it. -/
theorem norm_at (x : FVec Ideal S2048x1024 .f32) (g : FVec Ideal S1x1024 .f32) (j) :
    k0_pay1 (F := Ideal) x g j = x j * unit (fun k => x (ix2 (j 0) k)) * g (ix2 0 (j 1)) := by
  pointwise [k0_pay1]

/-- The product of normed rows with a block of weights. -/
theorem product_at (h : FVec Ideal S2048x1024 .bf16) (w : FVec Ideal S1024x1024 .bf16) (j) :
    k0_pay2 (F := Ideal) h w j = ∑ k : Fin 1024, h (ix2 (j 0) k) * w (ix2 k (j 1)) := by
  pointwise [k0_pay2]

/-- The reference's normed rows. -/
abbrev normed (x : FVec Ideal S8192x1024 .f32) (g : FVec Ideal S1x1024 .f32) : FVec Ideal S8192x1024 .bf16 :=
  Cert.Reference9Ideal.Read.val_main_v12 (F := Ideal) x g

/-- Its entries. -/
theorem normed_at (x : FVec Ideal S8192x1024 .f32) (g : FVec Ideal S1x1024 .f32) (j) :
    normed x g j = x j * unit (fun k => x (ix2 (j 0) k)) * g (ix2 0 (j 1)) := by
  pointwise [normed, Cert.Reference9Ideal.Read.val_main_v12, Cert.Reference9Ideal.Read.val_main_v11, Cert.Reference9Ideal.Read.val_main_v10,
    Cert.Reference9Ideal.Read.val_main_v9, Cert.Reference9Ideal.Read.val_main_v8, Cert.Reference9Ideal.Read.val_main_v7, Cert.Reference9Ideal.Read.val_main_v6,
    Cert.Reference9Ideal.Read.val_main_v5, Cert.Reference9Ideal.Read.val_main_v4, Cert.Reference9Ideal.Read.val_main_v3, Cert.Reference9Ideal.Read.val_main_v2,
    Cert.Reference9Ideal.Read.val_main_v1, Cert.Reference9Ideal.Read.val_main_v0, Cert.Reference9Ideal.Read.val_main_cst, Cert.Reference9Ideal.Read.val_main_cst_0,
    Cert.Reference9Ideal.Read.val_main_cst_1]

/-- The reference's product. -/
theorem ref14_at (x : FVec Ideal S8192x1024 .f32) (g : FVec Ideal S1x1024 .f32) (w : FVec Ideal S1024x6144 .f32) (j) :
    Cert.Reference9Ideal.Read.val_main_v14 (F := Ideal) x g w j = ∑ k : Fin 1024, normed x g (ix2 (j 0) k) * w (ix2 k (j 1)) := by
  have e : Cert.Reference9Ideal.Read.val_main_v11 (F := Ideal) x g = normed x g := rfl
  pointwise [Cert.Reference9Ideal.Read.val_main_v14, Cert.Reference9Ideal.Read.val_main_v13, e]

/-- Equal arguments, equal products. -/
theorem same_product {x x' : FVec Ideal S8192x1024 .f32} {g g' : FVec Ideal S1x1024 .f32} {w w' : FVec Ideal S1024x6144 .f32} (hx : x = x')
    (hg : g = g') (hw : w = w') : Cert.Reference9Ideal.Read.val_main_v14 (F := Ideal) x g w
      = Cert.Reference9Ideal.Read.val_main_v14 (F := Ideal) x' g' w' := by
  rw [hx, hg, hw]

/-- The rows of a point's block. -/
abbrev row (t : Fin cfg0.N) (k : Fin 2048) : Fin 8192 := ⟨t.val / 6 * 2048 + k.val, by
  have h : t.val < 24 := t.isLt
  omega⟩

/-- The columns of a point's block. -/
abbrev col (t : Fin cfg0.N) (k : Fin 1024) : Fin 6144 := ⟨t.val % 6 * 1024 + k.val, by omega⟩

/-- Where a point's blocks are: the rows go by sixes, the columns within them. -/
theorem places : ∀ t : Fin cfg0.N, win0_0.index t = ![t.val / 6, 0] ∧ win0_1.index t = ![0, 0] ∧ win0_2.index t = ![0, t.val % 6]
    ∧ win0_3.index t = ![t.val / 6, 0] ∧ win0_4.index t = ![t.val / 6, t.val % 6] :=
  (by decide +kernel : ∀ t : Fin grid0.N, _)

/-- The normed rows of a run. -/
abbrev normedOf (c : Dev nD) : FVec Ideal S8192x1024 .bf16 :=
  normed (m ((c : Thread nD τ).loc main_arg0)) (m ((c : Thread nD τ).loc main_arg1))

/-- A point's block of the rows. -/
theorem x_at (c : Dev nD) (t : Fin cfg0.N) (a : Fin 2048) (b : Fin 1024) :
    (iblk m c 0 t (ix2 a b) : EReal) = m ((c : Thread nD τ).loc main_arg0) (ix2 (row t a) b) := by
  blk_point [iblk, V, places t]

/-- A point's block of the gains: all of them. -/
theorem g_at (c : Dev nD) (t : Fin cfg0.N) (b : Fin 1024) :
    (iblk m c 1 t (ix2 0 b) : EReal) = m ((c : Thread nD τ).loc main_arg1) (ix2 0 b) := by
  blk_point [iblk, V, places t]

/-- A point's normed rows are the whole normed rows at its block's, when it norms them, -/
theorem norm_block (c : Dev nD) (t : Fin cfg0.N) (a : Fin 2048) (b : Fin 1024) :
    k0_pay1 (F := Ideal) (iblk m c 0 t) (iblk m c 1 t) (ix2 a b) = normedOf m c (ix2 (row t a) b) := by
  refine (norm_at _ _ _).trans (Eq.trans ?_ (normed_at _ _ _).symm)
  exact congrArg₂ (fun u v : EReal => u * v) (congrArg₂ (fun u v : EReal => u * v) (x_at m c t a b)
    (congrArg unit (funext (x_at m c t a)))) (g_at m c t b)

/-- and when it finds them. -/
theorem rows_at (c : Dev nD) (t : Fin cfg0.N) (a : Fin 2048) (b : Fin 1024) : rows m c t (ix2 a b) = normedOf m c (ix2 (row t a) b) := by
  unfold rows
  rw [norm_block, show row (start t) a = row t a from Fin.ext (by
    show (t.val - t.val % 6) / 6 * 2048 + a.val = t.val / 6 * 2048 + a.val
    omega)]

/-- A point's block of weights. -/
theorem weight_at (c : Dev nD) (t : Fin cfg0.N) (a b : Fin 1024) :
    (iblk m c 2 t (ix2 a b) : EReal) = m ((c : Thread nD τ).loc main_arg2) (ix2 a (col t b)) := by
  blk_point [iblk, V, places t]

/-- Where a point writes its normed rows. -/
theorem place3 (t : Fin cfg0.N) (a : Fin 2048) (b : Fin 1024) : (((cfg0.win 3).blk t).view.emb (ix2 a b) : S8192x1024.Idx) = ix2 (row t a) b := by
  blk_ext [places t]

/-- Where it writes its block of the product. -/
theorem place4 (t : Fin cfg0.N) (a : Fin 2048) (b : Fin 1024) : (((cfg0.win 4).blk t).view.emb (ix2 a b) : S8192x6144.Idx) = ix2 (row t a) (col t b) := by
  blk_ext [places t]

/-- The normed rows after the run. -/
theorem final_rows (c : Dev nD) : (dats m 0 c).arrAt 3 (cfgs 0).N = normedOf m c := by
  refine (dats m 0 c).arrAt_eq_of_covers 3 _ (by decide +kernel) fun t hf y => ?_
  obtain ⟨a, b, rfl⟩ : ∃ (a : Fin 2048) (b : Fin 1024), y = ix2 a b := ⟨y 0, y 1, by funext i; fin_cases i <;> rfl⟩
  refine (congrFun (after_3 m c t) (ix2 a b)).trans ((rows_at m c t a b).trans ?_)
  exact (congrArg _ (place3 t a b).symm)

/-- The product after the run. -/
theorem final (c : Dev nD) : (dats m 0 c).arrAt 4 (cfgs 0).N
    = Cert.Reference9Ideal.Read.val_main_v14 (F := Ideal) (m ((c : Thread nD τ).loc main_arg0)) (m ((c : Thread nD τ).loc main_arg1))
        (m ((c : Thread nD τ).loc main_arg2)) := by
  refine (dats m 0 c).arrAt_eq_of_covers 4 _ (by decide +kernel) fun t hf y => ?_
  obtain ⟨a, b, rfl⟩ : ∃ (a : Fin 2048) (b : Fin 1024), y = ix2 a b := ⟨y 0, y 1, by funext i; fin_cases i <;> rfl⟩
  refine (congrFun (after_4 m c t) (ix2 a b)).trans ((product_at _ _ _).trans ?_)
  refine Eq.trans ?_ (congrArg _ (place4 t a b).symm)
  rw [ref14_at]
  exact Finset.sum_congr rfl fun k _ => congrArg₂ (fun u v : EReal => u * v) (rows_at m c t a k) (weight_at m c t k b)

/-- The kernel's text, at the floats `F`: it runs, keeps its arguments and ends with every counter at zero. -/
def Quiet (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

/-- The claim about the kernel as compiled is the one about the idealized kernel's text, read at words. -/
theorem kernel_same : Cert.quiescent_Kernel9 (hKernel9 := Cert.Kernel9.Gen.facts) = Quiet Bits := by sl_kernel_rfl

/-- The kernel as compiled runs, keeps its arguments and ends with every counter at zero. -/
theorem frame_kernel : Cert.quiescent_Kernel9 (hKernel9 := Cert.Kernel9.Gen.facts) := kernel_same.mpr fun m ρ _ => quiet m ρ

/-- So does the idealized kernel. -/
theorem frame_ideal : Cert.quiescent_Kernel9Ideal (hKernel9Ideal := Cert.Kernel9Ideal.Gen.facts) := fun m ρ _ => quiet m ρ

/-- So does the reference. -/
theorem frame_reference : Cert.quiescent_Reference9Ideal (hReference9Ideal := Cert.Reference9Ideal.Gen.facts) := fun m ρ _ =>
  (θ_run _ _ _).mono (fun r h => ⟨fun c => (h c).2.2, sem_eq_zero_of_no_sems (by decide) r.2⟩)
    (Cert.Reference9Ideal.Value.run (F := Ideal) m ρ)

/-- The idealized kernel and the reference end with the same two arrays. -/
theorem same : Cert.algebraic_Kernel9Ideal_Reference9Ideal (hKernel9Ideal := Cert.Kernel9Ideal.Gen.facts)
    (hReference9Ideal := Cert.Reference9Ideal.Gen.facts) := by
  intro m g m' g' _ hagree
  refine ⟨fun c => normedOf m c,
    fun c => Cert.Reference9Ideal.Read.val_main_v14 (F := Ideal) (m ((c : Thread nD τ).loc main_arg0)) (m ((c : Thread nD τ).loc main_arg1))
      (m ((c : Thread nD τ).loc main_arg2)), ?_, ?_⟩
  · refine (θ_run _ _ _).mono (fun r h c => ?_) (θ_run_and (run_all m g) (quiet m g))
    exact ⟨((h.1.1 c).1 3).trans (final_rows m c), ((h.1.1 c).1 4).trans (final m c), h.2.1 c⟩
  · refine (θ_run _ _ _).mono (fun r h c => ?_) (Cert.Reference9Ideal.Value.run (F := Ideal) m' g')
    obtain ⟨e0, e1, e2⟩ := hagree c
    refine ⟨(h c).1.trans (congrArg₂ normed e0 e1), (h c).2.1.trans ?_, (h c).2.2⟩
    exact same_product e0 e1 e2

end Cert.NormProj

end
-- ==== Proof.Loss.lean ====
/- The last projection with the loss: each point computes a block of 1024 rows of the error, stores its share of the loss's
   gradient and adds the block's part of the loss, column by column, to a row that stays until the end. -/
module

public import proofs.«01_k».proof.Defs
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Claim
public import proofs.«01_k».proof.Proof.Reals

@[expose] public section

set_option maxRecDepth 16384

noncomputable section

namespace Cert.Loss

open Idealize.ShloMosaic Idealize.ShloMosaic.TcCoe Idealize.SL.Sem
open Idealize.ShloMosaic.Pipeline (Dat)
open Cert.Kernel10Ideal Cert.Kernel10Ideal.Gen

variable (m : (ℓ : Loc nD τ sig) → Buf (Elt Ideal) ℓ)

/-- The error: the input plus the projection minus the target. -/
abbrev err (y : FVec Ideal S8192x2048 .bf16) (w : FVec Ideal S2048x1024 .f32) (x z : FVec Ideal S8192x1024 .f32) : FVec Ideal S8192x1024 .f32 :=
  Cert.Reference10Ideal.Read.val_main_v3 (F := Ideal) y w x z

/-- The word of one half. -/
theorem word_half : Ideal.ofBits .f32 0x3F000000#32 = ((1 / 2 : ℝ) : EReal) := by
  simp [Ideal.ofBits, Ideal.ieee, -EReal.coe_mul]; norm_num
/-- The word of one. -/
theorem word_one : Ideal.ofBits .f32 0x3F800000#32 = ((1 : ℝ) : EReal) := by
  simp [Ideal.ofBits, Ideal.ieee, -EReal.coe_mul]; norm_num
/-- The word of two. -/
theorem word_two : Ideal.ofBits .f32 0x40000000#32 = ((2 : ℝ) : EReal) := by
  simp [Ideal.ofBits, Ideal.ieee, -EReal.coe_mul]; norm_num
/-- The word of 1024. -/
theorem word_width : Ideal.ofBits .f32 0x44800000#32 = ((1024 : ℝ) : EReal) := by
  simp [Ideal.ofBits, Ideal.ieee, -EReal.coe_mul]; norm_num
/-- The word of 1/1024. -/
theorem word_part : Ideal.ofBits .f32 0x3A800000#32 = ((1 / 1024 : ℝ) : EReal) := by
  simp [Ideal.ofBits, Ideal.ieee, -EReal.coe_mul]; norm_num
/-- The word of 1/2048. -/
theorem word_part2 : Ideal.ofBits .f32 0x3A000000#32 = ((1 / 2048 : ℝ) : EReal) := by
  simp [Ideal.ofBits, Ideal.ieee, -EReal.coe_mul]; norm_num

/-- The rows of point `t`'s block. -/
abbrev row (t : Fin cfg0.N) (k : Fin 1024) : Fin 8192 := ⟨t.val * 1024 + k.val, by
  have h : t.val < 8 := t.isLt
  omega⟩

/-- Point `t` reads the `t`-th block of rows of the three arrays and the whole weight, and writes the one row of the loss's parts and the `t`-th block of rows. -/
theorem places : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] :=
  (by decide +kernel : ∀ t : Fin grid0.N, _)

/-- The error of a run. -/
abbrev errOf (c : Dev nD) : FVec Ideal S8192x1024 .f32 :=
  err (m ((c : Thread nD τ).loc main_arg0)) (m ((c : Thread nD τ).loc main_arg1)) (m ((c : Thread nD τ).loc main_arg2)) (m ((c : Thread nD τ).loc main_arg3))

/-- A point's error is the whole error at the block's rows. -/
theorem err_at (c : Dev nD) (t : Fin cfg0.N) (a b : Fin 1024) :
    k0_pay1 (F := Ideal) (iblk m c 2 t) (iblk m c 0 t) (iblk m c 1 t) (iblk m c 3 t) (ix2 a b) = errOf m c (ix2 (row t a) b) := by
  pointwise [k0_pay1, errOf, err, Cert.Reference10Ideal.Read.val_main_v3, Cert.Reference10Ideal.Read.val_main_v2, Cert.Reference10Ideal.Read.val_main_v1, Cert.Reference10Ideal.Read.val_main_v0]
  blk_point [iblk, V, places t]

/-- What a point stores of the gradient. -/
theorem grad_at (x : FVec Ideal S1024x1024 .f32) (y : FVec Ideal S1024x2048 .bf16) (w : FVec Ideal S2048x1024 .bf16) (z : FVec Ideal S1024x1024 .f32) (j) :
    k0_pay2 (F := Ideal) x y w z j = k0_pay1 (F := Ideal) x y w z j * Ideal.ofBits .f32 0x3A800000#32 := by
  pointwise [k0_pay2]

/-- A point's part of the loss. -/
theorem part_at (x : FVec Ideal S1024x1024 .f32) (y : FVec Ideal S1024x2048 .bf16) (w : FVec Ideal S2048x1024 .bf16) (z : FVec Ideal S1024x1024 .f32) (j) :
    k0_pay3 (F := Ideal) x y w z j = (∑ k : Fin 1024, k0_pay1 (F := Ideal) x y w z (ix2 k (j 1)) * k0_pay1 (F := Ideal) x y w z (ix2 k (j 1)))
      * Ideal.ofBits .f32 0x3A000000#32 := by
  pointwise [k0_pay3]

/-- It is added to what is there. -/
theorem more_at (x : FVec Ideal S1024x1024 .f32) (y : FVec Ideal S1024x2048 .bf16) (w : FVec Ideal S2048x1024 .bf16) (z : FVec Ideal S1024x1024 .f32) (p) (j) :
    k0_pay4 (F := Ideal) x y w z p j = p j + k0_pay3 (F := Ideal) x y w z j := by
  pointwise [k0_pay4]

/-- The reference's gradient. -/
theorem ref20_at (y : FVec Ideal S8192x2048 .bf16) (w : FVec Ideal S2048x1024 .f32) (x z : FVec Ideal S8192x1024 .f32) (j) :
    Cert.Reference10Ideal.Read.val_main_v20 (F := Ideal) y w x z j = err y w x z j * Ideal.ofBits .f32 0x3A800000#32 := by
  pointwise [Cert.Reference10Ideal.Read.val_main_v20, Cert.Reference10Ideal.Read.val_main_v19, Cert.Reference10Ideal.Read.val_main_v18, Cert.Reference10Ideal.Read.val_main_v17, Cert.Reference10Ideal.Read.val_main_v16, Cert.Reference10Ideal.Read.val_main_v15, Cert.Reference10Ideal.Read.val_main_v14, Cert.Reference10Ideal.Read.val_main_v13, Cert.Reference10Ideal.Read.val_main_v12, Cert.Reference10Ideal.Read.val_main_v11, Cert.Reference10Ideal.Read.val_main_v10, Cert.Reference10Ideal.Read.val_main_v9, Cert.Reference10Ideal.Read.val_main_v8, Cert.Reference10Ideal.Read.val_main_v7, Cert.Reference10Ideal.Read.val_main_v6, Cert.Reference10Ideal.Read.val_main_v5, Cert.Reference10Ideal.Read.val_main_v4, Cert.Reference10Ideal.Read.val_main_cst, Cert.Reference10Ideal.Read.val_main_cst_0, Cert.Reference10Ideal.Read.val_main_cst_1, Cert.Reference10Ideal.Read.val_main_cst_2, Cert.Reference10Ideal.Read.val_main_cst_3, Cert.Reference10Ideal.Read.val_main_cst_4, Cert.Reference10Ideal.Read.val_main_cst_5, Cert.Reference10Ideal.Read.val_main_cst_6, err]
  simp only [Fin.sum_univ_one, word_half, word_one, word_two, word_width, word_part, ← EReal.coe_mul,
    Cert.Reals.div_coe _ (show (1024 : ℝ) ≠ 0 by norm_num)]
  rw [← mul_assoc, ← EReal.coe_mul, mul_comm]
  norm_num

/-- The reference's part of the loss. -/
theorem ref12_at (y : FVec Ideal S8192x2048 .bf16) (w : FVec Ideal S2048x1024 .f32) (x z : FVec Ideal S8192x1024 .f32) (j) :
    Cert.Reference10Ideal.Read.val_main_v12 (F := Ideal) y w x z j
      = (∑ k : Fin 8192, err y w x z (ix2 k (j 1)) * err y w x z (ix2 k (j 1))) * Ideal.ofBits .f32 0x3A000000#32 := by
  pointwise [Cert.Reference10Ideal.Read.val_main_v20, Cert.Reference10Ideal.Read.val_main_v19, Cert.Reference10Ideal.Read.val_main_v18, Cert.Reference10Ideal.Read.val_main_v17, Cert.Reference10Ideal.Read.val_main_v16, Cert.Reference10Ideal.Read.val_main_v15, Cert.Reference10Ideal.Read.val_main_v14, Cert.Reference10Ideal.Read.val_main_v13, Cert.Reference10Ideal.Read.val_main_v12, Cert.Reference10Ideal.Read.val_main_v11, Cert.Reference10Ideal.Read.val_main_v10, Cert.Reference10Ideal.Read.val_main_v9, Cert.Reference10Ideal.Read.val_main_v8, Cert.Reference10Ideal.Read.val_main_v7, Cert.Reference10Ideal.Read.val_main_v6, Cert.Reference10Ideal.Read.val_main_v5, Cert.Reference10Ideal.Read.val_main_v4, Cert.Reference10Ideal.Read.val_main_cst, Cert.Reference10Ideal.Read.val_main_cst_0, Cert.Reference10Ideal.Read.val_main_cst_1, Cert.Reference10Ideal.Read.val_main_cst_2, Cert.Reference10Ideal.Read.val_main_cst_3, Cert.Reference10Ideal.Read.val_main_cst_4, Cert.Reference10Ideal.Read.val_main_cst_5, Cert.Reference10Ideal.Read.val_main_cst_6, err]
  simp only [word_half, word_width, word_part2]
  rw [Ideal.div_coe (show (1024 : ℝ) ≠ 0 by norm_num), mul_comm, mul_assoc, ← EReal.coe_mul]
  norm_num

/-- Where a point writes its block of the gradient. -/
theorem place5 (t : Fin cfg0.N) (a b : Fin 1024) : (((cfg0.win 5).blk t).view.emb (ix2 a b) : S8192x1024.Idx) = ix2 (row t a) b := by
  blk_ext [places t]

/-- Where the loss's parts are. -/
theorem place4 (t : Fin cfg0.N) (b : Fin 1024) : (((cfg0.win 4).blk t).view.emb (ix2 0 b) : S1x1024.Idx) = ix2 0 b := by
  blk_ext [places t]

/-- A point's block of the gradient. -/
theorem grad (c : Dev nD) (t : Fin cfg0.N) : (outsAt0 m c t.val t.isLt).2
    = k0_pay2 (F := Ideal) (iblk m c 2 t) (iblk m c 0 t) (iblk m c 1 t) (iblk m c 3 t) := by
  by_cases h : 1 ≤ t.val
  · have ht : t.val < 8 := t.isLt
    rw [outsAt0_B m c t (by omega) h]; frame_out
  · rw [outsAt0_A m c t (by omega) h]; frame_out

/-- The first point starts the loss's parts. -/
theorem part_first (c : Dev nD) (t : Fin cfg0.N) (h : ¬1 ≤ t.val) : (outsAt0 m c t.val t.isLt).1
    = k0_pay3 (F := Ideal) (iblk m c 2 t) (iblk m c 0 t) (iblk m c 1 t) (iblk m c 3 t) := by
  rw [outsAt0_A m c t (by omega) h]; frame_out

/-- A later point adds to them. -/
theorem part_next (c : Dev nD) (t : Fin cfg0.N) (h : 1 ≤ t.val) (j) : (outsAt0 m c t.val t.isLt).1 j
    = (outsAt0 m c (t.val - 1) (Nat.lt_of_le_of_lt (Nat.sub_le _ _) t.isLt)).1 j
      + k0_pay3 (F := Ideal) (iblk m c 2 t) (iblk m c 0 t) (iblk m c 1 t) (iblk m c 3 t) j := by
  have ht : t.val < 8 := t.isLt
  rw [outsAt0_B m c t (by omega) h]; frame_out
  rw [more_at]

/-- The square of an error, by its row's number. -/
def square (e : FVec Ideal S8192x1024 .f32) (b : Fin 1024) (n : ℕ) : EReal :=
  if h : n < 8192 then e (ix2 ⟨n, h⟩ b) * e (ix2 ⟨n, h⟩ b) else 0

/-- A point's part of the loss is the sum of its rows' squares, scaled. -/
theorem part_sum (c : Dev nD) (t : Fin cfg0.N) (b : Fin 1024) :
    k0_pay3 (F := Ideal) (iblk m c 2 t) (iblk m c 0 t) (iblk m c 1 t) (iblk m c 3 t) (ix2 0 b)
      = (∑ k ∈ Finset.range 1024, square (errOf m c) b (t.val * 1024 + k)) * Ideal.ofBits .f32 0x3A000000#32 := by
  rw [part_at, Finset.sum_range]
  refine congrArg (· * _) (Finset.sum_congr rfl fun k _ => ?_)
  unfold square
  rw [dif_pos (row t k).isLt]
  exact congrArg₂ (· * ·) (err_at m c t k b) (err_at m c t k b)

/-- Scaling the loss's parts distributes over the blocks. -/
theorem scale (p q : EReal) : (p + q) * Ideal.ofBits .f32 0x3A000000#32 = p * Ideal.ofBits .f32 0x3A000000#32 + q * Ideal.ofBits .f32 0x3A000000#32 := by
  rw [word_part2, mul_comm, EReal.left_distrib_of_nonneg_of_ne_top (by exact_mod_cast (by norm_num : (0 : ℝ) ≤ 1 / 2048)) (EReal.coe_ne_top _),
    mul_comm _ p, mul_comm _ q]

/-- The loss's parts hold the squares of the rows done so far. -/
theorem parts (c : Dev nD) (b : Fin 1024) : ∀ (n : ℕ) (h : n < cfg0.N),
    (outsAt0 m c n h).1 (ix2 0 b) = (∑ k ∈ Finset.range ((n + 1) * 1024), square (errOf m c) b k) * Ideal.ofBits .f32 0x3A000000#32 := by
  intro n
  induction n with
  | zero =>
    intro h
    rw [part_first m c ⟨0, h⟩ (by show ¬1 ≤ 0; omega), part_sum m c ⟨0, h⟩ b]
    exact congrArg (· * _) (Finset.sum_congr rfl fun k _ => congrArg _ (show 0 * 1024 + k = k by omega))
  | succ n ih =>
    intro h
    rw [part_next m c ⟨n + 1, h⟩ (by show 1 ≤ n + 1; omega), part_sum m c ⟨n + 1, h⟩ b,
      show (n + 1 + 1) * 1024 = (n + 1) * 1024 + 1024 by omega, Finset.sum_range_add, scale]
    exact congrArg (· + _) (ih (Nat.lt_of_succ_lt h))

/-- The loss's parts after the run. -/
theorem final_loss (c : Dev nD) : (dats m 0 c).arrAt 4 (cfgs 0).N
    = Cert.Reference10Ideal.Read.val_main_v12 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  have h7 := (flush0_4 t).mp hf
  have ht : t.val < 8 := t.isLt
  obtain ⟨a, b, rfl⟩ : ∃ (a : Fin 1) (b : Fin 1024), y = ix2 a b := ⟨y 0, y 1, by funext i; fin_cases i <;> rfl⟩
  obtain rfl : a = 0 := Subsingleton.elim _ _
  rw [after0_4]
  refine (parts m c b t.val t.isLt).trans ?_
  refine Eq.trans ?_ (congrArg _ (place4 t b).symm)
  rw [show (t.val + 1) * 1024 = 8192 by omega, Finset.sum_range, ref12_at]
  refine congrArg (· * _) (Finset.sum_congr rfl fun k _ => ?_)
  unfold square
  rw [dif_pos k.isLt]
  rfl

/-- The loss's gradient after the run. -/
theorem final (c : Dev nD) : (dats m 0 c).arrAt 5 (cfgs 0).N
    = Cert.Reference10Ideal.Read.val_main_v20 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  obtain ⟨a, b, rfl⟩ : ∃ (a b : Fin 1024), y = ix2 a b := ⟨y 0, y 1, by funext i; fin_cases i <;> rfl⟩
  rw [after0_5, grad m c t]
  refine (grad_at _ _ _ _ _).trans ?_
  refine Eq.trans ?_ (congrArg _ (place5 t a b).symm)
  rw [ref20_at]
  exact congrArg (· * _) (err_at m c t a b)

/-- The kernel as compiled runs, keeps its arguments and ends with every counter at zero. -/
theorem frame_kernel : Cert.quiescent_Kernel10 (hKernel10 := Cert.Kernel10.Gen.facts) := fun m ρ _ => Cert.Kernel10.Gen.frame m ρ

/-- So does the idealized kernel. -/
theorem frame_ideal : Cert.quiescent_Kernel10Ideal (hKernel10Ideal := Cert.Kernel10Ideal.Gen.facts) := fun m ρ _ => Cert.Kernel10Ideal.Gen.frame m ρ

/-- So does the reference. -/
theorem frame_reference : Cert.quiescent_Reference10Ideal (hReference10Ideal := Cert.Reference10Ideal.Gen.facts) := fun m ρ _ =>
  (θ_run _ _ _).mono (fun r h => ⟨fun c => (h c).2.2, sem_eq_zero_of_no_sems (by decide) r.2⟩)
    (Cert.Reference10Ideal.Value.run (F := Ideal) m ρ)

/-- The idealized kernel and the reference end with the same two arrays. -/
theorem same : Cert.algebraic_Kernel10Ideal_Reference10Ideal (hKernel10Ideal := Cert.Kernel10Ideal.Gen.facts)
    (hReference10Ideal := Cert.Reference10Ideal.Gen.facts) := by
  intro m g m' g' _ hagree
  refine ⟨fun c => Cert.Reference10Ideal.Read.val_main_v12 (F := Ideal) (m ((c : Thread nD τ).loc main_arg0)) (m ((c : Thread nD τ).loc main_arg1))
      (m ((c : Thread nD τ).loc main_arg2)) (m ((c : Thread nD τ).loc main_arg3)),
    fun c => Cert.Reference10Ideal.Read.val_main_v20 (F := Ideal) (m ((c : Thread nD τ).loc main_arg0)) (m ((c : Thread nD τ).loc main_arg1))
      (m ((c : Thread nD τ).loc main_arg2)) (m ((c : Thread nD τ).loc main_arg3)), ?_, ?_⟩
  · refine (θ_run _ _ _).mono (fun r h c => ?_) (Cert.Kernel10Ideal.Value.run_blocks m g)
    exact ⟨(h c).1.trans (final_loss m c), (h c).2.1.trans (final m c), (h c).2.2⟩
  · refine (θ_run _ _ _).mono (fun r h c => ?_) (Cert.Reference10Ideal.Value.run (F := Ideal) m' g')
    obtain ⟨e0, e1, e2, e3⟩ := hagree c
    exact ⟨(h c).1.trans (by dsimp only; rw [← e0, ← e1, ← e2, ← e3]; rfl), (h c).2.1.trans (by dsimp only; rw [← e0, ← e1, ← e2, ← e3]; rfl), (h c).2.2⟩

end Cert.Loss

end
-- ==== Proof.AdamAIn.lean ====
/- The sum over the devices of a weight's gradient and the optimiser's step with it, of the conformer layers' input projections: each grid point
   writes its own block of 256 rows. -/
module

public import proofs.«01_k».proof.Defs
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.Claim

@[expose] public section

set_option maxRecDepth 16384

noncomputable section

namespace Cert.AdamAIn

open Idealize.ShloMosaic Idealize.ShloMosaic.TcCoe Idealize.SL.Sem
open Idealize.ShloMosaic.Pipeline (Dat)
open Cert.Kernel11Ideal Cert.Kernel11Ideal.Gen

variable (m : (ℓ : Loc nD τ sig) → Buf (Elt Ideal) ℓ)

/-- The whole of the devices' parts. -/
abbrev Parts := FVec Ideal ⟨4, ![8, 2, 1024, 768]⟩ .bf16
/-- The whole of the weight, or of one of its moments. -/
abbrev Whole := FVec Ideal ⟨3, ![2, 1024, 768]⟩ .f32
/-- A block of the devices' parts. -/
abbrev PartsBlock := FVec Ideal ⟨4, ![8, 1, 256, 768]⟩ .bf16
/-- A block of the weight, or of one of its moments. -/
abbrev Block := FVec Ideal ⟨3, ![1, 256, 768]⟩ .f32

/-- The first moment after the step. -/
abbrev first (g a : EReal) : EReal := Ideal.ofBits .f32 0x3F666666#32 * a + Ideal.ofBits .f32 0x3DCCCCCD#32 * g
/-- The second moment after the step. -/
abbrev second (g a : EReal) : EReal := Ideal.ofBits .f32 0x3F7FBE77#32 * a + Ideal.ofBits .f32 0x3A83126F#32 * (g * g)
/-- The change of the weight. -/
abbrev change (g w a b : EReal) : EReal :=
  Ideal.ofBits .f32 0xBA83126F#32 * (Ideal.div (Ideal.div (first g a) (Ideal.ofBits .f32 0x3F26BD02#32))
    (Ideal.sqrt (Ideal.div (second g b) (Ideal.ofBits .f32 0x3C231ACC#32)) + Ideal.ofBits .f32 0x322BCC77#32)
    + Ideal.ofBits .f32 0x3C23D70A#32 * w)

/-- Equal entries, equal changes. -/
theorem change_same {g g' w w' a a' b b' : EReal} (hg : g = g') (hw : w = w') (ha : a = a') (hb : b = b') :
    change g w a b = change g' w' a' b' := by
  rw [hg, hw, ha, hb]

/-- Equal parts, equal sums. -/
theorem sum_same {f g : Fin 8 → EReal} (h : ∀ s, f s = g s) : ∑ s, f s = ∑ s, g s := Finset.sum_congr rfl fun s _ => h s

/-- The sum of a block's eight parts. -/
theorem sum_at (p : PartsBlock) (w a b : Block) (j : S256x768.Idx) :
    k0_pay5 (F := Ideal) (k0_pay10 p w a b) (View.ld p r0_7) j = ∑ s : Fin 8, p (ix4 s 0 (j 0) (j 1)) := by
  unfold k0_pay10
  pointwise [k0_pay5, k0_pay4]
  rw [Fin.sum_univ_eight]

/-- The sum over the devices, of the whole weight. -/
abbrev grad (p : Parts) : Whole := Cert.Reference11Ideal.Read.val_main_v1 (F := Ideal) p

/-- Its entries. -/
theorem grad_at (p : Parts) (j) : grad p j = ∑ s : Fin 8, p (ix4 s (j 0) (j 1) (j 2)) := by
  pointwise [grad, Cert.Reference11Ideal.Read.val_main_v1, Cert.Reference11Ideal.Read.val_main_v0, Cert.Reference11Ideal.Read.val_main_cst]

/-- The reference's first moment, by entries. -/
theorem first_at (p : Parts) (a : Whole) (j) : Cert.Reference11Ideal.Read.val_main_v6 (F := Ideal) p a j = first (grad p j) (a j) := by
  have e : Cert.Reference11Ideal.Read.val_main_v1 (F := Ideal) p = grad p := rfl
  pointwise [Cert.Reference11Ideal.Read.val_main_v6, Cert.Reference11Ideal.Read.val_main_v3, Cert.Reference11Ideal.Read.val_main_v2, Cert.Reference11Ideal.Read.val_main_v5, Cert.Reference11Ideal.Read.val_main_v4, Cert.Reference11Ideal.Read.val_main_cst_0, Cert.Reference11Ideal.Read.val_main_cst_1, e]

/-- The reference's second moment, by entries. -/
theorem second_at (p : Parts) (b : Whole) (j) : Cert.Reference11Ideal.Read.val_main_v12 (F := Ideal) p b j = second (grad p j) (b j) := by
  have e : Cert.Reference11Ideal.Read.val_main_v1 (F := Ideal) p = grad p := rfl
  pointwise [Cert.Reference11Ideal.Read.val_main_v12, Cert.Reference11Ideal.Read.val_main_v8, Cert.Reference11Ideal.Read.val_main_v7, Cert.Reference11Ideal.Read.val_main_v11, Cert.Reference11Ideal.Read.val_main_v10, Cert.Reference11Ideal.Read.val_main_v9, Cert.Reference11Ideal.Read.val_main_cst_2, Cert.Reference11Ideal.Read.val_main_cst_3, e]

/-- The reference's change of the weight, by entries. -/
theorem change_at (p : Parts) (w a b : Whole) (j) : Cert.Reference11Ideal.Read.val_main_v25 (F := Ideal) p w a b j = change (grad p j) (w j) (a j) (b j) := by
  pointwise [Cert.Reference11Ideal.Read.val_main_v25, Cert.Reference11Ideal.Read.val_main_v24, Cert.Reference11Ideal.Read.val_main_v23, Cert.Reference11Ideal.Read.val_main_v22, Cert.Reference11Ideal.Read.val_main_v21, Cert.Reference11Ideal.Read.val_main_v20, Cert.Reference11Ideal.Read.val_main_v19, Cert.Reference11Ideal.Read.val_main_v18, Cert.Reference11Ideal.Read.val_main_v17, Cert.Reference11Ideal.Read.val_main_v16, Cert.Reference11Ideal.Read.val_main_v15, Cert.Reference11Ideal.Read.val_main_v14, Cert.Reference11Ideal.Read.val_main_v13, Cert.Reference11Ideal.Read.val_main_cst_4, Cert.Reference11Ideal.Read.val_main_cst_5, Cert.Reference11Ideal.Read.val_main_cst_6, Cert.Reference11Ideal.Read.val_main_cst_7, Cert.Reference11Ideal.Read.val_main_cst_8]
  rw [first_at, second_at]

/-- What a point stores of the sum. -/
theorem out_grad (p : PartsBlock) (w a b : Block) (i : Fin 256) (k : Fin 768) :
    out0_4 (F := Ideal) p w a b (ix3 0 i k) = ∑ s : Fin 8, p (ix4 s 0 i k) := by
  refine Eq.trans ?_ (sum_at p w a b (ix2 i k))
  unfold out0_4
  rw [View.canon_unit_zero (by funext a; fin_cases a <;> rfl)]
  pointwise [k0_pay6]

/-- What it stores of the first moment. -/
theorem out_first (p : PartsBlock) (w a b : Block) (i : Fin 256) (k : Fin 768) :
    out0_6 (F := Ideal) p w a b (ix3 0 i k) = first (∑ s : Fin 8, p (ix4 s 0 i k)) (a (ix3 0 i k)) := by
  rw [← show _ = ∑ s : Fin 8, p (ix4 s 0 i k) from sum_at p w a b (ix2 i k)]
  unfold out0_6
  rw [View.canon_unit_zero (by funext a; fin_cases a <;> rfl)]
  pointwise [k0_pay2, k0_pay7]

/-- What it stores of the second moment. -/
theorem out_second (p : PartsBlock) (w a b : Block) (i : Fin 256) (k : Fin 768) :
    out0_7 (F := Ideal) p w a b (ix3 0 i k) = second (∑ s : Fin 8, p (ix4 s 0 i k)) (b (ix3 0 i k)) := by
  rw [← show _ = ∑ s : Fin 8, p (ix4 s 0 i k) from sum_at p w a b (ix2 i k)]
  unfold out0_7
  rw [View.canon_unit_zero (by funext a; fin_cases a <;> rfl)]
  pointwise [k0_pay3, k0_pay8]

/-- What it stores of the change. -/
theorem out_change (p : PartsBlock) (w a b : Block) (i : Fin 256) (k : Fin 768) :
    out0_5 (F := Ideal) p w a b (ix3 0 i k) = change (∑ s : Fin 8, p (ix4 s 0 i k)) (w (ix3 0 i k)) (a (ix3 0 i k)) (b (ix3 0 i k)) := by
  rw [← show _ = ∑ s : Fin 8, p (ix4 s 0 i k) from sum_at p w a b (ix2 i k)]
  unfold out0_5
  rw [View.canon_unit_zero (by funext a; fin_cases a <;> rfl)]
  pointwise [k0_pay1, k0_pay9, k0_pay7, k0_pay8]

/-- The layer of a point's block. -/
abbrev layer (t : Fin cfg0.N) : Fin 2 := ⟨t.val / 4, by
  have h : t.val < 8 := t.isLt
  omega⟩

/-- The rows of a point's block. -/
abbrev row (t : Fin cfg0.N) (i : Fin 256) : Fin 1024 := ⟨t.val % 4 * 256 + i.val, by omega⟩

/-- Where a point's blocks are. -/
theorem places : ∀ t : Fin cfg0.N, win0_0.index t = ![0, t.val / 4, t.val % 4, 0] ∧ win0_1.index t = ![t.val / 4, t.val % 4, 0]
    ∧ win0_2.index t = ![t.val / 4, t.val % 4, 0] ∧ win0_3.index t = ![t.val / 4, t.val % 4, 0]
    ∧ win0_4.index t = ![t.val / 4, t.val % 4, 0] ∧ win0_5.index t = ![t.val / 4, t.val % 4, 0]
    ∧ win0_6.index t = ![t.val / 4, t.val % 4, 0] ∧ win0_7.index t = ![t.val / 4, t.val % 4, 0] :=
  (by decide +kernel : ∀ t : Fin grid0.N, _)

/-- A point's block of the parts. -/
theorem parts_at (c : Dev nD) (t : Fin cfg0.N) (s : Fin 8) (i : Fin 256) (k : Fin 768) :
    (iblk m c 0 t (ix4 s 0 i k) : EReal) = m ((c : Thread nD τ).loc main_arg0) (ix4 s (layer t) (row t i) k) := by
  blk_point [iblk, V, places t]

/-- A point's block of the weight. -/
theorem weight_at (c : Dev nD) (t : Fin cfg0.N) (i : Fin 256) (k : Fin 768) :
    (iblk m c 1 t (ix3 0 i k) : EReal) = m ((c : Thread nD τ).loc main_arg1) (ix3 (layer t) (row t i) k) := by
  blk_point [iblk, V, places t]

/-- A point's block of the first moment. -/
theorem m_at (c : Dev nD) (t : Fin cfg0.N) (i : Fin 256) (k : Fin 768) :
    (iblk m c 2 t (ix3 0 i k) : EReal) = m ((c : Thread nD τ).loc main_arg2) (ix3 (layer t) (row t i) k) := by
  blk_point [iblk, V, places t]

/-- A point's block of the second moment. -/
theorem v_at (c : Dev nD) (t : Fin cfg0.N) (i : Fin 256) (k : Fin 768) :
    (iblk m c 3 t (ix3 0 i k) : EReal) = m ((c : Thread nD τ).loc main_arg3) (ix3 (layer t) (row t i) k) := by
  blk_point [iblk, V, places t]

/-- Where a point writes its block of result 1. -/
theorem place4 (t : Fin cfg0.N) (i : Fin 256) (k : Fin 768) : (((cfg0.win 4).blk t).view.emb (ix3 0 i k) : (⟨3, ![2, 1024, 768]⟩ : Shape).Idx) = ix3 (layer t) (row t i) k := by
  blk_ext [places t]

/-- Where a point writes its block of result 2. -/
theorem place5 (t : Fin cfg0.N) (i : Fin 256) (k : Fin 768) : (((cfg0.win 5).blk t).view.emb (ix3 0 i k) : (⟨3, ![2, 1024, 768]⟩ : Shape).Idx) = ix3 (layer t) (row t i) k := by
  blk_ext [places t]

/-- Where a point writes its block of result 3. -/
theorem place6 (t : Fin cfg0.N) (i : Fin 256) (k : Fin 768) : (((cfg0.win 6).blk t).view.emb (ix3 0 i k) : (⟨3, ![2, 1024, 768]⟩ : Shape).Idx) = ix3 (layer t) (row t i) k := by
  blk_ext [places t]

/-- Where a point writes its block of result 4. -/
theorem place7 (t : Fin cfg0.N) (i : Fin 256) (k : Fin 768) : (((cfg0.win 7).blk t).view.emb (ix3 0 i k) : (⟨3, ![2, 1024, 768]⟩ : Shape).Idx) = ix3 (layer t) (row t i) k := by
  blk_ext [places t]

/-- A point's block of the parts, over the extended reals. -/
abbrev partsBlock (c : Dev nD) (t : Fin cfg0.N) : PartsBlock := iblk m c 0 t

/-- The sum of a block's parts is the whole sum's entry there. -/
theorem block_grad (c : Dev nD) (t : Fin cfg0.N) (i : Fin 256) (k : Fin 768) : (∑ s : Fin 8, partsBlock m c t (ix4 s 0 i k))
    = grad (m ((c : Thread nD τ).loc main_arg0)) (ix3 (layer t) (row t i) k) :=
  (sum_same fun s => parts_at m c t s i k).trans
    (grad_at (m ((c : Thread nD τ).loc main_arg0)) (ix3 (layer t) (row t i) k)).symm

/-- A place of a block. -/
theorem block_index (y : (⟨3, ![1, 256, 768]⟩ : Shape).Idx) : ∃ (i : Fin 256) (k : Fin 768), y = ix3 0 i k :=
  ⟨y 1, y 2, by funext a; fin_cases a <;> first | rfl | exact Fin.ext (by have h : (y 0).val < 1 := (y 0).isLt; show (y 0).val = 0; omega)⟩

/-- The sum after the run. -/
theorem final_grad (c : Dev nD) : (dats m 0 c).arrAt 4 (cfgs 0).N = grad (m ((c : Thread nD τ).loc main_arg0)) := by
  refine (dats m 0 c).arrAt_eq_of_covers 4 _ (by decide +kernel) fun t hf y => ?_
  obtain ⟨i, k, rfl⟩ := block_index y
  refine (congrFun (after0_4 m c t) (ix3 0 i k)).trans ((out_grad _ _ _ _ i k).trans ((block_grad m c t i k).trans ?_))
  exact congrArg (grad _) (place4 t i k).symm

/-- The change of the weight after the run. -/
theorem final_change (c : Dev nD) : (dats m 0 c).arrAt 5 (cfgs 0).N = Cert.Reference11Ideal.Read.val_main_v25 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨i, k, rfl⟩ := block_index y
  refine (congrFun (after0_5 m c t) (ix3 0 i k)).trans ((out_change _ _ _ _ i k).trans ?_)
  refine Eq.trans ?_ (congrArg (Cert.Reference11Ideal.Read.val_main_v25 (F := Ideal) _ _ _ _) (place5 t i k).symm)
  exact (change_same (block_grad m c t i k) (weight_at m c t i k) (m_at m c t i k) (v_at m c t i k)).trans (change_at _ _ _ _ _).symm

/-- The first moment after the run. -/
theorem final_first (c : Dev nD) : (dats m 0 c).arrAt 6 (cfgs 0).N
    = Cert.Reference11Ideal.Read.val_main_v6 (F := Ideal) (m ((c : Thread nD τ).loc main_arg0)) (m ((c : Thread nD τ).loc main_arg2)) := by
  refine (dats m 0 c).arrAt_eq_of_covers 6 _ (by decide +kernel) fun t hf y => ?_
  obtain ⟨i, k, rfl⟩ := block_index y
  refine (congrFun (after0_6 m c t) (ix3 0 i k)).trans ((out_first _ _ _ _ i k).trans ?_)
  refine Eq.trans ?_ (congrArg (Cert.Reference11Ideal.Read.val_main_v6 (F := Ideal) _ _) (place6 t i k).symm)
  exact (congrArg₂ first (block_grad m c t i k) (m_at m c t i k)).trans (first_at _ _ _).symm

/-- The second moment after the run. -/
theorem final_second (c : Dev nD) : (dats m 0 c).arrAt 7 (cfgs 0).N
    = Cert.Reference11Ideal.Read.val_main_v12 (F := Ideal) (m ((c : Thread nD τ).loc main_arg0)) (m ((c : Thread nD τ).loc main_arg3)) := by
  refine (dats m 0 c).arrAt_eq_of_covers 7 _ (by decide +kernel) fun t hf y => ?_
  obtain ⟨i, k, rfl⟩ := block_index y
  refine (congrFun (after0_7 m c t) (ix3 0 i k)).trans ((out_second _ _ _ _ i k).trans ?_)
  refine Eq.trans ?_ (congrArg (Cert.Reference11Ideal.Read.val_main_v12 (F := Ideal) _ _) (place7 t i k).symm)
  exact (congrArg₂ second (block_grad m c t i k) (v_at m c t i k)).trans (second_at _ _ _).symm

/-- The kernel as compiled runs, keeps its arguments and ends with every counter at zero. -/
theorem frame_kernel : Cert.quiescent_Kernel11 (hKernel11 := Cert.Kernel11.Gen.facts) := fun m ρ _ => Cert.Kernel11.Gen.frame m ρ

/-- So does the idealized kernel. -/
theorem frame_ideal : Cert.quiescent_Kernel11Ideal (hKernel11Ideal := Cert.Kernel11Ideal.Gen.facts) := fun m ρ _ => Cert.Kernel11Ideal.Gen.frame m ρ

/-- So does the reference. -/
theorem frame_reference : Cert.quiescent_Reference11Ideal (hReference11Ideal := Cert.Reference11Ideal.Gen.facts) := fun m ρ _ =>
  (θ_run _ _ _).mono (fun r h => ⟨fun c => (h c).2.2.2.2, sem_eq_zero_of_no_sems (by decide) r.2⟩)
    (Cert.Reference11Ideal.Value.run (F := Ideal) m ρ)

/-- Equal arguments, equal changes. -/
theorem change_congr {p p' : Parts} {w w' a a' b b' : Whole} (hp : p = p') (hw : w = w') (ha : a = a') (hb : b = b') :
    Cert.Reference11Ideal.Read.val_main_v25 (F := Ideal) p w a b = Cert.Reference11Ideal.Read.val_main_v25 (F := Ideal) p' w' a' b' := by
  rw [hp, hw, ha, hb]

/-- The idealized kernel and the reference end with the same four arrays. -/
theorem same : Cert.algebraic_Kernel11Ideal_Reference11Ideal (hKernel11Ideal := Cert.Kernel11Ideal.Gen.facts)
    (hReference11Ideal := Cert.Reference11Ideal.Gen.facts) := by
  intro m g m' g' _ hagree
  refine ⟨fun c => grad (m ((c : Thread nD τ).loc main_arg0)),
    fun c => Cert.Reference11Ideal.Read.val_main_v25 (F := Ideal) (m ((c : Thread nD τ).loc main_arg0)) (m ((c : Thread nD τ).loc main_arg1))
      (m ((c : Thread nD τ).loc main_arg2)) (m ((c : Thread nD τ).loc main_arg3)),
    fun c => Cert.Reference11Ideal.Read.val_main_v6 (F := Ideal) (m ((c : Thread nD τ).loc main_arg0)) (m ((c : Thread nD τ).loc main_arg2)),
    fun c => Cert.Reference11Ideal.Read.val_main_v12 (F := Ideal) (m ((c : Thread nD τ).loc main_arg0)) (m ((c : Thread nD τ).loc main_arg3)), ?_, ?_⟩
  · refine (θ_run _ _ _).mono (fun r h c => ?_) (Cert.Kernel11Ideal.Value.run_blocks m g)
    exact ⟨(h c).1.trans (final_grad m c), (h c).2.1.trans (final_change m c), (h c).2.2.1.trans (final_first m c),
      (h c).2.2.2.1.trans (final_second m c), (h c).2.2.2.2⟩
  · refine (θ_run _ _ _).mono (fun r h c => ?_) (Cert.Reference11Ideal.Value.run (F := Ideal) m' g')
    obtain ⟨e0, e1, e2, e3⟩ := hagree c
    exact ⟨(h c).1.trans (congrArg grad e0), (h c).2.1.trans (change_congr e0 e1 e2 e3),
      (h c).2.2.1.trans (congrArg₂ (Cert.Reference11Ideal.Read.val_main_v6 (F := Ideal)) e0 e2),
      (h c).2.2.2.1.trans (congrArg₂ (Cert.Reference11Ideal.Read.val_main_v12 (F := Ideal)) e0 e3), (h c).2.2.2.2⟩

end Cert.AdamAIn

end
-- ==== Proof.AdamAOut.lean ====
/- The sum over the devices of a weight's gradient and the optimiser's step with it, of the conformer layers' output projections: each grid point
   writes its own block of 256 rows. -/
module

public import proofs.«01_k».proof.Defs
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Claim

@[expose] public section

set_option maxRecDepth 16384

noncomputable section

namespace Cert.AdamAOut

open Idealize.ShloMosaic Idealize.ShloMosaic.TcCoe Idealize.SL.Sem
open Idealize.ShloMosaic.Pipeline (Dat)
open Cert.Kernel12Ideal Cert.Kernel12Ideal.Gen

variable (m : (ℓ : Loc nD τ sig) → Buf (Elt Ideal) ℓ)

/-- The whole of the devices' parts. -/
abbrev Parts := FVec Ideal ⟨4, ![8, 2, 256, 1024]⟩ .bf16
/-- The whole of the weight, or of one of its moments. -/
abbrev Whole := FVec Ideal ⟨3, ![2, 256, 1024]⟩ .f32
/-- A block of the devices' parts. -/
abbrev PartsBlock := FVec Ideal ⟨4, ![8, 1, 256, 1024]⟩ .bf16
/-- A block of the weight, or of one of its moments. -/
abbrev Block := FVec Ideal ⟨3, ![1, 256, 1024]⟩ .f32

/-- The first moment after the step. -/
abbrev first (g a : EReal) : EReal := Ideal.ofBits .f32 0x3F666666#32 * a + Ideal.ofBits .f32 0x3DCCCCCD#32 * g
/-- The second moment after the step. -/
abbrev second (g a : EReal) : EReal := Ideal.ofBits .f32 0x3F7FBE77#32 * a + Ideal.ofBits .f32 0x3A83126F#32 * (g * g)
/-- The change of the weight. -/
abbrev change (g w a b : EReal) : EReal :=
  Ideal.ofBits .f32 0xBA83126F#32 * (Ideal.div (Ideal.div (first g a) (Ideal.ofBits .f32 0x3F26BD02#32))
    (Ideal.sqrt (Ideal.div (second g b) (Ideal.ofBits .f32 0x3C231ACC#32)) + Ideal.ofBits .f32 0x322BCC77#32)
    + Ideal.ofBits .f32 0x3C23D70A#32 * w)

/-- Equal entries, equal changes. -/
theorem change_same {g g' w w' a a' b b' : EReal} (hg : g = g') (hw : w = w') (ha : a = a') (hb : b = b') :
    change g w a b = change g' w' a' b' := by
  rw [hg, hw, ha, hb]

/-- Equal parts, equal sums. -/
theorem sum_same {f g : Fin 8 → EReal} (h : ∀ s, f s = g s) : ∑ s, f s = ∑ s, g s := Finset.sum_congr rfl fun s _ => h s

/-- The sum of a block's eight parts. -/
theorem sum_at (p : PartsBlock) (w a b : Block) (j : S256x1024.Idx) :
    k0_pay5 (F := Ideal) (k0_pay10 p w a b) (View.ld p r0_7) j = ∑ s : Fin 8, p (ix4 s 0 (j 0) (j 1)) := by
  unfold k0_pay10
  pointwise [k0_pay5, k0_pay4]
  rw [Fin.sum_univ_eight]

/-- The sum over the devices, of the whole weight. -/
abbrev grad (p : Parts) : Whole := Cert.Reference12Ideal.Read.val_main_v1 (F := Ideal) p

/-- Its entries. -/
theorem grad_at (p : Parts) (j) : grad p j = ∑ s : Fin 8, p (ix4 s (j 0) (j 1) (j 2)) := by
  pointwise [grad, Cert.Reference12Ideal.Read.val_main_v1, Cert.Reference12Ideal.Read.val_main_v0, Cert.Reference12Ideal.Read.val_main_cst]

/-- The reference's first moment, by entries. -/
theorem first_at (p : Parts) (a : Whole) (j) : Cert.Reference12Ideal.Read.val_main_v6 (F := Ideal) p a j = first (grad p j) (a j) := by
  have e : Cert.Reference12Ideal.Read.val_main_v1 (F := Ideal) p = grad p := rfl
  pointwise [Cert.Reference12Ideal.Read.val_main_v6, Cert.Reference12Ideal.Read.val_main_v3, Cert.Reference12Ideal.Read.val_main_v2, Cert.Reference12Ideal.Read.val_main_v5, Cert.Reference12Ideal.Read.val_main_v4, Cert.Reference12Ideal.Read.val_main_cst_0, Cert.Reference12Ideal.Read.val_main_cst_1, e]

/-- The reference's second moment, by entries. -/
theorem second_at (p : Parts) (b : Whole) (j) : Cert.Reference12Ideal.Read.val_main_v12 (F := Ideal) p b j = second (grad p j) (b j) := by
  have e : Cert.Reference12Ideal.Read.val_main_v1 (F := Ideal) p = grad p := rfl
  pointwise [Cert.Reference12Ideal.Read.val_main_v12, Cert.Reference12Ideal.Read.val_main_v8, Cert.Reference12Ideal.Read.val_main_v7, Cert.Reference12Ideal.Read.val_main_v11, Cert.Reference12Ideal.Read.val_main_v10, Cert.Reference12Ideal.Read.val_main_v9, Cert.Reference12Ideal.Read.val_main_cst_2, Cert.Reference12Ideal.Read.val_main_cst_3, e]

/-- The reference's change of the weight, by entries. -/
theorem change_at (p : Parts) (w a b : Whole) (j) : Cert.Reference12Ideal.Read.val_main_v25 (F := Ideal) p w a b j = change (grad p j) (w j) (a j) (b j) := by
  pointwise [Cert.Reference12Ideal.Read.val_main_v25, Cert.Reference12Ideal.Read.val_main_v24, Cert.Reference12Ideal.Read.val_main_v23, Cert.Reference12Ideal.Read.val_main_v22, Cert.Reference12Ideal.Read.val_main_v21, Cert.Reference12Ideal.Read.val_main_v20, Cert.Reference12Ideal.Read.val_main_v19, Cert.Reference12Ideal.Read.val_main_v18, Cert.Reference12Ideal.Read.val_main_v17, Cert.Reference12Ideal.Read.val_main_v16, Cert.Reference12Ideal.Read.val_main_v15, Cert.Reference12Ideal.Read.val_main_v14, Cert.Reference12Ideal.Read.val_main_v13, Cert.Reference12Ideal.Read.val_main_cst_4, Cert.Reference12Ideal.Read.val_main_cst_5, Cert.Reference12Ideal.Read.val_main_cst_6, Cert.Reference12Ideal.Read.val_main_cst_7, Cert.Reference12Ideal.Read.val_main_cst_8]
  rw [first_at, second_at]

/-- What a point stores of the sum. -/
theorem out_grad (p : PartsBlock) (w a b : Block) (i : Fin 256) (k : Fin 1024) :
    out0_4 (F := Ideal) p w a b (ix3 0 i k) = ∑ s : Fin 8, p (ix4 s 0 i k) := by
  refine Eq.trans ?_ (sum_at p w a b (ix2 i k))
  unfold out0_4
  rw [View.canon_unit_zero (by funext a; fin_cases a <;> rfl)]
  pointwise [k0_pay6]

/-- What it stores of the first moment. -/
theorem out_first (p : PartsBlock) (w a b : Block) (i : Fin 256) (k : Fin 1024) :
    out0_6 (F := Ideal) p w a b (ix3 0 i k) = first (∑ s : Fin 8, p (ix4 s 0 i k)) (a (ix3 0 i k)) := by
  rw [← show _ = ∑ s : Fin 8, p (ix4 s 0 i k) from sum_at p w a b (ix2 i k)]
  unfold out0_6
  rw [View.canon_unit_zero (by funext a; fin_cases a <;> rfl)]
  pointwise [k0_pay2, k0_pay7]

/-- What it stores of the second moment. -/
theorem out_second (p : PartsBlock) (w a b : Block) (i : Fin 256) (k : Fin 1024) :
    out0_7 (F := Ideal) p w a b (ix3 0 i k) = second (∑ s : Fin 8, p (ix4 s 0 i k)) (b (ix3 0 i k)) := by
  rw [← show _ = ∑ s : Fin 8, p (ix4 s 0 i k) from sum_at p w a b (ix2 i k)]
  unfold out0_7
  rw [View.canon_unit_zero (by funext a; fin_cases a <;> rfl)]
  pointwise [k0_pay3, k0_pay8]

/-- What it stores of the change. -/
theorem out_change (p : PartsBlock) (w a b : Block) (i : Fin 256) (k : Fin 1024) :
    out0_5 (F := Ideal) p w a b (ix3 0 i k) = change (∑ s : Fin 8, p (ix4 s 0 i k)) (w (ix3 0 i k)) (a (ix3 0 i k)) (b (ix3 0 i k)) := by
  rw [← show _ = ∑ s : Fin 8, p (ix4 s 0 i k) from sum_at p w a b (ix2 i k)]
  unfold out0_5
  rw [View.canon_unit_zero (by funext a; fin_cases a <;> rfl)]
  pointwise [k0_pay1, k0_pay9, k0_pay7, k0_pay8]

/-- The layer of a point's block. -/
abbrev layer (t : Fin cfg0.N) : Fin 2 := ⟨t.val / 1, by
  have h : t.val < 2 := t.isLt
  omega⟩

/-- The rows of a point's block. -/
abbrev row (t : Fin cfg0.N) (i : Fin 256) : Fin 256 := ⟨t.val % 1 * 256 + i.val, by omega⟩

/-- Where a point's blocks are. -/
theorem places : ∀ t : Fin cfg0.N, win0_0.index t = ![0, t.val / 1, t.val % 1, 0] ∧ win0_1.index t = ![t.val / 1, t.val % 1, 0]
    ∧ win0_2.index t = ![t.val / 1, t.val % 1, 0] ∧ win0_3.index t = ![t.val / 1, t.val % 1, 0]
    ∧ win0_4.index t = ![t.val / 1, t.val % 1, 0] ∧ win0_5.index t = ![t.val / 1, t.val % 1, 0]
    ∧ win0_6.index t = ![t.val / 1, t.val % 1, 0] ∧ win0_7.index t = ![t.val / 1, t.val % 1, 0] :=
  (by decide +kernel : ∀ t : Fin grid0.N, _)

/-- A point's block of the parts. -/
theorem parts_at (c : Dev nD) (t : Fin cfg0.N) (s : Fin 8) (i : Fin 256) (k : Fin 1024) :
    (iblk m c 0 t (ix4 s 0 i k) : EReal) = m ((c : Thread nD τ).loc main_arg0) (ix4 s (layer t) (row t i) k) := by
  blk_point [iblk, V, places t]

/-- A point's block of the weight. -/
theorem weight_at (c : Dev nD) (t : Fin cfg0.N) (i : Fin 256) (k : Fin 1024) :
    (iblk m c 1 t (ix3 0 i k) : EReal) = m ((c : Thread nD τ).loc main_arg1) (ix3 (layer t) (row t i) k) := by
  blk_point [iblk, V, places t]

/-- A point's block of the first moment. -/
theorem m_at (c : Dev nD) (t : Fin cfg0.N) (i : Fin 256) (k : Fin 1024) :
    (iblk m c 2 t (ix3 0 i k) : EReal) = m ((c : Thread nD τ).loc main_arg2) (ix3 (layer t) (row t i) k) := by
  blk_point [iblk, V, places t]

/-- A point's block of the second moment. -/
theorem v_at (c : Dev nD) (t : Fin cfg0.N) (i : Fin 256) (k : Fin 1024) :
    (iblk m c 3 t (ix3 0 i k) : EReal) = m ((c : Thread nD τ).loc main_arg3) (ix3 (layer t) (row t i) k) := by
  blk_point [iblk, V, places t]

/-- Where a point writes its block of result 1. -/
theorem place4 (t : Fin cfg0.N) (i : Fin 256) (k : Fin 1024) : (((cfg0.win 4).blk t).view.emb (ix3 0 i k) : (⟨3, ![2, 256, 1024]⟩ : Shape).Idx) = ix3 (layer t) (row t i) k := by
  blk_ext [places t]

/-- Where a point writes its block of result 2. -/
theorem place5 (t : Fin cfg0.N) (i : Fin 256) (k : Fin 1024) : (((cfg0.win 5).blk t).view.emb (ix3 0 i k) : (⟨3, ![2, 256, 1024]⟩ : Shape).Idx) = ix3 (layer t) (row t i) k := by
  blk_ext [places t]

/-- Where a point writes its block of result 3. -/
theorem place6 (t : Fin cfg0.N) (i : Fin 256) (k : Fin 1024) : (((cfg0.win 6).blk t).view.emb (ix3 0 i k) : (⟨3, ![2, 256, 1024]⟩ : Shape).Idx) = ix3 (layer t) (row t i) k := by
  blk_ext [places t]

/-- Where a point writes its block of result 4. -/
theorem place7 (t : Fin cfg0.N) (i : Fin 256) (k : Fin 1024) : (((cfg0.win 7).blk t).view.emb (ix3 0 i k) : (⟨3, ![2, 256, 1024]⟩ : Shape).Idx) = ix3 (layer t) (row t i) k := by
  blk_ext [places t]

/-- A point's block of the parts, over the extended reals. -/
abbrev partsBlock (c : Dev nD) (t : Fin cfg0.N) : PartsBlock := iblk m c 0 t

/-- The sum of a block's parts is the whole sum's entry there. -/
theorem block_grad (c : Dev nD) (t : Fin cfg0.N) (i : Fin 256) (k : Fin 1024) : (∑ s : Fin 8, partsBlock m c t (ix4 s 0 i k))
    = grad (m ((c : Thread nD τ).loc main_arg0)) (ix3 (layer t) (row t i) k) :=
  (sum_same fun s => parts_at m c t s i k).trans
    (grad_at (m ((c : Thread nD τ).loc main_arg0)) (ix3 (layer t) (row t i) k)).symm

/-- A place of a block. -/
theorem block_index (y : (⟨3, ![1, 256, 1024]⟩ : Shape).Idx) : ∃ (i : Fin 256) (k : Fin 1024), y = ix3 0 i k :=
  ⟨y 1, y 2, by funext a; fin_cases a <;> first | rfl | exact Fin.ext (by have h : (y 0).val < 1 := (y 0).isLt; show (y 0).val = 0; omega)⟩

/-- The sum after the run. -/
theorem final_grad (c : Dev nD) : (dats m 0 c).arrAt 4 (cfgs 0).N = grad (m ((c : Thread nD τ).loc main_arg0)) := by
  refine (dats m 0 c).arrAt_eq_of_covers 4 _ (by decide +kernel) fun t hf y => ?_
  obtain ⟨i, k, rfl⟩ := block_index y
  refine (congrFun (after0_4 m c t) (ix3 0 i k)).trans ((out_grad _ _ _ _ i k).trans ((block_grad m c t i k).trans ?_))
  exact congrArg (grad _) (place4 t i k).symm

/-- The change of the weight after the run. -/
theorem final_change (c : Dev nD) : (dats m 0 c).arrAt 5 (cfgs 0).N = Cert.Reference12Ideal.Read.val_main_v25 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨i, k, rfl⟩ := block_index y
  refine (congrFun (after0_5 m c t) (ix3 0 i k)).trans ((out_change _ _ _ _ i k).trans ?_)
  refine Eq.trans ?_ (congrArg (Cert.Reference12Ideal.Read.val_main_v25 (F := Ideal) _ _ _ _) (place5 t i k).symm)
  exact (change_same (block_grad m c t i k) (weight_at m c t i k) (m_at m c t i k) (v_at m c t i k)).trans (change_at _ _ _ _ _).symm

/-- The first moment after the run. -/
theorem final_first (c : Dev nD) : (dats m 0 c).arrAt 6 (cfgs 0).N
    = Cert.Reference12Ideal.Read.val_main_v6 (F := Ideal) (m ((c : Thread nD τ).loc main_arg0)) (m ((c : Thread nD τ).loc main_arg2)) := by
  refine (dats m 0 c).arrAt_eq_of_covers 6 _ (by decide +kernel) fun t hf y => ?_
  obtain ⟨i, k, rfl⟩ := block_index y
  refine (congrFun (after0_6 m c t) (ix3 0 i k)).trans ((out_first _ _ _ _ i k).trans ?_)
  refine Eq.trans ?_ (congrArg (Cert.Reference12Ideal.Read.val_main_v6 (F := Ideal) _ _) (place6 t i k).symm)
  exact (congrArg₂ first (block_grad m c t i k) (m_at m c t i k)).trans (first_at _ _ _).symm

/-- The second moment after the run. -/
theorem final_second (c : Dev nD) : (dats m 0 c).arrAt 7 (cfgs 0).N
    = Cert.Reference12Ideal.Read.val_main_v12 (F := Ideal) (m ((c : Thread nD τ).loc main_arg0)) (m ((c : Thread nD τ).loc main_arg3)) := by
  refine (dats m 0 c).arrAt_eq_of_covers 7 _ (by decide +kernel) fun t hf y => ?_
  obtain ⟨i, k, rfl⟩ := block_index y
  refine (congrFun (after0_7 m c t) (ix3 0 i k)).trans ((out_second _ _ _ _ i k).trans ?_)
  refine Eq.trans ?_ (congrArg (Cert.Reference12Ideal.Read.val_main_v12 (F := Ideal) _ _) (place7 t i k).symm)
  exact (congrArg₂ second (block_grad m c t i k) (v_at m c t i k)).trans (second_at _ _ _).symm

/-- The kernel as compiled runs, keeps its arguments and ends with every counter at zero. -/
theorem frame_kernel : Cert.quiescent_Kernel12 (hKernel12 := Cert.Kernel12.Gen.facts) := fun m ρ _ => Cert.Kernel12.Gen.frame m ρ

/-- So does the idealized kernel. -/
theorem frame_ideal : Cert.quiescent_Kernel12Ideal (hKernel12Ideal := Cert.Kernel12Ideal.Gen.facts) := fun m ρ _ => Cert.Kernel12Ideal.Gen.frame m ρ

/-- So does the reference. -/
theorem frame_reference : Cert.quiescent_Reference12Ideal (hReference12Ideal := Cert.Reference12Ideal.Gen.facts) := fun m ρ _ =>
  (θ_run _ _ _).mono (fun r h => ⟨fun c => (h c).2.2.2.2, sem_eq_zero_of_no_sems (by decide) r.2⟩)
    (Cert.Reference12Ideal.Value.run (F := Ideal) m ρ)

/-- Equal arguments, equal changes. -/
theorem change_congr {p p' : Parts} {w w' a a' b b' : Whole} (hp : p = p') (hw : w = w') (ha : a = a') (hb : b = b') :
    Cert.Reference12Ideal.Read.val_main_v25 (F := Ideal) p w a b = Cert.Reference12Ideal.Read.val_main_v25 (F := Ideal) p' w' a' b' := by
  rw [hp, hw, ha, hb]

/-- The idealized kernel and the reference end with the same four arrays. -/
theorem same : Cert.algebraic_Kernel12Ideal_Reference12Ideal (hKernel12Ideal := Cert.Kernel12Ideal.Gen.facts)
    (hReference12Ideal := Cert.Reference12Ideal.Gen.facts) := by
  intro m g m' g' _ hagree
  refine ⟨fun c => grad (m ((c : Thread nD τ).loc main_arg0)),
    fun c => Cert.Reference12Ideal.Read.val_main_v25 (F := Ideal) (m ((c : Thread nD τ).loc main_arg0)) (m ((c : Thread nD τ).loc main_arg1))
      (m ((c : Thread nD τ).loc main_arg2)) (m ((c : Thread nD τ).loc main_arg3)),
    fun c => Cert.Reference12Ideal.Read.val_main_v6 (F := Ideal) (m ((c : Thread nD τ).loc main_arg0)) (m ((c : Thread nD τ).loc main_arg2)),
    fun c => Cert.Reference12Ideal.Read.val_main_v12 (F := Ideal) (m ((c : Thread nD τ).loc main_arg0)) (m ((c : Thread nD τ).loc main_arg3)), ?_, ?_⟩
  · refine (θ_run _ _ _).mono (fun r h c => ?_) (Cert.Kernel12Ideal.Value.run_blocks m g)
    exact ⟨(h c).1.trans (final_grad m c), (h c).2.1.trans (final_change m c), (h c).2.2.1.trans (final_first m c),
      (h c).2.2.2.1.trans (final_second m c), (h c).2.2.2.2⟩
  · refine (θ_run _ _ _).mono (fun r h c => ?_) (Cert.Reference12Ideal.Value.run (F := Ideal) m' g')
    obtain ⟨e0, e1, e2, e3⟩ := hagree c
    exact ⟨(h c).1.trans (congrArg grad e0), (h c).2.1.trans (change_congr e0 e1 e2 e3),
      (h c).2.2.1.trans (congrArg₂ (Cert.Reference12Ideal.Read.val_main_v6 (F := Ideal)) e0 e2),
      (h c).2.2.2.1.trans (congrArg₂ (Cert.Reference12Ideal.Read.val_main_v12 (F := Ideal)) e0 e3), (h c).2.2.2.2⟩

end Cert.AdamAOut

end
-- ==== Proof.AdamBIn.lean ====
/- The sum over the devices of a weight's gradient and the optimiser's step with it, of the attention layer's input projection: each grid point
   writes its own block of 256 rows. -/
module

public import proofs.«01_k».proof.Defs
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Claim

@[expose] public section

set_option maxRecDepth 16384

noncomputable section

namespace Cert.AdamBIn

open Idealize.ShloMosaic Idealize.ShloMosaic.TcCoe Idealize.SL.Sem
open Idealize.ShloMosaic.Pipeline (Dat)
open Cert.Kernel13Ideal Cert.Kernel13Ideal.Gen

variable (m : (ℓ : Loc nD τ sig) → Buf (Elt Ideal) ℓ)

/-- The whole of the devices' parts. -/
abbrev Parts := FVec Ideal ⟨4, ![8, 1, 1024, 1026]⟩ .bf16
/-- The whole of the weight, or of one of its moments. -/
abbrev Whole := FVec Ideal ⟨3, ![1, 1024, 1026]⟩ .f32
/-- A block of the devices' parts. -/
abbrev PartsBlock := FVec Ideal ⟨4, ![8, 1, 256, 1026]⟩ .bf16
/-- A block of the weight, or of one of its moments. -/
abbrev Block := FVec Ideal ⟨3, ![1, 256, 1026]⟩ .f32

/-- The first moment after the step. -/
abbrev first (g a : EReal) : EReal := Ideal.ofBits .f32 0x3F666666#32 * a + Ideal.ofBits .f32 0x3DCCCCCD#32 * g
/-- The second moment after the step. -/
abbrev second (g a : EReal) : EReal := Ideal.ofBits .f32 0x3F7FBE77#32 * a + Ideal.ofBits .f32 0x3A83126F#32 * (g * g)
/-- The change of the weight. -/
abbrev change (g w a b : EReal) : EReal :=
  Ideal.ofBits .f32 0xBA83126F#32 * (Ideal.div (Ideal.div (first g a) (Ideal.ofBits .f32 0x3F26BD02#32))
    (Ideal.sqrt (Ideal.div (second g b) (Ideal.ofBits .f32 0x3C231ACC#32)) + Ideal.ofBits .f32 0x322BCC77#32)
    + Ideal.ofBits .f32 0x3C23D70A#32 * w)

/-- Equal entries, equal changes. -/
theorem change_same {g g' w w' a a' b b' : EReal} (hg : g = g') (hw : w = w') (ha : a = a') (hb : b = b') :
    change g w a b = change g' w' a' b' := by
  rw [hg, hw, ha, hb]

/-- Equal parts, equal sums. -/
theorem sum_same {f g : Fin 8 → EReal} (h : ∀ s, f s = g s) : ∑ s, f s = ∑ s, g s := Finset.sum_congr rfl fun s _ => h s

/-- The sum of a block's eight parts. -/
theorem sum_at (p : PartsBlock) (w a b : Block) (j : S256x1026.Idx) :
    k0_pay5 (F := Ideal) (k0_pay10 p w a b) (View.ld p r0_7) j = ∑ s : Fin 8, p (ix4 s 0 (j 0) (j 1)) := by
  unfold k0_pay10
  pointwise [k0_pay5, k0_pay4]
  rw [Fin.sum_univ_eight]

/-- The sum over the devices, of the whole weight. -/
abbrev grad (p : Parts) : Whole := Cert.Reference13Ideal.Read.val_main_v1 (F := Ideal) p

/-- Its entries. -/
theorem grad_at (p : Parts) (j) : grad p j = ∑ s : Fin 8, p (ix4 s (j 0) (j 1) (j 2)) := by
  pointwise [grad, Cert.Reference13Ideal.Read.val_main_v1, Cert.Reference13Ideal.Read.val_main_v0, Cert.Reference13Ideal.Read.val_main_cst]
  exact sum_same fun s => congrArg (fun l : Fin 1 => p (ix4 s l (j 1) (j 2))) (Subsingleton.elim (0 : Fin 1) (j 0))

/-- The reference's first moment, by entries. -/
theorem first_at (p : Parts) (a : Whole) (j) : Cert.Reference13Ideal.Read.val_main_v6 (F := Ideal) p a j = first (grad p j) (a j) := by
  have e : Cert.Reference13Ideal.Read.val_main_v1 (F := Ideal) p = grad p := rfl
  pointwise [Cert.Reference13Ideal.Read.val_main_v6, Cert.Reference13Ideal.Read.val_main_v3, Cert.Reference13Ideal.Read.val_main_v2, Cert.Reference13Ideal.Read.val_main_v5, Cert.Reference13Ideal.Read.val_main_v4, Cert.Reference13Ideal.Read.val_main_cst_0, Cert.Reference13Ideal.Read.val_main_cst_1, e]

/-- The reference's second moment, by entries. -/
theorem second_at (p : Parts) (b : Whole) (j) : Cert.Reference13Ideal.Read.val_main_v12 (F := Ideal) p b j = second (grad p j) (b j) := by
  have e : Cert.Reference13Ideal.Read.val_main_v1 (F := Ideal) p = grad p := rfl
  pointwise [Cert.Reference13Ideal.Read.val_main_v12, Cert.Reference13Ideal.Read.val_main_v8, Cert.Reference13Ideal.Read.val_main_v7, Cert.Reference13Ideal.Read.val_main_v11, Cert.Reference13Ideal.Read.val_main_v10, Cert.Reference13Ideal.Read.val_main_v9, Cert.Reference13Ideal.Read.val_main_cst_2, Cert.Reference13Ideal.Read.val_main_cst_3, e]

/-- The reference's change of the weight, by entries. -/
theorem change_at (p : Parts) (w a b : Whole) (j) : Cert.Reference13Ideal.Read.val_main_v25 (F := Ideal) p w a b j = change (grad p j) (w j) (a j) (b j) := by
  pointwise [Cert.Reference13Ideal.Read.val_main_v25, Cert.Reference13Ideal.Read.val_main_v24, Cert.Reference13Ideal.Read.val_main_v23, Cert.Reference13Ideal.Read.val_main_v22, Cert.Reference13Ideal.Read.val_main_v21, Cert.Reference13Ideal.Read.val_main_v20, Cert.Reference13Ideal.Read.val_main_v19, Cert.Reference13Ideal.Read.val_main_v18, Cert.Reference13Ideal.Read.val_main_v17, Cert.Reference13Ideal.Read.val_main_v16, Cert.Reference13Ideal.Read.val_main_v15, Cert.Reference13Ideal.Read.val_main_v14, Cert.Reference13Ideal.Read.val_main_v13, Cert.Reference13Ideal.Read.val_main_cst_4, Cert.Reference13Ideal.Read.val_main_cst_5, Cert.Reference13Ideal.Read.val_main_cst_6, Cert.Reference13Ideal.Read.val_main_cst_7, Cert.Reference13Ideal.Read.val_main_cst_8]
  rw [first_at, second_at]

/-- What a point stores of the sum. -/
theorem out_grad (p : PartsBlock) (w a b : Block) (i : Fin 256) (k : Fin 1026) :
    out0_4 (F := Ideal) p w a b (ix3 0 i k) = ∑ s : Fin 8, p (ix4 s 0 i k) := by
  refine Eq.trans ?_ (sum_at p w a b (ix2 i k))
  unfold out0_4
  rw [View.canon_unit_zero (by funext a; fin_cases a <;> rfl)]
  pointwise [k0_pay6]

/-- What it stores of the first moment. -/
theorem out_first (p : PartsBlock) (w a b : Block) (i : Fin 256) (k : Fin 1026) :
    out0_6 (F := Ideal) p w a b (ix3 0 i k) = first (∑ s : Fin 8, p (ix4 s 0 i k)) (a (ix3 0 i k)) := by
  rw [← show _ = ∑ s : Fin 8, p (ix4 s 0 i k) from sum_at p w a b (ix2 i k)]
  unfold out0_6
  rw [View.canon_unit_zero (by funext a; fin_cases a <;> rfl)]
  pointwise [k0_pay2, k0_pay7]

/-- What it stores of the second moment. -/
theorem out_second (p : PartsBlock) (w a b : Block) (i : Fin 256) (k : Fin 1026) :
    out0_7 (F := Ideal) p w a b (ix3 0 i k) = second (∑ s : Fin 8, p (ix4 s 0 i k)) (b (ix3 0 i k)) := by
  rw [← show _ = ∑ s : Fin 8, p (ix4 s 0 i k) from sum_at p w a b (ix2 i k)]
  unfold out0_7
  rw [View.canon_unit_zero (by funext a; fin_cases a <;> rfl)]
  pointwise [k0_pay3, k0_pay8]

/-- What it stores of the change. -/
theorem out_change (p : PartsBlock) (w a b : Block) (i : Fin 256) (k : Fin 1026) :
    out0_5 (F := Ideal) p w a b (ix3 0 i k) = change (∑ s : Fin 8, p (ix4 s 0 i k)) (w (ix3 0 i k)) (a (ix3 0 i k)) (b (ix3 0 i k)) := by
  rw [← show _ = ∑ s : Fin 8, p (ix4 s 0 i k) from sum_at p w a b (ix2 i k)]
  unfold out0_5
  rw [View.canon_unit_zero (by funext a; fin_cases a <;> rfl)]
  pointwise [k0_pay1, k0_pay9, k0_pay7, k0_pay8]

/-- The layer of a point's block. -/
abbrev layer (t : Fin cfg0.N) : Fin 1 := ⟨t.val / 4, by
  have h : t.val < 4 := t.isLt
  omega⟩

/-- The rows of a point's block. -/
abbrev row (t : Fin cfg0.N) (i : Fin 256) : Fin 1024 := ⟨t.val % 4 * 256 + i.val, by omega⟩

/-- Where a point's blocks are. -/
theorem places : ∀ t : Fin cfg0.N, win0_0.index t = ![0, t.val / 4, t.val % 4, 0] ∧ win0_1.index t = ![t.val / 4, t.val % 4, 0]
    ∧ win0_2.index t = ![t.val / 4, t.val % 4, 0] ∧ win0_3.index t = ![t.val / 4, t.val % 4, 0]
    ∧ win0_4.index t = ![t.val / 4, t.val % 4, 0] ∧ win0_5.index t = ![t.val / 4, t.val % 4, 0]
    ∧ win0_6.index t = ![t.val / 4, t.val % 4, 0] ∧ win0_7.index t = ![t.val / 4, t.val % 4, 0] :=
  (by decide +kernel : ∀ t : Fin grid0.N, _)

/-- A point's block of the parts. -/
theorem parts_at (c : Dev nD) (t : Fin cfg0.N) (s : Fin 8) (i : Fin 256) (k : Fin 1026) :
    (iblk m c 0 t (ix4 s 0 i k) : EReal) = m ((c : Thread nD τ).loc main_arg0) (ix4 s (layer t) (row t i) k) := by
  blk_point [iblk, V, places t]

/-- A point's block of the weight. -/
theorem weight_at (c : Dev nD) (t : Fin cfg0.N) (i : Fin 256) (k : Fin 1026) :
    (iblk m c 1 t (ix3 0 i k) : EReal) = m ((c : Thread nD τ).loc main_arg1) (ix3 (layer t) (row t i) k) := by
  blk_point [iblk, V, places t]

/-- A point's block of the first moment. -/
theorem m_at (c : Dev nD) (t : Fin cfg0.N) (i : Fin 256) (k : Fin 1026) :
    (iblk m c 2 t (ix3 0 i k) : EReal) = m ((c : Thread nD τ).loc main_arg2) (ix3 (layer t) (row t i) k) := by
  blk_point [iblk, V, places t]

/-- A point's block of the second moment. -/
theorem v_at (c : Dev nD) (t : Fin cfg0.N) (i : Fin 256) (k : Fin 1026) :
    (iblk m c 3 t (ix3 0 i k) : EReal) = m ((c : Thread nD τ).loc main_arg3) (ix3 (layer t) (row t i) k) := by
  blk_point [iblk, V, places t]

/-- Where a point writes its block of result 1. -/
theorem place4 (t : Fin cfg0.N) (i : Fin 256) (k : Fin 1026) : (((cfg0.win 4).blk t).view.emb (ix3 0 i k) : (⟨3, ![1, 1024, 1026]⟩ : Shape).Idx) = ix3 (layer t) (row t i) k := by
  blk_ext [places t]

/-- Where a point writes its block of result 2. -/
theorem place5 (t : Fin cfg0.N) (i : Fin 256) (k : Fin 1026) : (((cfg0.win 5).blk t).view.emb (ix3 0 i k) : (⟨3, ![1, 1024, 1026]⟩ : Shape).Idx) = ix3 (layer t) (row t i) k := by
  blk_ext [places t]

/-- Where a point writes its block of result 3. -/
theorem place6 (t : Fin cfg0.N) (i : Fin 256) (k : Fin 1026) : (((cfg0.win 6).blk t).view.emb (ix3 0 i k) : (⟨3, ![1, 1024, 1026]⟩ : Shape).Idx) = ix3 (layer t) (row t i) k := by
  blk_ext [places t]

/-- Where a point writes its block of result 4. -/
theorem place7 (t : Fin cfg0.N) (i : Fin 256) (k : Fin 1026) : (((cfg0.win 7).blk t).view.emb (ix3 0 i k) : (⟨3, ![1, 1024, 1026]⟩ : Shape).Idx) = ix3 (layer t) (row t i) k := by
  blk_ext [places t]

/-- A point's block of the parts, over the extended reals. -/
abbrev partsBlock (c : Dev nD) (t : Fin cfg0.N) : PartsBlock := iblk m c 0 t

/-- The sum of a block's parts is the whole sum's entry there. -/
theorem block_grad (c : Dev nD) (t : Fin cfg0.N) (i : Fin 256) (k : Fin 1026) : (∑ s : Fin 8, partsBlock m c t (ix4 s 0 i k))
    = grad (m ((c : Thread nD τ).loc main_arg0)) (ix3 (layer t) (row t i) k) :=
  (sum_same fun s => parts_at m c t s i k).trans
    (grad_at (m ((c : Thread nD τ).loc main_arg0)) (ix3 (layer t) (row t i) k)).symm

/-- A place of a block. -/
theorem block_index (y : (⟨3, ![1, 256, 1026]⟩ : Shape).Idx) : ∃ (i : Fin 256) (k : Fin 1026), y = ix3 0 i k :=
  ⟨y 1, y 2, by funext a; fin_cases a <;> first | rfl | exact Fin.ext (by have h : (y 0).val < 1 := (y 0).isLt; show (y 0).val = 0; omega)⟩

/-- The sum after the run. -/
theorem final_grad (c : Dev nD) : (dats m 0 c).arrAt 4 (cfgs 0).N = grad (m ((c : Thread nD τ).loc main_arg0)) := by
  refine (dats m 0 c).arrAt_eq_of_covers 4 _ (by decide +kernel) fun t hf y => ?_
  obtain ⟨i, k, rfl⟩ := block_index y
  refine (congrFun (after0_4 m c t) (ix3 0 i k)).trans ((out_grad _ _ _ _ i k).trans ((block_grad m c t i k).trans ?_))
  exact congrArg (grad _) (place4 t i k).symm

/-- The change of the weight after the run. -/
theorem final_change (c : Dev nD) : (dats m 0 c).arrAt 5 (cfgs 0).N = Cert.Reference13Ideal.Read.val_main_v25 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨i, k, rfl⟩ := block_index y
  refine (congrFun (after0_5 m c t) (ix3 0 i k)).trans ((out_change _ _ _ _ i k).trans ?_)
  refine Eq.trans ?_ (congrArg (Cert.Reference13Ideal.Read.val_main_v25 (F := Ideal) _ _ _ _) (place5 t i k).symm)
  exact (change_same (block_grad m c t i k) (weight_at m c t i k) (m_at m c t i k) (v_at m c t i k)).trans (change_at _ _ _ _ _).symm

/-- The first moment after the run. -/
theorem final_first (c : Dev nD) : (dats m 0 c).arrAt 6 (cfgs 0).N
    = Cert.Reference13Ideal.Read.val_main_v6 (F := Ideal) (m ((c : Thread nD τ).loc main_arg0)) (m ((c : Thread nD τ).loc main_arg2)) := by
  refine (dats m 0 c).arrAt_eq_of_covers 6 _ (by decide +kernel) fun t hf y => ?_
  obtain ⟨i, k, rfl⟩ := block_index y
  refine (congrFun (after0_6 m c t) (ix3 0 i k)).trans ((out_first _ _ _ _ i k).trans ?_)
  refine Eq.trans ?_ (congrArg (Cert.Reference13Ideal.Read.val_main_v6 (F := Ideal) _ _) (place6 t i k).symm)
  exact (congrArg₂ first (block_grad m c t i k) (m_at m c t i k)).trans (first_at _ _ _).symm

/-- The second moment after the run. -/
theorem final_second (c : Dev nD) : (dats m 0 c).arrAt 7 (cfgs 0).N
    = Cert.Reference13Ideal.Read.val_main_v12 (F := Ideal) (m ((c : Thread nD τ).loc main_arg0)) (m ((c : Thread nD τ).loc main_arg3)) := by
  refine (dats m 0 c).arrAt_eq_of_covers 7 _ (by decide +kernel) fun t hf y => ?_
  obtain ⟨i, k, rfl⟩ := block_index y
  refine (congrFun (after0_7 m c t) (ix3 0 i k)).trans ((out_second _ _ _ _ i k).trans ?_)
  refine Eq.trans ?_ (congrArg (Cert.Reference13Ideal.Read.val_main_v12 (F := Ideal) _ _) (place7 t i k).symm)
  exact (congrArg₂ second (block_grad m c t i k) (v_at m c t i k)).trans (second_at _ _ _).symm

/-- The kernel as compiled runs, keeps its arguments and ends with every counter at zero. -/
theorem frame_kernel : Cert.quiescent_Kernel13 (hKernel13 := Cert.Kernel13.Gen.facts) := fun m ρ _ => Cert.Kernel13.Gen.frame m ρ

/-- So does the idealized kernel. -/
theorem frame_ideal : Cert.quiescent_Kernel13Ideal (hKernel13Ideal := Cert.Kernel13Ideal.Gen.facts) := fun m ρ _ => Cert.Kernel13Ideal.Gen.frame m ρ

/-- So does the reference. -/
theorem frame_reference : Cert.quiescent_Reference13Ideal (hReference13Ideal := Cert.Reference13Ideal.Gen.facts) := fun m ρ _ =>
  (θ_run _ _ _).mono (fun r h => ⟨fun c => (h c).2.2.2.2, sem_eq_zero_of_no_sems (by decide) r.2⟩)
    (Cert.Reference13Ideal.Value.run (F := Ideal) m ρ)

/-- Equal arguments, equal changes. -/
theorem change_congr {p p' : Parts} {w w' a a' b b' : Whole} (hp : p = p') (hw : w = w') (ha : a = a') (hb : b = b') :
    Cert.Reference13Ideal.Read.val_main_v25 (F := Ideal) p w a b = Cert.Reference13Ideal.Read.val_main_v25 (F := Ideal) p' w' a' b' := by
  rw [hp, hw, ha, hb]

/-- The idealized kernel and the reference end with the same four arrays. -/
theorem same : Cert.algebraic_Kernel13Ideal_Reference13Ideal (hKernel13Ideal := Cert.Kernel13Ideal.Gen.facts)
    (hReference13Ideal := Cert.Reference13Ideal.Gen.facts) := by
  intro m g m' g' _ hagree
  refine ⟨fun c => grad (m ((c : Thread nD τ).loc main_arg0)),
    fun c => Cert.Reference13Ideal.Read.val_main_v25 (F := Ideal) (m ((c : Thread nD τ).loc main_arg0)) (m ((c : Thread nD τ).loc main_arg1))
      (m ((c : Thread nD τ).loc main_arg2)) (m ((c : Thread nD τ).loc main_arg3)),
    fun c => Cert.Reference13Ideal.Read.val_main_v6 (F := Ideal) (m ((c : Thread nD τ).loc main_arg0)) (m ((c : Thread nD τ).loc main_arg2)),
    fun c => Cert.Reference13Ideal.Read.val_main_v12 (F := Ideal) (m ((c : Thread nD τ).loc main_arg0)) (m ((c : Thread nD τ).loc main_arg3)), ?_, ?_⟩
  · refine (θ_run _ _ _).mono (fun r h c => ?_) (Cert.Kernel13Ideal.Value.run_blocks m g)
    exact ⟨(h c).1.trans (final_grad m c), (h c).2.1.trans (final_change m c), (h c).2.2.1.trans (final_first m c),
      (h c).2.2.2.1.trans (final_second m c), (h c).2.2.2.2⟩
  · refine (θ_run _ _ _).mono (fun r h c => ?_) (Cert.Reference13Ideal.Value.run (F := Ideal) m' g')
    obtain ⟨e0, e1, e2, e3⟩ := hagree c
    exact ⟨(h c).1.trans (congrArg grad e0), (h c).2.1.trans (change_congr e0 e1 e2 e3),
      (h c).2.2.1.trans (congrArg₂ (Cert.Reference13Ideal.Read.val_main_v6 (F := Ideal)) e0 e2),
      (h c).2.2.2.1.trans (congrArg₂ (Cert.Reference13Ideal.Read.val_main_v12 (F := Ideal)) e0 e3), (h c).2.2.2.2⟩

end Cert.AdamBIn

end
-- ==== Proof.AdamBOut.lean ====
/- The sum over the devices of a weight's gradient and the optimiser's step with it, of the attention layer's output projection, and by shape the short convolution layer's: each grid point
   writes its own block of 256 rows. -/
module

public import proofs.«01_k».proof.Defs
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit
public import Idealize.ShloMosaic.Lib.Claim

@[expose] public section

set_option maxRecDepth 16384

noncomputable section

namespace Cert.AdamBOut

open Idealize.ShloMosaic Idealize.ShloMosaic.TcCoe Idealize.SL.Sem
open Idealize.ShloMosaic.Pipeline (Dat)
open Cert.Kernel14Ideal Cert.Kernel14Ideal.Gen

variable (m : (ℓ : Loc nD τ sig) → Buf (Elt Ideal) ℓ)

/-- The whole of the devices' parts. -/
abbrev Parts := FVec Ideal ⟨4, ![8, 1, 256, 1024]⟩ .bf16
/-- The whole of the weight, or of one of its moments. -/
abbrev Whole := FVec Ideal ⟨3, ![1, 256, 1024]⟩ .f32
/-- A block of the devices' parts. -/
abbrev PartsBlock := FVec Ideal ⟨4, ![8, 1, 256, 1024]⟩ .bf16
/-- A block of the weight, or of one of its moments. -/
abbrev Block := FVec Ideal ⟨3, ![1, 256, 1024]⟩ .f32

/-- The first moment after the step. -/
abbrev first (g a : EReal) : EReal := Ideal.ofBits .f32 0x3F666666#32 * a + Ideal.ofBits .f32 0x3DCCCCCD#32 * g
/-- The second moment after the step. -/
abbrev second (g a : EReal) : EReal := Ideal.ofBits .f32 0x3F7FBE77#32 * a + Ideal.ofBits .f32 0x3A83126F#32 * (g * g)
/-- The change of the weight. -/
abbrev change (g w a b : EReal) : EReal :=
  Ideal.ofBits .f32 0xBA83126F#32 * (Ideal.div (Ideal.div (first g a) (Ideal.ofBits .f32 0x3F26BD02#32))
    (Ideal.sqrt (Ideal.div (second g b) (Ideal.ofBits .f32 0x3C231ACC#32)) + Ideal.ofBits .f32 0x322BCC77#32)
    + Ideal.ofBits .f32 0x3C23D70A#32 * w)

/-- Equal entries, equal changes. -/
theorem change_same {g g' w w' a a' b b' : EReal} (hg : g = g') (hw : w = w') (ha : a = a') (hb : b = b') :
    change g w a b = change g' w' a' b' := by
  rw [hg, hw, ha, hb]

/-- Equal parts, equal sums. -/
theorem sum_same {f g : Fin 8 → EReal} (h : ∀ s, f s = g s) : ∑ s, f s = ∑ s, g s := Finset.sum_congr rfl fun s _ => h s

/-- The sum of a block's eight parts. -/
theorem sum_at (p : PartsBlock) (w a b : Block) (j : S256x1024.Idx) :
    k0_pay5 (F := Ideal) (k0_pay10 p w a b) (View.ld p r0_7) j = ∑ s : Fin 8, p (ix4 s 0 (j 0) (j 1)) := by
  unfold k0_pay10
  pointwise [k0_pay5, k0_pay4]
  rw [Fin.sum_univ_eight]

/-- The sum over the devices, of the whole weight. -/
abbrev grad (p : Parts) : Whole := Cert.Reference14Ideal.Read.val_main_v1 (F := Ideal) p

/-- Its entries. -/
theorem grad_at (p : Parts) (j) : grad p j = ∑ s : Fin 8, p (ix4 s (j 0) (j 1) (j 2)) := by
  pointwise [grad, Cert.Reference14Ideal.Read.val_main_v1, Cert.Reference14Ideal.Read.val_main_v0, Cert.Reference14Ideal.Read.val_main_cst]
  exact sum_same fun s => congrArg (fun l : Fin 1 => p (ix4 s l (j 1) (j 2))) (Subsingleton.elim (0 : Fin 1) (j 0))

/-- The reference's first moment, by entries. -/
theorem first_at (p : Parts) (a : Whole) (j) : Cert.Reference14Ideal.Read.val_main_v6 (F := Ideal) p a j = first (grad p j) (a j) := by
  have e : Cert.Reference14Ideal.Read.val_main_v1 (F := Ideal) p = grad p := rfl
  pointwise [Cert.Reference14Ideal.Read.val_main_v6, Cert.Reference14Ideal.Read.val_main_v3, Cert.Reference14Ideal.Read.val_main_v2, Cert.Reference14Ideal.Read.val_main_v5, Cert.Reference14Ideal.Read.val_main_v4, Cert.Reference14Ideal.Read.val_main_cst_0, Cert.Reference14Ideal.Read.val_main_cst_1, e]

/-- The reference's second moment, by entries. -/
theorem second_at (p : Parts) (b : Whole) (j) : Cert.Reference14Ideal.Read.val_main_v12 (F := Ideal) p b j = second (grad p j) (b j) := by
  have e : Cert.Reference14Ideal.Read.val_main_v1 (F := Ideal) p = grad p := rfl
  pointwise [Cert.Reference14Ideal.Read.val_main_v12, Cert.Reference14Ideal.Read.val_main_v8, Cert.Reference14Ideal.Read.val_main_v7, Cert.Reference14Ideal.Read.val_main_v11, Cert.Reference14Ideal.Read.val_main_v10, Cert.Reference14Ideal.Read.val_main_v9, Cert.Reference14Ideal.Read.val_main_cst_2, Cert.Reference14Ideal.Read.val_main_cst_3, e]

/-- The reference's change of the weight, by entries. -/
theorem change_at (p : Parts) (w a b : Whole) (j) : Cert.Reference14Ideal.Read.val_main_v25 (F := Ideal) p w a b j = change (grad p j) (w j) (a j) (b j) := by
  pointwise [Cert.Reference14Ideal.Read.val_main_v25, Cert.Reference14Ideal.Read.val_main_v24, Cert.Reference14Ideal.Read.val_main_v23, Cert.Reference14Ideal.Read.val_main_v22, Cert.Reference14Ideal.Read.val_main_v21, Cert.Reference14Ideal.Read.val_main_v20, Cert.Reference14Ideal.Read.val_main_v19, Cert.Reference14Ideal.Read.val_main_v18, Cert.Reference14Ideal.Read.val_main_v17, Cert.Reference14Ideal.Read.val_main_v16, Cert.Reference14Ideal.Read.val_main_v15, Cert.Reference14Ideal.Read.val_main_v14, Cert.Reference14Ideal.Read.val_main_v13, Cert.Reference14Ideal.Read.val_main_cst_4, Cert.Reference14Ideal.Read.val_main_cst_5, Cert.Reference14Ideal.Read.val_main_cst_6, Cert.Reference14Ideal.Read.val_main_cst_7, Cert.Reference14Ideal.Read.val_main_cst_8]
  rw [first_at, second_at]

/-- What a point stores of the sum. -/
theorem out_grad (p : PartsBlock) (w a b : Block) (i : Fin 256) (k : Fin 1024) :
    out0_4 (F := Ideal) p w a b (ix3 0 i k) = ∑ s : Fin 8, p (ix4 s 0 i k) := by
  refine Eq.trans ?_ (sum_at p w a b (ix2 i k))
  unfold out0_4
  rw [View.canon_unit_zero (by funext a; fin_cases a <;> rfl)]
  pointwise [k0_pay6]

/-- What it stores of the first moment. -/
theorem out_first (p : PartsBlock) (w a b : Block) (i : Fin 256) (k : Fin 1024) :
    out0_6 (F := Ideal) p w a b (ix3 0 i k) = first (∑ s : Fin 8, p (ix4 s 0 i k)) (a (ix3 0 i k)) := by
  rw [← show _ = ∑ s : Fin 8, p (ix4 s 0 i k) from sum_at p w a b (ix2 i k)]
  unfold out0_6
  rw [View.canon_unit_zero (by funext a; fin_cases a <;> rfl)]
  pointwise [k0_pay2, k0_pay7]

/-- What it stores of the second moment. -/
theorem out_second (p : PartsBlock) (w a b : Block) (i : Fin 256) (k : Fin 1024) :
    out0_7 (F := Ideal) p w a b (ix3 0 i k) = second (∑ s : Fin 8, p (ix4 s 0 i k)) (b (ix3 0 i k)) := by
  rw [← show _ = ∑ s : Fin 8, p (ix4 s 0 i k) from sum_at p w a b (ix2 i k)]
  unfold out0_7
  rw [View.canon_unit_zero (by funext a; fin_cases a <;> rfl)]
  pointwise [k0_pay3, k0_pay8]

/-- What it stores of the change. -/
theorem out_change (p : PartsBlock) (w a b : Block) (i : Fin 256) (k : Fin 1024) :
    out0_5 (F := Ideal) p w a b (ix3 0 i k) = change (∑ s : Fin 8, p (ix4 s 0 i k)) (w (ix3 0 i k)) (a (ix3 0 i k)) (b (ix3 0 i k)) := by
  rw [← show _ = ∑ s : Fin 8, p (ix4 s 0 i k) from sum_at p w a b (ix2 i k)]
  unfold out0_5
  rw [View.canon_unit_zero (by funext a; fin_cases a <;> rfl)]
  pointwise [k0_pay1, k0_pay9, k0_pay7, k0_pay8]

/-- The layer of a point's block. -/
abbrev layer (t : Fin cfg0.N) : Fin 1 := ⟨t.val / 1, by
  have h : t.val < 1 := t.isLt
  omega⟩

/-- The rows of a point's block. -/
abbrev row (t : Fin cfg0.N) (i : Fin 256) : Fin 256 := ⟨t.val % 1 * 256 + i.val, by omega⟩

/-- Where a point's blocks are. -/
theorem places : ∀ t : Fin cfg0.N, win0_0.index t = ![0, t.val / 1, t.val % 1, 0] ∧ win0_1.index t = ![t.val / 1, t.val % 1, 0]
    ∧ win0_2.index t = ![t.val / 1, t.val % 1, 0] ∧ win0_3.index t = ![t.val / 1, t.val % 1, 0]
    ∧ win0_4.index t = ![t.val / 1, t.val % 1, 0] ∧ win0_5.index t = ![t.val / 1, t.val % 1, 0]
    ∧ win0_6.index t = ![t.val / 1, t.val % 1, 0] ∧ win0_7.index t = ![t.val / 1, t.val % 1, 0] :=
  (by decide +kernel : ∀ t : Fin grid0.N, _)

/-- A point's block of the parts. -/
theorem parts_at (c : Dev nD) (t : Fin cfg0.N) (s : Fin 8) (i : Fin 256) (k : Fin 1024) :
    (iblk m c 0 t (ix4 s 0 i k) : EReal) = m ((c : Thread nD τ).loc main_arg0) (ix4 s (layer t) (row t i) k) := by
  blk_point [iblk, V, places t]

/-- A point's block of the weight. -/
theorem weight_at (c : Dev nD) (t : Fin cfg0.N) (i : Fin 256) (k : Fin 1024) :
    (iblk m c 1 t (ix3 0 i k) : EReal) = m ((c : Thread nD τ).loc main_arg1) (ix3 (layer t) (row t i) k) := by
  blk_point [iblk, V, places t]

/-- A point's block of the first moment. -/
theorem m_at (c : Dev nD) (t : Fin cfg0.N) (i : Fin 256) (k : Fin 1024) :
    (iblk m c 2 t (ix3 0 i k) : EReal) = m ((c : Thread nD τ).loc main_arg2) (ix3 (layer t) (row t i) k) := by
  blk_point [iblk, V, places t]

/-- A point's block of the second moment. -/
theorem v_at (c : Dev nD) (t : Fin cfg0.N) (i : Fin 256) (k : Fin 1024) :
    (iblk m c 3 t (ix3 0 i k) : EReal) = m ((c : Thread nD τ).loc main_arg3) (ix3 (layer t) (row t i) k) := by
  blk_point [iblk, V, places t]

/-- Where a point writes its block of result 1. -/
theorem place4 (t : Fin cfg0.N) (i : Fin 256) (k : Fin 1024) : (((cfg0.win 4).blk t).view.emb (ix3 0 i k) : (⟨3, ![1, 256, 1024]⟩ : Shape).Idx) = ix3 (layer t) (row t i) k := by
  blk_ext [places t]

/-- Where a point writes its block of result 2. -/
theorem place5 (t : Fin cfg0.N) (i : Fin 256) (k : Fin 1024) : (((cfg0.win 5).blk t).view.emb (ix3 0 i k) : (⟨3, ![1, 256, 1024]⟩ : Shape).Idx) = ix3 (layer t) (row t i) k := by
  blk_ext [places t]

/-- Where a point writes its block of result 3. -/
theorem place6 (t : Fin cfg0.N) (i : Fin 256) (k : Fin 1024) : (((cfg0.win 6).blk t).view.emb (ix3 0 i k) : (⟨3, ![1, 256, 1024]⟩ : Shape).Idx) = ix3 (layer t) (row t i) k := by
  blk_ext [places t]

/-- Where a point writes its block of result 4. -/
theorem place7 (t : Fin cfg0.N) (i : Fin 256) (k : Fin 1024) : (((cfg0.win 7).blk t).view.emb (ix3 0 i k) : (⟨3, ![1, 256, 1024]⟩ : Shape).Idx) = ix3 (layer t) (row t i) k := by
  blk_ext [places t]

/-- A point's block of the parts, over the extended reals. -/
abbrev partsBlock (c : Dev nD) (t : Fin cfg0.N) : PartsBlock := iblk m c 0 t

/-- The sum of a block's parts is the whole sum's entry there. -/
theorem block_grad (c : Dev nD) (t : Fin cfg0.N) (i : Fin 256) (k : Fin 1024) : (∑ s : Fin 8, partsBlock m c t (ix4 s 0 i k))
    = grad (m ((c : Thread nD τ).loc main_arg0)) (ix3 (layer t) (row t i) k) :=
  (sum_same fun s => parts_at m c t s i k).trans
    (grad_at (m ((c : Thread nD τ).loc main_arg0)) (ix3 (layer t) (row t i) k)).symm

/-- A place of a block. -/
theorem block_index (y : (⟨3, ![1, 256, 1024]⟩ : Shape).Idx) : ∃ (i : Fin 256) (k : Fin 1024), y = ix3 0 i k :=
  ⟨y 1, y 2, by funext a; fin_cases a <;> first | rfl | exact Fin.ext (by have h : (y 0).val < 1 := (y 0).isLt; show (y 0).val = 0; omega)⟩

/-- The sum after the run. -/
theorem final_grad (c : Dev nD) : (dats m 0 c).arrAt 4 (cfgs 0).N = grad (m ((c : Thread nD τ).loc main_arg0)) := by
  refine (dats m 0 c).arrAt_eq_of_covers 4 _ (by decide +kernel) fun t hf y => ?_
  obtain ⟨i, k, rfl⟩ := block_index y
  refine (congrFun (after0_4 m c t) (ix3 0 i k)).trans ((out_grad _ _ _ _ i k).trans ((block_grad m c t i k).trans ?_))
  exact congrArg (grad _) (place4 t i k).symm

/-- The change of the weight after the run. -/
theorem final_change (c : Dev nD) : (dats m 0 c).arrAt 5 (cfgs 0).N = Cert.Reference14Ideal.Read.val_main_v25 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨i, k, rfl⟩ := block_index y
  refine (congrFun (after0_5 m c t) (ix3 0 i k)).trans ((out_change _ _ _ _ i k).trans ?_)
  refine Eq.trans ?_ (congrArg (Cert.Reference14Ideal.Read.val_main_v25 (F := Ideal) _ _ _ _) (place5 t i k).symm)
  exact (change_same (block_grad m c t i k) (weight_at m c t i k) (m_at m c t i k) (v_at m c t i k)).trans (change_at _ _ _ _ _).symm

/-- The first moment after the run. -/
theorem final_first (c : Dev nD) : (dats m 0 c).arrAt 6 (cfgs 0).N
    = Cert.Reference14Ideal.Read.val_main_v6 (F := Ideal) (m ((c : Thread nD τ).loc main_arg0)) (m ((c : Thread nD τ).loc main_arg2)) := by
  refine (dats m 0 c).arrAt_eq_of_covers 6 _ (by decide +kernel) fun t hf y => ?_
  obtain ⟨i, k, rfl⟩ := block_index y
  refine (congrFun (after0_6 m c t) (ix3 0 i k)).trans ((out_first _ _ _ _ i k).trans ?_)
  refine Eq.trans ?_ (congrArg (Cert.Reference14Ideal.Read.val_main_v6 (F := Ideal) _ _) (place6 t i k).symm)
  exact (congrArg₂ first (block_grad m c t i k) (m_at m c t i k)).trans (first_at _ _ _).symm

/-- The second moment after the run. -/
theorem final_second (c : Dev nD) : (dats m 0 c).arrAt 7 (cfgs 0).N
    = Cert.Reference14Ideal.Read.val_main_v12 (F := Ideal) (m ((c : Thread nD τ).loc main_arg0)) (m ((c : Thread nD τ).loc main_arg3)) := by
  refine (dats m 0 c).arrAt_eq_of_covers 7 _ (by decide +kernel) fun t hf y => ?_
  obtain ⟨i, k, rfl⟩ := block_index y
  refine (congrFun (after0_7 m c t) (ix3 0 i k)).trans ((out_second _ _ _ _ i k).trans ?_)
  refine Eq.trans ?_ (congrArg (Cert.Reference14Ideal.Read.val_main_v12 (F := Ideal) _ _) (place7 t i k).symm)
  exact (congrArg₂ second (block_grad m c t i k) (v_at m c t i k)).trans (second_at _ _ _).symm

/-- The kernel as compiled runs, keeps its arguments and ends with every counter at zero. -/
theorem frame_kernel : Cert.quiescent_Kernel14 (hKernel14 := Cert.Kernel14.Gen.facts) := fun m ρ _ => Cert.Kernel14.Gen.frame m ρ

/-- So does the idealized kernel. -/
theorem frame_ideal : Cert.quiescent_Kernel14Ideal (hKernel14Ideal := Cert.Kernel14Ideal.Gen.facts) := fun m ρ _ => Cert.Kernel14Ideal.Gen.frame m ρ

/-- So does the reference. -/
theorem frame_reference : Cert.quiescent_Reference14Ideal (hReference14Ideal := Cert.Reference14Ideal.Gen.facts) := fun m ρ _ =>
  (θ_run _ _ _).mono (fun r h => ⟨fun c => (h c).2.2.2.2, sem_eq_zero_of_no_sems (by decide) r.2⟩)
    (Cert.Reference14Ideal.Value.run (F := Ideal) m ρ)

/-- Equal arguments, equal changes. -/
theorem change_congr {p p' : Parts} {w w' a a' b b' : Whole} (hp : p = p') (hw : w = w') (ha : a = a') (hb : b = b') :
    Cert.Reference14Ideal.Read.val_main_v25 (F := Ideal) p w a b = Cert.Reference14Ideal.Read.val_main_v25 (F := Ideal) p' w' a' b' := by
  rw [hp, hw, ha, hb]

/-- The idealized kernel and the reference end with the same four arrays. -/
theorem same : Cert.algebraic_Kernel14Ideal_Reference14Ideal (hKernel14Ideal := Cert.Kernel14Ideal.Gen.facts)
    (hReference14Ideal := Cert.Reference14Ideal.Gen.facts) := by
  intro m g m' g' _ hagree
  refine ⟨fun c => grad (m ((c : Thread nD τ).loc main_arg0)),
    fun c => Cert.Reference14Ideal.Read.val_main_v25 (F := Ideal) (m ((c : Thread nD τ).loc main_arg0)) (m ((c : Thread nD τ).loc main_arg1))
      (m ((c : Thread nD τ).loc main_arg2)) (m ((c : Thread nD τ).loc main_arg3)),
    fun c => Cert.Reference14Ideal.Read.val_main_v6 (F := Ideal) (m ((c : Thread nD τ).loc main_arg0)) (m ((c : Thread nD τ).loc main_arg2)),
    fun c => Cert.Reference14Ideal.Read.val_main_v12 (F := Ideal) (m ((c : Thread nD τ).loc main_arg0)) (m ((c : Thread nD τ).loc main_arg3)), ?_, ?_⟩
  · refine (θ_run _ _ _).mono (fun r h c => ?_) (Cert.Kernel14Ideal.Value.run_blocks m g)
    exact ⟨(h c).1.trans (final_grad m c), (h c).2.1.trans (final_change m c), (h c).2.2.1.trans (final_first m c),
      (h c).2.2.2.1.trans (final_second m c), (h c).2.2.2.2⟩
  · refine (θ_run _ _ _).mono (fun r h c => ?_) (Cert.Reference14Ideal.Value.run (F := Ideal) m' g')
    obtain ⟨e0, e1, e2, e3⟩ := hagree c
    exact ⟨(h c).1.trans (congrArg grad e0), (h c).2.1.trans (change_congr e0 e1 e2 e3),
      (h c).2.2.1.trans (congrArg₂ (Cert.Reference14Ideal.Read.val_main_v6 (F := Ideal)) e0 e2),
      (h c).2.2.2.1.trans (congrArg₂ (Cert.Reference14Ideal.Read.val_main_v12 (F := Ideal)) e0 e3), (h c).2.2.2.2⟩

end Cert.AdamBOut

end
-- ==== Proof.AdamCIn.lean ====
/- The sum over the devices of a weight's gradient and the optimiser's step with it, of the short convolution layer's input projection: each grid point
   writes its own block of 256 rows. -/
module

public import proofs.«01_k».proof.Defs
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit
public import Idealize.ShloMosaic.Lib.Claim

@[expose] public section

set_option maxRecDepth 16384

noncomputable section

namespace Cert.AdamCIn

open Idealize.ShloMosaic Idealize.ShloMosaic.TcCoe Idealize.SL.Sem
open Idealize.ShloMosaic.Pipeline (Dat)
open Cert.Kernel15Ideal Cert.Kernel15Ideal.Gen

variable (m : (ℓ : Loc nD τ sig) → Buf (Elt Ideal) ℓ)

/-- The whole of the devices' parts. -/
abbrev Parts := FVec Ideal ⟨4, ![8, 1, 1024, 1024]⟩ .bf16
/-- The whole of the weight, or of one of its moments. -/
abbrev Whole := FVec Ideal ⟨3, ![1, 1024, 1024]⟩ .f32
/-- A block of the devices' parts. -/
abbrev PartsBlock := FVec Ideal ⟨4, ![8, 1, 256, 1024]⟩ .bf16
/-- A block of the weight, or of one of its moments. -/
abbrev Block := FVec Ideal ⟨3, ![1, 256, 1024]⟩ .f32

/-- The first moment after the step. -/
abbrev first (g a : EReal) : EReal := Ideal.ofBits .f32 0x3F666666#32 * a + Ideal.ofBits .f32 0x3DCCCCCD#32 * g
/-- The second moment after the step. -/
abbrev second (g a : EReal) : EReal := Ideal.ofBits .f32 0x3F7FBE77#32 * a + Ideal.ofBits .f32 0x3A83126F#32 * (g * g)
/-- The change of the weight. -/
abbrev change (g w a b : EReal) : EReal :=
  Ideal.ofBits .f32 0xBA83126F#32 * (Ideal.div (Ideal.div (first g a) (Ideal.ofBits .f32 0x3F26BD02#32))
    (Ideal.sqrt (Ideal.div (second g b) (Ideal.ofBits .f32 0x3C231ACC#32)) + Ideal.ofBits .f32 0x322BCC77#32)
    + Ideal.ofBits .f32 0x3C23D70A#32 * w)

/-- Equal entries, equal changes. -/
theorem change_same {g g' w w' a a' b b' : EReal} (hg : g = g') (hw : w = w') (ha : a = a') (hb : b = b') :
    change g w a b = change g' w' a' b' := by
  rw [hg, hw, ha, hb]

/-- Equal parts, equal sums. -/
theorem sum_same {f g : Fin 8 → EReal} (h : ∀ s, f s = g s) : ∑ s, f s = ∑ s, g s := Finset.sum_congr rfl fun s _ => h s

/-- The sum of a block's eight parts. -/
theorem sum_at (p : PartsBlock) (w a b : Block) (j : S256x1024.Idx) :
    k0_pay5 (F := Ideal) (k0_pay10 p w a b) (View.ld p r0_7) j = ∑ s : Fin 8, p (ix4 s 0 (j 0) (j 1)) := by
  unfold k0_pay10
  pointwise [k0_pay5, k0_pay4]
  rw [Fin.sum_univ_eight]

/-- The sum over the devices, of the whole weight. -/
abbrev grad (p : Parts) : Whole := Cert.Reference15Ideal.Read.val_main_v1 (F := Ideal) p

/-- Its entries. -/
theorem grad_at (p : Parts) (j) : grad p j = ∑ s : Fin 8, p (ix4 s (j 0) (j 1) (j 2)) := by
  pointwise [grad, Cert.Reference15Ideal.Read.val_main_v1, Cert.Reference15Ideal.Read.val_main_v0, Cert.Reference15Ideal.Read.val_main_cst]
  exact sum_same fun s => congrArg (fun l : Fin 1 => p (ix4 s l (j 1) (j 2))) (Subsingleton.elim (0 : Fin 1) (j 0))

/-- The reference's first moment, by entries. -/
theorem first_at (p : Parts) (a : Whole) (j) : Cert.Reference15Ideal.Read.val_main_v6 (F := Ideal) p a j = first (grad p j) (a j) := by
  have e : Cert.Reference15Ideal.Read.val_main_v1 (F := Ideal) p = grad p := rfl
  pointwise [Cert.Reference15Ideal.Read.val_main_v6, Cert.Reference15Ideal.Read.val_main_v3, Cert.Reference15Ideal.Read.val_main_v2, Cert.Reference15Ideal.Read.val_main_v5, Cert.Reference15Ideal.Read.val_main_v4, Cert.Reference15Ideal.Read.val_main_cst_0, Cert.Reference15Ideal.Read.val_main_cst_1, e]

/-- The reference's second moment, by entries. -/
theorem second_at (p : Parts) (b : Whole) (j) : Cert.Reference15Ideal.Read.val_main_v12 (F := Ideal) p b j = second (grad p j) (b j) := by
  have e : Cert.Reference15Ideal.Read.val_main_v1 (F := Ideal) p = grad p := rfl
  pointwise [Cert.Reference15Ideal.Read.val_main_v12, Cert.Reference15Ideal.Read.val_main_v8, Cert.Reference15Ideal.Read.val_main_v7, Cert.Reference15Ideal.Read.val_main_v11, Cert.Reference15Ideal.Read.val_main_v10, Cert.Reference15Ideal.Read.val_main_v9, Cert.Reference15Ideal.Read.val_main_cst_2, Cert.Reference15Ideal.Read.val_main_cst_3, e]

/-- The reference's change of the weight, by entries. -/
theorem change_at (p : Parts) (w a b : Whole) (j) : Cert.Reference15Ideal.Read.val_main_v25 (F := Ideal) p w a b j = change (grad p j) (w j) (a j) (b j) := by
  pointwise [Cert.Reference15Ideal.Read.val_main_v25, Cert.Reference15Ideal.Read.val_main_v24, Cert.Reference15Ideal.Read.val_main_v23, Cert.Reference15Ideal.Read.val_main_v22, Cert.Reference15Ideal.Read.val_main_v21, Cert.Reference15Ideal.Read.val_main_v20, Cert.Reference15Ideal.Read.val_main_v19, Cert.Reference15Ideal.Read.val_main_v18, Cert.Reference15Ideal.Read.val_main_v17, Cert.Reference15Ideal.Read.val_main_v16, Cert.Reference15Ideal.Read.val_main_v15, Cert.Reference15Ideal.Read.val_main_v14, Cert.Reference15Ideal.Read.val_main_v13, Cert.Reference15Ideal.Read.val_main_cst_4, Cert.Reference15Ideal.Read.val_main_cst_5, Cert.Reference15Ideal.Read.val_main_cst_6, Cert.Reference15Ideal.Read.val_main_cst_7, Cert.Reference15Ideal.Read.val_main_cst_8]
  rw [first_at, second_at]

/-- What a point stores of the sum. -/
theorem out_grad (p : PartsBlock) (w a b : Block) (i : Fin 256) (k : Fin 1024) :
    out0_4 (F := Ideal) p w a b (ix3 0 i k) = ∑ s : Fin 8, p (ix4 s 0 i k) := by
  refine Eq.trans ?_ (sum_at p w a b (ix2 i k))
  unfold out0_4
  rw [View.canon_unit_zero (by funext a; fin_cases a <;> rfl)]
  pointwise [k0_pay6]

/-- What it stores of the first moment. -/
theorem out_first (p : PartsBlock) (w a b : Block) (i : Fin 256) (k : Fin 1024) :
    out0_6 (F := Ideal) p w a b (ix3 0 i k) = first (∑ s : Fin 8, p (ix4 s 0 i k)) (a (ix3 0 i k)) := by
  rw [← show _ = ∑ s : Fin 8, p (ix4 s 0 i k) from sum_at p w a b (ix2 i k)]
  unfold out0_6
  rw [View.canon_unit_zero (by funext a; fin_cases a <;> rfl)]
  pointwise [k0_pay2, k0_pay7]

/-- What it stores of the second moment. -/
theorem out_second (p : PartsBlock) (w a b : Block) (i : Fin 256) (k : Fin 1024) :
    out0_7 (F := Ideal) p w a b (ix3 0 i k) = second (∑ s : Fin 8, p (ix4 s 0 i k)) (b (ix3 0 i k)) := by
  rw [← show _ = ∑ s : Fin 8, p (ix4 s 0 i k) from sum_at p w a b (ix2 i k)]
  unfold out0_7
  rw [View.canon_unit_zero (by funext a; fin_cases a <;> rfl)]
  pointwise [k0_pay3, k0_pay8]

/-- What it stores of the change. -/
theorem out_change (p : PartsBlock) (w a b : Block) (i : Fin 256) (k : Fin 1024) :
    out0_5 (F := Ideal) p w a b (ix3 0 i k) = change (∑ s : Fin 8, p (ix4 s 0 i k)) (w (ix3 0 i k)) (a (ix3 0 i k)) (b (ix3 0 i k)) := by
  rw [← show _ = ∑ s : Fin 8, p (ix4 s 0 i k) from sum_at p w a b (ix2 i k)]
  unfold out0_5
  rw [View.canon_unit_zero (by funext a; fin_cases a <;> rfl)]
  pointwise [k0_pay1, k0_pay9, k0_pay7, k0_pay8]

/-- The layer of a point's block. -/
abbrev layer (t : Fin cfg0.N) : Fin 1 := ⟨t.val / 4, by
  have h : t.val < 4 := t.isLt
  omega⟩

/-- The rows of a point's block. -/
abbrev row (t : Fin cfg0.N) (i : Fin 256) : Fin 1024 := ⟨t.val % 4 * 256 + i.val, by omega⟩

/-- Where a point's blocks are. -/
theorem places : ∀ t : Fin cfg0.N, win0_0.index t = ![0, t.val / 4, t.val % 4, 0] ∧ win0_1.index t = ![t.val / 4, t.val % 4, 0]
    ∧ win0_2.index t = ![t.val / 4, t.val % 4, 0] ∧ win0_3.index t = ![t.val / 4, t.val % 4, 0]
    ∧ win0_4.index t = ![t.val / 4, t.val % 4, 0] ∧ win0_5.index t = ![t.val / 4, t.val % 4, 0]
    ∧ win0_6.index t = ![t.val / 4, t.val % 4, 0] ∧ win0_7.index t = ![t.val / 4, t.val % 4, 0] :=
  (by decide +kernel : ∀ t : Fin grid0.N, _)

/-- A point's block of the parts. -/
theorem parts_at (c : Dev nD) (t : Fin cfg0.N) (s : Fin 8) (i : Fin 256) (k : Fin 1024) :
    (iblk m c 0 t (ix4 s 0 i k) : EReal) = m ((c : Thread nD τ).loc main_arg0) (ix4 s (layer t) (row t i) k) := by
  blk_point [iblk, V, places t]

/-- A point's block of the weight. -/
theorem weight_at (c : Dev nD) (t : Fin cfg0.N) (i : Fin 256) (k : Fin 1024) :
    (iblk m c 1 t (ix3 0 i k) : EReal) = m ((c : Thread nD τ).loc main_arg1) (ix3 (layer t) (row t i) k) := by
  blk_point [iblk, V, places t]

/-- A point's block of the first moment. -/
theorem m_at (c : Dev nD) (t : Fin cfg0.N) (i : Fin 256) (k : Fin 1024) :
    (iblk m c 2 t (ix3 0 i k) : EReal) = m ((c : Thread nD τ).loc main_arg2) (ix3 (layer t) (row t i) k) := by
  blk_point [iblk, V, places t]

/-- A point's block of the second moment. -/
theorem v_at (c : Dev nD) (t : Fin cfg0.N) (i : Fin 256) (k : Fin 1024) :
    (iblk m c 3 t (ix3 0 i k) : EReal) = m ((c : Thread nD τ).loc main_arg3) (ix3 (layer t) (row t i) k) := by
  blk_point [iblk, V, places t]

/-- Where a point writes its block of result 1. -/
theorem place4 (t : Fin cfg0.N) (i : Fin 256) (k : Fin 1024) : (((cfg0.win 4).blk t).view.emb (ix3 0 i k) : (⟨3, ![1, 1024, 1024]⟩ : Shape).Idx) = ix3 (layer t) (row t i) k := by
  blk_ext [places t]

/-- Where a point writes its block of result 2. -/
theorem place5 (t : Fin cfg0.N) (i : Fin 256) (k : Fin 1024) : (((cfg0.win 5).blk t).view.emb (ix3 0 i k) : (⟨3, ![1, 1024, 1024]⟩ : Shape).Idx) = ix3 (layer t) (row t i) k := by
  blk_ext [places t]

/-- Where a point writes its block of result 3. -/
theorem place6 (t : Fin cfg0.N) (i : Fin 256) (k : Fin 1024) : (((cfg0.win 6).blk t).view.emb (ix3 0 i k) : (⟨3, ![1, 1024, 1024]⟩ : Shape).Idx) = ix3 (layer t) (row t i) k := by
  blk_ext [places t]

/-- Where a point writes its block of result 4. -/
theorem place7 (t : Fin cfg0.N) (i : Fin 256) (k : Fin 1024) : (((cfg0.win 7).blk t).view.emb (ix3 0 i k) : (⟨3, ![1, 1024, 1024]⟩ : Shape).Idx) = ix3 (layer t) (row t i) k := by
  blk_ext [places t]

/-- A point's block of the parts, over the extended reals. -/
abbrev partsBlock (c : Dev nD) (t : Fin cfg0.N) : PartsBlock := iblk m c 0 t

/-- The sum of a block's parts is the whole sum's entry there. -/
theorem block_grad (c : Dev nD) (t : Fin cfg0.N) (i : Fin 256) (k : Fin 1024) : (∑ s : Fin 8, partsBlock m c t (ix4 s 0 i k))
    = grad (m ((c : Thread nD τ).loc main_arg0)) (ix3 (layer t) (row t i) k) :=
  (sum_same fun s => parts_at m c t s i k).trans
    (grad_at (m ((c : Thread nD τ).loc main_arg0)) (ix3 (layer t) (row t i) k)).symm

/-- A place of a block. -/
theorem block_index (y : (⟨3, ![1, 256, 1024]⟩ : Shape).Idx) : ∃ (i : Fin 256) (k : Fin 1024), y = ix3 0 i k :=
  ⟨y 1, y 2, by funext a; fin_cases a <;> first | rfl | exact Fin.ext (by have h : (y 0).val < 1 := (y 0).isLt; show (y 0).val = 0; omega)⟩

/-- The sum after the run. -/
theorem final_grad (c : Dev nD) : (dats m 0 c).arrAt 4 (cfgs 0).N = grad (m ((c : Thread nD τ).loc main_arg0)) := by
  refine (dats m 0 c).arrAt_eq_of_covers 4 _ (by decide +kernel) fun t hf y => ?_
  obtain ⟨i, k, rfl⟩ := block_index y
  refine (congrFun (after0_4 m c t) (ix3 0 i k)).trans ((out_grad _ _ _ _ i k).trans ((block_grad m c t i k).trans ?_))
  exact congrArg (grad _) (place4 t i k).symm

/-- The change of the weight after the run. -/
theorem final_change (c : Dev nD) : (dats m 0 c).arrAt 5 (cfgs 0).N = Cert.Reference15Ideal.Read.val_main_v25 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨i, k, rfl⟩ := block_index y
  refine (congrFun (after0_5 m c t) (ix3 0 i k)).trans ((out_change _ _ _ _ i k).trans ?_)
  refine Eq.trans ?_ (congrArg (Cert.Reference15Ideal.Read.val_main_v25 (F := Ideal) _ _ _ _) (place5 t i k).symm)
  exact (change_same (block_grad m c t i k) (weight_at m c t i k) (m_at m c t i k) (v_at m c t i k)).trans (change_at _ _ _ _ _).symm

/-- The first moment after the run. -/
theorem final_first (c : Dev nD) : (dats m 0 c).arrAt 6 (cfgs 0).N
    = Cert.Reference15Ideal.Read.val_main_v6 (F := Ideal) (m ((c : Thread nD τ).loc main_arg0)) (m ((c : Thread nD τ).loc main_arg2)) := by
  refine (dats m 0 c).arrAt_eq_of_covers 6 _ (by decide +kernel) fun t hf y => ?_
  obtain ⟨i, k, rfl⟩ := block_index y
  refine (congrFun (after0_6 m c t) (ix3 0 i k)).trans ((out_first _ _ _ _ i k).trans ?_)
  refine Eq.trans ?_ (congrArg (Cert.Reference15Ideal.Read.val_main_v6 (F := Ideal) _ _) (place6 t i k).symm)
  exact (congrArg₂ first (block_grad m c t i k) (m_at m c t i k)).trans (first_at _ _ _).symm

/-- The second moment after the run. -/
theorem final_second (c : Dev nD) : (dats m 0 c).arrAt 7 (cfgs 0).N
    = Cert.Reference15Ideal.Read.val_main_v12 (F := Ideal) (m ((c : Thread nD τ).loc main_arg0)) (m ((c : Thread nD τ).loc main_arg3)) := by
  refine (dats m 0 c).arrAt_eq_of_covers 7 _ (by decide +kernel) fun t hf y => ?_
  obtain ⟨i, k, rfl⟩ := block_index y
  refine (congrFun (after0_7 m c t) (ix3 0 i k)).trans ((out_second _ _ _ _ i k).trans ?_)
  refine Eq.trans ?_ (congrArg (Cert.Reference15Ideal.Read.val_main_v12 (F := Ideal) _ _) (place7 t i k).symm)
  exact (congrArg₂ second (block_grad m c t i k) (v_at m c t i k)).trans (second_at _ _ _).symm

/-- The kernel as compiled runs, keeps its arguments and ends with every counter at zero. -/
theorem frame_kernel : Cert.quiescent_Kernel15 (hKernel15 := Cert.Kernel15.Gen.facts) := fun m ρ _ => Cert.Kernel15.Gen.frame m ρ

/-- So does the idealized kernel. -/
theorem frame_ideal : Cert.quiescent_Kernel15Ideal (hKernel15Ideal := Cert.Kernel15Ideal.Gen.facts) := fun m ρ _ => Cert.Kernel15Ideal.Gen.frame m ρ

/-- So does the reference. -/
theorem frame_reference : Cert.quiescent_Reference15Ideal (hReference15Ideal := Cert.Reference15Ideal.Gen.facts) := fun m ρ _ =>
  (θ_run _ _ _).mono (fun r h => ⟨fun c => (h c).2.2.2.2, sem_eq_zero_of_no_sems (by decide) r.2⟩)
    (Cert.Reference15Ideal.Value.run (F := Ideal) m ρ)

/-- Equal arguments, equal changes. -/
theorem change_congr {p p' : Parts} {w w' a a' b b' : Whole} (hp : p = p') (hw : w = w') (ha : a = a') (hb : b = b') :
    Cert.Reference15Ideal.Read.val_main_v25 (F := Ideal) p w a b = Cert.Reference15Ideal.Read.val_main_v25 (F := Ideal) p' w' a' b' := by
  rw [hp, hw, ha, hb]

/-- The idealized kernel and the reference end with the same four arrays. -/
theorem same : Cert.algebraic_Kernel15Ideal_Reference15Ideal (hKernel15Ideal := Cert.Kernel15Ideal.Gen.facts)
    (hReference15Ideal := Cert.Reference15Ideal.Gen.facts) := by
  intro m g m' g' _ hagree
  refine ⟨fun c => grad (m ((c : Thread nD τ).loc main_arg0)),
    fun c => Cert.Reference15Ideal.Read.val_main_v25 (F := Ideal) (m ((c : Thread nD τ).loc main_arg0)) (m ((c : Thread nD τ).loc main_arg1))
      (m ((c : Thread nD τ).loc main_arg2)) (m ((c : Thread nD τ).loc main_arg3)),
    fun c => Cert.Reference15Ideal.Read.val_main_v6 (F := Ideal) (m ((c : Thread nD τ).loc main_arg0)) (m ((c : Thread nD τ).loc main_arg2)),
    fun c => Cert.Reference15Ideal.Read.val_main_v12 (F := Ideal) (m ((c : Thread nD τ).loc main_arg0)) (m ((c : Thread nD τ).loc main_arg3)), ?_, ?_⟩
  · refine (θ_run _ _ _).mono (fun r h c => ?_) (Cert.Kernel15Ideal.Value.run_blocks m g)
    exact ⟨(h c).1.trans (final_grad m c), (h c).2.1.trans (final_change m c), (h c).2.2.1.trans (final_first m c),
      (h c).2.2.2.1.trans (final_second m c), (h c).2.2.2.2⟩
  · refine (θ_run _ _ _).mono (fun r h c => ?_) (Cert.Reference15Ideal.Value.run (F := Ideal) m' g')
    obtain ⟨e0, e1, e2, e3⟩ := hagree c
    exact ⟨(h c).1.trans (congrArg grad e0), (h c).2.1.trans (change_congr e0 e1 e2 e3),
      (h c).2.2.1.trans (congrArg₂ (Cert.Reference15Ideal.Read.val_main_v6 (F := Ideal)) e0 e2),
      (h c).2.2.2.1.trans (congrArg₂ (Cert.Reference15Ideal.Read.val_main_v12 (F := Ideal)) e0 e3), (h c).2.2.2.2⟩

end Cert.AdamCIn

end
-- ==== Proof.AdamVectors.lean ====
/- The sum over the devices of the gradients and the optimiser's step with it, of the packed vectors and the loss: each grid point
   writes its own block of 160 rows. -/
module

public import proofs.«01_k».proof.Defs
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit
public import Idealize.ShloMosaic.Lib.Claim

@[expose] public section

set_option maxRecDepth 16384

noncomputable section

namespace Cert.AdamVectors

open Idealize.ShloMosaic Idealize.ShloMosaic.TcCoe Idealize.SL.Sem
open Idealize.ShloMosaic.Pipeline (Dat)
open Cert.Kernel16Ideal Cert.Kernel16Ideal.Gen

variable (m : (ℓ : Loc nD τ sig) → Buf (Elt Ideal) ℓ)

/-- The whole of the devices' parts. -/
abbrev Parts := FVec Ideal ⟨4, ![8, 1, 160, 128]⟩ .f32
/-- The whole of the weight, or of one of its moments. -/
abbrev Whole := FVec Ideal ⟨3, ![1, 160, 128]⟩ .f32
/-- A block of the devices' parts. -/
abbrev PartsBlock := FVec Ideal ⟨4, ![8, 1, 160, 128]⟩ .f32
/-- A block of the weight, or of one of its moments. -/
abbrev Block := FVec Ideal ⟨3, ![1, 160, 128]⟩ .f32

/-- The first moment after the step. -/
abbrev first (g a : EReal) : EReal := Ideal.ofBits .f32 0x3F666666#32 * a + Ideal.ofBits .f32 0x3DCCCCCD#32 * g
/-- The second moment after the step. -/
abbrev second (g a : EReal) : EReal := Ideal.ofBits .f32 0x3F7FBE77#32 * a + Ideal.ofBits .f32 0x3A83126F#32 * (g * g)
/-- The change of the weight. -/
abbrev change (g w a b : EReal) : EReal :=
  Ideal.ofBits .f32 0xBA83126F#32 * (Ideal.div (Ideal.div (first g a) (Ideal.ofBits .f32 0x3F26BD02#32))
    (Ideal.sqrt (Ideal.div (second g b) (Ideal.ofBits .f32 0x3C231ACC#32)) + Ideal.ofBits .f32 0x322BCC77#32)
    + Ideal.ofBits .f32 0x3C23D70A#32 * w)

/-- Equal entries, equal changes. -/
theorem change_same {g g' w w' a a' b b' : EReal} (hg : g = g') (hw : w = w') (ha : a = a') (hb : b = b') :
    change g w a b = change g' w' a' b' := by
  rw [hg, hw, ha, hb]

/-- Equal parts, equal sums. -/
theorem sum_same {f g : Fin 8 → EReal} (h : ∀ s, f s = g s) : ∑ s, f s = ∑ s, g s := Finset.sum_congr rfl fun s _ => h s

/-- The sum of a block's eight parts. -/
theorem sum_at (p : PartsBlock) (w a b : Block) (j : S160x128.Idx) :
    k0_pay8 (F := Ideal) p w a b j = ∑ s : Fin 8, p (ix4 s 0 (j 0) (j 1)) := by
  pointwise [k0_pay8, k0_pay3]
  rw [Fin.sum_univ_eight]

/-- The sum over the devices, of the whole weight. -/
abbrev grad (p : Parts) : Whole := Cert.Reference16Ideal.Read.val_main_v0 (F := Ideal) p

/-- Its entries. -/
theorem grad_at (p : Parts) (j) : grad p j = ∑ s : Fin 8, p (ix4 s (j 0) (j 1) (j 2)) := by
  pointwise [grad, Cert.Reference16Ideal.Read.val_main_v0, Cert.Reference16Ideal.Read.val_main_cst]
  exact sum_same fun s => congrArg (fun l : Fin 1 => p (ix4 s l (j 1) (j 2))) (Subsingleton.elim (0 : Fin 1) (j 0))

/-- The reference's first moment, by entries. -/
theorem first_at (p : Parts) (a : Whole) (j) : Cert.Reference16Ideal.Read.val_main_v5 (F := Ideal) p a j = first (grad p j) (a j) := by
  have e : Cert.Reference16Ideal.Read.val_main_v0 (F := Ideal) p = grad p := rfl
  pointwise [Cert.Reference16Ideal.Read.val_main_v5, Cert.Reference16Ideal.Read.val_main_v2, Cert.Reference16Ideal.Read.val_main_v1, Cert.Reference16Ideal.Read.val_main_v4, Cert.Reference16Ideal.Read.val_main_v3, Cert.Reference16Ideal.Read.val_main_cst_0, Cert.Reference16Ideal.Read.val_main_cst_1, e]

/-- The reference's second moment, by entries. -/
theorem second_at (p : Parts) (b : Whole) (j) : Cert.Reference16Ideal.Read.val_main_v11 (F := Ideal) p b j = second (grad p j) (b j) := by
  have e : Cert.Reference16Ideal.Read.val_main_v0 (F := Ideal) p = grad p := rfl
  pointwise [Cert.Reference16Ideal.Read.val_main_v11, Cert.Reference16Ideal.Read.val_main_v7, Cert.Reference16Ideal.Read.val_main_v6, Cert.Reference16Ideal.Read.val_main_v10, Cert.Reference16Ideal.Read.val_main_v9, Cert.Reference16Ideal.Read.val_main_v8, Cert.Reference16Ideal.Read.val_main_cst_2, Cert.Reference16Ideal.Read.val_main_cst_3, e]

/-- The reference's change of the weight, by entries. -/
theorem change_at (p : Parts) (w a b : Whole) (j) : Cert.Reference16Ideal.Read.val_main_v24 (F := Ideal) p w a b j = change (grad p j) (w j) (a j) (b j) := by
  pointwise [Cert.Reference16Ideal.Read.val_main_v24, Cert.Reference16Ideal.Read.val_main_v23, Cert.Reference16Ideal.Read.val_main_v22, Cert.Reference16Ideal.Read.val_main_v21, Cert.Reference16Ideal.Read.val_main_v20, Cert.Reference16Ideal.Read.val_main_v19, Cert.Reference16Ideal.Read.val_main_v18, Cert.Reference16Ideal.Read.val_main_v17, Cert.Reference16Ideal.Read.val_main_v16, Cert.Reference16Ideal.Read.val_main_v15, Cert.Reference16Ideal.Read.val_main_v14, Cert.Reference16Ideal.Read.val_main_v13, Cert.Reference16Ideal.Read.val_main_v12, Cert.Reference16Ideal.Read.val_main_cst_4, Cert.Reference16Ideal.Read.val_main_cst_5, Cert.Reference16Ideal.Read.val_main_cst_6, Cert.Reference16Ideal.Read.val_main_cst_7, Cert.Reference16Ideal.Read.val_main_cst_8]
  rw [first_at, second_at]

/-- What a point stores of the sum. -/
theorem out_grad (p : PartsBlock) (w a b : Block) (i : Fin 160) (k : Fin 128) :
    out0_4 (F := Ideal) p w a b (ix3 0 i k) = ∑ s : Fin 8, p (ix4 s 0 i k) := by
  refine Eq.trans ?_ (sum_at p w a b (ix2 i k))
  unfold out0_4
  rw [View.canon_unit_zero (by funext a; fin_cases a <;> rfl)]
  pointwise [k0_pay4]

/-- What it stores of the first moment. -/
theorem out_first (p : PartsBlock) (w a b : Block) (i : Fin 160) (k : Fin 128) :
    out0_6 (F := Ideal) p w a b (ix3 0 i k) = first (∑ s : Fin 8, p (ix4 s 0 i k)) (a (ix3 0 i k)) := by
  rw [← show _ = ∑ s : Fin 8, p (ix4 s 0 i k) from sum_at p w a b (ix2 i k)]
  unfold out0_6
  rw [View.canon_unit_zero (by funext a; fin_cases a <;> rfl)]
  pointwise [k0_pay1, k0_pay5]

/-- What it stores of the second moment. -/
theorem out_second (p : PartsBlock) (w a b : Block) (i : Fin 160) (k : Fin 128) :
    out0_7 (F := Ideal) p w a b (ix3 0 i k) = second (∑ s : Fin 8, p (ix4 s 0 i k)) (b (ix3 0 i k)) := by
  rw [← show _ = ∑ s : Fin 8, p (ix4 s 0 i k) from sum_at p w a b (ix2 i k)]
  unfold out0_7
  rw [View.canon_unit_zero (by funext a; fin_cases a <;> rfl)]
  pointwise [k0_pay2, k0_pay6]

/-- What it stores of the change. -/
theorem out_change (p : PartsBlock) (w a b : Block) (i : Fin 160) (k : Fin 128) :
    out0_5 (F := Ideal) p w a b (ix3 0 i k) = change (∑ s : Fin 8, p (ix4 s 0 i k)) (w (ix3 0 i k)) (a (ix3 0 i k)) (b (ix3 0 i k)) := by
  rw [← show _ = ∑ s : Fin 8, p (ix4 s 0 i k) from sum_at p w a b (ix2 i k)]
  unfold out0_5
  rw [View.canon_unit_zero (by funext a; fin_cases a <;> rfl)]
  pointwise [k0_pay7, k0_pay5, k0_pay6]

/-- The layer of a point's block. -/
abbrev layer (t : Fin cfg0.N) : Fin 1 := ⟨t.val / 1, by
  have h : t.val < 1 := t.isLt
  omega⟩

/-- The rows of a point's block. -/
abbrev row (t : Fin cfg0.N) (i : Fin 160) : Fin 160 := ⟨t.val % 1 * 160 + i.val, by omega⟩

/-- Where a point's blocks are. -/
theorem places : ∀ t : Fin cfg0.N, win0_0.index t = ![0, t.val / 1, t.val % 1, 0] ∧ win0_1.index t = ![t.val / 1, t.val % 1, 0]
    ∧ win0_2.index t = ![t.val / 1, t.val % 1, 0] ∧ win0_3.index t = ![t.val / 1, t.val % 1, 0]
    ∧ win0_4.index t = ![t.val / 1, t.val % 1, 0] ∧ win0_5.index t = ![t.val / 1, t.val % 1, 0]
    ∧ win0_6.index t = ![t.val / 1, t.val % 1, 0] ∧ win0_7.index t = ![t.val / 1, t.val % 1, 0] :=
  (by decide +kernel : ∀ t : Fin grid0.N, _)

/-- A point's block of the parts. -/
theorem parts_at (c : Dev nD) (t : Fin cfg0.N) (s : Fin 8) (i : Fin 160) (k : Fin 128) :
    (iblk m c 0 t (ix4 s 0 i k) : EReal) = m ((c : Thread nD τ).loc main_arg0) (ix4 s (layer t) (row t i) k) := by
  blk_point [iblk, V, places t]

/-- A point's block of the weight. -/
theorem weight_at (c : Dev nD) (t : Fin cfg0.N) (i : Fin 160) (k : Fin 128) :
    (iblk m c 1 t (ix3 0 i k) : EReal) = m ((c : Thread nD τ).loc main_arg1) (ix3 (layer t) (row t i) k) := by
  blk_point [iblk, V, places t]

/-- A point's block of the first moment. -/
theorem m_at (c : Dev nD) (t : Fin cfg0.N) (i : Fin 160) (k : Fin 128) :
    (iblk m c 2 t (ix3 0 i k) : EReal) = m ((c : Thread nD τ).loc main_arg2) (ix3 (layer t) (row t i) k) := by
  blk_point [iblk, V, places t]

/-- A point's block of the second moment. -/
theorem v_at (c : Dev nD) (t : Fin cfg0.N) (i : Fin 160) (k : Fin 128) :
    (iblk m c 3 t (ix3 0 i k) : EReal) = m ((c : Thread nD τ).loc main_arg3) (ix3 (layer t) (row t i) k) := by
  blk_point [iblk, V, places t]

/-- Where a point writes its block of result 1. -/
theorem place4 (t : Fin cfg0.N) (i : Fin 160) (k : Fin 128) : (((cfg0.win 4).blk t).view.emb (ix3 0 i k) : (⟨3, ![1, 160, 128]⟩ : Shape).Idx) = ix3 (layer t) (row t i) k := by
  blk_ext [places t]

/-- Where a point writes its block of result 2. -/
theorem place5 (t : Fin cfg0.N) (i : Fin 160) (k : Fin 128) : (((cfg0.win 5).blk t).view.emb (ix3 0 i k) : (⟨3, ![1, 160, 128]⟩ : Shape).Idx) = ix3 (layer t) (row t i) k := by
  blk_ext [places t]

/-- Where a point writes its block of result 3. -/
theorem place6 (t : Fin cfg0.N) (i : Fin 160) (k : Fin 128) : (((cfg0.win 6).blk t).view.emb (ix3 0 i k) : (⟨3, ![1, 160, 128]⟩ : Shape).Idx) = ix3 (layer t) (row t i) k := by
  blk_ext [places t]

/-- Where a point writes its block of result 4. -/
theorem place7 (t : Fin cfg0.N) (i : Fin 160) (k : Fin 128) : (((cfg0.win 7).blk t).view.emb (ix3 0 i k) : (⟨3, ![1, 160, 128]⟩ : Shape).Idx) = ix3 (layer t) (row t i) k := by
  blk_ext [places t]

/-- A point's block of the parts, over the extended reals. -/
abbrev partsBlock (c : Dev nD) (t : Fin cfg0.N) : PartsBlock := iblk m c 0 t

/-- The sum of a block's parts is the whole sum's entry there. -/
theorem block_grad (c : Dev nD) (t : Fin cfg0.N) (i : Fin 160) (k : Fin 128) : (∑ s : Fin 8, partsBlock m c t (ix4 s 0 i k))
    = grad (m ((c : Thread nD τ).loc main_arg0)) (ix3 (layer t) (row t i) k) :=
  (sum_same fun s => parts_at m c t s i k).trans
    (grad_at (m ((c : Thread nD τ).loc main_arg0)) (ix3 (layer t) (row t i) k)).symm

/-- A place of a block. -/
theorem block_index (y : (⟨3, ![1, 160, 128]⟩ : Shape).Idx) : ∃ (i : Fin 160) (k : Fin 128), y = ix3 0 i k :=
  ⟨y 1, y 2, by funext a; fin_cases a <;> first | rfl | exact Fin.ext (by have h : (y 0).val < 1 := (y 0).isLt; show (y 0).val = 0; omega)⟩

/-- The sum after the run. -/
theorem final_grad (c : Dev nD) : (dats m 0 c).arrAt 4 (cfgs 0).N = grad (m ((c : Thread nD τ).loc main_arg0)) := by
  refine (dats m 0 c).arrAt_eq_of_covers 4 _ (by decide +kernel) fun t hf y => ?_
  obtain ⟨i, k, rfl⟩ := block_index y
  refine (congrFun (after0_4 m c t) (ix3 0 i k)).trans ((out_grad _ _ _ _ i k).trans ((block_grad m c t i k).trans ?_))
  exact congrArg (grad _) (place4 t i k).symm

/-- The change of the weight after the run. -/
theorem final_change (c : Dev nD) : (dats m 0 c).arrAt 5 (cfgs 0).N = Cert.Reference16Ideal.Read.val_main_v24 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨i, k, rfl⟩ := block_index y
  refine (congrFun (after0_5 m c t) (ix3 0 i k)).trans ((out_change _ _ _ _ i k).trans ?_)
  refine Eq.trans ?_ (congrArg (Cert.Reference16Ideal.Read.val_main_v24 (F := Ideal) _ _ _ _) (place5 t i k).symm)
  exact (change_same (block_grad m c t i k) (weight_at m c t i k) (m_at m c t i k) (v_at m c t i k)).trans (change_at _ _ _ _ _).symm

/-- The first moment after the run. -/
theorem final_first (c : Dev nD) : (dats m 0 c).arrAt 6 (cfgs 0).N
    = Cert.Reference16Ideal.Read.val_main_v5 (F := Ideal) (m ((c : Thread nD τ).loc main_arg0)) (m ((c : Thread nD τ).loc main_arg2)) := by
  refine (dats m 0 c).arrAt_eq_of_covers 6 _ (by decide +kernel) fun t hf y => ?_
  obtain ⟨i, k, rfl⟩ := block_index y
  refine (congrFun (after0_6 m c t) (ix3 0 i k)).trans ((out_first _ _ _ _ i k).trans ?_)
  refine Eq.trans ?_ (congrArg (Cert.Reference16Ideal.Read.val_main_v5 (F := Ideal) _ _) (place6 t i k).symm)
  exact (congrArg₂ first (block_grad m c t i k) (m_at m c t i k)).trans (first_at _ _ _).symm

/-- The second moment after the run. -/
theorem final_second (c : Dev nD) : (dats m 0 c).arrAt 7 (cfgs 0).N
    = Cert.Reference16Ideal.Read.val_main_v11 (F := Ideal) (m ((c : Thread nD τ).loc main_arg0)) (m ((c : Thread nD τ).loc main_arg3)) := by
  refine (dats m 0 c).arrAt_eq_of_covers 7 _ (by decide +kernel) fun t hf y => ?_
  obtain ⟨i, k, rfl⟩ := block_index y
  refine (congrFun (after0_7 m c t) (ix3 0 i k)).trans ((out_second _ _ _ _ i k).trans ?_)
  refine Eq.trans ?_ (congrArg (Cert.Reference16Ideal.Read.val_main_v11 (F := Ideal) _ _) (place7 t i k).symm)
  exact (congrArg₂ second (block_grad m c t i k) (v_at m c t i k)).trans (second_at _ _ _).symm

/-- The kernel as compiled runs, keeps its arguments and ends with every counter at zero. -/
theorem frame_kernel : Cert.quiescent_Kernel16 (hKernel16 := Cert.Kernel16.Gen.facts) := fun m ρ _ => Cert.Kernel16.Gen.frame m ρ

/-- So does the idealized kernel. -/
theorem frame_ideal : Cert.quiescent_Kernel16Ideal (hKernel16Ideal := Cert.Kernel16Ideal.Gen.facts) := fun m ρ _ => Cert.Kernel16Ideal.Gen.frame m ρ

/-- So does the reference. -/
theorem frame_reference : Cert.quiescent_Reference16Ideal (hReference16Ideal := Cert.Reference16Ideal.Gen.facts) := fun m ρ _ =>
  (θ_run _ _ _).mono (fun r h => ⟨fun c => (h c).2.2.2.2, sem_eq_zero_of_no_sems (by decide) r.2⟩)
    (Cert.Reference16Ideal.Value.run (F := Ideal) m ρ)

/-- Equal arguments, equal changes. -/
theorem change_congr {p p' : Parts} {w w' a a' b b' : Whole} (hp : p = p') (hw : w = w') (ha : a = a') (hb : b = b') :
    Cert.Reference16Ideal.Read.val_main_v24 (F := Ideal) p w a b = Cert.Reference16Ideal.Read.val_main_v24 (F := Ideal) p' w' a' b' := by
  rw [hp, hw, ha, hb]

/-- The idealized kernel and the reference end with the same four arrays. -/
theorem same : Cert.algebraic_Kernel16Ideal_Reference16Ideal (hKernel16Ideal := Cert.Kernel16Ideal.Gen.facts)
    (hReference16Ideal := Cert.Reference16Ideal.Gen.facts) := by
  intro m g m' g' _ hagree
  refine ⟨fun c => grad (m ((c : Thread nD τ).loc main_arg0)),
    fun c => Cert.Reference16Ideal.Read.val_main_v24 (F := Ideal) (m ((c : Thread nD τ).loc main_arg0)) (m ((c : Thread nD τ).loc main_arg1))
      (m ((c : Thread nD τ).loc main_arg2)) (m ((c : Thread nD τ).loc main_arg3)),
    fun c => Cert.Reference16Ideal.Read.val_main_v5 (F := Ideal) (m ((c : Thread nD τ).loc main_arg0)) (m ((c : Thread nD τ).loc main_arg2)),
    fun c => Cert.Reference16Ideal.Read.val_main_v11 (F := Ideal) (m ((c : Thread nD τ).loc main_arg0)) (m ((c : Thread nD τ).loc main_arg3)), ?_, ?_⟩
  · refine (θ_run _ _ _).mono (fun r h c => ?_) (Cert.Kernel16Ideal.Value.run_blocks m g)
    exact ⟨(h c).1.trans (final_grad m c), (h c).2.1.trans (final_change m c), (h c).2.2.1.trans (final_first m c),
      (h c).2.2.2.1.trans (final_second m c), (h c).2.2.2.2⟩
  · refine (θ_run _ _ _).mono (fun r h c => ?_) (Cert.Reference16Ideal.Value.run (F := Ideal) m' g')
    obtain ⟨e0, e1, e2, e3⟩ := hagree c
    exact ⟨(h c).1.trans (congrArg grad e0), (h c).2.1.trans (change_congr e0 e1 e2 e3),
      (h c).2.2.1.trans (congrArg₂ (Cert.Reference16Ideal.Read.val_main_v5 (F := Ideal)) e0 e2),
      (h c).2.2.2.1.trans (congrArg₂ (Cert.Reference16Ideal.Read.val_main_v11 (F := Ideal)) e0 e3), (h c).2.2.2.2⟩

end Cert.AdamVectors

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Value
public import proofs.«01_k».proof.Proof.Finite
public import proofs.«01_k».proof.Proof.NormGrad
public import proofs.«01_k».proof.Proof.OutGrad
public import proofs.«01_k».proof.Proof.OutWeights
public import proofs.«01_k».proof.Proof.InWeights
public import proofs.«01_k».proof.Proof.ShortWeights
public import proofs.«01_k».proof.Proof.AttnWeights
public import proofs.«01_k».proof.Proof.OutProj
public import proofs.«01_k».proof.Proof.NormProj
public import proofs.«01_k».proof.Proof.Loss
public import proofs.«01_k».proof.Proof.AdamAIn
public import proofs.«01_k».proof.Proof.AdamAOut
public import proofs.«01_k».proof.Proof.AdamBIn
public import proofs.«01_k».proof.Proof.AdamBOut
public import proofs.«01_k».proof.Proof.AdamCIn
public import proofs.«01_k».proof.Proof.AdamVectors
public import Idealize.ShloMosaic.Lib.Claim

@[expose] public section

noncomputable section

namespace Cert.Proof

open Idealize.ShloMosaic Idealize.SL.Sem

/-- The kernel's text, at the floats `F`: it runs, keeps its arguments and ends with every counter at zero. -/
def Quiet (F : FTy → Type) [FloatOps F] : Prop :=
  ∀ (m : (ℓ : Loc Cert.KernelIdeal.nD Cert.KernelIdeal.τ Cert.KernelIdeal.sig) → Buf (Elt F) ℓ) (ρ : Dev Cert.KernelIdeal.nD → PrngReg), True →
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

/-- It does so at any floats. -/
theorem quiet (F : FTy → Type) [FloatOps F] : Quiet F := fun m ρ _ =>
  θ_run_with_sems (Cert.KernelIdeal.Gen.frame_of m ρ (Cert.KernelIdeal.Attn.dats m) (fun _ _ => rfl)) (Cert.KernelIdeal.Attn.run_main m ρ)

/-- The claim about the kernel as compiled is the one about the idealized kernel's text, read at words. -/
theorem kernel_same : Cert.quiescent_Kernel = Quiet Bits := by sl_kernel_rfl

/-- The idealized kernel runs, keeps its arguments and ends with every counter at zero. -/
theorem frame_ideal : Cert.quiescent_KernelIdeal := quiet Ideal

/-- The kernel as compiled does too: its program is the idealized one's text, so the same run applies. -/
theorem frame_kernel : Cert.quiescent_Kernel := kernel_same.mpr (quiet Bits)

/-- The reference runs, keeps its arguments and ends with every counter at zero. -/
theorem frame_reference : Cert.quiescent_ReferenceIdeal := fun m ρ _ =>
  (θ_run _ _ _).mono (fun r h => ⟨fun c => (h c).2.2.2.2.2, sem_eq_zero_of_no_sems (by decide) r.2⟩)
    (Cert.ReferenceIdeal.Value.run (F := Ideal) m ρ)

/-- Under the precondition a device's argument arrays are arrays of reals. -/
theorem args_real (m : (ℓ : Loc Cert.KernelIdeal.nD Cert.KernelIdeal.τ Cert.KernelIdeal.sig) → Buf (Elt Ideal) ℓ)
    (h : Cert.Pre_KernelIdeal_finite (hPre_finite := Cert.Finite.facts) m) (c : Dev Cert.KernelIdeal.nD) :
    ∃ A : Cert.Math.Args, Cert.KernelIdeal.Attn.Are m c A := by
  obtain ⟨h0, h1, h2, h3, h4⟩ := @Cert.Finite.reals Cert.Finite.facts _ _ _ _ _ (h c)
  choose q hq using h0
  choose k hk using h1
  choose p hp using h2
  choose b hb using h3
  choose y hy using h4
  exact ⟨⟨q, k, p, b, y⟩, ⟨hq, hk, hp, hb, hy⟩⟩

/-- From finite arguments the idealized kernel and the reference end with the same five gradients. -/
theorem same_values : Cert.algebraic_KernelIdeal_ReferenceIdeal_pre_finite (hPre_finite := Cert.Finite.facts) := by
  intro m g m' g' hpre hagree
  choose A H using args_real m hpre
  refine ⟨fun c => Cert.KernelIdeal.Attn.arrQ (A c), fun c => Cert.KernelIdeal.Attn.arrK (A c), fun c => Cert.KernelIdeal.Attn.arrV (A c),
    fun c => Cert.KernelIdeal.Attn.arrC (A c), fun c => Cert.KernelIdeal.Attn.arrZ (A c), ?_, ?_⟩
  · refine (θ_run _ _ _).mono (fun r h c => ?_) (θ_run_and (Cert.KernelIdeal.Attn.run_value m g A H) (quiet Ideal m g trivial))
    obtain ⟨h1, h2, h3, h4, h5⟩ := h.1 c
    exact ⟨h1, h2, h3, h4, h5, h.2.1 c⟩
  · refine Cert.ReferenceIdeal.Attn.run_value m' g' A fun c => ?_
    obtain ⟨e0, e1, e2, e3, e4⟩ := hagree c
    rw [e0, e1, e2, e3, e4]
    exact ⟨(H c).q, (H c).k, (H c).p, (H c).b, (H c).y⟩

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Finite.facts,
    frame_kernel, frame_ideal, fun m ρ _ => frame_ideal m ρ trivial, frame_reference, fun m ρ _ => frame_reference m ρ trivial,
    Cert.NormGrad.frame_kernel, Cert.NormGrad.frame_ideal, Cert.NormGrad.frame_reference,
    Cert.OutGrad.frame_kernel, Cert.OutGrad.frame_ideal, Cert.OutGrad.frame_reference,
    Cert.OutWeights.frame_kernel, Cert.OutWeights.frame_ideal, Cert.OutWeights.frame_reference,
    Cert.InWeights.frame_kernel, Cert.InWeights.frame_ideal, Cert.InWeights.frame_reference,
    Cert.ShortWeights.frame_kernel, Cert.ShortWeights.frame_ideal, Cert.ShortWeights.frame_reference,
    Cert.AttnWeights.frame_kernel, Cert.AttnWeights.frame_ideal, Cert.AttnWeights.frame_reference,
    Cert.OutProj.frame_kernel, Cert.OutProj.frame_ideal, Cert.OutProj.frame_reference,
    Cert.NormProj.frame_kernel, Cert.NormProj.frame_ideal, Cert.NormProj.frame_reference,
    Cert.Loss.frame_kernel, Cert.Loss.frame_ideal, Cert.Loss.frame_reference,
    Cert.AdamAIn.frame_kernel, Cert.AdamAIn.frame_ideal, Cert.AdamAIn.frame_reference,
    Cert.AdamAOut.frame_kernel, Cert.AdamAOut.frame_ideal, Cert.AdamAOut.frame_reference,
    Cert.AdamBIn.frame_kernel, Cert.AdamBIn.frame_ideal, Cert.AdamBIn.frame_reference,
    Cert.AdamBOut.frame_kernel, Cert.AdamBOut.frame_ideal, Cert.AdamBOut.frame_reference,
    Cert.AdamCIn.frame_kernel, Cert.AdamCIn.frame_ideal, Cert.AdamCIn.frame_reference,
    Cert.AdamVectors.frame_kernel, Cert.AdamVectors.frame_ideal, Cert.AdamVectors.frame_reference,
    trivial, same_values, trivial, Cert.NormGrad.same, trivial, Cert.OutGrad.same, trivial, Cert.OutWeights.same, trivial, Cert.InWeights.same, trivial, Cert.ShortWeights.same, trivial, Cert.AttnWeights.same, trivial, Cert.OutProj.same, trivial, Cert.NormProj.same, trivial, Cert.Loss.same, trivial, Cert.AdamAIn.same, trivial, Cert.AdamAOut.same, trivial, Cert.AdamBIn.same, trivial, Cert.AdamBOut.same, trivial, Cert.AdamCIn.same, trivial, Cert.AdamVectors.same⟩

end Cert.Proof

end
